-- ==== Defs.lean ====
def Pre_DgConv (m : (ℓ : Loc Cert.DgConv.nD Cert.DgConv.τ Cert.DgConv.sig) → Buf (Elt Bits) ℓ) : Prop :=
  True

def Pre_DgConvIdeal (m : (ℓ : Loc Cert.DgConvIdeal.nD Cert.DgConvIdeal.τ Cert.DgConvIdeal.sig) → Buf (Elt Ideal) ℓ) : Prop :=
  True

def Pre_DgConvIdeal_dg_finite [hPre_dg_finite : Cert.Pre_dg_finite.Facts] (m : (ℓ : Loc Cert.DgConvIdeal.nD Cert.DgConvIdeal.τ Cert.DgConvIdeal.sig) → Buf (Elt Ideal) ℓ) : Prop :=
  ∀ c : Dev Cert.DgConvIdeal.nD,
    (Cert.Pre_dg_finite.fn (F := Ideal) (m ((c.tc : Thread Cert.DgConvIdeal.nD Cert.DgConvIdeal.τ).loc Cert.DgConvIdeal.main_arg0)) (m ((c.tc : Thread Cert.DgConvIdeal.nD Cert.DgConvIdeal.τ).loc Cert.DgConvIdeal.main_arg1)) (m ((c.tc : Thread Cert.DgConvIdeal.nD Cert.DgConvIdeal.τ).loc Cert.DgConvIdeal.main_arg2)) (m ((c.tc : Thread Cert.DgConvIdeal.nD Cert.DgConvIdeal.τ).loc Cert.DgConvIdeal.main_arg3)) (m ((c.tc : Thread Cert.DgConvIdeal.nD Cert.DgConvIdeal.τ).loc Cert.DgConvIdeal.main_arg4))) = (fun _ => 1#1)

def Pre_DgConvRefIdeal (m : (ℓ : Loc Cert.DgConvRefIdeal.nD Cert.DgConvRefIdeal.τ Cert.DgConvRefIdeal.sig) → Buf (Elt Ideal) ℓ) : Prop :=
  True

def Pre_DgConvRefIdeal_dg_finite [hPre_dg_finite : Cert.Pre_dg_finite.Facts] (m : (ℓ : Loc Cert.DgConvRefIdeal.nD Cert.DgConvRefIdeal.τ Cert.DgConvRefIdeal.sig) → Buf (Elt Ideal) ℓ) : Prop :=
  ∀ c : Dev Cert.DgConvRefIdeal.nD,
    (Cert.Pre_dg_finite.fn (F := Ideal) (m ((c.tc : Thread Cert.DgConvRefIdeal.nD Cert.DgConvRefIdeal.τ).loc Cert.DgConvRefIdeal.main_arg0)) (m ((c.tc : Thread Cert.DgConvRefIdeal.nD Cert.DgConvRefIdeal.τ).loc Cert.DgConvRefIdeal.main_arg1)) (m ((c.tc : Thread Cert.DgConvRefIdeal.nD Cert.DgConvRefIdeal.τ).loc Cert.DgConvRefIdeal.main_arg2)) (m ((c.tc : Thread Cert.DgConvRefIdeal.nD Cert.DgConvRefIdeal.τ).loc Cert.DgConvRefIdeal.main_arg3)) (m ((c.tc : Thread Cert.DgConvRefIdeal.nD Cert.DgConvRefIdeal.τ).loc Cert.DgConvRefIdeal.main_arg4))) = (fun _ => 1#1)

def Pre_GwDown (m : (ℓ : Loc Cert.GwDown.nD Cert.GwDown.τ Cert.GwDown.sig) → Buf (Elt Bits) ℓ) : Prop :=
  True

def Pre_GwDownIdeal (m : (ℓ : Loc Cert.GwDownIdeal.nD Cert.GwDownIdeal.τ Cert.GwDownIdeal.sig) → Buf (Elt Ideal) ℓ) : Prop :=
  True

def Pre_GwDownRefIdeal (m : (ℓ : Loc Cert.GwDownRefIdeal.nD Cert.GwDownRefIdeal.τ Cert.GwDownRefIdeal.sig) → Buf (Elt Ideal) ℓ) : Prop :=
  True

def Pre_GwUp (m : (ℓ : Loc Cert.GwUp.nD Cert.GwUp.τ Cert.GwUp.sig) → Buf (Elt Bits) ℓ) : Prop :=
  True

def Pre_GwUpIdeal (m : (ℓ : Loc Cert.GwUpIdeal.nD Cert.GwUpIdeal.τ Cert.GwUpIdeal.sig) → Buf (Elt Ideal) ℓ) : Prop :=
  True

def Pre_GwUpRefIdeal (m : (ℓ : Loc Cert.GwUpRefIdeal.nD Cert.GwUpRefIdeal.τ Cert.GwUpRefIdeal.sig) → Buf (Elt Ideal) ℓ) : Prop :=
  True

def Pre_GwOut (m : (ℓ : Loc Cert.GwOut.nD Cert.GwOut.τ Cert.GwOut.sig) → Buf (Elt Bits) ℓ) : Prop :=
  True

def Pre_GwOutIdeal (m : (ℓ : Loc Cert.GwOutIdeal.nD Cert.GwOutIdeal.τ Cert.GwOutIdeal.sig) → Buf (Elt Ideal) ℓ) : Prop :=
  True

def Pre_GwOutRefIdeal (m : (ℓ : Loc Cert.GwOutRefIdeal.nD Cert.GwOutRefIdeal.τ Cert.GwOutRefIdeal.sig) → Buf (Elt Ideal) ℓ) : Prop :=
  True

def Pre_GwIn (m : (ℓ : Loc Cert.GwIn.nD Cert.GwIn.τ Cert.GwIn.sig) → Buf (Elt Bits) ℓ) : Prop :=
  True

def Pre_GwInIdeal (m : (ℓ : Loc Cert.GwInIdeal.nD Cert.GwInIdeal.τ Cert.GwInIdeal.sig) → Buf (Elt Ideal) ℓ) : Prop :=
  True

def Pre_GwInRefIdeal (m : (ℓ : Loc Cert.GwInRefIdeal.nD Cert.GwInRefIdeal.τ Cert.GwInRefIdeal.sig) → Buf (Elt Ideal) ℓ) : Prop :=
  True

def Pre_Dn2 (m : (ℓ : Loc Cert.Dn2.nD Cert.Dn2.τ Cert.Dn2.sig) → Buf (Elt Bits) ℓ) : Prop :=
  True

def Pre_Dn2Ideal (m : (ℓ : Loc Cert.Dn2Ideal.nD Cert.Dn2Ideal.τ Cert.Dn2Ideal.sig) → Buf (Elt Ideal) ℓ) : Prop :=
  True

def Pre_Dn2RefIdeal (m : (ℓ : Loc Cert.Dn2RefIdeal.nD Cert.Dn2RefIdeal.τ Cert.Dn2RefIdeal.sig) → Buf (Elt Ideal) ℓ) : Prop :=
  True

def Pre_DownLoss (m : (ℓ : Loc Cert.DownLoss.nD Cert.DownLoss.τ Cert.DownLoss.sig) → Buf (Elt Bits) ℓ) : Prop :=
  True

def Pre_DownLossIdeal (m : (ℓ : Loc Cert.DownLossIdeal.nD Cert.DownLossIdeal.τ Cert.DownLossIdeal.sig) → Buf (Elt Ideal) ℓ) : Prop :=
  True

def Pre_DownLossRefIdeal (m : (ℓ : Loc Cert.DownLossRefIdeal.nD Cert.DownLossRefIdeal.τ Cert.DownLossRefIdeal.sig) → Buf (Elt Ideal) ℓ) : Prop :=
  True

def Pre_OutNorm (m : (ℓ : Loc Cert.OutNorm.nD Cert.OutNorm.τ Cert.OutNorm.sig) → Buf (Elt Bits) ℓ) : Prop :=
  True

def Pre_OutNormIdeal (m : (ℓ : Loc Cert.OutNormIdeal.nD Cert.OutNormIdeal.τ Cert.OutNormIdeal.sig) → Buf (Elt Ideal) ℓ) : Prop :=
  True

def Pre_OutNormRefIdeal (m : (ℓ : Loc Cert.OutNormRefIdeal.nD Cert.OutNormRefIdeal.τ Cert.OutNormRefIdeal.sig) → Buf (Elt Ideal) ℓ) : Prop :=
  True

def Pre_MmIn (m : (ℓ : Loc Cert.MmIn.nD Cert.MmIn.τ Cert.MmIn.sig) → Buf (Elt Bits) ℓ) : Prop :=
  True

def Pre_MmInIdeal (m : (ℓ : Loc Cert.MmInIdeal.nD Cert.MmInIdeal.τ Cert.MmInIdeal.sig) → Buf (Elt Ideal) ℓ) : Prop :=
  True

def Pre_MmInRefIdeal (m : (ℓ : Loc Cert.MmInRefIdeal.nD Cert.MmInRefIdeal.τ Cert.MmInRefIdeal.sig) → Buf (Elt Ideal) ℓ) : Prop :=
  True

def Pre_UpConv (m : (ℓ : Loc Cert.UpConv.nD Cert.UpConv.τ Cert.UpConv.sig) → Buf (Elt Bits) ℓ) : Prop :=
  True

def Pre_UpConvIdeal (m : (ℓ : Loc Cert.UpConvIdeal.nD Cert.UpConvIdeal.τ Cert.UpConvIdeal.sig) → Buf (Elt Ideal) ℓ) : Prop :=
  True

def Pre_UpConvRefIdeal (m : (ℓ : Loc Cert.UpConvRefIdeal.nD Cert.UpConvRefIdeal.τ Cert.UpConvRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def quiescent_DgConv [hDgConv : Cert.DgConv.Facts] : Prop :=
  ∀ (m : (ℓ : Loc Cert.DgConv.nD Cert.DgConv.τ Cert.DgConv.sig) → Buf (Elt Bits) ℓ) (g : Dev Cert.DgConv.nD → PrngReg), Pre_DgConv m →
    θ_run (Cert.DgConv.defs (F := Bits)) (onTc (τ := Cert.DgConv.τ) (Cert.DgConv.main (F := Bits))) ⟨m, fun _ => 0, g⟩ (fun r => (∀ c : Dev Cert.DgConv.nD,
      r.2.mem ((c.tc : Thread Cert.DgConv.nD Cert.DgConv.τ).loc Cert.DgConv.main_arg0) = m ((c.tc : Thread Cert.DgConv.nD Cert.DgConv.τ).loc Cert.DgConv.main_arg0)
      ∧ r.2.mem ((c.tc : Thread Cert.DgConv.nD Cert.DgConv.τ).loc Cert.DgConv.main_arg1) = m ((c.tc : Thread Cert.DgConv.nD Cert.DgConv.τ).loc Cert.DgConv.main_arg1)
      ∧ r.2.mem ((c.tc : Thread Cert.DgConv.nD Cert.DgConv.τ).loc Cert.DgConv.main_arg2) = m ((c.tc : Thread Cert.DgConv.nD Cert.DgConv.τ).loc Cert.DgConv.main_arg2)
      ∧ r.2.mem ((c.tc : Thread Cert.DgConv.nD Cert.DgConv.τ).loc Cert.DgConv.main_arg3) = m ((c.tc : Thread Cert.DgConv.nD Cert.DgConv.τ).loc Cert.DgConv.main_arg3)
      ∧ r.2.mem ((c.tc : Thread Cert.DgConv.nD Cert.DgConv.τ).loc Cert.DgConv.main_arg4) = m ((c.tc : Thread Cert.DgConv.nD Cert.DgConv.τ).loc Cert.DgConv.main_arg4))
      ∧ r.2.sem = fun _ => 0)

def quiescent_DgConvIdeal [hDgConvIdeal : Cert.DgConvIdeal.Facts] : Prop :=
  ∀ (m : (ℓ : Loc Cert.DgConvIdeal.nD Cert.DgConvIdeal.τ Cert.DgConvIdeal.sig) → Buf (Elt Ideal) ℓ) (g : Dev Cert.DgConvIdeal.nD → PrngReg), Pre_DgConvIdeal m →
    θ_run (Cert.DgConvIdeal.defs (F := Ideal)) (onTc (τ := Cert.DgConvIdeal.τ) (Cert.DgConvIdeal.main (F := Ideal))) ⟨m, fun _ => 0, g⟩ (fun r => (∀ c : Dev Cert.DgConvIdeal.nD,
      r.2.mem ((c.tc : Thread Cert.DgConvIdeal.nD Cert.DgConvIdeal.τ).loc Cert.DgConvIdeal.main_arg0) = m ((c.tc : Thread Cert.DgConvIdeal.nD Cert.DgConvIdeal.τ).loc Cert.DgConvIdeal.main_arg0)
      ∧ r.2.mem ((c.tc : Thread Cert.DgConvIdeal.nD Cert.DgConvIdeal.τ).loc Cert.DgConvIdeal.main_arg1) = m ((c.tc : Thread Cert.DgConvIdeal.nD Cert.DgConvIdeal.τ).loc Cert.DgConvIdeal.main_arg1)
      ∧ r.2.mem ((c.tc : Thread Cert.DgConvIdeal.nD Cert.DgConvIdeal.τ).loc Cert.DgConvIdeal.main_arg2) = m ((c.tc : Thread Cert.DgConvIdeal.nD Cert.DgConvIdeal.τ).loc Cert.DgConvIdeal.main_arg2)
      ∧ r.2.mem ((c.tc : Thread Cert.DgConvIdeal.nD Cert.DgConvIdeal.τ).loc Cert.DgConvIdeal.main_arg3) = m ((c.tc : Thread Cert.DgConvIdeal.nD Cert.DgConvIdeal.τ).loc Cert.DgConvIdeal.main_arg3)
      ∧ r.2.mem ((c.tc : Thread Cert.DgConvIdeal.nD Cert.DgConvIdeal.τ).loc Cert.DgConvIdeal.main_arg4) = m ((c.tc : Thread Cert.DgConvIdeal.nD Cert.DgConvIdeal.τ).loc Cert.DgConvIdeal.main_arg4))
      ∧ r.2.sem = fun _ => 0)

def quiescent_DgConvIdeal_pre_dg_finite [hDgConvIdeal : Cert.DgConvIdeal.Facts] [hPre_dg_finite : Cert.Pre_dg_finite.Facts] : Prop :=
  ∀ (m : (ℓ : Loc Cert.DgConvIdeal.nD Cert.DgConvIdeal.τ Cert.DgConvIdeal.sig) → Buf (Elt Ideal) ℓ) (g : Dev Cert.DgConvIdeal.nD → PrngReg), Pre_DgConvIdeal_dg_finite m →
    θ_run (Cert.DgConvIdeal.defs (F := Ideal)) (onTc (τ := Cert.DgConvIdeal.τ) (Cert.DgConvIdeal.main (F := Ideal))) ⟨m, fun _ => 0, g⟩ (fun r => (∀ c : Dev Cert.DgConvIdeal.nD,
      r.2.mem ((c.tc : Thread Cert.DgConvIdeal.nD Cert.DgConvIdeal.τ).loc Cert.DgConvIdeal.main_arg0) = m ((c.tc : Thread Cert.DgConvIdeal.nD Cert.DgConvIdeal.τ).loc Cert.DgConvIdeal.main_arg0)
      ∧ r.2.mem ((c.tc : Thread Cert.DgConvIdeal.nD Cert.DgConvIdeal.τ).loc Cert.DgConvIdeal.main_arg1) = m ((c.tc : Thread Cert.DgConvIdeal.nD Cert.DgConvIdeal.τ).loc Cert.DgConvIdeal.main_arg1)
      ∧ r.2.mem ((c.tc : Thread Cert.DgConvIdeal.nD Cert.DgConvIdeal.τ).loc Cert.DgConvIdeal.main_arg2) = m ((c.tc : Thread Cert.DgConvIdeal.nD Cert.DgConvIdeal.τ).loc Cert.DgConvIdeal.main_arg2)
      ∧ r.2.mem ((c.tc : Thread Cert.DgConvIdeal.nD Cert.DgConvIdeal.τ).loc Cert.DgConvIdeal.main_arg3) = m ((c.tc : Thread Cert.DgConvIdeal.nD Cert.DgConvIdeal.τ).loc Cert.DgConvIdeal.main_arg3)
      ∧ r.2.mem ((c.tc : Thread Cert.DgConvIdeal.nD Cert.DgConvIdeal.τ).loc Cert.DgConvIdeal.main_arg4) = m ((c.tc : Thread Cert.DgConvIdeal.nD Cert.DgConvIdeal.τ).loc Cert.DgConvIdeal.main_arg4))
      ∧ r.2.sem = fun _ => 0)

def quiescent_DgConvRefIdeal [hDgConvRefIdeal : Cert.DgConvRefIdeal.Facts] : Prop :=
  ∀ (m : (ℓ : Loc Cert.DgConvRefIdeal.nD Cert.DgConvRefIdeal.τ Cert.DgConvRefIdeal.sig) → Buf (Elt Ideal) ℓ) (g : Dev Cert.DgConvRefIdeal.nD → PrngReg), Pre_DgConvRefIdeal m →
    θ_run (Cert.DgConvRefIdeal.defs (F := Ideal)) (onTc (τ := Cert.DgConvRefIdeal.τ) (Cert.DgConvRefIdeal.main (F := Ideal))) ⟨m, fun _ => 0, g⟩ (fun r => (∀ c : Dev Cert.DgConvRefIdeal.nD,
      r.2.mem ((c.tc : Thread Cert.DgConvRefIdeal.nD Cert.DgConvRefIdeal.τ).loc Cert.DgConvRefIdeal.main_arg0) = m ((c.tc : Thread Cert.DgConvRefIdeal.nD Cert.DgConvRefIdeal.τ).loc Cert.DgConvRefIdeal.main_arg0)
      ∧ r.2.mem ((c.tc : Thread Cert.DgConvRefIdeal.nD Cert.DgConvRefIdeal.τ).loc Cert.DgConvRefIdeal.main_arg1) = m ((c.tc : Thread Cert.DgConvRefIdeal.nD Cert.DgConvRefIdeal.τ).loc Cert.DgConvRefIdeal.main_arg1)
      ∧ r.2.mem ((c.tc : Thread Cert.DgConvRefIdeal.nD Cert.DgConvRefIdeal.τ).loc Cert.DgConvRefIdeal.main_arg2) = m ((c.tc : Thread Cert.DgConvRefIdeal.nD Cert.DgConvRefIdeal.τ).loc Cert.DgConvRefIdeal.main_arg2)
      ∧ r.2.mem ((c.tc : Thread Cert.DgConvRefIdeal.nD Cert.DgConvRefIdeal.τ).loc Cert.DgConvRefIdeal.main_arg3) = m ((c.tc : Thread Cert.DgConvRefIdeal.nD Cert.DgConvRefIdeal.τ).loc Cert.DgConvRefIdeal.main_arg3)
      ∧ r.2.mem ((c.tc : Thread Cert.DgConvRefIdeal.nD Cert.DgConvRefIdeal.τ).loc Cert.DgConvRefIdeal.main_arg4) = m ((c.tc : Thread Cert.DgConvRefIdeal.nD Cert.DgConvRefIdeal.τ).loc Cert.DgConvRefIdeal.main_arg4))
      ∧ r.2.sem = fun _ => 0)

def quiescent_DgConvRefIdeal_pre_dg_finite [hDgConvRefIdeal : Cert.DgConvRefIdeal.Facts] [hPre_dg_finite : Cert.Pre_dg_finite.Facts] : Prop :=
  ∀ (m : (ℓ : Loc Cert.DgConvRefIdeal.nD Cert.DgConvRefIdeal.τ Cert.DgConvRefIdeal.sig) → Buf (Elt Ideal) ℓ) (g : Dev Cert.DgConvRefIdeal.nD → PrngReg), Pre_DgConvRefIdeal_dg_finite m →
    θ_run (Cert.DgConvRefIdeal.defs (F := Ideal)) (onTc (τ := Cert.DgConvRefIdeal.τ) (Cert.DgConvRefIdeal.main (F := Ideal))) ⟨m, fun _ => 0, g⟩ (fun r => (∀ c : Dev Cert.DgConvRefIdeal.nD,
      r.2.mem ((c.tc : Thread Cert.DgConvRefIdeal.nD Cert.DgConvRefIdeal.τ).loc Cert.DgConvRefIdeal.main_arg0) = m ((c.tc : Thread Cert.DgConvRefIdeal.nD Cert.DgConvRefIdeal.τ).loc Cert.DgConvRefIdeal.main_arg0)
      ∧ r.2.mem ((c.tc : Thread Cert.DgConvRefIdeal.nD Cert.DgConvRefIdeal.τ).loc Cert.DgConvRefIdeal.main_arg1) = m ((c.tc : Thread Cert.DgConvRefIdeal.nD Cert.DgConvRefIdeal.τ).loc Cert.DgConvRefIdeal.main_arg1)
      ∧ r.2.mem ((c.tc : Thread Cert.DgConvRefIdeal.nD Cert.DgConvRefIdeal.τ).loc Cert.DgConvRefIdeal.main_arg2) = m ((c.tc : Thread Cert.DgConvRefIdeal.nD Cert.DgConvRefIdeal.τ).loc Cert.DgConvRefIdeal.main_arg2)
      ∧ r.2.mem ((c.tc : Thread Cert.DgConvRefIdeal.nD Cert.DgConvRefIdeal.τ).loc Cert.DgConvRefIdeal.main_arg3) = m ((c.tc : Thread Cert.DgConvRefIdeal.nD Cert.DgConvRefIdeal.τ).loc Cert.DgConvRefIdeal.main_arg3)
      ∧ r.2.mem ((c.tc : Thread Cert.DgConvRefIdeal.nD Cert.DgConvRefIdeal.τ).loc Cert.DgConvRefIdeal.main_arg4) = m ((c.tc : Thread Cert.DgConvRefIdeal.nD Cert.DgConvRefIdeal.τ).loc Cert.DgConvRefIdeal.main_arg4))
      ∧ r.2.sem = fun _ => 0)

def quiescent_GwDown [hGwDown : Cert.GwDown.Facts] : Prop :=
  ∀ (m : (ℓ : Loc Cert.GwDown.nD Cert.GwDown.τ Cert.GwDown.sig) → Buf (Elt Bits) ℓ) (g : Dev Cert.GwDown.nD → PrngReg), Pre_GwDown m →
    θ_run (Cert.GwDown.defs (F := Bits)) (onTc (τ := Cert.GwDown.τ) (Cert.GwDown.main (F := Bits))) ⟨m, fun _ => 0, g⟩ (fun r => (∀ c : Dev Cert.GwDown.nD,
      r.2.mem ((c.tc : Thread Cert.GwDown.nD Cert.GwDown.τ).loc Cert.GwDown.main_arg0) = m ((c.tc : Thread Cert.GwDown.nD Cert.GwDown.τ).loc Cert.GwDown.main_arg0)
      ∧ r.2.mem ((c.tc : Thread Cert.GwDown.nD Cert.GwDown.τ).loc Cert.GwDown.main_arg1) = m ((c.tc : Thread Cert.GwDown.nD Cert.GwDown.τ).loc Cert.GwDown.main_arg1))
      ∧ r.2.sem = fun _ => 0)

def quiescent_GwDownIdeal [hGwDownIdeal : Cert.GwDownIdeal.Facts] : Prop :=
  ∀ (m : (ℓ : Loc Cert.GwDownIdeal.nD Cert.GwDownIdeal.τ Cert.GwDownIdeal.sig) → Buf (Elt Ideal) ℓ) (g : Dev Cert.GwDownIdeal.nD → PrngReg), Pre_GwDownIdeal m →
    θ_run (Cert.GwDownIdeal.defs (F := Ideal)) (onTc (τ := Cert.GwDownIdeal.τ) (Cert.GwDownIdeal.main (F := Ideal))) ⟨m, fun _ => 0, g⟩ (fun r => (∀ c : Dev Cert.GwDownIdeal.nD,
      r.2.mem ((c.tc : Thread Cert.GwDownIdeal.nD Cert.GwDownIdeal.τ).loc Cert.GwDownIdeal.main_arg0) = m ((c.tc : Thread Cert.GwDownIdeal.nD Cert.GwDownIdeal.τ).loc Cert.GwDownIdeal.main_arg0)
      ∧ r.2.mem ((c.tc : Thread Cert.GwDownIdeal.nD Cert.GwDownIdeal.τ).loc Cert.GwDownIdeal.main_arg1) = m ((c.tc : Thread Cert.GwDownIdeal.nD Cert.GwDownIdeal.τ).loc Cert.GwDownIdeal.main_arg1))
      ∧ r.2.sem = fun _ => 0)

def quiescent_GwDownRefIdeal [hGwDownRefIdeal : Cert.GwDownRefIdeal.Facts] : Prop :=
  ∀ (m : (ℓ : Loc Cert.GwDownRefIdeal.nD Cert.GwDownRefIdeal.τ Cert.GwDownRefIdeal.sig) → Buf (Elt Ideal) ℓ) (g : Dev Cert.GwDownRefIdeal.nD → PrngReg), Pre_GwDownRefIdeal m →
    θ_run (Cert.GwDownRefIdeal.defs (F := Ideal)) (onTc (τ := Cert.GwDownRefIdeal.τ) (Cert.GwDownRefIdeal.main (F := Ideal))) ⟨m, fun _ => 0, g⟩ (fun r => (∀ c : Dev Cert.GwDownRefIdeal.nD,
      r.2.mem ((c.tc : Thread Cert.GwDownRefIdeal.nD Cert.GwDownRefIdeal.τ).loc Cert.GwDownRefIdeal.main_arg0) = m ((c.tc : Thread Cert.GwDownRefIdeal.nD Cert.GwDownRefIdeal.τ).loc Cert.GwDownRefIdeal.main_arg0)
      ∧ r.2.mem ((c.tc : Thread Cert.GwDownRefIdeal.nD Cert.GwDownRefIdeal.τ).loc Cert.GwDownRefIdeal.main_arg1) = m ((c.tc : Thread Cert.GwDownRefIdeal.nD Cert.GwDownRefIdeal.τ).loc Cert.GwDownRefIdeal.main_arg1))
      ∧ r.2.sem = fun _ => 0)

def quiescent_GwUp [hGwUp : Cert.GwUp.Facts] : Prop :=
  ∀ (m : (ℓ : Loc Cert.GwUp.nD Cert.GwUp.τ Cert.GwUp.sig) → Buf (Elt Bits) ℓ) (g : Dev Cert.GwUp.nD → PrngReg), Pre_GwUp m →
    θ_run (Cert.GwUp.defs (F := Bits)) (onTc (τ := Cert.GwUp.τ) (Cert.GwUp.main (F := Bits))) ⟨m, fun _ => 0, g⟩ (fun r => (∀ c : Dev Cert.GwUp.nD,
      r.2.mem ((c.tc : Thread Cert.GwUp.nD Cert.GwUp.τ).loc Cert.GwUp.main_arg0) = m ((c.tc : Thread Cert.GwUp.nD Cert.GwUp.τ).loc Cert.GwUp.main_arg0)
      ∧ r.2.mem ((c.tc : Thread Cert.GwUp.nD Cert.GwUp.τ).loc Cert.GwUp.main_arg1) = m ((c.tc : Thread Cert.GwUp.nD Cert.GwUp.τ).loc Cert.GwUp.main_arg1))
      ∧ r.2.sem = fun _ => 0)

def quiescent_GwUpIdeal [hGwUpIdeal : Cert.GwUpIdeal.Facts] : Prop :=
  ∀ (m : (ℓ : Loc Cert.GwUpIdeal.nD Cert.GwUpIdeal.τ Cert.GwUpIdeal.sig) → Buf (Elt Ideal) ℓ) (g : Dev Cert.GwUpIdeal.nD → PrngReg), Pre_GwUpIdeal m →
    θ_run (Cert.GwUpIdeal.defs (F := Ideal)) (onTc (τ := Cert.GwUpIdeal.τ) (Cert.GwUpIdeal.main (F := Ideal))) ⟨m, fun _ => 0, g⟩ (fun r => (∀ c : Dev Cert.GwUpIdeal.nD,
      r.2.mem ((c.tc : Thread Cert.GwUpIdeal.nD Cert.GwUpIdeal.τ).loc Cert.GwUpIdeal.main_arg0) = m ((c.tc : Thread Cert.GwUpIdeal.nD Cert.GwUpIdeal.τ).loc Cert.GwUpIdeal.main_arg0)
      ∧ r.2.mem ((c.tc : Thread Cert.GwUpIdeal.nD Cert.GwUpIdeal.τ).loc Cert.GwUpIdeal.main_arg1) = m ((c.tc : Thread Cert.GwUpIdeal.nD Cert.GwUpIdeal.τ).loc Cert.GwUpIdeal.main_arg1))
      ∧ r.2.sem = fun _ => 0)

def quiescent_GwUpRefIdeal [hGwUpRefIdeal : Cert.GwUpRefIdeal.Facts] : Prop :=
  ∀ (m : (ℓ : Loc Cert.GwUpRefIdeal.nD Cert.GwUpRefIdeal.τ Cert.GwUpRefIdeal.sig) → Buf (Elt Ideal) ℓ) (g : Dev Cert.GwUpRefIdeal.nD → PrngReg), Pre_GwUpRefIdeal m →
    θ_run (Cert.GwUpRefIdeal.defs (F := Ideal)) (onTc (τ := Cert.GwUpRefIdeal.τ) (Cert.GwUpRefIdeal.main (F := Ideal))) ⟨m, fun _ => 0, g⟩ (fun r => (∀ c : Dev Cert.GwUpRefIdeal.nD,
      r.2.mem ((c.tc : Thread Cert.GwUpRefIdeal.nD Cert.GwUpRefIdeal.τ).loc Cert.GwUpRefIdeal.main_arg0) = m ((c.tc : Thread Cert.GwUpRefIdeal.nD Cert.GwUpRefIdeal.τ).loc Cert.GwUpRefIdeal.main_arg0)
      ∧ r.2.mem ((c.tc : Thread Cert.GwUpRefIdeal.nD Cert.GwUpRefIdeal.τ).loc Cert.GwUpRefIdeal.main_arg1) = m ((c.tc : Thread Cert.GwUpRefIdeal.nD Cert.GwUpRefIdeal.τ).loc Cert.GwUpRefIdeal.main_arg1))
      ∧ r.2.sem = fun _ => 0)

def quiescent_GwOut [hGwOut : Cert.GwOut.Facts] : Prop :=
  ∀ (m : (ℓ : Loc Cert.GwOut.nD Cert.GwOut.τ Cert.GwOut.sig) → Buf (Elt Bits) ℓ) (g : Dev Cert.GwOut.nD → PrngReg), Pre_GwOut m →
    θ_run (Cert.GwOut.defs (F := Bits)) (onTc (τ := Cert.GwOut.τ) (Cert.GwOut.main (F := Bits))) ⟨m, fun _ => 0, g⟩ (fun r => (∀ c : Dev Cert.GwOut.nD,
      r.2.mem ((c.tc : Thread Cert.GwOut.nD Cert.GwOut.τ).loc Cert.GwOut.main_arg0) = m ((c.tc : Thread Cert.GwOut.nD Cert.GwOut.τ).loc Cert.GwOut.main_arg0)
      ∧ r.2.mem ((c.tc : Thread Cert.GwOut.nD Cert.GwOut.τ).loc Cert.GwOut.main_arg1) = m ((c.tc : Thread Cert.GwOut.nD Cert.GwOut.τ).loc Cert.GwOut.main_arg1))
      ∧ r.2.sem = fun _ => 0)

def quiescent_GwOutIdeal [hGwOutIdeal : Cert.GwOutIdeal.Facts] : Prop :=
  ∀ (m : (ℓ : Loc Cert.GwOutIdeal.nD Cert.GwOutIdeal.τ Cert.GwOutIdeal.sig) → Buf (Elt Ideal) ℓ) (g : Dev Cert.GwOutIdeal.nD → PrngReg), Pre_GwOutIdeal m →
    θ_run (Cert.GwOutIdeal.defs (F := Ideal)) (onTc (τ := Cert.GwOutIdeal.τ) (Cert.GwOutIdeal.main (F := Ideal))) ⟨m, fun _ => 0, g⟩ (fun r => (∀ c : Dev Cert.GwOutIdeal.nD,
      r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
      ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ r.2.sem = fun _ => 0)

def quiescent_GwOutRefIdeal [hGwOutRefIdeal : Cert.GwOutRefIdeal.Facts] : Prop :=
  ∀ (m : (ℓ : Loc Cert.GwOutRefIdeal.nD Cert.GwOutRefIdeal.τ Cert.GwOutRefIdeal.sig) → Buf (Elt Ideal) ℓ) (g : Dev Cert.GwOutRefIdeal.nD → PrngReg), Pre_GwOutRefIdeal m →
    θ_run (Cert.GwOutRefIdeal.defs (F := Ideal)) (onTc (τ := Cert.GwOutRefIdeal.τ) (Cert.GwOutRefIdeal.main (F := Ideal))) ⟨m, fun _ => 0, g⟩ (fun r => (∀ c : Dev Cert.GwOutRefIdeal.nD,
      r.2.mem ((c.tc : Thread Cert.GwOutRefIdeal.nD Cert.GwOutRefIdeal.τ).loc Cert.GwOutRefIdeal.main_arg0) = m ((c.tc : Thread Cert.GwOutRefIdeal.nD Cert.GwOutRefIdeal.τ).loc Cert.GwOutRefIdeal.main_arg0)
      ∧ r.2.mem ((c.tc : Thread Cert.GwOutRefIdeal.nD Cert.GwOutRefIdeal.τ).loc Cert.GwOutRefIdeal.main_arg1) = m ((c.tc : Thread Cert.GwOutRefIdeal.nD Cert.GwOutRefIdeal.τ).loc Cert.GwOutRefIdeal.main_arg1))
      ∧ r.2.sem = fun _ => 0)

def quiescent_GwIn [hGwIn : Cert.GwIn.Facts] : Prop :=
  ∀ (m : (ℓ : Loc Cert.GwIn.nD Cert.GwIn.τ Cert.GwIn.sig) → Buf (Elt Bits) ℓ) (g : Dev Cert.GwIn.nD → PrngReg), Pre_GwIn m →
    θ_run (Cert.GwIn.defs (F := Bits)) (onTc (τ := Cert.GwIn.τ) (Cert.GwIn.main (F := Bits))) ⟨m, fun _ => 0, g⟩ (fun r => (∀ c : Dev Cert.GwIn.nD,
      r.2.mem ((c.tc : Thread Cert.GwIn.nD Cert.GwIn.τ).loc Cert.GwIn.main_arg0) = m ((c.tc : Thread Cert.GwIn.nD Cert.GwIn.τ).loc Cert.GwIn.main_arg0)
      ∧ r.2.mem ((c.tc : Thread Cert.GwIn.nD Cert.GwIn.τ).loc Cert.GwIn.main_arg1) = m ((c.tc : Thread Cert.GwIn.nD Cert.GwIn.τ).loc Cert.GwIn.main_arg1))
      ∧ r.2.sem = fun _ => 0)

def quiescent_GwInIdeal [hGwInIdeal : Cert.GwInIdeal.Facts] : Prop :=
  ∀ (m : (ℓ : Loc Cert.GwInIdeal.nD Cert.GwInIdeal.τ Cert.GwInIdeal.sig) → Buf (Elt Ideal) ℓ) (g : Dev Cert.GwInIdeal.nD → PrngReg), Pre_GwInIdeal m →
    θ_run (Cert.GwInIdeal.defs (F := Ideal)) (onTc (τ := Cert.GwInIdeal.τ) (Cert.GwInIdeal.main (F := Ideal))) ⟨m, fun _ => 0, g⟩ (fun r => (∀ c : Dev Cert.GwInIdeal.nD,
      r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
      ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ r.2.sem = fun _ => 0)

def quiescent_GwInRefIdeal [hGwInRefIdeal : Cert.GwInRefIdeal.Facts] : Prop :=
  ∀ (m : (ℓ : Loc Cert.GwInRefIdeal.nD Cert.GwInRefIdeal.τ Cert.GwInRefIdeal.sig) → Buf (Elt Ideal) ℓ) (g : Dev Cert.GwInRefIdeal.nD → PrngReg), Pre_GwInRefIdeal m →
    θ_run (Cert.GwInRefIdeal.defs (F := Ideal)) (onTc (τ := Cert.GwInRefIdeal.τ) (Cert.GwInRefIdeal.main (F := Ideal))) ⟨m, fun _ => 0, g⟩ (fun r => (∀ c : Dev Cert.GwInRefIdeal.nD,
      r.2.mem ((c.tc : Thread Cert.GwInRefIdeal.nD Cert.GwInRefIdeal.τ).loc Cert.GwInRefIdeal.main_arg0) = m ((c.tc : Thread Cert.GwInRefIdeal.nD Cert.GwInRefIdeal.τ).loc Cert.GwInRefIdeal.main_arg0)
      ∧ r.2.mem ((c.tc : Thread Cert.GwInRefIdeal.nD Cert.GwInRefIdeal.τ).loc Cert.GwInRefIdeal.main_arg1) = m ((c.tc : Thread Cert.GwInRefIdeal.nD Cert.GwInRefIdeal.τ).loc Cert.GwInRefIdeal.main_arg1))
      ∧ r.2.sem = fun _ => 0)

def quiescent_Dn2 [hDn2 : Cert.Dn2.Facts] : Prop :=
  ∀ (m : (ℓ : Loc Cert.Dn2.nD Cert.Dn2.τ Cert.Dn2.sig) → Buf (Elt Bits) ℓ) (g : Dev Cert.Dn2.nD → PrngReg), Pre_Dn2 m →
    θ_run (Cert.Dn2.defs (F := Bits)) (onTc (τ := Cert.Dn2.τ) (Cert.Dn2.main (F := Bits))) ⟨m, fun _ => 0, g⟩ (fun r => (∀ c : Dev Cert.Dn2.nD,
      r.2.mem ((c.tc : Thread Cert.Dn2.nD Cert.Dn2.τ).loc Cert.Dn2.main_arg0) = m ((c.tc : Thread Cert.Dn2.nD Cert.Dn2.τ).loc Cert.Dn2.main_arg0)
      ∧ r.2.mem ((c.tc : Thread Cert.Dn2.nD Cert.Dn2.τ).loc Cert.Dn2.main_arg1) = m ((c.tc : Thread Cert.Dn2.nD Cert.Dn2.τ).loc Cert.Dn2.main_arg1)
      ∧ r.2.mem ((c.tc : Thread Cert.Dn2.nD Cert.Dn2.τ).loc Cert.Dn2.main_arg2) = m ((c.tc : Thread Cert.Dn2.nD Cert.Dn2.τ).loc Cert.Dn2.main_arg2)
      ∧ r.2.mem ((c.tc : Thread Cert.Dn2.nD Cert.Dn2.τ).loc Cert.Dn2.main_arg3) = m ((c.tc : Thread Cert.Dn2.nD Cert.Dn2.τ).loc Cert.Dn2.main_arg3)
      ∧ r.2.mem ((c.tc : Thread Cert.Dn2.nD Cert.Dn2.τ).loc Cert.Dn2.main_arg4) = m ((c.tc : Thread Cert.Dn2.nD Cert.Dn2.τ).loc Cert.Dn2.main_arg4)
      ∧ r.2.mem ((c.tc : Thread Cert.Dn2.nD Cert.Dn2.τ).loc Cert.Dn2.main_arg5) = m ((c.tc : Thread Cert.Dn2.nD Cert.Dn2.τ).loc Cert.Dn2.main_arg5))
      ∧ r.2.sem = fun _ => 0)

def quiescent_Dn2Ideal [hDn2Ideal : Cert.Dn2Ideal.Facts] : Prop :=
  ∀ (m : (ℓ : Loc Cert.Dn2Ideal.nD Cert.Dn2Ideal.τ Cert.Dn2Ideal.sig) → Buf (Elt Ideal) ℓ) (g : Dev Cert.Dn2Ideal.nD → PrngReg), Pre_Dn2Ideal m →
    θ_run (Cert.Dn2Ideal.defs (F := Ideal)) (onTc (τ := Cert.Dn2Ideal.τ) (Cert.Dn2Ideal.main (F := Ideal))) ⟨m, fun _ => 0, g⟩ (fun r => (∀ c : Dev Cert.Dn2Ideal.nD,
      r.2.mem ((c.tc : Thread Cert.Dn2Ideal.nD Cert.Dn2Ideal.τ).loc Cert.Dn2Ideal.main_arg0) = m ((c.tc : Thread Cert.Dn2Ideal.nD Cert.Dn2Ideal.τ).loc Cert.Dn2Ideal.main_arg0)
      ∧ r.2.mem ((c.tc : Thread Cert.Dn2Ideal.nD Cert.Dn2Ideal.τ).loc Cert.Dn2Ideal.main_arg1) = m ((c.tc : Thread Cert.Dn2Ideal.nD Cert.Dn2Ideal.τ).loc Cert.Dn2Ideal.main_arg1)
      ∧ r.2.mem ((c.tc : Thread Cert.Dn2Ideal.nD Cert.Dn2Ideal.τ).loc Cert.Dn2Ideal.main_arg2) = m ((c.tc : Thread Cert.Dn2Ideal.nD Cert.Dn2Ideal.τ).loc Cert.Dn2Ideal.main_arg2)
      ∧ r.2.mem ((c.tc : Thread Cert.Dn2Ideal.nD Cert.Dn2Ideal.τ).loc Cert.Dn2Ideal.main_arg3) = m ((c.tc : Thread Cert.Dn2Ideal.nD Cert.Dn2Ideal.τ).loc Cert.Dn2Ideal.main_arg3)
      ∧ r.2.mem ((c.tc : Thread Cert.Dn2Ideal.nD Cert.Dn2Ideal.τ).loc Cert.Dn2Ideal.main_arg4) = m ((c.tc : Thread Cert.Dn2Ideal.nD Cert.Dn2Ideal.τ).loc Cert.Dn2Ideal.main_arg4)
      ∧ r.2.mem ((c.tc : Thread Cert.Dn2Ideal.nD Cert.Dn2Ideal.τ).loc Cert.Dn2Ideal.main_arg5) = m ((c.tc : Thread Cert.Dn2Ideal.nD Cert.Dn2Ideal.τ).loc Cert.Dn2Ideal.main_arg5))
      ∧ r.2.sem = fun _ => 0)

def quiescent_Dn2RefIdeal [hDn2RefIdeal : Cert.Dn2RefIdeal.Facts] : Prop :=
  ∀ (m : (ℓ : Loc Cert.Dn2RefIdeal.nD Cert.Dn2RefIdeal.τ Cert.Dn2RefIdeal.sig) → Buf (Elt Ideal) ℓ) (g : Dev Cert.Dn2RefIdeal.nD → PrngReg), Pre_Dn2RefIdeal m →
    θ_run (Cert.Dn2RefIdeal.defs (F := Ideal)) (onTc (τ := Cert.Dn2RefIdeal.τ) (Cert.Dn2RefIdeal.main (F := Ideal))) ⟨m, fun _ => 0, g⟩ (fun r => (∀ c : Dev Cert.Dn2RefIdeal.nD,
      r.2.mem ((c.tc : Thread Cert.Dn2RefIdeal.nD Cert.Dn2RefIdeal.τ).loc Cert.Dn2RefIdeal.main_arg0) = m ((c.tc : Thread Cert.Dn2RefIdeal.nD Cert.Dn2RefIdeal.τ).loc Cert.Dn2RefIdeal.main_arg0)
      ∧ r.2.mem ((c.tc : Thread Cert.Dn2RefIdeal.nD Cert.Dn2RefIdeal.τ).loc Cert.Dn2RefIdeal.main_arg1) = m ((c.tc : Thread Cert.Dn2RefIdeal.nD Cert.Dn2RefIdeal.τ).loc Cert.Dn2RefIdeal.main_arg1)
      ∧ r.2.mem ((c.tc : Thread Cert.Dn2RefIdeal.nD Cert.Dn2RefIdeal.τ).loc Cert.Dn2RefIdeal.main_arg2) = m ((c.tc : Thread Cert.Dn2RefIdeal.nD Cert.Dn2RefIdeal.τ).loc Cert.Dn2RefIdeal.main_arg2)
      ∧ r.2.mem ((c.tc : Thread Cert.Dn2RefIdeal.nD Cert.Dn2RefIdeal.τ).loc Cert.Dn2RefIdeal.main_arg3) = m ((c.tc : Thread Cert.Dn2RefIdeal.nD Cert.Dn2RefIdeal.τ).loc Cert.Dn2RefIdeal.main_arg3)
      ∧ r.2.mem ((c.tc : Thread Cert.Dn2RefIdeal.nD Cert.Dn2RefIdeal.τ).loc Cert.Dn2RefIdeal.main_arg4) = m ((c.tc : Thread Cert.Dn2RefIdeal.nD Cert.Dn2RefIdeal.τ).loc Cert.Dn2RefIdeal.main_arg4)
      ∧ r.2.mem ((c.tc : Thread Cert.Dn2RefIdeal.nD Cert.Dn2RefIdeal.τ).loc Cert.Dn2RefIdeal.main_arg5) = m ((c.tc : Thread Cert.Dn2RefIdeal.nD Cert.Dn2RefIdeal.τ).loc Cert.Dn2RefIdeal.main_arg5))
      ∧ r.2.sem = fun _ => 0)

def quiescent_DownLoss [hDownLoss : Cert.DownLoss.Facts] : Prop :=
  ∀ (m : (ℓ : Loc Cert.DownLoss.nD Cert.DownLoss.τ Cert.DownLoss.sig) → Buf (Elt Bits) ℓ) (g : Dev Cert.DownLoss.nD → PrngReg), Pre_DownLoss m →
    θ_run (Cert.DownLoss.defs (F := Bits)) (onTc (τ := Cert.DownLoss.τ) (Cert.DownLoss.main (F := Bits))) ⟨m, fun _ => 0, g⟩ (fun r => (∀ c : Dev Cert.DownLoss.nD,
      r.2.mem ((c.tc : Thread Cert.DownLoss.nD Cert.DownLoss.τ).loc Cert.DownLoss.main_arg0) = m ((c.tc : Thread Cert.DownLoss.nD Cert.DownLoss.τ).loc Cert.DownLoss.main_arg0)
      ∧ r.2.mem ((c.tc : Thread Cert.DownLoss.nD Cert.DownLoss.τ).loc Cert.DownLoss.main_arg1) = m ((c.tc : Thread Cert.DownLoss.nD Cert.DownLoss.τ).loc Cert.DownLoss.main_arg1)
      ∧ r.2.mem ((c.tc : Thread Cert.DownLoss.nD Cert.DownLoss.τ).loc Cert.DownLoss.main_arg2) = m ((c.tc : Thread Cert.DownLoss.nD Cert.DownLoss.τ).loc Cert.DownLoss.main_arg2)
      ∧ r.2.mem ((c.tc : Thread Cert.DownLoss.nD Cert.DownLoss.τ).loc Cert.DownLoss.main_arg3) = m ((c.tc : Thread Cert.DownLoss.nD Cert.DownLoss.τ).loc Cert.DownLoss.main_arg3)
      ∧ r.2.mem ((c.tc : Thread Cert.DownLoss.nD Cert.DownLoss.τ).loc Cert.DownLoss.main_arg4) = m ((c.tc : Thread Cert.DownLoss.nD Cert.DownLoss.τ).loc Cert.DownLoss.main_arg4))
      ∧ r.2.sem = fun _ => 0)

def quiescent_DownLossIdeal [hDownLossIdeal : Cert.DownLossIdeal.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
      ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ r.2.sem = fun _ => 0)

def quiescent_DownLossRefIdeal [hDownLossRefIdeal : Cert.DownLossRefIdeal.Facts] : Prop :=
  ∀ (m : (ℓ : Loc Cert.DownLossRefIdeal.nD Cert.DownLossRefIdeal.τ Cert.DownLossRefIdeal.sig) → Buf (Elt Ideal) ℓ) (g : Dev Cert.DownLossRefIdeal.nD → PrngReg), Pre_DownLossRefIdeal m →
    θ_run (Cert.DownLossRefIdeal.defs (F := Ideal)) (onTc (τ := Cert.DownLossRefIdeal.τ) (Cert.DownLossRefIdeal.main (F := Ideal))) ⟨m, fun _ => 0, g⟩ (fun r => (∀ c : Dev Cert.DownLossRefIdeal.nD,
      r.2.mem ((c.tc : Thread Cert.DownLossRefIdeal.nD Cert.DownLossRefIdeal.τ).loc Cert.DownLossRefIdeal.main_arg0) = m ((c.tc : Thread Cert.DownLossRefIdeal.nD Cert.DownLossRefIdeal.τ).loc Cert.DownLossRefIdeal.main_arg0)
      ∧ r.2.mem ((c.tc : Thread Cert.DownLossRefIdeal.nD Cert.DownLossRefIdeal.τ).loc Cert.DownLossRefIdeal.main_arg1) = m ((c.tc : Thread Cert.DownLossRefIdeal.nD Cert.DownLossRefIdeal.τ).loc Cert.DownLossRefIdeal.main_arg1)
      ∧ r.2.mem ((c.tc : Thread Cert.DownLossRefIdeal.nD Cert.DownLossRefIdeal.τ).loc Cert.DownLossRefIdeal.main_arg2) = m ((c.tc : Thread Cert.DownLossRefIdeal.nD Cert.DownLossRefIdeal.τ).loc Cert.DownLossRefIdeal.main_arg2)
      ∧ r.2.mem ((c.tc : Thread Cert.DownLossRefIdeal.nD Cert.DownLossRefIdeal.τ).loc Cert.DownLossRefIdeal.main_arg3) = m ((c.tc : Thread Cert.DownLossRefIdeal.nD Cert.DownLossRefIdeal.τ).loc Cert.DownLossRefIdeal.main_arg3)
      ∧ r.2.mem ((c.tc : Thread Cert.DownLossRefIdeal.nD Cert.DownLossRefIdeal.τ).loc Cert.DownLossRefIdeal.main_arg4) = m ((c.tc : Thread Cert.DownLossRefIdeal.nD Cert.DownLossRefIdeal.τ).loc Cert.DownLossRefIdeal.main_arg4))
      ∧ r.2.sem = fun _ => 0)

def quiescent_OutNorm [hOutNorm : Cert.OutNorm.Facts] : Prop :=
  ∀ (m : (ℓ : Loc Cert.OutNorm.nD Cert.OutNorm.τ Cert.OutNorm.sig) → Buf (Elt Bits) ℓ) (g : Dev Cert.OutNorm.nD → PrngReg), Pre_OutNorm m →
    θ_run (Cert.OutNorm.defs (F := Bits)) (onTc (τ := Cert.OutNorm.τ) (Cert.OutNorm.main (F := Bits))) ⟨m, fun _ => 0, g⟩ (fun r => (∀ c : Dev Cert.OutNorm.nD,
      r.2.mem ((c.tc : Thread Cert.OutNorm.nD Cert.OutNorm.τ).loc Cert.OutNorm.main_arg0) = m ((c.tc : Thread Cert.OutNorm.nD Cert.OutNorm.τ).loc Cert.OutNorm.main_arg0)
      ∧ r.2.mem ((c.tc : Thread Cert.OutNorm.nD Cert.OutNorm.τ).loc Cert.OutNorm.main_arg1) = m ((c.tc : Thread Cert.OutNorm.nD Cert.OutNorm.τ).loc Cert.OutNorm.main_arg1)
      ∧ r.2.mem ((c.tc : Thread Cert.OutNorm.nD Cert.OutNorm.τ).loc Cert.OutNorm.main_arg2) = m ((c.tc : Thread Cert.OutNorm.nD Cert.OutNorm.τ).loc Cert.OutNorm.main_arg2)
      ∧ r.2.mem ((c.tc : Thread Cert.OutNorm.nD Cert.OutNorm.τ).loc Cert.OutNorm.main_arg3) = m ((c.tc : Thread Cert.OutNorm.nD Cert.OutNorm.τ).loc Cert.OutNorm.main_arg3))
      ∧ r.2.sem = fun _ => 0)

def quiescent_OutNormIdeal [hOutNormIdeal : Cert.OutNormIdeal.Facts] : Prop :=
  ∀ (m : (ℓ : Loc Cert.OutNormIdeal.nD Cert.OutNormIdeal.τ Cert.OutNormIdeal.sig) → Buf (Elt Ideal) ℓ) (g : Dev Cert.OutNormIdeal.nD → PrngReg), Pre_OutNormIdeal m →
    θ_run (Cert.OutNormIdeal.defs (F := Ideal)) (onTc (τ := Cert.OutNormIdeal.τ) (Cert.OutNormIdeal.main (F := Ideal))) ⟨m, fun _ => 0, g⟩ (fun r => (∀ c : Dev Cert.OutNormIdeal.nD,
      r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
      ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
      ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
      ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3))
      ∧ r.2.sem = fun _ => 0)

def quiescent_OutNormRefIdeal [hOutNormRefIdeal : Cert.OutNormRefIdeal.Facts] : Prop :=
  ∀ (m : (ℓ : Loc Cert.OutNormRefIdeal.nD Cert.OutNormRefIdeal.τ Cert.OutNormRefIdeal.sig) → Buf (Elt Ideal) ℓ) (g : Dev Cert.OutNormRefIdeal.nD → PrngReg), Pre_OutNormRefIdeal m →
    θ_run (Cert.OutNormRefIdeal.defs (F := Ideal)) (onTc (τ := Cert.OutNormRefIdeal.τ) (Cert.OutNormRefIdeal.main (F := Ideal))) ⟨m, fun _ => 0, g⟩ (fun r => (∀ c : Dev Cert.OutNormRefIdeal.nD,
      r.2.mem ((c.tc : Thread Cert.OutNormRefIdeal.nD Cert.OutNormRefIdeal.τ).loc Cert.OutNormRefIdeal.main_arg0) = m ((c.tc : Thread Cert.OutNormRefIdeal.nD Cert.OutNormRefIdeal.τ).loc Cert.OutNormRefIdeal.main_arg0)
      ∧ r.2.mem ((c.tc : Thread Cert.OutNormRefIdeal.nD Cert.OutNormRefIdeal.τ).loc Cert.OutNormRefIdeal.main_arg1) = m ((c.tc : Thread Cert.OutNormRefIdeal.nD Cert.OutNormRefIdeal.τ).loc Cert.OutNormRefIdeal.main_arg1)
      ∧ r.2.mem ((c.tc : Thread Cert.OutNormRefIdeal.nD Cert.OutNormRefIdeal.τ).loc Cert.OutNormRefIdeal.main_arg2) = m ((c.tc : Thread Cert.OutNormRefIdeal.nD Cert.OutNormRefIdeal.τ).loc Cert.OutNormRefIdeal.main_arg2)
      ∧ r.2.mem ((c.tc : Thread Cert.OutNormRefIdeal.nD Cert.OutNormRefIdeal.τ).loc Cert.OutNormRefIdeal.main_arg3) = m ((c.tc : Thread Cert.OutNormRefIdeal.nD Cert.OutNormRefIdeal.τ).loc Cert.OutNormRefIdeal.main_arg3))
      ∧ r.2.sem = fun _ => 0)

def quiescent_MmIn [hMmIn : Cert.MmIn.Facts] : Prop :=
  ∀ (m : (ℓ : Loc Cert.MmIn.nD Cert.MmIn.τ Cert.MmIn.sig) → Buf (Elt Bits) ℓ) (g : Dev Cert.MmIn.nD → PrngReg), Pre_MmIn m →
    θ_run (Cert.MmIn.defs (F := Bits)) (onTc (τ := Cert.MmIn.τ) (Cert.MmIn.main (F := Bits))) ⟨m, fun _ => 0, g⟩ (fun r => (∀ c : Dev Cert.MmIn.nD,
      r.2.mem ((c.tc : Thread Cert.MmIn.nD Cert.MmIn.τ).loc Cert.MmIn.main_arg0) = m ((c.tc : Thread Cert.MmIn.nD Cert.MmIn.τ).loc Cert.MmIn.main_arg0)
      ∧ r.2.mem ((c.tc : Thread Cert.MmIn.nD Cert.MmIn.τ).loc Cert.MmIn.main_arg1) = m ((c.tc : Thread Cert.MmIn.nD Cert.MmIn.τ).loc Cert.MmIn.main_arg1))
      ∧ r.2.sem = fun _ => 0)

def quiescent_MmInIdeal [hMmInIdeal : Cert.MmInIdeal.Facts] : Prop :=
  ∀ (m : (ℓ : Loc Cert.MmInIdeal.nD Cert.MmInIdeal.τ Cert.MmInIdeal.sig) → Buf (Elt Ideal) ℓ) (g : Dev Cert.MmInIdeal.nD → PrngReg), Pre_MmInIdeal m →
    θ_run (Cert.MmInIdeal.defs (F := Ideal)) (onTc (τ := Cert.MmInIdeal.τ) (Cert.MmInIdeal.main (F := Ideal))) ⟨m, fun _ => 0, g⟩ (fun r => (∀ c : Dev Cert.MmInIdeal.nD,
      r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
      ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ r.2.sem = fun _ => 0)

def quiescent_MmInRefIdeal [hMmInRefIdeal : Cert.MmInRefIdeal.Facts] : Prop :=
  ∀ (m : (ℓ : Loc Cert.MmInRefIdeal.nD Cert.MmInRefIdeal.τ Cert.MmInRefIdeal.sig) → Buf (Elt Ideal) ℓ) (g : Dev Cert.MmInRefIdeal.nD → PrngReg), Pre_MmInRefIdeal m →
    θ_run (Cert.MmInRefIdeal.defs (F := Ideal)) (onTc (τ := Cert.MmInRefIdeal.τ) (Cert.MmInRefIdeal.main (F := Ideal))) ⟨m, fun _ => 0, g⟩ (fun r => (∀ c : Dev Cert.MmInRefIdeal.nD,
      r.2.mem ((c.tc : Thread Cert.MmInRefIdeal.nD Cert.MmInRefIdeal.τ).loc Cert.MmInRefIdeal.main_arg0) = m ((c.tc : Thread Cert.MmInRefIdeal.nD Cert.MmInRefIdeal.τ).loc Cert.MmInRefIdeal.main_arg0)
      ∧ r.2.mem ((c.tc : Thread Cert.MmInRefIdeal.nD Cert.MmInRefIdeal.τ).loc Cert.MmInRefIdeal.main_arg1) = m ((c.tc : Thread Cert.MmInRefIdeal.nD Cert.MmInRefIdeal.τ).loc Cert.MmInRefIdeal.main_arg1))
      ∧ r.2.sem = fun _ => 0)

def quiescent_UpConv [hUpConv : Cert.UpConv.Facts] : Prop :=
  ∀ (m : (ℓ : Loc Cert.UpConv.nD Cert.UpConv.τ Cert.UpConv.sig) → Buf (Elt Bits) ℓ) (g : Dev Cert.UpConv.nD → PrngReg), Pre_UpConv m →
    θ_run (Cert.UpConv.defs (F := Bits)) (onTc (τ := Cert.UpConv.τ) (Cert.UpConv.main (F := Bits))) ⟨m, fun _ => 0, g⟩ (fun r => (∀ c : Dev Cert.UpConv.nD,
      r.2.mem ((c.tc : Thread Cert.UpConv.nD Cert.UpConv.τ).loc Cert.UpConv.main_arg0) = m ((c.tc : Thread Cert.UpConv.nD Cert.UpConv.τ).loc Cert.UpConv.main_arg0)
      ∧ r.2.mem ((c.tc : Thread Cert.UpConv.nD Cert.UpConv.τ).loc Cert.UpConv.main_arg1) = m ((c.tc : Thread Cert.UpConv.nD Cert.UpConv.τ).loc Cert.UpConv.main_arg1)
      ∧ r.2.mem ((c.tc : Thread Cert.UpConv.nD Cert.UpConv.τ).loc Cert.UpConv.main_arg2) = m ((c.tc : Thread Cert.UpConv.nD Cert.UpConv.τ).loc Cert.UpConv.main_arg2)
      ∧ r.2.mem ((c.tc : Thread Cert.UpConv.nD Cert.UpConv.τ).loc Cert.UpConv.main_arg3) = m ((c.tc : Thread Cert.UpConv.nD Cert.UpConv.τ).loc Cert.UpConv.main_arg3))
      ∧ r.2.sem = fun _ => 0)

def quiescent_UpConvIdeal [hUpConvIdeal : Cert.UpConvIdeal.Facts] : Prop :=
  ∀ (m : (ℓ : Loc Cert.UpConvIdeal.nD Cert.UpConvIdeal.τ Cert.UpConvIdeal.sig) → Buf (Elt Ideal) ℓ) (g : Dev Cert.UpConvIdeal.nD → PrngReg), Pre_UpConvIdeal m →
    θ_run (Cert.UpConvIdeal.defs (F := Ideal)) (onTc (τ := Cert.UpConvIdeal.τ) (Cert.UpConvIdeal.main (F := Ideal))) ⟨m, fun _ => 0, g⟩ (fun r => (∀ c : Dev Cert.UpConvIdeal.nD,
      r.2.mem ((c.tc : Thread Cert.UpConvIdeal.nD Cert.UpConvIdeal.τ).loc Cert.UpConvIdeal.main_arg0) = m ((c.tc : Thread Cert.UpConvIdeal.nD Cert.UpConvIdeal.τ).loc Cert.UpConvIdeal.main_arg0)
      ∧ r.2.mem ((c.tc : Thread Cert.UpConvIdeal.nD Cert.UpConvIdeal.τ).loc Cert.UpConvIdeal.main_arg1) = m ((c.tc : Thread Cert.UpConvIdeal.nD Cert.UpConvIdeal.τ).loc Cert.UpConvIdeal.main_arg1)
      ∧ r.2.mem ((c.tc : Thread Cert.UpConvIdeal.nD Cert.UpConvIdeal.τ).loc Cert.UpConvIdeal.main_arg2) = m ((c.tc : Thread Cert.UpConvIdeal.nD Cert.UpConvIdeal.τ).loc Cert.UpConvIdeal.main_arg2)
      ∧ r.2.mem ((c.tc : Thread Cert.UpConvIdeal.nD Cert.UpConvIdeal.τ).loc Cert.UpConvIdeal.main_arg3) = m ((c.tc : Thread Cert.UpConvIdeal.nD Cert.UpConvIdeal.τ).loc Cert.UpConvIdeal.main_arg3))
      ∧ r.2.sem = fun _ => 0)

def quiescent_UpConvRefIdeal [hUpConvRefIdeal : Cert.UpConvRefIdeal.Facts] : Prop :=
  ∀ (m : (ℓ : Loc Cert.UpConvRefIdeal.nD Cert.UpConvRefIdeal.τ Cert.UpConvRefIdeal.sig) → Buf (Elt Ideal) ℓ) (g : Dev Cert.UpConvRefIdeal.nD → PrngReg), Pre_UpConvRefIdeal m →
    θ_run (Cert.UpConvRefIdeal.defs (F := Ideal)) (onTc (τ := Cert.UpConvRefIdeal.τ) (Cert.UpConvRefIdeal.main (F := Ideal))) ⟨m, fun _ => 0, g⟩ (fun r => (∀ c : Dev Cert.UpConvRefIdeal.nD,
      r.2.mem ((c.tc : Thread Cert.UpConvRefIdeal.nD Cert.UpConvRefIdeal.τ).loc Cert.UpConvRefIdeal.main_arg0) = m ((c.tc : Thread Cert.UpConvRefIdeal.nD Cert.UpConvRefIdeal.τ).loc Cert.UpConvRefIdeal.main_arg0)
      ∧ r.2.mem ((c.tc : Thread Cert.UpConvRefIdeal.nD Cert.UpConvRefIdeal.τ).loc Cert.UpConvRefIdeal.main_arg1) = m ((c.tc : Thread Cert.UpConvRefIdeal.nD Cert.UpConvRefIdeal.τ).loc Cert.UpConvRefIdeal.main_arg1)
      ∧ r.2.mem ((c.tc : Thread Cert.UpConvRefIdeal.nD Cert.UpConvRefIdeal.τ).loc Cert.UpConvRefIdeal.main_arg2) = m ((c.tc : Thread Cert.UpConvRefIdeal.nD Cert.UpConvRefIdeal.τ).loc Cert.UpConvRefIdeal.main_arg2)
      ∧ r.2.mem ((c.tc : Thread Cert.UpConvRefIdeal.nD Cert.UpConvRefIdeal.τ).loc Cert.UpConvRefIdeal.main_arg3) = m ((c.tc : Thread Cert.UpConvRefIdeal.nD Cert.UpConvRefIdeal.τ).loc Cert.UpConvRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def preserves_DgConv_DgConvIdeal : Prop :=
  True

def algebraic_DgConvIdeal_DgConvRefIdeal_pre_dg_finite [hDgConvIdeal : Cert.DgConvIdeal.Facts] [hDgConvRefIdeal : Cert.DgConvRefIdeal.Facts] [hPre_dg_finite : Cert.Pre_dg_finite.Facts] : Prop :=
  ∀ (m : (ℓ : Loc Cert.DgConvIdeal.nD Cert.DgConvIdeal.τ Cert.DgConvIdeal.sig) → Buf (Elt Ideal) ℓ) (g : Dev Cert.DgConvIdeal.nD → PrngReg)
    (m' : (ℓ : Loc Cert.DgConvRefIdeal.nD Cert.DgConvRefIdeal.τ Cert.DgConvRefIdeal.sig) → Buf (Elt Ideal) ℓ) (g' : Dev Cert.DgConvRefIdeal.nD → PrngReg), Pre_DgConvIdeal_dg_finite m →
    (∀ c : Dev Cert.DgConvIdeal.nD,
      m' ((c.tc : Thread Cert.DgConvRefIdeal.nD Cert.DgConvRefIdeal.τ).loc Cert.DgConvRefIdeal.main_arg0) = m ((c.tc : Thread Cert.DgConvIdeal.nD Cert.DgConvIdeal.τ).loc Cert.DgConvIdeal.main_arg0)
      ∧ m' ((c.tc : Thread Cert.DgConvRefIdeal.nD Cert.DgConvRefIdeal.τ).loc Cert.DgConvRefIdeal.main_arg1) = m ((c.tc : Thread Cert.DgConvIdeal.nD Cert.DgConvIdeal.τ).loc Cert.DgConvIdeal.main_arg1)
      ∧ m' ((c.tc : Thread Cert.DgConvRefIdeal.nD Cert.DgConvRefIdeal.τ).loc Cert.DgConvRefIdeal.main_arg2) = m ((c.tc : Thread Cert.DgConvIdeal.nD Cert.DgConvIdeal.τ).loc Cert.DgConvIdeal.main_arg2)
      ∧ m' ((c.tc : Thread Cert.DgConvRefIdeal.nD Cert.DgConvRefIdeal.τ).loc Cert.DgConvRefIdeal.main_arg3) = m ((c.tc : Thread Cert.DgConvIdeal.nD Cert.DgConvIdeal.τ).loc Cert.DgConvIdeal.main_arg3)
      ∧ m' ((c.tc : Thread Cert.DgConvRefIdeal.nD Cert.DgConvRefIdeal.τ).loc Cert.DgConvRefIdeal.main_arg4) = m ((c.tc : Thread Cert.DgConvIdeal.nD Cert.DgConvIdeal.τ).loc Cert.DgConvIdeal.main_arg4)) →
    ∃ (v0 : (c : Dev Cert.DgConvIdeal.nD) → Buf (Elt Ideal) ((c.tc : Thread Cert.DgConvIdeal.nD Cert.DgConvIdeal.τ).loc Cert.DgConvIdeal.main_v1_0)) (v1 : (c : Dev Cert.DgConvIdeal.nD) → Buf (Elt Ideal) ((c.tc : Thread Cert.DgConvIdeal.nD Cert.DgConvIdeal.τ).loc Cert.DgConvIdeal.main_v1_1)) (v2 : (c : Dev Cert.DgConvIdeal.nD) → Buf (Elt Ideal) ((c.tc : Thread Cert.DgConvIdeal.nD Cert.DgConvIdeal.τ).loc Cert.DgConvIdeal.main_v1_2)),
      θ_run (Cert.DgConvIdeal.defs (F := Ideal)) (onTc (τ := Cert.DgConvIdeal.τ) (Cert.DgConvIdeal.main (F := Ideal))) ⟨m, fun _ => 0, g⟩ (fun r => ∀ c : Dev Cert.DgConvIdeal.nD,
          r.2.mem ((c.tc : Thread Cert.DgConvIdeal.nD Cert.DgConvIdeal.τ).loc Cert.DgConvIdeal.main_v1_0) = v0 c
          ∧ r.2.mem ((c.tc : Thread Cert.DgConvIdeal.nD Cert.DgConvIdeal.τ).loc Cert.DgConvIdeal.main_v1_1) = v1 c
          ∧ r.2.mem ((c.tc : Thread Cert.DgConvIdeal.nD Cert.DgConvIdeal.τ).loc Cert.DgConvIdeal.main_v1_2) = v2 c
          ∧ r.2.mem ((c.tc : Thread Cert.DgConvIdeal.nD Cert.DgConvIdeal.τ).loc Cert.DgConvIdeal.main_arg0) = m ((c.tc : Thread Cert.DgConvIdeal.nD Cert.DgConvIdeal.τ).loc Cert.DgConvIdeal.main_arg0)
          ∧ r.2.mem ((c.tc : Thread Cert.DgConvIdeal.nD Cert.DgConvIdeal.τ).loc Cert.DgConvIdeal.main_arg1) = m ((c.tc : Thread Cert.DgConvIdeal.nD Cert.DgConvIdeal.τ).loc Cert.DgConvIdeal.main_arg1)
          ∧ r.2.mem ((c.tc : Thread Cert.DgConvIdeal.nD Cert.DgConvIdeal.τ).loc Cert.DgConvIdeal.main_arg2) = m ((c.tc : Thread Cert.DgConvIdeal.nD Cert.DgConvIdeal.τ).loc Cert.DgConvIdeal.main_arg2)
          ∧ r.2.mem ((c.tc : Thread Cert.DgConvIdeal.nD Cert.DgConvIdeal.τ).loc Cert.DgConvIdeal.main_arg3) = m ((c.tc : Thread Cert.DgConvIdeal.nD Cert.DgConvIdeal.τ).loc Cert.DgConvIdeal.main_arg3)
          ∧ r.2.mem ((c.tc : Thread Cert.DgConvIdeal.nD Cert.DgConvIdeal.τ).loc Cert.DgConvIdeal.main_arg4) = m ((c.tc : Thread Cert.DgConvIdeal.nD Cert.DgConvIdeal.τ).loc Cert.DgConvIdeal.main_arg4))
      ∧ θ_run (Cert.DgConvRefIdeal.defs (F := Ideal)) (onTc (τ := Cert.DgConvRefIdeal.τ) (Cert.DgConvRefIdeal.main (F := Ideal))) ⟨m', fun _ => 0, g'⟩ (fun r => ∀ c : Dev Cert.DgConvRefIdeal.nD,
          r.2.mem ((c.tc : Thread Cert.DgConvRefIdeal.nD Cert.DgConvRefIdeal.τ).loc Cert.DgConvRefIdeal.main_v95) = v0 c
          ∧ r.2.mem ((c.tc : Thread Cert.DgConvRefIdeal.nD Cert.DgConvRefIdeal.τ).loc Cert.DgConvRefIdeal.main_v96) = v1 c
          ∧ r.2.mem ((c.tc : Thread Cert.DgConvRefIdeal.nD Cert.DgConvRefIdeal.τ).loc Cert.DgConvRefIdeal.main_v72) = v2 c
          ∧ r.2.mem ((c.tc : Thread Cert.DgConvRefIdeal.nD Cert.DgConvRefIdeal.τ).loc Cert.DgConvRefIdeal.main_arg0) = m' ((c.tc : Thread Cert.DgConvRefIdeal.nD Cert.DgConvRefIdeal.τ).loc Cert.DgConvRefIdeal.main_arg0)
          ∧ r.2.mem ((c.tc : Thread Cert.DgConvRefIdeal.nD Cert.DgConvRefIdeal.τ).loc Cert.DgConvRefIdeal.main_arg1) = m' ((c.tc : Thread Cert.DgConvRefIdeal.nD Cert.DgConvRefIdeal.τ).loc Cert.DgConvRefIdeal.main_arg1)
          ∧ r.2.mem ((c.tc : Thread Cert.DgConvRefIdeal.nD Cert.DgConvRefIdeal.τ).loc Cert.DgConvRefIdeal.main_arg2) = m' ((c.tc : Thread Cert.DgConvRefIdeal.nD Cert.DgConvRefIdeal.τ).loc Cert.DgConvRefIdeal.main_arg2)
          ∧ r.2.mem ((c.tc : Thread Cert.DgConvRefIdeal.nD Cert.DgConvRefIdeal.τ).loc Cert.DgConvRefIdeal.main_arg3) = m' ((c.tc : Thread Cert.DgConvRefIdeal.nD Cert.DgConvRefIdeal.τ).loc Cert.DgConvRefIdeal.main_arg3)
          ∧ r.2.mem ((c.tc : Thread Cert.DgConvRefIdeal.nD Cert.DgConvRefIdeal.τ).loc Cert.DgConvRefIdeal.main_arg4) = m' ((c.tc : Thread Cert.DgConvRefIdeal.nD Cert.DgConvRefIdeal.τ).loc Cert.DgConvRefIdeal.main_arg4))

def preserves_GwDown_GwDownIdeal : Prop :=
  True

def algebraic_GwDownIdeal_GwDownRefIdeal [hGwDownIdeal : Cert.GwDownIdeal.Facts] [hGwDownRefIdeal : Cert.GwDownRefIdeal.Facts] : Prop :=
  ∀ (m : (ℓ : Loc Cert.GwDownIdeal.nD Cert.GwDownIdeal.τ Cert.GwDownIdeal.sig) → Buf (Elt Ideal) ℓ) (g : Dev Cert.GwDownIdeal.nD → PrngReg)
    (m' : (ℓ : Loc Cert.GwDownRefIdeal.nD Cert.GwDownRefIdeal.τ Cert.GwDownRefIdeal.sig) → Buf (Elt Ideal) ℓ) (g' : Dev Cert.GwDownRefIdeal.nD → PrngReg), Pre_GwDownIdeal m →
    (∀ c : Dev Cert.GwDownIdeal.nD,
      m' ((c.tc : Thread Cert.GwDownRefIdeal.nD Cert.GwDownRefIdeal.τ).loc Cert.GwDownRefIdeal.main_arg0) = m ((c.tc : Thread Cert.GwDownIdeal.nD Cert.GwDownIdeal.τ).loc Cert.GwDownIdeal.main_arg0)
      ∧ m' ((c.tc : Thread Cert.GwDownRefIdeal.nD Cert.GwDownRefIdeal.τ).loc Cert.GwDownRefIdeal.main_arg1) = m ((c.tc : Thread Cert.GwDownIdeal.nD Cert.GwDownIdeal.τ).loc Cert.GwDownIdeal.main_arg1)) →
    ∃ (v0 : (c : Dev Cert.GwDownIdeal.nD) → Buf (Elt Ideal) ((c.tc : Thread Cert.GwDownIdeal.nD Cert.GwDownIdeal.τ).loc Cert.GwDownIdeal.main_v0)),
      θ_run (Cert.GwDownIdeal.defs (F := Ideal)) (onTc (τ := Cert.GwDownIdeal.τ) (Cert.GwDownIdeal.main (F := Ideal))) ⟨m, fun _ => 0, g⟩ (fun r => ∀ c : Dev Cert.GwDownIdeal.nD,
          r.2.mem ((c.tc : Thread Cert.GwDownIdeal.nD Cert.GwDownIdeal.τ).loc Cert.GwDownIdeal.main_v0) = v0 c
          ∧ r.2.mem ((c.tc : Thread Cert.GwDownIdeal.nD Cert.GwDownIdeal.τ).loc Cert.GwDownIdeal.main_arg0) = m ((c.tc : Thread Cert.GwDownIdeal.nD Cert.GwDownIdeal.τ).loc Cert.GwDownIdeal.main_arg0)
          ∧ r.2.mem ((c.tc : Thread Cert.GwDownIdeal.nD Cert.GwDownIdeal.τ).loc Cert.GwDownIdeal.main_arg1) = m ((c.tc : Thread Cert.GwDownIdeal.nD Cert.GwDownIdeal.τ).loc Cert.GwDownIdeal.main_arg1))
      ∧ θ_run (Cert.GwDownRefIdeal.defs (F := Ideal)) (onTc (τ := Cert.GwDownRefIdeal.τ) (Cert.GwDownRefIdeal.main (F := Ideal))) ⟨m', fun _ => 0, g'⟩ (fun r => ∀ c : Dev Cert.GwDownRefIdeal.nD,
          r.2.mem ((c.tc : Thread Cert.GwDownRefIdeal.nD Cert.GwDownRefIdeal.τ).loc Cert.GwDownRefIdeal.main_v8) = v0 c
          ∧ r.2.mem ((c.tc : Thread Cert.GwDownRefIdeal.nD Cert.GwDownRefIdeal.τ).loc Cert.GwDownRefIdeal.main_arg0) = m' ((c.tc : Thread Cert.GwDownRefIdeal.nD Cert.GwDownRefIdeal.τ).loc Cert.GwDownRefIdeal.main_arg0)
          ∧ r.2.mem ((c.tc : Thread Cert.GwDownRefIdeal.nD Cert.GwDownRefIdeal.τ).loc Cert.GwDownRefIdeal.main_arg1) = m' ((c.tc : Thread Cert.GwDownRefIdeal.nD Cert.GwDownRefIdeal.τ).loc Cert.GwDownRefIdeal.main_arg1))

def preserves_GwUp_GwUpIdeal : Prop :=
  True

def algebraic_GwUpIdeal_GwUpRefIdeal [hGwUpIdeal : Cert.GwUpIdeal.Facts] [hGwUpRefIdeal : Cert.GwUpRefIdeal.Facts] : Prop :=
  ∀ (m : (ℓ : Loc Cert.GwUpIdeal.nD Cert.GwUpIdeal.τ Cert.GwUpIdeal.sig) → Buf (Elt Ideal) ℓ) (g : Dev Cert.GwUpIdeal.nD → PrngReg)
    (m' : (ℓ : Loc Cert.GwUpRefIdeal.nD Cert.GwUpRefIdeal.τ Cert.GwUpRefIdeal.sig) → Buf (Elt Ideal) ℓ) (g' : Dev Cert.GwUpRefIdeal.nD → PrngReg), Pre_GwUpIdeal m →
    (∀ c : Dev Cert.GwUpIdeal.nD,
      m' ((c.tc : Thread Cert.GwUpRefIdeal.nD Cert.GwUpRefIdeal.τ).loc Cert.GwUpRefIdeal.main_arg0) = m ((c.tc : Thread Cert.GwUpIdeal.nD Cert.GwUpIdeal.τ).loc Cert.GwUpIdeal.main_arg0)
      ∧ m' ((c.tc : Thread Cert.GwUpRefIdeal.nD Cert.GwUpRefIdeal.τ).loc Cert.GwUpRefIdeal.main_arg1) = m ((c.tc : Thread Cert.GwUpIdeal.nD Cert.GwUpIdeal.τ).loc Cert.GwUpIdeal.main_arg1)) →
    ∃ (v0 : (c : Dev Cert.GwUpIdeal.nD) → Buf (Elt Ideal) ((c.tc : Thread Cert.GwUpIdeal.nD Cert.GwUpIdeal.τ).loc Cert.GwUpIdeal.main_v0)),
      θ_run (Cert.GwUpIdeal.defs (F := Ideal)) (onTc (τ := Cert.GwUpIdeal.τ) (Cert.GwUpIdeal.main (F := Ideal))) ⟨m, fun _ => 0, g⟩ (fun r => ∀ c : Dev Cert.GwUpIdeal.nD,
          r.2.mem ((c.tc : Thread Cert.GwUpIdeal.nD Cert.GwUpIdeal.τ).loc Cert.GwUpIdeal.main_v0) = v0 c
          ∧ r.2.mem ((c.tc : Thread Cert.GwUpIdeal.nD Cert.GwUpIdeal.τ).loc Cert.GwUpIdeal.main_arg0) = m ((c.tc : Thread Cert.GwUpIdeal.nD Cert.GwUpIdeal.τ).loc Cert.GwUpIdeal.main_arg0)
          ∧ r.2.mem ((c.tc : Thread Cert.GwUpIdeal.nD Cert.GwUpIdeal.τ).loc Cert.GwUpIdeal.main_arg1) = m ((c.tc : Thread Cert.GwUpIdeal.nD Cert.GwUpIdeal.τ).loc Cert.GwUpIdeal.main_arg1))
      ∧ θ_run (Cert.GwUpRefIdeal.defs (F := Ideal)) (onTc (τ := Cert.GwUpRefIdeal.τ) (Cert.GwUpRefIdeal.main (F := Ideal))) ⟨m', fun _ => 0, g'⟩ (fun r => ∀ c : Dev Cert.GwUpRefIdeal.nD,
          r.2.mem ((c.tc : Thread Cert.GwUpRefIdeal.nD Cert.GwUpRefIdeal.τ).loc Cert.GwUpRefIdeal.main_v18) = v0 c
          ∧ r.2.mem ((c.tc : Thread Cert.GwUpRefIdeal.nD Cert.GwUpRefIdeal.τ).loc Cert.GwUpRefIdeal.main_arg0) = m' ((c.tc : Thread Cert.GwUpRefIdeal.nD Cert.GwUpRefIdeal.τ).loc Cert.GwUpRefIdeal.main_arg0)
          ∧ r.2.mem ((c.tc : Thread Cert.GwUpRefIdeal.nD Cert.GwUpRefIdeal.τ).loc Cert.GwUpRefIdeal.main_arg1) = m' ((c.tc : Thread Cert.GwUpRefIdeal.nD Cert.GwUpRefIdeal.τ).loc Cert.GwUpRefIdeal.main_arg1))

def preserves_GwOut_GwOutIdeal : Prop :=
  True

def algebraic_GwOutIdeal_GwOutRefIdeal [hGwOutIdeal : Cert.GwOutIdeal.Facts] [hGwOutRefIdeal : Cert.GwOutRefIdeal.Facts] : Prop :=
  ∀ (m : (ℓ : Loc Cert.GwOutIdeal.nD Cert.GwOutIdeal.τ Cert.GwOutIdeal.sig) → Buf (Elt Ideal) ℓ) (g : Dev Cert.GwOutIdeal.nD → PrngReg)
    (m' : (ℓ : Loc Cert.GwOutRefIdeal.nD Cert.GwOutRefIdeal.τ Cert.GwOutRefIdeal.sig) → Buf (Elt Ideal) ℓ) (g' : Dev Cert.GwOutRefIdeal.nD → PrngReg), Pre_GwOutIdeal m →
    (∀ c : Dev Cert.GwOutIdeal.nD,
      m' ((c.tc : Thread Cert.GwOutRefIdeal.nD Cert.GwOutRefIdeal.τ).loc Cert.GwOutRefIdeal.main_arg0) = m ((c.tc : Thread Cert.GwOutIdeal.nD Cert.GwOutIdeal.τ).loc Cert.GwOutIdeal.main_arg0)
      ∧ m' ((c.tc : Thread Cert.GwOutRefIdeal.nD Cert.GwOutRefIdeal.τ).loc Cert.GwOutRefIdeal.main_arg1) = m ((c.tc : Thread Cert.GwOutIdeal.nD Cert.GwOutIdeal.τ).loc Cert.GwOutIdeal.main_arg1)) →
    ∃ (v0 : (c : Dev Cert.GwOutIdeal.nD) → Buf (Elt Ideal) ((c.tc : Thread Cert.GwOutIdeal.nD Cert.GwOutIdeal.τ).loc Cert.GwOutIdeal.main_v0)),
      θ_run (Cert.GwOutIdeal.defs (F := Ideal)) (onTc (τ := Cert.GwOutIdeal.τ) (Cert.GwOutIdeal.main (F := Ideal))) ⟨m, fun _ => 0, g⟩ (fun r => ∀ c : Dev Cert.GwOutIdeal.nD,
          r.2.mem ((c.tc : Thread Cert.GwOutIdeal.nD Cert.GwOutIdeal.τ).loc Cert.GwOutIdeal.main_v0) = v0 c
          ∧ r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
          ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ θ_run (Cert.GwOutRefIdeal.defs (F := Ideal)) (onTc (τ := Cert.GwOutRefIdeal.τ) (Cert.GwOutRefIdeal.main (F := Ideal))) ⟨m', fun _ => 0, g'⟩ (fun r => ∀ c : Dev Cert.GwOutRefIdeal.nD,
          r.2.mem ((c.tc : Thread Cert.GwOutRefIdeal.nD Cert.GwOutRefIdeal.τ).loc Cert.GwOutRefIdeal.main_v7) = v0 c
          ∧ r.2.mem ((c.tc : Thread Cert.GwOutRefIdeal.nD Cert.GwOutRefIdeal.τ).loc Cert.GwOutRefIdeal.main_arg0) = m' ((c.tc : Thread Cert.GwOutRefIdeal.nD Cert.GwOutRefIdeal.τ).loc Cert.GwOutRefIdeal.main_arg0)
          ∧ r.2.mem ((c.tc : Thread Cert.GwOutRefIdeal.nD Cert.GwOutRefIdeal.τ).loc Cert.GwOutRefIdeal.main_arg1) = m' ((c.tc : Thread Cert.GwOutRefIdeal.nD Cert.GwOutRefIdeal.τ).loc Cert.GwOutRefIdeal.main_arg1))

def preserves_GwIn_GwInIdeal : Prop :=
  True

def algebraic_GwInIdeal_GwInRefIdeal [hGwInIdeal : Cert.GwInIdeal.Facts] [hGwInRefIdeal : Cert.GwInRefIdeal.Facts] : Prop :=
  ∀ (m : (ℓ : Loc Cert.GwInIdeal.nD Cert.GwInIdeal.τ Cert.GwInIdeal.sig) → Buf (Elt Ideal) ℓ) (g : Dev Cert.GwInIdeal.nD → PrngReg)
    (m' : (ℓ : Loc Cert.GwInRefIdeal.nD Cert.GwInRefIdeal.τ Cert.GwInRefIdeal.sig) → Buf (Elt Ideal) ℓ) (g' : Dev Cert.GwInRefIdeal.nD → PrngReg), Pre_GwInIdeal m →
    (∀ c : Dev Cert.GwInIdeal.nD,
      m' ((c.tc : Thread Cert.GwInRefIdeal.nD Cert.GwInRefIdeal.τ).loc Cert.GwInRefIdeal.main_arg0) = m ((c.tc : Thread Cert.GwInIdeal.nD Cert.GwInIdeal.τ).loc Cert.GwInIdeal.main_arg0)
      ∧ m' ((c.tc : Thread Cert.GwInRefIdeal.nD Cert.GwInRefIdeal.τ).loc Cert.GwInRefIdeal.main_arg1) = m ((c.tc : Thread Cert.GwInIdeal.nD Cert.GwInIdeal.τ).loc Cert.GwInIdeal.main_arg1)) →
    ∃ (v0 : (c : Dev Cert.GwInIdeal.nD) → Buf (Elt Ideal) ((c.tc : Thread Cert.GwInIdeal.nD Cert.GwInIdeal.τ).loc Cert.GwInIdeal.main_v0)),
      θ_run (Cert.GwInIdeal.defs (F := Ideal)) (onTc (τ := Cert.GwInIdeal.τ) (Cert.GwInIdeal.main (F := Ideal))) ⟨m, fun _ => 0, g⟩ (fun r => ∀ c : Dev Cert.GwInIdeal.nD,
          r.2.mem ((c.tc : Thread Cert.GwInIdeal.nD Cert.GwInIdeal.τ).loc Cert.GwInIdeal.main_v0) = v0 c
          ∧ r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
          ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ θ_run (Cert.GwInRefIdeal.defs (F := Ideal)) (onTc (τ := Cert.GwInRefIdeal.τ) (Cert.GwInRefIdeal.main (F := Ideal))) ⟨m', fun _ => 0, g'⟩ (fun r => ∀ c : Dev Cert.GwInRefIdeal.nD,
          r.2.mem ((c.tc : Thread Cert.GwInRefIdeal.nD Cert.GwInRefIdeal.τ).loc Cert.GwInRefIdeal.main_v9) = v0 c
          ∧ r.2.mem ((c.tc : Thread Cert.GwInRefIdeal.nD Cert.GwInRefIdeal.τ).loc Cert.GwInRefIdeal.main_arg0) = m' ((c.tc : Thread Cert.GwInRefIdeal.nD Cert.GwInRefIdeal.τ).loc Cert.GwInRefIdeal.main_arg0)
          ∧ r.2.mem ((c.tc : Thread Cert.GwInRefIdeal.nD Cert.GwInRefIdeal.τ).loc Cert.GwInRefIdeal.main_arg1) = m' ((c.tc : Thread Cert.GwInRefIdeal.nD Cert.GwInRefIdeal.τ).loc Cert.GwInRefIdeal.main_arg1))

def preserves_Dn2_Dn2Ideal : Prop :=
  True

def algebraic_Dn2Ideal_Dn2RefIdeal [hDn2Ideal : Cert.Dn2Ideal.Facts] [hDn2RefIdeal : Cert.Dn2RefIdeal.Facts] : Prop :=
  ∀ (m : (ℓ : Loc Cert.Dn2Ideal.nD Cert.Dn2Ideal.τ Cert.Dn2Ideal.sig) → Buf (Elt Ideal) ℓ) (g : Dev Cert.Dn2Ideal.nD → PrngReg)
    (m' : (ℓ : Loc Cert.Dn2RefIdeal.nD Cert.Dn2RefIdeal.τ Cert.Dn2RefIdeal.sig) → Buf (Elt Ideal) ℓ) (g' : Dev Cert.Dn2RefIdeal.nD → PrngReg), Pre_Dn2Ideal m →
    (∀ c : Dev Cert.Dn2Ideal.nD,
      m' ((c.tc : Thread Cert.Dn2RefIdeal.nD Cert.Dn2RefIdeal.τ).loc Cert.Dn2RefIdeal.main_arg0) = m ((c.tc : Thread Cert.Dn2Ideal.nD Cert.Dn2Ideal.τ).loc Cert.Dn2Ideal.main_arg0)
      ∧ m' ((c.tc : Thread Cert.Dn2RefIdeal.nD Cert.Dn2RefIdeal.τ).loc Cert.Dn2RefIdeal.main_arg1) = m ((c.tc : Thread Cert.Dn2Ideal.nD Cert.Dn2Ideal.τ).loc Cert.Dn2Ideal.main_arg1)
      ∧ m' ((c.tc : Thread Cert.Dn2RefIdeal.nD Cert.Dn2RefIdeal.τ).loc Cert.Dn2RefIdeal.main_arg2) = m ((c.tc : Thread Cert.Dn2Ideal.nD Cert.Dn2Ideal.τ).loc Cert.Dn2Ideal.main_arg2)
      ∧ m' ((c.tc : Thread Cert.Dn2RefIdeal.nD Cert.Dn2RefIdeal.τ).loc Cert.Dn2RefIdeal.main_arg3) = m ((c.tc : Thread Cert.Dn2Ideal.nD Cert.Dn2Ideal.τ).loc Cert.Dn2Ideal.main_arg3)
      ∧ m' ((c.tc : Thread Cert.Dn2RefIdeal.nD Cert.Dn2RefIdeal.τ).loc Cert.Dn2RefIdeal.main_arg4) = m ((c.tc : Thread Cert.Dn2Ideal.nD Cert.Dn2Ideal.τ).loc Cert.Dn2Ideal.main_arg4)
      ∧ m' ((c.tc : Thread Cert.Dn2RefIdeal.nD Cert.Dn2RefIdeal.τ).loc Cert.Dn2RefIdeal.main_arg5) = m ((c.tc : Thread Cert.Dn2Ideal.nD Cert.Dn2Ideal.τ).loc Cert.Dn2Ideal.main_arg5)) →
    ∃ (v0 : (c : Dev Cert.Dn2Ideal.nD) → Buf (Elt Ideal) ((c.tc : Thread Cert.Dn2Ideal.nD Cert.Dn2Ideal.τ).loc Cert.Dn2Ideal.main_v0_0)) (v1 : (c : Dev Cert.Dn2Ideal.nD) → Buf (Elt Ideal) ((c.tc : Thread Cert.Dn2Ideal.nD Cert.Dn2Ideal.τ).loc Cert.Dn2Ideal.main_v0_1)) (v2 : (c : Dev Cert.Dn2Ideal.nD) → Buf (Elt Ideal) ((c.tc : Thread Cert.Dn2Ideal.nD Cert.Dn2Ideal.τ).loc Cert.Dn2Ideal.main_v0_2)),
      θ_run (Cert.Dn2Ideal.defs (F := Ideal)) (onTc (τ := Cert.Dn2Ideal.τ) (Cert.Dn2Ideal.main (F := Ideal))) ⟨m, fun _ => 0, g⟩ (fun r => ∀ c : Dev Cert.Dn2Ideal.nD,
          r.2.mem ((c.tc : Thread Cert.Dn2Ideal.nD Cert.Dn2Ideal.τ).loc Cert.Dn2Ideal.main_v0_0) = v0 c
          ∧ r.2.mem ((c.tc : Thread Cert.Dn2Ideal.nD Cert.Dn2Ideal.τ).loc Cert.Dn2Ideal.main_v0_1) = v1 c
          ∧ r.2.mem ((c.tc : Thread Cert.Dn2Ideal.nD Cert.Dn2Ideal.τ).loc Cert.Dn2Ideal.main_v0_2) = v2 c
          ∧ r.2.mem ((c.tc : Thread Cert.Dn2Ideal.nD Cert.Dn2Ideal.τ).loc Cert.Dn2Ideal.main_arg0) = m ((c.tc : Thread Cert.Dn2Ideal.nD Cert.Dn2Ideal.τ).loc Cert.Dn2Ideal.main_arg0)
          ∧ r.2.mem ((c.tc : Thread Cert.Dn2Ideal.nD Cert.Dn2Ideal.τ).loc Cert.Dn2Ideal.main_arg1) = m ((c.tc : Thread Cert.Dn2Ideal.nD Cert.Dn2Ideal.τ).loc Cert.Dn2Ideal.main_arg1)
          ∧ r.2.mem ((c.tc : Thread Cert.Dn2Ideal.nD Cert.Dn2Ideal.τ).loc Cert.Dn2Ideal.main_arg2) = m ((c.tc : Thread Cert.Dn2Ideal.nD Cert.Dn2Ideal.τ).loc Cert.Dn2Ideal.main_arg2)
          ∧ r.2.mem ((c.tc : Thread Cert.Dn2Ideal.nD Cert.Dn2Ideal.τ).loc Cert.Dn2Ideal.main_arg3) = m ((c.tc : Thread Cert.Dn2Ideal.nD Cert.Dn2Ideal.τ).loc Cert.Dn2Ideal.main_arg3)
          ∧ r.2.mem ((c.tc : Thread Cert.Dn2Ideal.nD Cert.Dn2Ideal.τ).loc Cert.Dn2Ideal.main_arg4) = m ((c.tc : Thread Cert.Dn2Ideal.nD Cert.Dn2Ideal.τ).loc Cert.Dn2Ideal.main_arg4)
          ∧ r.2.mem ((c.tc : Thread Cert.Dn2Ideal.nD Cert.Dn2Ideal.τ).loc Cert.Dn2Ideal.main_arg5) = m ((c.tc : Thread Cert.Dn2Ideal.nD Cert.Dn2Ideal.τ).loc Cert.Dn2Ideal.main_arg5))
      ∧ θ_run (Cert.Dn2RefIdeal.defs (F := Ideal)) (onTc (τ := Cert.Dn2RefIdeal.τ) (Cert.Dn2RefIdeal.main (F := Ideal))) ⟨m', fun _ => 0, g'⟩ (fun r => ∀ c : Dev Cert.Dn2RefIdeal.nD,
          r.2.mem ((c.tc : Thread Cert.Dn2RefIdeal.nD Cert.Dn2RefIdeal.τ).loc Cert.Dn2RefIdeal.main_v65) = v0 c
          ∧ r.2.mem ((c.tc : Thread Cert.Dn2RefIdeal.nD Cert.Dn2RefIdeal.τ).loc Cert.Dn2RefIdeal.main_v44) = v1 c
          ∧ r.2.mem ((c.tc : Thread Cert.Dn2RefIdeal.nD Cert.Dn2RefIdeal.τ).loc Cert.Dn2RefIdeal.main_v66) = v2 c
          ∧ r.2.mem ((c.tc : Thread Cert.Dn2RefIdeal.nD Cert.Dn2RefIdeal.τ).loc Cert.Dn2RefIdeal.main_arg0) = m' ((c.tc : Thread Cert.Dn2RefIdeal.nD Cert.Dn2RefIdeal.τ).loc Cert.Dn2RefIdeal.main_arg0)
          ∧ r.2.mem ((c.tc : Thread Cert.Dn2RefIdeal.nD Cert.Dn2RefIdeal.τ).loc Cert.Dn2RefIdeal.main_arg1) = m' ((c.tc : Thread Cert.Dn2RefIdeal.nD Cert.Dn2RefIdeal.τ).loc Cert.Dn2RefIdeal.main_arg1)
          ∧ r.2.mem ((c.tc : Thread Cert.Dn2RefIdeal.nD Cert.Dn2RefIdeal.τ).loc Cert.Dn2RefIdeal.main_arg2) = m' ((c.tc : Thread Cert.Dn2RefIdeal.nD Cert.Dn2RefIdeal.τ).loc Cert.Dn2RefIdeal.main_arg2)
          ∧ r.2.mem ((c.tc : Thread Cert.Dn2RefIdeal.nD Cert.Dn2RefIdeal.τ).loc Cert.Dn2RefIdeal.main_arg3) = m' ((c.tc : Thread Cert.Dn2RefIdeal.nD Cert.Dn2RefIdeal.τ).loc Cert.Dn2RefIdeal.main_arg3)
          ∧ r.2.mem ((c.tc : Thread Cert.Dn2RefIdeal.nD Cert.Dn2RefIdeal.τ).loc Cert.Dn2RefIdeal.main_arg4) = m' ((c.tc : Thread Cert.Dn2RefIdeal.nD Cert.Dn2RefIdeal.τ).loc Cert.Dn2RefIdeal.main_arg4)
          ∧ r.2.mem ((c.tc : Thread Cert.Dn2RefIdeal.nD Cert.Dn2RefIdeal.τ).loc Cert.Dn2RefIdeal.main_arg5) = m' ((c.tc : Thread Cert.Dn2RefIdeal.nD Cert.Dn2RefIdeal.τ).loc Cert.Dn2RefIdeal.main_arg5))

def preserves_DownLoss_DownLossIdeal : Prop :=
  True

def algebraic_DownLossIdeal_DownLossRefIdeal [hDownLossIdeal : Cert.DownLossIdeal.Facts] [hDownLossRefIdeal : Cert.DownLossRefIdeal.Facts] : Prop :=
  ∀ (m : (ℓ : Loc Cert.DownLossIdeal.nD Cert.DownLossIdeal.τ Cert.DownLossIdeal.sig) → Buf (Elt Ideal) ℓ) (g : Dev Cert.DownLossIdeal.nD → PrngReg)
    (m' : (ℓ : Loc Cert.DownLossRefIdeal.nD Cert.DownLossRefIdeal.τ Cert.DownLossRefIdeal.sig) → Buf (Elt Ideal) ℓ) (g' : Dev Cert.DownLossRefIdeal.nD → PrngReg), Pre_DownLossIdeal m →
    (∀ c : Dev Cert.DownLossIdeal.nD,
      m' ((c.tc : Thread Cert.DownLossRefIdeal.nD Cert.DownLossRefIdeal.τ).loc Cert.DownLossRefIdeal.main_arg0) = m ((c.tc : Thread Cert.DownLossIdeal.nD Cert.DownLossIdeal.τ).loc Cert.DownLossIdeal.main_arg0)
      ∧ m' ((c.tc : Thread Cert.DownLossRefIdeal.nD Cert.DownLossRefIdeal.τ).loc Cert.DownLossRefIdeal.main_arg1) = m ((c.tc : Thread Cert.DownLossIdeal.nD Cert.DownLossIdeal.τ).loc Cert.DownLossIdeal.main_arg1)
      ∧ m' ((c.tc : Thread Cert.DownLossRefIdeal.nD Cert.DownLossRefIdeal.τ).loc Cert.DownLossRefIdeal.main_arg2) = m ((c.tc : Thread Cert.DownLossIdeal.nD Cert.DownLossIdeal.τ).loc Cert.DownLossIdeal.main_arg2)
      ∧ m' ((c.tc : Thread Cert.DownLossRefIdeal.nD Cert.DownLossRefIdeal.τ).loc Cert.DownLossRefIdeal.main_arg3) = m ((c.tc : Thread Cert.DownLossIdeal.nD Cert.DownLossIdeal.τ).loc Cert.DownLossIdeal.main_arg3)
      ∧ m' ((c.tc : Thread Cert.DownLossRefIdeal.nD Cert.DownLossRefIdeal.τ).loc Cert.DownLossRefIdeal.main_arg4) = m ((c.tc : Thread Cert.DownLossIdeal.nD Cert.DownLossIdeal.τ).loc Cert.DownLossIdeal.main_arg4)) →
    ∃ (v0 : (c : Dev Cert.DownLossIdeal.nD) → Buf (Elt Ideal) ((c.tc : Thread Cert.DownLossIdeal.nD Cert.DownLossIdeal.τ).loc Cert.DownLossIdeal.main_v0_0)) (v1 : (c : Dev Cert.DownLossIdeal.nD) → Buf (Elt Ideal) ((c.tc : Thread Cert.DownLossIdeal.nD Cert.DownLossIdeal.τ).loc Cert.DownLossIdeal.main_v0_1)) (v2 : (c : Dev Cert.DownLossIdeal.nD) → Buf (Elt Ideal) ((c.tc : Thread Cert.DownLossIdeal.nD Cert.DownLossIdeal.τ).loc Cert.DownLossIdeal.main_v0_2)) (v3 : (c : Dev Cert.DownLossIdeal.nD) → Buf (Elt Ideal) ((c.tc : Thread Cert.DownLossIdeal.nD Cert.DownLossIdeal.τ).loc Cert.DownLossIdeal.main_v0_3)),
      θ_run (Cert.DownLossIdeal.defs (F := Ideal)) (onTc (τ := Cert.DownLossIdeal.τ) (Cert.DownLossIdeal.main (F := Ideal))) ⟨m, fun _ => 0, g⟩ (fun r => ∀ c : Dev Cert.DownLossIdeal.nD,
          r.2.mem ((c.tc : Thread Cert.DownLossIdeal.nD Cert.DownLossIdeal.τ).loc Cert.DownLossIdeal.main_v0_0) = v0 c
          ∧ r.2.mem ((c.tc : Thread Cert.DownLossIdeal.nD Cert.DownLossIdeal.τ).loc Cert.DownLossIdeal.main_v0_1) = v1 c
          ∧ r.2.mem ((c.tc : Thread Cert.DownLossIdeal.nD Cert.DownLossIdeal.τ).loc Cert.DownLossIdeal.main_v0_2) = v2 c
          ∧ r.2.mem ((c.tc : Thread Cert.DownLossIdeal.nD Cert.DownLossIdeal.τ).loc Cert.DownLossIdeal.main_v0_3) = v3 c
          ∧ r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
          ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
          ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
          ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
          ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ θ_run (Cert.DownLossRefIdeal.defs (F := Ideal)) (onTc (τ := Cert.DownLossRefIdeal.τ) (Cert.DownLossRefIdeal.main (F := Ideal))) ⟨m', fun _ => 0, g'⟩ (fun r => ∀ c : Dev Cert.DownLossRefIdeal.nD,
          r.2.mem ((c.tc : Thread Cert.DownLossRefIdeal.nD Cert.DownLossRefIdeal.τ).loc Cert.DownLossRefIdeal.main_v62) = v0 c
          ∧ r.2.mem ((c.tc : Thread Cert.DownLossRefIdeal.nD Cert.DownLossRefIdeal.τ).loc Cert.DownLossRefIdeal.main_v63) = v1 c
          ∧ r.2.mem ((c.tc : Thread Cert.DownLossRefIdeal.nD Cert.DownLossRefIdeal.τ).loc Cert.DownLossRefIdeal.main_v65) = v2 c
          ∧ r.2.mem ((c.tc : Thread Cert.DownLossRefIdeal.nD Cert.DownLossRefIdeal.τ).loc Cert.DownLossRefIdeal.main_v46) = v3 c
          ∧ r.2.mem ((c.tc : Thread Cert.DownLossRefIdeal.nD Cert.DownLossRefIdeal.τ).loc Cert.DownLossRefIdeal.main_arg0) = m' ((c.tc : Thread Cert.DownLossRefIdeal.nD Cert.DownLossRefIdeal.τ).loc Cert.DownLossRefIdeal.main_arg0)
          ∧ r.2.mem ((c.tc : Thread Cert.DownLossRefIdeal.nD Cert.DownLossRefIdeal.τ).loc Cert.DownLossRefIdeal.main_arg1) = m' ((c.tc : Thread Cert.DownLossRefIdeal.nD Cert.DownLossRefIdeal.τ).loc Cert.DownLossRefIdeal.main_arg1)
          ∧ r.2.mem ((c.tc : Thread Cert.DownLossRefIdeal.nD Cert.DownLossRefIdeal.τ).loc Cert.DownLossRefIdeal.main_arg2) = m' ((c.tc : Thread Cert.DownLossRefIdeal.nD Cert.DownLossRefIdeal.τ).loc Cert.DownLossRefIdeal.main_arg2)
          ∧ r.2.mem ((c.tc : Thread Cert.DownLossRefIdeal.nD Cert.DownLossRefIdeal.τ).loc Cert.DownLossRefIdeal.main_arg3) = m' ((c.tc : Thread Cert.DownLossRefIdeal.nD Cert.DownLossRefIdeal.τ).loc Cert.DownLossRefIdeal.main_arg3)
          ∧ r.2.mem ((c.tc : Thread Cert.DownLossRefIdeal.nD Cert.DownLossRefIdeal.τ).loc Cert.DownLossRefIdeal.main_arg4) = m' ((c.tc : Thread Cert.DownLossRefIdeal.nD Cert.DownLossRefIdeal.τ).loc Cert.DownLossRefIdeal.main_arg4))

def preserves_OutNorm_OutNormIdeal : Prop :=
  True

def algebraic_OutNormIdeal_OutNormRefIdeal [hOutNormIdeal : Cert.OutNormIdeal.Facts] [hOutNormRefIdeal : Cert.OutNormRefIdeal.Facts] : Prop :=
  ∀ (m : (ℓ : Loc Cert.OutNormIdeal.nD Cert.OutNormIdeal.τ Cert.OutNormIdeal.sig) → Buf (Elt Ideal) ℓ) (g : Dev Cert.OutNormIdeal.nD → PrngReg)
    (m' : (ℓ : Loc Cert.OutNormRefIdeal.nD Cert.OutNormRefIdeal.τ Cert.OutNormRefIdeal.sig) → Buf (Elt Ideal) ℓ) (g' : Dev Cert.OutNormRefIdeal.nD → PrngReg), Pre_OutNormIdeal m →
    (∀ c : Dev Cert.OutNormIdeal.nD,
      m' ((c.tc : Thread Cert.OutNormRefIdeal.nD Cert.OutNormRefIdeal.τ).loc Cert.OutNormRefIdeal.main_arg0) = m ((c.tc : Thread Cert.OutNormIdeal.nD Cert.OutNormIdeal.τ).loc Cert.OutNormIdeal.main_arg0)
      ∧ m' ((c.tc : Thread Cert.OutNormRefIdeal.nD Cert.OutNormRefIdeal.τ).loc Cert.OutNormRefIdeal.main_arg1) = m ((c.tc : Thread Cert.OutNormIdeal.nD Cert.OutNormIdeal.τ).loc Cert.OutNormIdeal.main_arg1)
      ∧ m' ((c.tc : Thread Cert.OutNormRefIdeal.nD Cert.OutNormRefIdeal.τ).loc Cert.OutNormRefIdeal.main_arg2) = m ((c.tc : Thread Cert.OutNormIdeal.nD Cert.OutNormIdeal.τ).loc Cert.OutNormIdeal.main_arg2)
      ∧ m' ((c.tc : Thread Cert.OutNormRefIdeal.nD Cert.OutNormRefIdeal.τ).loc Cert.OutNormRefIdeal.main_arg3) = m ((c.tc : Thread Cert.OutNormIdeal.nD Cert.OutNormIdeal.τ).loc Cert.OutNormIdeal.main_arg3)) →
    ∃ (v0 : (c : Dev Cert.OutNormIdeal.nD) → Buf (Elt Ideal) ((c.tc : Thread Cert.OutNormIdeal.nD Cert.OutNormIdeal.τ).loc Cert.OutNormIdeal.main_v0_0)) (v1 : (c : Dev Cert.OutNormIdeal.nD) → Buf (Elt Ideal) ((c.tc : Thread Cert.OutNormIdeal.nD Cert.OutNormIdeal.τ).loc Cert.OutNormIdeal.main_v0_1)),
      θ_run (Cert.OutNormIdeal.defs (F := Ideal)) (onTc (τ := Cert.OutNormIdeal.τ) (Cert.OutNormIdeal.main (F := Ideal))) ⟨m, fun _ => 0, g⟩ (fun r => ∀ c : Dev Cert.OutNormIdeal.nD,
          r.2.mem ((c.tc : Thread Cert.OutNormIdeal.nD Cert.OutNormIdeal.τ).loc Cert.OutNormIdeal.main_v0_0) = v0 c
          ∧ r.2.mem ((c.tc : Thread Cert.OutNormIdeal.nD Cert.OutNormIdeal.τ).loc Cert.OutNormIdeal.main_v0_1) = v1 c
          ∧ r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
          ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
          ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
          ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3))
      ∧ θ_run (Cert.OutNormRefIdeal.defs (F := Ideal)) (onTc (τ := Cert.OutNormRefIdeal.τ) (Cert.OutNormRefIdeal.main (F := Ideal))) ⟨m', fun _ => 0, g'⟩ (fun r => ∀ c : Dev Cert.OutNormRefIdeal.nD,
          r.2.mem ((c.tc : Thread Cert.OutNormRefIdeal.nD Cert.OutNormRefIdeal.τ).loc Cert.OutNormRefIdeal.main_v6) = v0 c
          ∧ r.2.mem ((c.tc : Thread Cert.OutNormRefIdeal.nD Cert.OutNormRefIdeal.τ).loc Cert.OutNormRefIdeal.main_v21) = v1 c
          ∧ r.2.mem ((c.tc : Thread Cert.OutNormRefIdeal.nD Cert.OutNormRefIdeal.τ).loc Cert.OutNormRefIdeal.main_arg0) = m' ((c.tc : Thread Cert.OutNormRefIdeal.nD Cert.OutNormRefIdeal.τ).loc Cert.OutNormRefIdeal.main_arg0)
          ∧ r.2.mem ((c.tc : Thread Cert.OutNormRefIdeal.nD Cert.OutNormRefIdeal.τ).loc Cert.OutNormRefIdeal.main_arg1) = m' ((c.tc : Thread Cert.OutNormRefIdeal.nD Cert.OutNormRefIdeal.τ).loc Cert.OutNormRefIdeal.main_arg1)
          ∧ r.2.mem ((c.tc : Thread Cert.OutNormRefIdeal.nD Cert.OutNormRefIdeal.τ).loc Cert.OutNormRefIdeal.main_arg2) = m' ((c.tc : Thread Cert.OutNormRefIdeal.nD Cert.OutNormRefIdeal.τ).loc Cert.OutNormRefIdeal.main_arg2)
          ∧ r.2.mem ((c.tc : Thread Cert.OutNormRefIdeal.nD Cert.OutNormRefIdeal.τ).loc Cert.OutNormRefIdeal.main_arg3) = m' ((c.tc : Thread Cert.OutNormRefIdeal.nD Cert.OutNormRefIdeal.τ).loc Cert.OutNormRefIdeal.main_arg3))

def preserves_MmIn_MmInIdeal : Prop :=
  True

def algebraic_MmInIdeal_MmInRefIdeal [hMmInIdeal : Cert.MmInIdeal.Facts] [hMmInRefIdeal : Cert.MmInRefIdeal.Facts] : Prop :=
  ∀ (m : (ℓ : Loc Cert.MmInIdeal.nD Cert.MmInIdeal.τ Cert.MmInIdeal.sig) → Buf (Elt Ideal) ℓ) (g : Dev Cert.MmInIdeal.nD → PrngReg)
    (m' : (ℓ : Loc Cert.MmInRefIdeal.nD Cert.MmInRefIdeal.τ Cert.MmInRefIdeal.sig) → Buf (Elt Ideal) ℓ) (g' : Dev Cert.MmInRefIdeal.nD → PrngReg), Pre_MmInIdeal m →
    (∀ c : Dev Cert.MmInIdeal.nD,
      m' ((c.tc : Thread Cert.MmInRefIdeal.nD Cert.MmInRefIdeal.τ).loc Cert.MmInRefIdeal.main_arg0) = m ((c.tc : Thread Cert.MmInIdeal.nD Cert.MmInIdeal.τ).loc Cert.MmInIdeal.main_arg0)
      ∧ m' ((c.tc : Thread Cert.MmInRefIdeal.nD Cert.MmInRefIdeal.τ).loc Cert.MmInRefIdeal.main_arg1) = m ((c.tc : Thread Cert.MmInIdeal.nD Cert.MmInIdeal.τ).loc Cert.MmInIdeal.main_arg1)) →
    ∃ (v0 : (c : Dev Cert.MmInIdeal.nD) → Buf (Elt Ideal) ((c.tc : Thread Cert.MmInIdeal.nD Cert.MmInIdeal.τ).loc Cert.MmInIdeal.main_v0)),
      θ_run (Cert.MmInIdeal.defs (F := Ideal)) (onTc (τ := Cert.MmInIdeal.τ) (Cert.MmInIdeal.main (F := Ideal))) ⟨m, fun _ => 0, g⟩ (fun r => ∀ c : Dev Cert.MmInIdeal.nD,
          r.2.mem ((c.tc : Thread Cert.MmInIdeal.nD Cert.MmInIdeal.τ).loc Cert.MmInIdeal.main_v0) = v0 c
          ∧ r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
          ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ θ_run (Cert.MmInRefIdeal.defs (F := Ideal)) (onTc (τ := Cert.MmInRefIdeal.τ) (Cert.MmInRefIdeal.main (F := Ideal))) ⟨m', fun _ => 0, g'⟩ (fun r => ∀ c : Dev Cert.MmInRefIdeal.nD,
          r.2.mem ((c.tc : Thread Cert.MmInRefIdeal.nD Cert.MmInRefIdeal.τ).loc Cert.MmInRefIdeal.main_v5) = v0 c
          ∧ r.2.mem ((c.tc : Thread Cert.MmInRefIdeal.nD Cert.MmInRefIdeal.τ).loc Cert.MmInRefIdeal.main_arg0) = m' ((c.tc : Thread Cert.MmInRefIdeal.nD Cert.MmInRefIdeal.τ).loc Cert.MmInRefIdeal.main_arg0)
          ∧ r.2.mem ((c.tc : Thread Cert.MmInRefIdeal.nD Cert.MmInRefIdeal.τ).loc Cert.MmInRefIdeal.main_arg1) = m' ((c.tc : Thread Cert.MmInRefIdeal.nD Cert.MmInRefIdeal.τ).loc Cert.MmInRefIdeal.main_arg1))

def preserves_UpConv_UpConvIdeal : Prop :=
  True

def algebraic_UpConvIdeal_UpConvRefIdeal [hUpConvIdeal : Cert.UpConvIdeal.Facts] [hUpConvRefIdeal : Cert.UpConvRefIdeal.Facts] : Prop :=
  ∀ (m : (ℓ : Loc Cert.UpConvIdeal.nD Cert.UpConvIdeal.τ Cert.UpConvIdeal.sig) → Buf (Elt Ideal) ℓ) (g : Dev Cert.UpConvIdeal.nD → PrngReg)
    (m' : (ℓ : Loc Cert.UpConvRefIdeal.nD Cert.UpConvRefIdeal.τ Cert.UpConvRefIdeal.sig) → Buf (Elt Ideal) ℓ) (g' : Dev Cert.UpConvRefIdeal.nD → PrngReg), Pre_UpConvIdeal m →
    (∀ c : Dev Cert.UpConvIdeal.nD,
      m' ((c.tc : Thread Cert.UpConvRefIdeal.nD Cert.UpConvRefIdeal.τ).loc Cert.UpConvRefIdeal.main_arg0) = m ((c.tc : Thread Cert.UpConvIdeal.nD Cert.UpConvIdeal.τ).loc Cert.UpConvIdeal.main_arg0)
      ∧ m' ((c.tc : Thread Cert.UpConvRefIdeal.nD Cert.UpConvRefIdeal.τ).loc Cert.UpConvRefIdeal.main_arg1) = m ((c.tc : Thread Cert.UpConvIdeal.nD Cert.UpConvIdeal.τ).loc Cert.UpConvIdeal.main_arg1)
      ∧ m' ((c.tc : Thread Cert.UpConvRefIdeal.nD Cert.UpConvRefIdeal.τ).loc Cert.UpConvRefIdeal.main_arg2) = m ((c.tc : Thread Cert.UpConvIdeal.nD Cert.UpConvIdeal.τ).loc Cert.UpConvIdeal.main_arg2)
      ∧ m' ((c.tc : Thread Cert.UpConvRefIdeal.nD Cert.UpConvRefIdeal.τ).loc Cert.UpConvRefIdeal.main_arg3) = m ((c.tc : Thread Cert.UpConvIdeal.nD Cert.UpConvIdeal.τ).loc Cert.UpConvIdeal.main_arg3)) →
    ∃ (v0 : (c : Dev Cert.UpConvIdeal.nD) → Buf (Elt Ideal) ((c.tc : Thread Cert.UpConvIdeal.nD Cert.UpConvIdeal.τ).loc Cert.UpConvIdeal.main_v1_0)) (v1 : (c : Dev Cert.UpConvIdeal.nD) → Buf (Elt Ideal) ((c.tc : Thread Cert.UpConvIdeal.nD Cert.UpConvIdeal.τ).loc Cert.UpConvIdeal.main_v1_1)),
      θ_run (Cert.UpConvIdeal.defs (F := Ideal)) (onTc (τ := Cert.UpConvIdeal.τ) (Cert.UpConvIdeal.main (F := Ideal))) ⟨m, fun _ => 0, g⟩ (fun r => ∀ c : Dev Cert.UpConvIdeal.nD,
          r.2.mem ((c.tc : Thread Cert.UpConvIdeal.nD Cert.UpConvIdeal.τ).loc Cert.UpConvIdeal.main_v1_0) = v0 c
          ∧ r.2.mem ((c.tc : Thread Cert.UpConvIdeal.nD Cert.UpConvIdeal.τ).loc Cert.UpConvIdeal.main_v1_1) = v1 c
          ∧ r.2.mem ((c.tc : Thread Cert.UpConvIdeal.nD Cert.UpConvIdeal.τ).loc Cert.UpConvIdeal.main_arg0) = m ((c.tc : Thread Cert.UpConvIdeal.nD Cert.UpConvIdeal.τ).loc Cert.UpConvIdeal.main_arg0)
          ∧ r.2.mem ((c.tc : Thread Cert.UpConvIdeal.nD Cert.UpConvIdeal.τ).loc Cert.UpConvIdeal.main_arg1) = m ((c.tc : Thread Cert.UpConvIdeal.nD Cert.UpConvIdeal.τ).loc Cert.UpConvIdeal.main_arg1)
          ∧ r.2.mem ((c.tc : Thread Cert.UpConvIdeal.nD Cert.UpConvIdeal.τ).loc Cert.UpConvIdeal.main_arg2) = m ((c.tc : Thread Cert.UpConvIdeal.nD Cert.UpConvIdeal.τ).loc Cert.UpConvIdeal.main_arg2)
          ∧ r.2.mem ((c.tc : Thread Cert.UpConvIdeal.nD Cert.UpConvIdeal.τ).loc Cert.UpConvIdeal.main_arg3) = m ((c.tc : Thread Cert.UpConvIdeal.nD Cert.UpConvIdeal.τ).loc Cert.UpConvIdeal.main_arg3))
      ∧ θ_run (Cert.UpConvRefIdeal.defs (F := Ideal)) (onTc (τ := Cert.UpConvRefIdeal.τ) (Cert.UpConvRefIdeal.main (F := Ideal))) ⟨m', fun _ => 0, g'⟩ (fun r => ∀ c : Dev Cert.UpConvRefIdeal.nD,
          r.2.mem ((c.tc : Thread Cert.UpConvRefIdeal.nD Cert.UpConvRefIdeal.τ).loc Cert.UpConvRefIdeal.main_v44) = v0 c
          ∧ r.2.mem ((c.tc : Thread Cert.UpConvRefIdeal.nD Cert.UpConvRefIdeal.τ).loc Cert.UpConvRefIdeal.main_v48) = v1 c
          ∧ r.2.mem ((c.tc : Thread Cert.UpConvRefIdeal.nD Cert.UpConvRefIdeal.τ).loc Cert.UpConvRefIdeal.main_arg0) = m' ((c.tc : Thread Cert.UpConvRefIdeal.nD Cert.UpConvRefIdeal.τ).loc Cert.UpConvRefIdeal.main_arg0)
          ∧ r.2.mem ((c.tc : Thread Cert.UpConvRefIdeal.nD Cert.UpConvRefIdeal.τ).loc Cert.UpConvRefIdeal.main_arg1) = m' ((c.tc : Thread Cert.UpConvRefIdeal.nD Cert.UpConvRefIdeal.τ).loc Cert.UpConvRefIdeal.main_arg1)
          ∧ r.2.mem ((c.tc : Thread Cert.UpConvRefIdeal.nD Cert.UpConvRefIdeal.τ).loc Cert.UpConvRefIdeal.main_arg2) = m' ((c.tc : Thread Cert.UpConvRefIdeal.nD Cert.UpConvRefIdeal.τ).loc Cert.UpConvRefIdeal.main_arg2)
          ∧ r.2.mem ((c.tc : Thread Cert.UpConvRefIdeal.nD Cert.UpConvRefIdeal.τ).loc Cert.UpConvRefIdeal.main_arg3) = m' ((c.tc : Thread Cert.UpConvRefIdeal.nD Cert.UpConvRefIdeal.τ).loc Cert.UpConvRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v2) = v0 c
          ∧ r.2.mem ((c.tc : Thread Cert.AdamInRefIdeal.nD Cert.AdamInRefIdeal.τ).loc Cert.AdamInRefIdeal.main_v26) = v1 c
          ∧ r.2.mem ((c.tc : Thread Cert.AdamInRefIdeal.nD Cert.AdamInRefIdeal.τ).loc Cert.AdamInRefIdeal.main_v7) = v2 c
          ∧ r.2.mem ((c.tc : Thread Cert.AdamInRefIdeal.nD Cert.AdamInRefIdeal.τ).loc Cert.AdamInRefIdeal.main_v13) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def Claim : Prop :=
  ∃ (hDgConv : Cert.DgConv.Facts) (hDgConvIdeal : Cert.DgConvIdeal.Facts) (hDgConvRefIdeal : Cert.DgConvRefIdeal.Facts) (hGwDown : Cert.GwDown.Facts) (hGwDownIdeal : Cert.GwDownIdeal.Facts) (hGwDownRefIdeal : Cert.GwDownRefIdeal.Facts) (hGwUp : Cert.GwUp.Facts) (hGwUpIdeal : Cert.GwUpIdeal.Facts) (hGwUpRefIdeal : Cert.GwUpRefIdeal.Facts) (hGwOut : Cert.GwOut.Facts) (hGwOutIdeal : Cert.GwOutIdeal.Facts) (hGwOutRefIdeal : Cert.GwOutRefIdeal.Facts) (hGwIn : Cert.GwIn.Facts) (hGwInIdeal : Cert.GwInIdeal.Facts) (hGwInRefIdeal : Cert.GwInRefIdeal.Facts) (hDn2 : Cert.Dn2.Facts) (hDn2Ideal : Cert.Dn2Ideal.Facts) (hDn2RefIdeal : Cert.Dn2RefIdeal.Facts) (hDownLoss : Cert.DownLoss.Facts) (hDownLossIdeal : Cert.DownLossIdeal.Facts) (hDownLossRefIdeal : Cert.DownLossRefIdeal.Facts) (hOutNorm : Cert.OutNorm.Facts) (hOutNormIdeal : Cert.OutNormIdeal.Facts) (hOutNormRefIdeal : Cert.OutNormRefIdeal.Facts) (hMmIn : Cert.MmIn.Facts) (hMmInIdeal : Cert.MmInIdeal.Facts) (hMmInRefIdeal : Cert.MmInRefIdeal.Facts) (hUpConv : Cert.UpConv.Facts) (hUpConvIdeal : Cert.UpConvIdeal.Facts) (hUpConvRefIdeal : Cert.UpConvRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamIn : Cert.AdamIn.Facts) (hAdamInIdeal : Cert.AdamInIdeal.Facts) (hAdamInRefIdeal : Cert.AdamInRefIdeal.Facts) (hPre_dg_finite : Cert.Pre_dg_finite.Facts),
    quiescent_DgConv (hDgConv := hDgConv)
    ∧ quiescent_DgConvIdeal (hDgConvIdeal := hDgConvIdeal)
    ∧ quiescent_DgConvIdeal_pre_dg_finite (hDgConvIdeal := hDgConvIdeal) (hPre_dg_finite := hPre_dg_finite)
    ∧ quiescent_DgConvRefIdeal (hDgConvRefIdeal := hDgConvRefIdeal)
    ∧ quiescent_DgConvRefIdeal_pre_dg_finite (hDgConvRefIdeal := hDgConvRefIdeal) (hPre_dg_finite := hPre_dg_finite)
    ∧ quiescent_GwDown (hGwDown := hGwDown)
    ∧ quiescent_GwDownIdeal (hGwDownIdeal := hGwDownIdeal)
    ∧ quiescent_GwDownRefIdeal (hGwDownRefIdeal := hGwDownRefIdeal)
    ∧ quiescent_GwUp (hGwUp := hGwUp)
    ∧ quiescent_GwUpIdeal (hGwUpIdeal := hGwUpIdeal)
    ∧ quiescent_GwUpRefIdeal (hGwUpRefIdeal := hGwUpRefIdeal)
    ∧ quiescent_GwOut (hGwOut := hGwOut)
    ∧ quiescent_GwOutIdeal (hGwOutIdeal := hGwOutIdeal)
    ∧ quiescent_GwOutRefIdeal (hGwOutRefIdeal := hGwOutRefIdeal)
    ∧ quiescent_GwIn (hGwIn := hGwIn)
    ∧ quiescent_GwInIdeal (hGwInIdeal := hGwInIdeal)
    ∧ quiescent_GwInRefIdeal (hGwInRefIdeal := hGwInRefIdeal)
    ∧ quiescent_Dn2 (hDn2 := hDn2)
    ∧ quiescent_Dn2Ideal (hDn2Ideal := hDn2Ideal)
    ∧ quiescent_Dn2RefIdeal (hDn2RefIdeal := hDn2RefIdeal)
    ∧ quiescent_DownLoss (hDownLoss := hDownLoss)
    ∧ quiescent_DownLossIdeal (hDownLossIdeal := hDownLossIdeal)
    ∧ quiescent_DownLossRefIdeal (hDownLossRefIdeal := hDownLossRefIdeal)
    ∧ quiescent_OutNorm (hOutNorm := hOutNorm)
    ∧ quiescent_OutNormIdeal (hOutNormIdeal := hOutNormIdeal)
    ∧ quiescent_OutNormRefIdeal (hOutNormRefIdeal := hOutNormRefIdeal)
    ∧ quiescent_MmIn (hMmIn := hMmIn)
    ∧ quiescent_MmInIdeal (hMmInIdeal := hMmInIdeal)
    ∧ quiescent_MmInRefIdeal (hMmInRefIdeal := hMmInRefIdeal)
    ∧ quiescent_UpConv (hUpConv := hUpConv)
    ∧ quiescent_UpConvIdeal (hUpConvIdeal := hUpConvIdeal)
    ∧ quiescent_UpConvRefIdeal (hUpConvRefIdeal := hUpConvRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ preserves_DgConv_DgConvIdeal
    ∧ algebraic_DgConvIdeal_DgConvRefIdeal_pre_dg_finite (hDgConvIdeal := hDgConvIdeal) (hDgConvRefIdeal := hDgConvRefIdeal) (hPre_dg_finite := hPre_dg_finite)
    ∧ preserves_GwDown_GwDownIdeal
    ∧ algebraic_GwDownIdeal_GwDownRefIdeal (hGwDownIdeal := hGwDownIdeal) (hGwDownRefIdeal := hGwDownRefIdeal)
    ∧ preserves_GwUp_GwUpIdeal
    ∧ algebraic_GwUpIdeal_GwUpRefIdeal (hGwUpIdeal := hGwUpIdeal) (hGwUpRefIdeal := hGwUpRefIdeal)
    ∧ preserves_GwOut_GwOutIdeal
    ∧ algebraic_GwOutIdeal_GwOutRefIdeal (hGwOutIdeal := hGwOutIdeal) (hGwOutRefIdeal := hGwOutRefIdeal)
    ∧ preserves_GwIn_GwInIdeal
    ∧ algebraic_GwInIdeal_GwInRefIdeal (hGwInIdeal := hGwInIdeal) (hGwInRefIdeal := hGwInRefIdeal)
    ∧ preserves_Dn2_Dn2Ideal
    ∧ algebraic_Dn2Ideal_Dn2RefIdeal (hDn2Ideal := hDn2Ideal) (hDn2RefIdeal := hDn2RefIdeal)
    ∧ preserves_DownLoss_DownLossIdeal
    ∧ algebraic_DownLossIdeal_DownLossRefIdeal (hDownLossIdeal := hDownLossIdeal) (hDownLossRefIdeal := hDownLossRefIdeal)
    ∧ preserves_OutNorm_OutNormIdeal
    ∧ algebraic_OutNormIdeal_OutNormRefIdeal (hOutNormIdeal := hOutNormIdeal) (hOutNormRefIdeal := hOutNormRefIdeal)
    ∧ preserves_MmIn_MmInIdeal
    ∧ algebraic_MmInIdeal_MmInRefIdeal (hMmInIdeal := hMmInIdeal) (hMmInRefIdeal := hMmInRefIdeal)
    ∧ preserves_UpConv_UpConvIdeal
    ∧ algebraic_UpConvIdeal_UpConvRefIdeal (hUpConvIdeal := hUpConvIdeal) (hUpConvRefIdeal := hUpConvRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamIn_AdamInIdeal
    ∧ algebraic_AdamInIdeal_AdamInRefIdeal (hAdamInIdeal := hAdamInIdeal) (hAdamInRefIdeal := hAdamInRefIdeal)
-- ==== Pre_dg_finite.lean ====
abbrev S2x4224x2816 : Shape := ⟨3, ![2, 4224, 2816]⟩
abbrev S3x2816 : Shape := ⟨2, ![3, 2816]⟩
abbrev S1x2816 : Shape := ⟨2, ![1, 2816]⟩
abbrev S4224x1024 : Shape := ⟨2, ![4224, 1024]⟩
abbrev S2816x1024 : Shape := ⟨2, ![2816, 1024]⟩
abbrev S_ : Shape := ⟨0, ![]⟩

class Facts : Prop where
  bcast_S_S2x4224x2816 : S_.BroadcastsInDim S2x4224x2816 (![] : Fin 0 → Fin S2x4224x2816.rank)
  reducesTo_S2x4224x2816_S_d0_1_2 : S2x4224x2816.ReducesTo [0, 1, 2] S_
  h_S_ : 0 < S_.numel
  bcast_S_S3x2816 : S_.BroadcastsInDim S3x2816 (![] : Fin 0 → Fin S3x2816.rank)
  reducesTo_S3x2816_S_d0_1 : S3x2816.ReducesTo [0, 1] S_
  bcast_S_S1x2816 : S_.BroadcastsInDim S1x2816 (![] : Fin 0 → Fin S1x2816.rank)
  reducesTo_S1x2816_S_d0_1 : S1x2816.ReducesTo [0, 1] S_
  bitsLt_bf16_f32 : FTy.bits .bf16 < FTy.bits .f32
  bcast_S_S4224x1024 : S_.BroadcastsInDim S4224x1024 (![] : Fin 0 → Fin S4224x1024.rank)
  reducesTo_S4224x1024_S_d0_1 : S4224x1024.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .bf16) (main_v13 : IVec S_ 1) (main_v15 : FVec F S4224x1024 .f32) (main_v16 : FVec F S4224x1024 .f32) : IVec S_ 1 :=
  let main_v17 : IVec S4224x1024 1 := cmpf .olt main_v15 main_v16
  let main_c_5 : IVec S_ 1 := constantI S_ 1 1#1
  let main_v18 : IVec S_ 1 := (fun x v => Host.reduce IntOp.andi x v reducesTo_S4224x1024_S_d0_1 h_S_) main_v17 main_c_5
  let main_v19 : IVec S_ 1 := andi main_v13 main_v18
  let main_v20 : FVec F S2816x1024 .f32 := (extf .f32 · bitsLt_bf16_f32) main_arg4
  let main_v21 : FVec F S2816x1024 .f32 := Host.absf main_v20
  let main_cst_6 : FVec F S_ .f32 := constant S_ .f32 0x7F800000#32
  let main_v22 : FVec F S2816x1024 .f32 := broadcastInDim S2816x1024 ![] bcast_S_S2816x1024 main_cst_6
  let main_v23 : IVec S2816x1024 1 := cmpf .olt main_v21 main_v22
  let main_c_7 : IVec S_ 1 := constantI S_ 1 1#1
  let main_v24 : IVec S_ 1 := (fun x v => Host.reduce IntOp.andi x v reducesTo_S2816x1024_S_d0_1 h_S_) main_v23 main_c_7
  let main_v25 : IVec S_ 1 := andi main_v19 main_v24
  main_v25

def fn {F : FTy → Type} [FloatOps F] (main_arg0 : FVec F S2x4224x2816 .f32) (main_arg1 : FVec F S3x2816 .f32) (main_arg2 : FVec F S1x2816 .f32) (main_arg3 : FVec F S4224x1024 .bf16) (main_arg4 : FVec F S2816x1024 .bf16) : IVec S_ 1 :=
  let main_v0 : FVec F S2x4224x2816 .f32 := Host.absf main_arg0
  let main_cst : FVec F S_ .f32 := constant S_ .f32 0x7F800000#32
  let main_v1 : FVec F S2x4224x2816 .f32 := broadcastInDim S2x4224x2816 ![] bcast_S_S2x4224x2816 main_cst
  let main_v2 : IVec S2x4224x2816 1 := cmpf .olt main_v0 main_v1
  let main_c : IVec S_ 1 := constantI S_ 1 1#1
  let main_v3 : IVec S_ 1 := (fun x v => Host.reduce IntOp.andi x v reducesTo_S2x4224x2816_S_d0_1_2 h_S_) main_v2 main_c
  let main_v4 : FVec F S3x2816 .f32 := Host.absf main_arg1
  let main_cst_0 : FVec F S_ .f32 := constant S_ .f32 0x7F800000#32
  let main_v5 : FVec F S3x2816 .f32 := broadcastInDim S3x2816 ![] bcast_S_S3x2816 main_cst_0
  let main_v6 : IVec S3x2816 1 := cmpf .olt main_v4 main_v5
  let main_c_1 : IVec S_ 1 := constantI S_ 1 1#1
  let main_v7 : IVec S_ 1 := (fun x v => Host.reduce IntOp.andi x v reducesTo_S3x2816_S_d0_1 h_S_) main_v6 main_c_1
  let main_v8 : IVec S_ 1 := andi main_v3 main_v7
  let main_v9 : FVec F S1x2816 .f32 := Host.absf main_arg2
  let main_cst_2 : FVec F S_ .f32 := constant S_ .f32 0x7F800000#32
  let main_v10 : FVec F S1x2816 .f32 := broadcastInDim S1x2816 ![] bcast_S_S1x2816 main_cst_2
  let main_v11 : IVec S1x2816 1 := cmpf .olt main_v9 main_v10
  let main_c_3 : IVec S_ 1 := constantI S_ 1 1#1
  let main_v12 : IVec S_ 1 := (fun x v => Host.reduce IntOp.andi x v reducesTo_S1x2816_S_d0_1 h_S_) main_v11 main_c_3
  let main_v13 : IVec S_ 1 := andi main_v8 main_v12
  let main_v14 : FVec F S4224x1024 .f32 := (extf .f32 · bitsLt_bf16_f32) main_arg3
  let main_v15 : FVec F S4224x1024 .f32 := Host.absf main_v14
  let main_cst_4 : FVec F S_ .f32 := constant S_ .f32 0x7F800000#32
  let main_v16 : FVec F S4224x1024 .f32 := broadcastInDim S4224x1024 ![] bcast_S_S4224x1024 main_cst_4
  fn_part1 (F := F) main_arg4 main_v13 main_v15 main_v16
-- ==== DgConv.lean ====
abbrev S2x4224x2816 : Shape := ⟨3, ![2, 4224, 2816]⟩
abbrev S3x2816 : Shape := ⟨2, ![3, 2816]⟩
abbrev S1x2816 : Shape := ⟨2, ![1, 2816]⟩
abbrev S4224x1024 : Shape := ⟨2, ![4224, 1024]⟩
abbrev S2816x1024 : Shape := ⟨2, ![2816, 1024]⟩
abbrev S_ : Shape := ⟨0, ![]⟩
abbrev S8x2816 : Shape := ⟨2, ![8, 2816]⟩
abbrev S1x4224x256 : Shape := ⟨3, ![1, 4224, 256]⟩
abbrev S8x256 : Shape := ⟨2, ![8, 256]⟩
abbrev S1x256 : Shape := ⟨2, ![1, 256]⟩
abbrev S256x1024 : Shape := ⟨2, ![256, 1024]⟩
abbrev S2x4224x256 : Shape := ⟨3, ![2, 4224, 256]⟩
abbrev S4224x256 : Shape := ⟨2, ![4224, 256]⟩
abbrev S384x1024 : Shape := ⟨2, ![384, 1024]⟩
abbrev S384x256 : Shape := ⟨2, ![384, 256]⟩
abbrev S1x392x256 : Shape := ⟨3, ![1, 392, 256]⟩
abbrev S392x256 : Shape := ⟨2, ![392, 256]⟩
abbrev S400x256 : Shape := ⟨2, ![400, 256]⟩
abbrev S400x1 : Shape := ⟨2, ![400, 1]⟩
abbrev S384x1 : Shape := ⟨2, ![384, 1]⟩
abbrev S1x384x256 : Shape := ⟨3, ![1, 384, 256]⟩
abbrev S256 : Shape := ⟨1, ![256]⟩
abbrev S1x400x256 : Shape := ⟨3, ![1, 400, 256]⟩

abbrev nBuf : Space → Nat
  | .hbm => 11
  | .vmem => 18
  | .smem => 0
  | _ => 0

abbrev bufTy : (tb : Table) → Fin (tcTables nBuf tb) → BufTy
  | .hbm, ⟨0, _⟩ => ⟨S2x4224x2816, .f32⟩
  | .hbm, ⟨1, _⟩ => ⟨S3x2816, .f32⟩
  | .hbm, ⟨2, _⟩ => ⟨S1x2816, .f32⟩
  | .hbm, ⟨3, _⟩ => ⟨S4224x1024, .bf16⟩
  | .hbm, ⟨4, _⟩ => ⟨S2816x1024, .bf16⟩
  | .hbm, ⟨5, _⟩ => ⟨S_, .i32⟩
  | .hbm, ⟨6, _⟩ => ⟨S_, .f32⟩
  | .hbm, ⟨7, _⟩ => ⟨S8x2816, .f32⟩
  | .hbm, ⟨8, _⟩ => ⟨S2x4224x2816, .bf16⟩
  | .hbm, ⟨9, _⟩ => ⟨S8x2816, .f32⟩
  | .hbm, ⟨10, _⟩ => ⟨S1x2816, .f32⟩
  | .local _ .vmem, ⟨0, _⟩ => ⟨S1x4224x256, .f32⟩
  | .local _ .vmem, ⟨1, _⟩ => ⟨S1x4224x256, .f32⟩
  | .local _ .vmem, ⟨2, _⟩ => ⟨S1x4224x256, .f32⟩
  | .local _ .vmem, ⟨3, _⟩ => ⟨S1x4224x256, .f32⟩
  | .local _ .vmem, ⟨4, _⟩ => ⟨S8x256, .f32⟩
  | .local _ .vmem, ⟨5, _⟩ => ⟨S8x256, .f32⟩
  | .local _ .vmem, ⟨6, _⟩ => ⟨S1x256, .f32⟩
  | .local _ .vmem, ⟨7, _⟩ => ⟨S1x256, .f32⟩
  | .local _ .vmem, ⟨8, _⟩ => ⟨S4224x1024, .bf16⟩
  | .local _ .vmem, ⟨9, _⟩ => ⟨S256x1024, .bf16⟩
  | .local _ .vmem, ⟨10, _⟩ => ⟨S256x1024, .bf16⟩
  | .local _ .vmem, ⟨11, _⟩ => ⟨S2x4224x256, .bf16⟩
  | .local _ .vmem, ⟨12, _⟩ => ⟨S2x4224x256, .bf16⟩
  | .local _ .vmem, ⟨13, _⟩ => ⟨S8x256, .f32⟩
  | .local _ .vmem, ⟨14, _⟩ => ⟨S8x256, .f32⟩
  | .local _ .vmem, ⟨15, _⟩ => ⟨S1x256, .f32⟩
  | .local _ .vmem, ⟨16, _⟩ => ⟨S1x256, .f32⟩
  | .local _ .vmem, ⟨17, _⟩ => ⟨S4224x256, .f32⟩
  | _, _ => ⟨S2x4224x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x4224x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4224x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4224x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x4224x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DgConvRefIdeal.lean ====
abbrev S2x4224x2816 : Shape := ⟨3, ![2, 4224, 2816]⟩
abbrev S3x2816 : Shape := ⟨2, ![3, 2816]⟩
abbrev S1x2816 : Shape := ⟨2, ![1, 2816]⟩
abbrev S4224x1024 : Shape := ⟨2, ![4224, 1024]⟩
abbrev S2816x1024 : Shape := ⟨2, ![2816, 1024]⟩
abbrev S4224 : Shape := ⟨1, ![4224]⟩
abbrev S_ : Shape := ⟨0, ![]⟩
abbrev S1x4224x2816 : Shape := ⟨3, ![1, 4224, 2816]⟩
abbrev S4224x2816 : Shape := ⟨2, ![4224, 2816]⟩
abbrev S1x4224x1 : Shape := ⟨3, ![1, 4224, 1]⟩
abbrev S1x2x2816 : Shape := ⟨3, ![1, 2, 2816]⟩
abbrev S1x4226x2816 : Shape := ⟨3, ![1, 4226, 2816]⟩
abbrev S2816 : Shape := ⟨1, ![2816]⟩
abbrev S1x1x2816 : Shape := ⟨3, ![1, 1, 2816]⟩
abbrev S1x4224x1024 : Shape := ⟨3, ![1, 4224, 1024]⟩
abbrev S8x2816 : Shape := ⟨2, ![8, 2816]⟩

abbrev nBuf : Space → Nat
  | .hbm => 140
  | .vmem => 0
  | .smem => 0
  | _ => 0

abbrev hbmTy0_0 (i : Nat) : BufTy := match i % 128 with
  | 0 => ⟨S2x4224x2816, .f32⟩
  | 1 => ⟨S3x2816, .f32⟩
  | 2 => ⟨S1x2816, .f32⟩
  | 3 => ⟨S4224x1024, .bf16⟩
  | 4 => ⟨S2816x1024, .bf16⟩
  | 5 => ⟨S4224, .i32⟩
  | 6 => ⟨S_, .i32⟩
  | 7 => ⟨S4224, .i32⟩
  | 8 => ⟨S4224, .i1⟩
  | 9 => ⟨S2816x1024, .f32⟩
  | 10 => ⟨S1x4224x2816, .f32⟩
  | 11 => ⟨S4224x2816, .f32⟩
  | 12 => ⟨S1x4224x2816, .f32⟩
  | 13 => ⟨S1x4224x2816, .f32⟩
  | 14 => ⟨S4224x2816, .f32⟩
  | 15 => ⟨S1x4224x2816, .f32⟩
  | 16 => ⟨S4224, .f32⟩
  | 17 => ⟨S1x4224x1, .f32⟩
  | 18 => ⟨S1x4224x2816, .f32⟩
  | 19 => ⟨S1x4224x2816, .f32⟩
  | 20 => ⟨S_, .f32⟩
  | 21 => ⟨S1x2x2816, .f32⟩
  | 22 => ⟨S1x4226x2816, .f32⟩
  | 23 => ⟨S_, .f32⟩
  | 24 => ⟨S1x2x2816, .f32⟩
  | 25 => ⟨S1x4224x2816, .f32⟩
  | 26 => ⟨S1x2816, .f32⟩
  | 27 => ⟨S2816, .f32⟩
  | 28 => ⟨S1x1x2816, .f32⟩
  | 29 => ⟨S1x4224x2816, .f32⟩
  | 30 => ⟨S1x4224x2816, .f32⟩
  | 31 => ⟨S1x1x2816, .f32⟩
  | 32 => ⟨S1x4224x2816, .f32⟩
  | 33 => ⟨S1x4224x2816, .f32⟩
  | 34 => ⟨S1x4224x2816, .f32⟩
  | 35 => ⟨S1x2816, .f32⟩
  | 36 => ⟨S2816, .f32⟩
  | 37 => ⟨S1x1x2816, .f32⟩
  | 38 => ⟨S1x4224x2816, .f32⟩
  | 39 => ⟨S1x4224x2816, .f32⟩
  | 40 => ⟨S1x4224x2816, .f32⟩
  | 41 => ⟨S1x4224x2816, .f32⟩
  | 42 => ⟨S1x2816, .f32⟩
  | 43 => ⟨S2816, .f32⟩
  | 44 => ⟨S1x1x2816, .f32⟩
  | 45 => ⟨S1x4224x2816, .f32⟩
  | 46 => ⟨S1x4224x2816, .f32⟩
  | 47 => ⟨S1x4224x2816, .f32⟩
  | 48 => ⟨S1x4224x2816, .f32⟩
  | 49 => ⟨S1x4224x2816, .f32⟩
  | 50 => ⟨S_, .f32⟩
  | 51 => ⟨S1x4224x2816, .f32⟩
  | 52 => ⟨S1x4224x2816, .f32⟩
  | 53 => ⟨S_, .f32⟩
  | 54 => ⟨S1x4224x2816, .f32⟩
  | 55 => ⟨S1x4224x2816, .f32⟩
  | 56 => ⟨S_, .f32⟩
  | 57 => ⟨S1x4224x2816, .f32⟩
  | 58 => ⟨S1x4224x2816, .f32⟩
  | 59 => ⟨S1x4224x2816, .f32⟩
  | 60 => ⟨S1x4224x2816, .f32⟩
  | 61 => ⟨S1x4224x2816, .f32⟩
  | 62 => ⟨S1x4224x1024, .f32⟩
  | 63 => ⟨S4224x1024, .f32⟩
  | 64 => ⟨S1x4224x1024, .f32⟩
  | 65 => ⟨S1x4224x2816, .f32⟩
  | 66 => ⟨S1x4224x2816, .f32⟩
  | 67 => ⟨S1x4224x2816, .f32⟩
  | 68 => ⟨S1x4224x2816, .f32⟩
  | 69 => ⟨S1x4224x2816, .f32⟩
  | 70 => ⟨S1x4224x2816, .f32⟩
  | 71 => ⟨S1x4224x2816, .f32⟩
  | 72 => ⟨S1x4224x2816, .f32⟩
  | 73 => ⟨S_, .f32⟩
  | 74 => ⟨S1x2816, .f32⟩
  | 75 => ⟨S1x1x2816, .f32⟩
  | 76 => ⟨S1x4224x2816, .f32⟩
  | 77 => ⟨S1x4224x2816, .f32⟩
  | 78 => ⟨S_, .f32⟩
  | 79 => ⟨S2816, .f32⟩
  | 80 => ⟨S1x2816, .f32⟩
  | 81 => ⟨S_, .f32⟩
  | 82 => ⟨S3x2816, .f32⟩
  | 83 => ⟨S_, .f32⟩
  | 84 => ⟨S1x4226x2816, .f32⟩
  | 85 => ⟨S1x4224x2816, .f32⟩
  | 86 => ⟨S_, .f32⟩
  | 87 => ⟨S1x2816, .f32⟩
  | 88 => ⟨S1x1x2816, .f32⟩
  | 89 => ⟨S1x4224x2816, .f32⟩
  | 90 => ⟨S1x4224x2816, .f32⟩
  | 91 => ⟨S_, .f32⟩
  | 92 => ⟨S2816, .f32⟩
  | 93 => ⟨S1x2816, .f32⟩
  | 94 => ⟨S_, .f32⟩
  | 95 => ⟨S3x2816, .f32⟩
  | 96 => ⟨S3x2816, .f32⟩
  | 97 => ⟨S_, .f32⟩
  | 98 => ⟨S1x4226x2816, .f32⟩
  | 99 => ⟨S1x4226x2816, .f32⟩
  | 100 => ⟨S_, .f32⟩
  | 101 => ⟨S1x2816, .f32⟩
  | 102 => ⟨S1x1x2816, .f32⟩
  | 103 => ⟨S_, .f32⟩
  | 104 => ⟨S2816, .f32⟩
  | 105 => ⟨S1x2816, .f32⟩
  | 106 => ⟨S1x4224x2816, .f32⟩
  | 107 => ⟨S_, .f32⟩
  | 108 => ⟨S1x2816, .f32⟩
  | 109 => ⟨S1x1x2816, .f32⟩
  | 110 => ⟨S1x4224x2816, .f32⟩
  | 111 => ⟨S1x4224x2816, .f32⟩
  | 112 => ⟨S_, .f32⟩
  | 113 => ⟨S2816, .f32⟩
  | 114 => ⟨S1x2816, .f32⟩
  | 115 => ⟨S_, .f32⟩
  | 116 => ⟨S3x2816, .f32⟩
  | 117 => ⟨S3x2816, .f32⟩
  | 118 => ⟨S_, .f32⟩
  | 119 => ⟨S1x4226x2816, .f32⟩
  | 120 => ⟨S1x4226x2816, .f32⟩
  | 121 => ⟨S1x2x2816, .f32⟩
  | 122 => ⟨S1x4224x2816, .f32⟩
  | 123 => ⟨S1x4224x2816, .f32⟩
  | 124 => ⟨S1x4224x2816, .f32⟩
  | 125 => ⟨S_, .f32⟩
  | 126 => ⟨S4224x2816, .f32⟩
  | 127 => ⟨S1x4224x2816, .f32⟩
  | _ => ⟨S2x4224x2816, .f32⟩

abbrev hbmTy0_1 (i : Nat) : BufTy := match i % 128 with
  | 0 => ⟨S_, .f32⟩
  | 1 => ⟨S2x4224x2816, .f32⟩
  | 2 => ⟨S_, .f32⟩
  | 3 => ⟨S4224x2816, .f32⟩
  | 4 => ⟨S1x4224x2816, .f32⟩
  | 5 => ⟨S_, .f32⟩
  | 6 => ⟨S2x4224x2816, .f32⟩
  | 7 => ⟨S2x4224x2816, .f32⟩
  | 8 => ⟨S2x4224x2816, .bf16⟩
  | 9 => ⟨S_, .i32⟩
  | 10 => ⟨S_, .f32⟩
  | 11 => ⟨S8x2816, .f32⟩
  | _ => ⟨S2x4224x2816, .f32⟩

abbrev hbmTy (i : Nat) : BufTy := match i / 128 with
  | 0 => hbmTy0_0 i
  | 1 => hbmTy0_1 i
  | _ => ⟨S2x4224x2816, .f32⟩

abbrev bufTy : (tb : Table) → Fin (tcTables nBuf tb) → BufTy
  | .hbm, ⟨i, _⟩ => hbmTy i
  | _, _ => ⟨S2x4224x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_v40_2 : Ref sig .tc := ⟨.hbm, 55, rfl⟩
abbrev main_call0_cst_1 : Ref sig .tc := ⟨.hbm, 56, rfl⟩
abbrev main_call0_v6 : Ref sig .tc := ⟨.hbm, 57, rfl⟩
abbrev main_call0_v7 : Ref sig .tc := ⟨.hbm, 58, rfl⟩
abbrev main_v40_1 : Ref sig .tc := ⟨.hbm, 59, rfl⟩
abbrev main_v40_0 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v48 : Ref sig .tc := ⟨.hbm, 71, rfl⟩
abbrev main_v49 : Ref sig .tc := ⟨.hbm, 72, rfl⟩
abbrev main_cst_1 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_2 : Ref sig .tc := ⟨.hbm, 78, rfl⟩
abbrev main_v54 : Ref sig .tc := ⟨.hbm, 79, rfl⟩
abbrev main_v55 : Ref sig .tc := ⟨.hbm, 80, rfl⟩
abbrev main_cst_3 : Ref sig .tc := ⟨.hbm, 81, rfl⟩
abbrev main_v56 : Ref sig .tc := ⟨.hbm, 82, rfl⟩
abbrev main_cst_4 : Ref sig .tc := ⟨.hbm, 83, rfl⟩
abbrev main_v57 : Ref sig .tc := ⟨.hbm, 84, rfl⟩
abbrev main_v58 : Ref sig .tc := ⟨.hbm, 85, rfl⟩
abbrev main_cst_5 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_6 : Ref sig .tc := ⟨.hbm, 91, rfl⟩
abbrev main_v63 : Ref sig .tc := ⟨.hbm, 92, rfl⟩
abbrev main_v64 : Ref sig .tc := ⟨.hbm, 93, rfl⟩
abbrev main_cst_7 : Ref sig .tc := ⟨.hbm, 94, rfl⟩
abbrev main_v65 : Ref sig .tc := ⟨.hbm, 95, rfl⟩
abbrev main_v66 : Ref sig .tc := ⟨.hbm, 96, rfl⟩
abbrev main_cst_8 : Ref sig .tc := ⟨.hbm, 97, rfl⟩
abbrev main_v67 : Ref sig .tc := ⟨.hbm, 98, rfl⟩
abbrev main_v68 : Ref sig .tc := ⟨.hbm, 99, rfl⟩
abbrev main_cst_9 : Ref sig .tc := ⟨.hbm, 100, rfl⟩
abbrev main_v69 : Ref sig .tc := ⟨.hbm, 101, rfl⟩
abbrev main_v70 : Ref sig .tc := ⟨.hbm, 102, rfl⟩
abbrev main_cst_10 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_11 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_12 : Ref sig .tc := ⟨.hbm, 112, rfl⟩
abbrev main_v78 : Ref sig .tc := ⟨.hbm, 113, rfl⟩
abbrev main_v79 : Ref sig .tc := ⟨.hbm, 114, rfl⟩
abbrev main_cst_13 : Ref sig .tc := ⟨.hbm, 115, rfl⟩
abbrev main_v80 : Ref sig .tc := ⟨.hbm, 116, rfl⟩
abbrev main_v81 : Ref sig .tc := ⟨.hbm, 117, rfl⟩
abbrev main_cst_14 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_15 : Ref sig .tc := ⟨.hbm, 125, rfl⟩
abbrev main_v88 : Ref sig .tc := ⟨.hbm, 126, rfl⟩
abbrev main_v89 : Ref sig .tc := ⟨.hbm, 127, rfl⟩
abbrev main_cst_16 : Ref sig .tc := ⟨.hbm, 128, rfl⟩
abbrev main_v90 : Ref sig .tc := ⟨.hbm, 129, rfl⟩
abbrev main_cst_17 : Ref sig .tc := ⟨.hbm, 130, rfl⟩
abbrev main_v91 : Ref sig .tc := ⟨.hbm, 131, rfl⟩
abbrev main_v92 : Ref sig .tc := ⟨.hbm, 132, rfl⟩
abbrev main_cst_18 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_c_19 : Ref sig .tc := ⟨.hbm, 137, rfl⟩
abbrev main_call2_v0 : Ref sig .tc := ⟨.hbm, 138, rfl⟩
abbrev main_v96 : Ref sig .tc := ⟨.hbm, 139, rfl⟩

abbrev nD : Nat := 1
abbrev τ : Topo := Topo.v7x

variable {F : FTy → Type} [FloatOps F]
-- ==== GwDown.lean ====
abbrev S4224x2816 : Shape := ⟨2, ![4224, 2816]⟩
abbrev S4224x1024 : Shape := ⟨2, ![4224, 1024]⟩
abbrev S2816x1024 : Shape := ⟨2, ![2816, 1024]⟩
abbrev S4224x1408 : Shape := ⟨2, ![4224, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .bf16⟩
  | .hbm, ⟨2, _⟩ => ⟨S2816x1024, .bf16⟩
  | .local _ .vmem, ⟨0, _⟩ => ⟨S4224x1408, .bf16⟩
  | .local _ .vmem, ⟨1, _⟩ => ⟨S4224x1408, .bf16⟩
  | .local _ .vmem, ⟨2, _⟩ => ⟨S4224x1024, .bf16⟩
  | .local _ .vmem, ⟨3, _⟩ => ⟨S1408x1024, .bf16⟩
  | .local _ .vmem, ⟨4, _⟩ => ⟨S1408x1024, .bf16⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwDownRefIdeal.lean ====
abbrev S4224x2816 : Shape := ⟨2, ![4224, 2816]⟩
abbrev S4224x1024 : Shape := ⟨2, ![4224, 1024]⟩
abbrev S_ : Shape := ⟨0, ![]⟩
abbrev S2816x1024 : Shape := ⟨2, ![2816, 1024]⟩
abbrev S1x4224x2816 : Shape := ⟨3, ![1, 4224, 2816]⟩
abbrev S1x4224x1024 : Shape := ⟨3, ![1, 4224, 1024]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .bf16⟩
  | .hbm, ⟨2, _⟩ => ⟨S_, .f32⟩
  | .hbm, ⟨3, _⟩ => ⟨S2816x1024, .f32⟩
  | .hbm, ⟨4, _⟩ => ⟨S4224x2816, .f32⟩
  | .hbm, ⟨5, _⟩ => ⟨S1x4224x2816, .f32⟩
  | .hbm, ⟨6, _⟩ => ⟨S1x4224x1024, .f32⟩
  | .hbm, ⟨7, _⟩ => ⟨S4224x1024, .f32⟩
  | .hbm, ⟨8, _⟩ => ⟨S1x4224x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GwUp.lean ====
abbrev S2x4224x2816 : Shape := ⟨3, ![2, 4224, 2816]⟩
abbrev S4224x1024 : Shape := ⟨2, ![4224, 1024]⟩
abbrev S5632x1024 : Shape := ⟨2, ![5632, 1024]⟩
abbrev S1x2112x1408 : Shape := ⟨3, ![1, 2112, 1408]⟩
abbrev S2112x1024 : Shape := ⟨2, ![2112, 1024]⟩
abbrev S1408x1024 : Shape := ⟨2, ![1408, 1024]⟩
abbrev S2112x1408 : Shape := ⟨2, ![2112, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x4224x2816, .bf16⟩
  | .hbm, ⟨1, _⟩ => ⟨S4224x1024, .bf16⟩
  | .hbm, ⟨2, _⟩ => ⟨S5632x1024, .bf16⟩
  | .local _ .vmem, ⟨0, _⟩ => ⟨S1x2112x1408, .bf16⟩
  | .local _ .vmem, ⟨1, _⟩ => ⟨S1x2112x1408, .bf16⟩
  | .local _ .vmem, ⟨2, _⟩ => ⟨S2112x1024, .bf16⟩
  | .local _ .vmem, ⟨3, _⟩ => ⟨S2112x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2x4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x2112x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== GwUpRefIdeal.lean ====
abbrev S2x4224x2816 : Shape := ⟨3, ![2, 4224, 2816]⟩
abbrev S4224x1024 : Shape := ⟨2, ![4224, 1024]⟩
abbrev S_ : Shape := ⟨0, ![]⟩
abbrev S1024x5632 : Shape := ⟨2, ![1024, 5632]⟩
abbrev S1x4224x1024 : Shape := ⟨3, ![1, 4224, 1024]⟩
abbrev S1x4224x5632 : Shape := ⟨3, ![1, 4224, 5632]⟩
abbrev S1x4224x2816 : Shape := ⟨3, ![1, 4224, 2816]⟩
abbrev S4224x2816 : Shape := ⟨2, ![4224, 2816]⟩
abbrev S5632x1024 : Shape := ⟨2, ![5632, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2x4224x2816, .bf16⟩
  | .hbm, ⟨1, _⟩ => ⟨S4224x1024, .bf16⟩
  | .hbm, ⟨2, _⟩ => ⟨S_, .f32⟩
  | .hbm, ⟨3, _⟩ => ⟨S1024x5632, .f32⟩
  | .hbm, ⟨4, _⟩ => ⟨S4224x1024, .f32⟩
  | .hbm, ⟨5, _⟩ => ⟨S1x4224x1024, .f32⟩
  | .hbm, ⟨6, _⟩ => ⟨S1x4224x5632, .f32⟩
  | .hbm, ⟨7, _⟩ => ⟨S1x4224x2816, .f32⟩
  | .hbm, ⟨8, _⟩ => ⟨S1x4224x2816, .f32⟩
  | .hbm, ⟨9, _⟩ => ⟨S1x4224x2816, .bf16⟩
  | .hbm, ⟨10, _⟩ => ⟨S4224x2816, .bf16⟩
  | .hbm, ⟨11, _⟩ => ⟨S4224x2816, .f32⟩
  | .hbm, ⟨12, _⟩ => ⟨S1x4224x2816, .f32⟩
  | .hbm, ⟨13, _⟩ => ⟨S1x4224x2816, .bf16⟩
  | .hbm, ⟨14, _⟩ => ⟨S4224x2816, .bf16⟩
  | .hbm, ⟨15, _⟩ => ⟨S4224x2816, .f32⟩
  | .hbm, ⟨16, _⟩ => ⟨S1x4224x2816, .f32⟩
  | .hbm, ⟨17, _⟩ => ⟨S1x4224x5632, .f32⟩
  | .hbm, ⟨18, _⟩ => ⟨S5632x1024, .f32⟩
  | .hbm, ⟨19, _⟩ => ⟨S1024x5632, .f32⟩
  | .hbm, ⟨20, _⟩ => ⟨S5632x1024, .f32⟩
  | .hbm, ⟨21, _⟩ => ⟨S5632x1024, .bf16⟩
  | _, _ => ⟨S2x4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== GwOut.lean ====
abbrev S4224x1024 : Shape := ⟨2, ![4224, 1024]⟩
abbrev S1024x1024 : Shape := ⟨2, ![1024, 1024]⟩
abbrev S2112x1024 : Shape := ⟨2, ![2112, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .f32⟩
  | .hbm, ⟨2, _⟩ => ⟨S1024x1024, .bf16⟩
  | .local _ .vmem, ⟨0, _⟩ => ⟨S2112x1024, .bf16⟩
  | .local _ .vmem, ⟨1, _⟩ => ⟨S2112x1024, .bf16⟩
  | .local _ .vmem, ⟨2, _⟩ => ⟨S2112x1024, .f32⟩
  | .local _ .vmem, ⟨3, _⟩ => ⟨S2112x1024, .f32⟩
  | .local _ .vmem, ⟨4, _⟩ => ⟨S1024x1024, .bf16⟩
  | .local _ .vmem, ⟨5, _⟩ => ⟨S1024x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2112x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GwOutRefIdeal.lean ====
abbrev S4224x1024 : Shape := ⟨2, ![4224, 1024]⟩
abbrev S_ : Shape := ⟨0, ![]⟩
abbrev S1024x1024 : Shape := ⟨2, ![1024, 1024]⟩
abbrev S1x4224x1024 : Shape := ⟨3, ![1, 4224, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .f32⟩
  | .hbm, ⟨2, _⟩ => ⟨S_, .f32⟩
  | .hbm, ⟨3, _⟩ => ⟨S1024x1024, .f32⟩
  | .hbm, ⟨4, _⟩ => ⟨S4224x1024, .f32⟩
  | .hbm, ⟨5, _⟩ => ⟨S1x4224x1024, .f32⟩
  | .hbm, ⟨6, _⟩ => ⟨S1x4224x1024, .f32⟩
  | .hbm, ⟨7, _⟩ => ⟨S1x4224x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GwIn.lean ====
abbrev S4224x3200 : Shape := ⟨2, ![4224, 3200]⟩
abbrev S4224x1024 : Shape := ⟨2, ![4224, 1024]⟩
abbrev S3200x1024 : Shape := ⟨2, ![3200, 1024]⟩
abbrev S4224x640 : Shape := ⟨2, ![4224, 640]⟩
abbrev S640x1024 : Shape := ⟨2, ![640, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4224x3200, .bf16⟩
  | .hbm, ⟨1, _⟩ => ⟨S4224x1024, .bf16⟩
  | .hbm, ⟨2, _⟩ => ⟨S3200x1024, .bf16⟩
  | .local _ .vmem, ⟨0, _⟩ => ⟨S4224x640, .bf16⟩
  | .local _ .vmem, ⟨1, _⟩ => ⟨S4224x640, .bf16⟩
  | .local _ .vmem, ⟨2, _⟩ => ⟨S4224x1024, .bf16⟩
  | .local _ .vmem, ⟨3, _⟩ => ⟨S640x1024, .bf16⟩
  | .local _ .vmem, ⟨4, _⟩ => ⟨S640x1024, .bf16⟩
  | _, _ => ⟨S4224x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![5, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwInRefIdeal.lean ====
abbrev S4224x3200 : Shape := ⟨2, ![4224, 3200]⟩
abbrev S4224x1024 : Shape := ⟨2, ![4224, 1024]⟩
abbrev S_ : Shape := ⟨0, ![]⟩
abbrev S1024x3200 : Shape := ⟨2, ![1024, 3200]⟩
abbrev S1x4224x1024 : Shape := ⟨3, ![1, 4224, 1024]⟩
abbrev S1x4224x3200 : Shape := ⟨3, ![1, 4224, 3200]⟩
abbrev S3200x1024 : Shape := ⟨2, ![3200, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4224x3200, .bf16⟩
  | .hbm, ⟨1, _⟩ => ⟨S4224x1024, .bf16⟩
  | .hbm, ⟨2, _⟩ => ⟨S_, .f32⟩
  | .hbm, ⟨3, _⟩ => ⟨S1024x3200, .f32⟩
  | .hbm, ⟨4, _⟩ => ⟨S4224x1024, .f32⟩
  | .hbm, ⟨5, _⟩ => ⟨S1x4224x1024, .f32⟩
  | .hbm, ⟨6, _⟩ => ⟨S1x4224x3200, .f32⟩
  | .hbm, ⟨7, _⟩ => ⟨S4224x3200, .f32⟩
  | .hbm, ⟨8, _⟩ => ⟨S1x4224x3200, .f32⟩
  | .hbm, ⟨9, _⟩ => ⟨S3200x1024, .f32⟩
  | .hbm, ⟨10, _⟩ => ⟨S1024x3200, .f32⟩
  | .hbm, ⟨11, _⟩ => ⟨S3200x1024, .f32⟩
  | .hbm, ⟨12, _⟩ => ⟨S3200x1024, .bf16⟩
  | _, _ => ⟨S4224x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Dn2.lean ====
abbrev S2x4224x2816 : Shape := ⟨3, ![2, 4224, 2816]⟩
abbrev S2x2816x1024 : Shape := ⟨3, ![2, 2816, 1024]⟩
abbrev S4224x1024 : Shape := ⟨2, ![4224, 1024]⟩
abbrev S1x1024 : Shape := ⟨2, ![1, 1024]⟩
abbrev S1024x1024 : Shape := ⟨2, ![1024, 1024]⟩
abbrev S1x384x2816 : Shape := ⟨3, ![1, 384, 2816]⟩
abbrev S1x2816x1024 : Shape := ⟨3, ![1, 2816, 1024]⟩
abbrev S384x1024 : Shape := ⟨2, ![384, 1024]⟩
abbrev S384x2816 : Shape := ⟨2, ![384, 2816]⟩
abbrev S2816x1024 : Shape := ⟨2, ![2816, 1024]⟩
abbrev S384 : Shape := ⟨1, ![384]⟩
abbrev S384x1 : Shape := ⟨2, ![384, 1]⟩
abbrev S1024 : Shape := ⟨1, ![1024]⟩

abbrev nBuf : Space → Nat
  | .hbm => 9
  | .vmem => 17
  | .smem => 0
  | _ => 0

abbrev bufTy : (tb : Table) → Fin (tcTables nBuf tb) → BufTy
  | .hbm, ⟨0, _⟩ => ⟨S2x4224x2816, .bf16⟩
  | .hbm, ⟨1, _⟩ => ⟨S2x2816x1024, .bf16⟩
  | .hbm, ⟨2, _⟩ => ⟨S4224x1024, .f32⟩
  | .hbm, ⟨3, _⟩ => ⟨S1x1024, .f32⟩
  | .hbm, ⟨4, _⟩ => ⟨S4224x1024, .f32⟩
  | .hbm, ⟨5, _⟩ => ⟨S1024x1024, .bf16⟩
  | .hbm, ⟨6, _⟩ => ⟨S4224x1024, .f32⟩
  | .hbm, ⟨7, _⟩ => ⟨S1x1024, .f32⟩
  | .hbm, ⟨8, _⟩ => ⟨S4224x1024, .f32⟩
  | .local _ .vmem, ⟨0, _⟩ => ⟨S1x384x2816, .bf16⟩
  | .local _ .vmem, ⟨1, _⟩ => ⟨S1x384x2816, .bf16⟩
  | .local _ .vmem, ⟨2, _⟩ => ⟨S1x384x2816, .bf16⟩
  | .local _ .vmem, ⟨3, _⟩ => ⟨S1x384x2816, .bf16⟩
  | .local _ .vmem, ⟨4, _⟩ => ⟨S1x2816x1024, .bf16⟩
  | .local _ .vmem, ⟨5, _⟩ => ⟨S1x2816x1024, .bf16⟩
  | .local _ .vmem, ⟨6, _⟩ => ⟨S384x1024, .f32⟩
  | .local _ .vmem, ⟨7, _⟩ => ⟨S384x1024, .f32⟩
  | .local _ .vmem, ⟨8, _⟩ => ⟨S1x1024, .f32⟩
  | .local _ .vmem, ⟨9, _⟩ => ⟨S384x1024, .f32⟩
  | .local _ .vmem, ⟨10, _⟩ => ⟨S384x1024, .f32⟩
  | .local _ .vmem, ⟨11, _⟩ => ⟨S1024x1024, .bf16⟩
  | .local _ .vmem, ⟨12, _⟩ => ⟨S384x1024, .f32⟩
  | .local _ .vmem, ⟨13, _⟩ => ⟨S384x1024, .f32⟩
  | .local _ .vmem, ⟨14, _⟩ => ⟨S1x1024, .f32⟩
  | .local _ .vmem, ⟨15, _⟩ => ⟨S384x1024, .f32⟩
  | .local _ .vmem, ⟨16, _⟩ => ⟨S384x1024, .f32⟩
  | _, _ => ⟨S2x4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_26 : BitVec 32 := 0#32
  let v43 : BitVec 1 := Scalar.cmpi .ne v42 c0_i32_26
  v43

def k0_cond2 (i : grid0.Coords) : BitVec 1 :=
  let arg0 : BitVec 32 := BitVec.ofNat 32 (i 0).val
  let c0_i32_27 : BitVec 32 := 0#32
  let v44 : BitVec 1 := Scalar.cmpi .sgt arg0 c0_i32_27
  let v45 : BitVec 32 := Scalar.extui v44
  let c0_i32_28 : BitVec 32 := 0#32
  let v46 : BitVec 1 := Scalar.cmpi .ne v45 c0_i32_28
  v46

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x384x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x384x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S384x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Dn2RefIdeal.lean ====
abbrev S2x4224x2816 : Shape := ⟨3, ![2, 4224, 2816]⟩
abbrev S2x2816x1024 : Shape := ⟨3, ![2, 2816, 1024]⟩
abbrev S4224x1024 : Shape := ⟨2, ![4224, 1024]⟩
abbrev S1x1024 : Shape := ⟨2, ![1, 1024]⟩
abbrev S1024x1024 : Shape := ⟨2, ![1024, 1024]⟩
abbrev S1x2816x1024 : Shape := ⟨3, ![1, 2816, 1024]⟩
abbrev S2816x1024 : Shape := ⟨2, ![2816, 1024]⟩
abbrev S5632x1024 : Shape := ⟨2, ![5632, 1024]⟩
abbrev S1024x5632 : Shape := ⟨2, ![1024, 5632]⟩
abbrev S1x4224x1024 : Shape := ⟨3, ![1, 4224, 1024]⟩
abbrev S1x4224x2816 : Shape := ⟨3, ![1, 4224, 2816]⟩
abbrev S4224x2816 : Shape := ⟨2, ![4224, 2816]⟩
abbrev S_ : Shape := ⟨0, ![]⟩
abbrev S1x4224 : Shape := ⟨2, ![1, 4224]⟩
abbrev S1x4224x1 : Shape := ⟨3, ![1, 4224, 1]⟩
abbrev S1x1x1024 : Shape := ⟨3, ![1, 1, 1024]⟩
abbrev S1x4224x5632 : Shape := ⟨3, ![1, 4224, 5632]⟩
abbrev S1024 : Shape := ⟨1, ![1024]⟩
abbrev S4224 : Shape := ⟨1, ![4224]⟩

abbrev nBuf : Space → Nat
  | .hbm => 83
  | .vmem => 0
  | .smem => 0
  | _ => 0

abbrev bufTy : (tb : Table) → Fin (tcTables nBuf tb) → BufTy
  | .hbm, ⟨0, _⟩ => ⟨S2x4224x2816, .bf16⟩
  | .hbm, ⟨1, _⟩ => ⟨S2x2816x1024, .bf16⟩
  | .hbm, ⟨2, _⟩ => ⟨S4224x1024, .f32⟩
  | .hbm, ⟨3, _⟩ => ⟨S1x1024, .f32⟩
  | .hbm, ⟨4, _⟩ => ⟨S4224x1024, .f32⟩
  | .hbm, ⟨5, _⟩ => ⟨S1024x1024, .bf16⟩
  | .hbm, ⟨6, _⟩ => ⟨S1x2816x1024, .bf16⟩
  | .hbm, ⟨7, _⟩ => ⟨S2816x1024, .bf16⟩
  | .hbm, ⟨8, _⟩ => ⟨S1x2816x1024, .bf16⟩
  | .hbm, ⟨9, _⟩ => ⟨S2816x1024, .bf16⟩
  | .hbm, ⟨10, _⟩ => ⟨S5632x1024, .bf16⟩
  | .hbm, ⟨11, _⟩ => ⟨S5632x1024, .f32⟩
  | .hbm, ⟨12, _⟩ => ⟨S1024x5632, .f32⟩
  | .hbm, ⟨13, _⟩ => ⟨S1x4224x1024, .f32⟩
  | .hbm, ⟨14, _⟩ => ⟨S1x4224x2816, .bf16⟩
  | .hbm, ⟨15, _⟩ => ⟨S4224x2816, .bf16⟩
  | .hbm, ⟨16, _⟩ => ⟨S4224x2816, .f32⟩
  | .hbm, ⟨17, _⟩ => ⟨S1x4224x2816, .f32⟩
  | .hbm, ⟨18, _⟩ => ⟨S1x4224x2816, .bf16⟩
  | .hbm, ⟨19, _⟩ => ⟨S4224x2816, .bf16⟩
  | .hbm, ⟨20, _⟩ => ⟨S4224x2816, .f32⟩
  | .hbm, ⟨21, _⟩ => ⟨S1x4224x2816, .f32⟩
  | .hbm, ⟨22, _⟩ => ⟨S1x4224x1024, .f32⟩
  | .hbm, ⟨23, _⟩ => ⟨S1x4224x1024, .f32⟩
  | .hbm, ⟨24, _⟩ => ⟨S_, .f32⟩
  | .hbm, ⟨25, _⟩ => ⟨S1x4224, .f32⟩
  | .hbm, ⟨26, _⟩ => ⟨S1x4224x1, .f32⟩
  | .hbm, ⟨27, _⟩ => ⟨S_, .f32⟩
  | .hbm, ⟨28, _⟩ => ⟨S1x4224x1, .f32⟩
  | .hbm, ⟨29, _⟩ => ⟨S1x4224x1, .f32⟩
  | .hbm, ⟨30, _⟩ => ⟨S_, .f32⟩
  | .hbm, ⟨31, _⟩ => ⟨S1x4224x1, .f32⟩
  | .hbm, ⟨32, _⟩ => ⟨S1x4224x1, .f32⟩
  | .hbm, ⟨33, _⟩ => ⟨S1x4224x1, .f32⟩
  | .hbm, ⟨34, _⟩ => ⟨S1x4224x1, .f32⟩
  | .hbm, ⟨35, _⟩ => ⟨S_, .f32⟩
  | .hbm, ⟨36, _⟩ => ⟨S1x4224x1, .f32⟩
  | .hbm, ⟨37, _⟩ => ⟨S1x4224x1, .f32⟩
  | .hbm, ⟨38, _⟩ => ⟨S1x4224x1024, .f32⟩
  | .hbm, ⟨39, _⟩ => ⟨S1x4224x1024, .f32⟩
  | .hbm, ⟨40, _⟩ => ⟨S1x1x1024, .f32⟩
  | .hbm, ⟨41, _⟩ => ⟨S1x4224x1024, .f32⟩
  | .hbm, ⟨42, _⟩ => ⟨S1x4224x1024, .f32⟩
  | .hbm, ⟨43, _⟩ => ⟨S1x4224x5632, .f32⟩
  | .hbm, ⟨44, _⟩ => ⟨S1x4224x2816, .f32⟩
  | .hbm, ⟨45, _⟩ => ⟨S1x4224x2816, .f32⟩
  | .hbm, ⟨46, _⟩ => ⟨S1x4224x5632, .f32⟩
  | .hbm, ⟨47, _⟩ => ⟨S1x4224x1024, .f32⟩
  | .hbm, ⟨48, _⟩ => ⟨S1x4224x1024, .f32⟩
  | .hbm, ⟨49, _⟩ => ⟨S_, .f32⟩
  | .hbm, ⟨50, _⟩ => ⟨S1x1024, .f32⟩
  | .hbm, ⟨51, _⟩ => ⟨S1x1x1024, .f32⟩
  | .hbm, ⟨52, _⟩ => ⟨S1x4224x1024, .f32⟩
  | .hbm, ⟨53, _⟩ => ⟨S1x4224x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S1x4224x1024, .f32⟩
  | .hbm, ⟨58, _⟩ => ⟨S_, .f32⟩
  | .hbm, ⟨59, _⟩ => ⟨S1x4224, .f32⟩
  | .hbm, ⟨60, _⟩ => ⟨S1x4224x1, .f32⟩
  | .hbm, ⟨61, _⟩ => ⟨S1x4224x1024, .f32⟩
  | .hbm, ⟨62, _⟩ => ⟨S1x4224x1024, .f32⟩
  | .hbm, ⟨63, _⟩ => ⟨S1x4224x1024, .f32⟩
  | .hbm, ⟨64, _⟩ => ⟨S1x4224x1, .f32⟩
  | .hbm, ⟨65, _⟩ => ⟨S_, .f32⟩
  | .hbm, ⟨66, _⟩ => ⟨S1x4224x1, .f32⟩
  | .hbm, ⟨67, _⟩ => ⟨S1x4224x1, .f32⟩
  | .hbm, ⟨68, _⟩ => ⟨S_, .f32⟩
  | .hbm, ⟨69, _⟩ => ⟨S4224, .f32⟩
  | .hbm, ⟨70, _⟩ => ⟨S1x4224, .f32⟩
  | .hbm, ⟨71, _⟩ => ⟨S1x4224x1024, .f32⟩
  | .hbm, ⟨72, _⟩ => ⟨S1x4224x1024, .f32⟩
  | .hbm, ⟨73, _⟩ => ⟨S1x4224x1024, .f32⟩
  | .hbm, ⟨74, _⟩ => ⟨S1x4224x1024, .f32⟩
  | .hbm, ⟨75, _⟩ => ⟨S1x4224x1024, .f32⟩
  | .hbm, ⟨76, _⟩ => ⟨S_, .f32⟩
  | .hbm, ⟨77, _⟩ => ⟨S1x4224x1024, .f32⟩
  | .hbm, ⟨78, _⟩ => ⟨S1024x1024, .f32⟩
  | .hbm, ⟨79, _⟩ => ⟨S1x4224x1024, .f32⟩
  | .hbm, ⟨80, _⟩ => ⟨S1x4224x1024, .f32⟩
  | .hbm, ⟨81, _⟩ => ⟨S4224x1024, .f32⟩
  | .hbm, ⟨82, _⟩ => ⟨S4224x1024, .f32⟩
  | _, _ => ⟨S2x4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_3 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_5 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_6 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_8 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩

abbrev nD : Nat := 1
abbrev τ : Topo := Topo.v7x

variable {F : FTy → Type} [FloatOps F]
-- ==== DownLoss.lean ====
abbrev S4224x2816 : Shape := ⟨2, ![4224, 2816]⟩
abbrev S2816x1024 : Shape := ⟨2, ![2816, 1024]⟩
abbrev S4224x1024 : Shape := ⟨2, ![4224, 1024]⟩
abbrev S4096x1024 : Shape := ⟨2, ![4096, 1024]⟩
abbrev S1x1024 : Shape := ⟨2, ![1, 1024]⟩
abbrev S8x128 : Shape := ⟨2, ![8, 128]⟩
abbrev S384x2816 : Shape := ⟨2, ![384, 2816]⟩
abbrev S384x1024 : Shape := ⟨2, ![384, 1024]⟩
abbrev S128x1024 : Shape := ⟨2, ![128, 1024]⟩
abbrev S384 : Shape := ⟨1, ![384]⟩
abbrev S384x1 : Shape := ⟨2, ![384, 1]⟩
abbrev S1x384x1 : Shape := ⟨3, ![1, 384, 1]⟩
abbrev S1 : Shape := ⟨1, ![1]⟩
abbrev S1x1x1 : Shape := ⟨3, ![1, 1, 1]⟩
abbrev S1024 : Shape := ⟨1, ![1024]⟩

abbrev nBuf : Space → Nat
  | .hbm => 9
  | .vmem => 18
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .bf16⟩
  | .hbm, ⟨2, _⟩ => ⟨S4224x1024, .f32⟩
  | .hbm, ⟨3, _⟩ => ⟨S4096x1024, .f32⟩
  | .hbm, ⟨4, _⟩ => ⟨S1x1024, .f32⟩
  | .hbm, ⟨5, _⟩ => ⟨S8x128, .f32⟩
  | .hbm, ⟨6, _⟩ => ⟨S4224x1024, .f32⟩
  | .hbm, ⟨7, _⟩ => ⟨S4224x1024, .bf16⟩
  | .hbm, ⟨8, _⟩ => ⟨S1x1024, .f32⟩
  | .local _ .vmem, ⟨0, _⟩ => ⟨S384x2816, .bf16⟩
  | .local _ .vmem, ⟨1, _⟩ => ⟨S384x2816, .bf16⟩
  | .local _ .vmem, ⟨2, _⟩ => ⟨S2816x1024, .bf16⟩
  | .local _ .vmem, ⟨3, _⟩ => ⟨S384x1024, .f32⟩
  | .local _ .vmem, ⟨4, _⟩ => ⟨S384x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S1x1024, .f32⟩
  | .local _ .vmem, ⟨12, _⟩ => ⟨S8x128, .f32⟩
  | .local _ .vmem, ⟨13, _⟩ => ⟨S384x1024, .f32⟩
  | .local _ .vmem, ⟨14, _⟩ => ⟨S384x1024, .f32⟩
  | .local _ .vmem, ⟨15, _⟩ => ⟨S384x1024, .bf16⟩
  | .local _ .vmem, ⟨16, _⟩ => ⟨S384x1024, .bf16⟩
  | .local _ .vmem, ⟨17, _⟩ => ⟨S1x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v61 : BitVec 1 := Scalar.cmpi .eq arg0 c0_i32
  let v62 : BitVec 32 := Scalar.extui v61
  let c0_i32_25 : BitVec 32 := 0#32
  let v63 : BitVec 1 := Scalar.cmpi .ne v62 c0_i32_25
  v63

def k0_cond2 (i : grid0.Coords) : BitVec 1 :=
  let arg0 : BitVec 32 := BitVec.ofNat 32 (i 0).val
  let c0_i32_26 : BitVec 32 := 0#32
  let v64 : BitVec 1 := Scalar.cmpi .sgt arg0 c0_i32_26
  let v65 : BitVec 32 := Scalar.extui v64
  let c0_i32_27 : BitVec 32 := 0#32
  let v66 : BitVec 1 := Scalar.cmpi .ne v65 c0_i32_27
  v66

def k0_cond3 (i : grid0.Coords) : BitVec 1 :=
  let arg0 : BitVec 32 := BitVec.ofNat 32 (i 0).val
  let c0_i32_32 : BitVec 32 := 0#32
  let v70 : BitVec 1 := Scalar.cmpi .eq arg0 c0_i32_32
  let v71 : BitVec 32 := Scalar.extui v70
  let c0_i32_33 : BitVec 32 := 0#32
  let v72 : BitVec 1 := Scalar.cmpi .ne v71 c0_i32_33
  v72

def k0_cond4 (i : grid0.Coords) : BitVec 1 :=
  let arg0 : BitVec 32 := BitVec.ofNat 32 (i 0).val
  let c0_i32_34 : BitVec 32 := 0#32
  let v73 : BitVec 1 := Scalar.cmpi .sgt arg0 c0_i32_34
  let v74 : BitVec 32 := Scalar.extui v73
  let c0_i32_35 : BitVec 32 := 0#32
  let v75 : BitVec 1 := Scalar.cmpi .ne v74 c0_i32_35
  v75

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let v0 : BitVec 32 := Scalar.muli c3_i32 arg0
  let c_m1_i32 : BitVec 32 := 4294967295#32
  let v1 : BitVec 32 := Scalar.addi v0 c_m1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c3_i32 : BitVec 32 := 3#32
  let v0 : BitVec 32 := Scalar.muli c3_i32 arg0
  let c0_i32 : BitVec 32 := 0#32
  let v1 : BitVec 32 := Scalar.addi v0 c0_i32
  let c0_i32_0 : BitVec 32 := 0#32
  let v2 : BitVec 32 := Scalar.maxsi v1 c0_i32_0
  let c0_i32_1 : BitVec 32 := 0#32
  let c0_i32_2 : BitVec 32 := 0#32
  ![v2.toNat, c0_i32_1.toNat]

def cc0_transform_5 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.addi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== DownLossRefIdeal.lean ====
abbrev S4224x2816 : Shape := ⟨2, ![4224, 2816]⟩
abbrev S2816x1024 : Shape := ⟨2, ![2816, 1024]⟩
abbrev S4224x1024 : Shape := ⟨2, ![4224, 1024]⟩
abbrev S4096x1024 : Shape := ⟨2, ![4096, 1024]⟩
abbrev S1x1024 : Shape := ⟨2, ![1, 1024]⟩
abbrev S1x4224x1024 : Shape := ⟨3, ![1, 4224, 1024]⟩
abbrev S1x4224x2816 : Shape := ⟨3, ![1, 4224, 2816]⟩
abbrev S_ : Shape := ⟨0, ![]⟩
abbrev S1x4224 : Shape := ⟨2, ![1, 4224]⟩
abbrev S1x4224x1 : Shape := ⟨3, ![1, 4224, 1]⟩
abbrev S1x1x1024 : Shape := ⟨3, ![1, 1, 1024]⟩
abbrev S1x4096x1024 : Shape := ⟨3, ![1, 4096, 1024]⟩
abbrev S1x4096 : Shape := ⟨2, ![1, 4096]⟩
abbrev S1024 : Shape := ⟨1, ![1024]⟩
abbrev S4224 : Shape := ⟨1, ![4224]⟩
abbrev S8x128 : Shape := ⟨2, ![8, 128]⟩

abbrev nBuf : Space → Nat
  | .hbm => 89
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .bf16⟩
  | .hbm, ⟨2, _⟩ => ⟨S4224x1024, .f32⟩
  | .hbm, ⟨3, _⟩ => ⟨S4096x1024, .f32⟩
  | .hbm, ⟨4, _⟩ => ⟨S1x1024, .f32⟩
  | .hbm, ⟨5, _⟩ => ⟨S1x4224x1024, .f32⟩
  | .hbm, ⟨6, _⟩ => ⟨S4224x2816, .f32⟩
  | .hbm, ⟨7, _⟩ => ⟨S1x4224x2816, .f32⟩
  | .hbm, ⟨8, _⟩ => ⟨S2816x1024, .f32⟩
  | .hbm, ⟨9, _⟩ => ⟨S1x4224x1024, .f32⟩
  | .hbm, ⟨10, _⟩ => ⟨S1x4224x1024, .f32⟩
  | .hbm, ⟨11, _⟩ => ⟨S1x4224x1024, .f32⟩
  | .hbm, ⟨12, _⟩ => ⟨S_, .f32⟩
  | .hbm, ⟨13, _⟩ => ⟨S1x4224, .f32⟩
  | .hbm, ⟨14, _⟩ => ⟨S1x4224x1, .f32⟩
  | .hbm, ⟨15, _⟩ => ⟨S_, .f32⟩
  | .hbm, ⟨16, _⟩ => ⟨S1x4224x1, .f32⟩
  | .hbm, ⟨17, _⟩ => ⟨S1x4224x1, .f32⟩
  | .hbm, ⟨18, _⟩ => ⟨S_, .f32⟩
  | .hbm, ⟨19, _⟩ => ⟨S1x4224x1, .f32⟩
  | .hbm, ⟨20, _⟩ => ⟨S1x4224x1, .f32⟩
  | .hbm, ⟨21, _⟩ => ⟨S1x4224x1, .f32⟩
  | .hbm, ⟨22, _⟩ => ⟨S1x4224x1, .f32⟩
  | .hbm, ⟨23, _⟩ => ⟨S_, .f32⟩
  | .hbm, ⟨24, _⟩ => ⟨S1x4224x1, .f32⟩
  | .hbm, ⟨25, _⟩ => ⟨S1x4224x1, .f32⟩
  | .hbm, ⟨26, _⟩ => ⟨S1x4224x1024, .f32⟩
  | .hbm, ⟨27, _⟩ => ⟨S1x4224x1024, .f32⟩
  | .hbm, ⟨28, _⟩ => ⟨S1x1x1024, .f32⟩
  | .hbm, ⟨29, _⟩ => ⟨S1x4224x1024, .f32⟩
  | .hbm, ⟨30, _⟩ => ⟨S1x4224x1024, .f32⟩
  | .hbm, ⟨31, _⟩ => ⟨S1x4096x1024, .f32⟩
  | .hbm, ⟨32, _⟩ => ⟨S1x4096x1024, .f32⟩
  | .hbm, ⟨33, _⟩ => ⟨S1x4096x1024, .f32⟩
  | .hbm, ⟨34, _⟩ => ⟨S1x4096x1024, .f32⟩
  | .hbm, ⟨35, _⟩ => ⟨S_, .f32⟩
  | .hbm, ⟨36, _⟩ => ⟨S1x4096x1024, .f32⟩
  | .hbm, ⟨37, _⟩ => ⟨S1x4096x1024, .f32⟩
  | .hbm, ⟨38, _⟩ => ⟨S_, .f32⟩
  | .hbm, ⟨39, _⟩ => ⟨S1x4096, .f32⟩
  | .hbm, ⟨40, _⟩ => ⟨S_, .f32⟩
  | .hbm, ⟨41, _⟩ => ⟨S1x4096, .f32⟩
  | .hbm, ⟨42, _⟩ => ⟨S1x4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S1x4096, .f32⟩
  | .hbm, ⟨51, _⟩ => ⟨S_, .f32⟩
  | .hbm, ⟨52, _⟩ => ⟨S1x4096, .f32⟩
  | .hbm, ⟨53, _⟩ => ⟨S1x4096, .f32⟩
  | .hbm, ⟨54, _⟩ => ⟨S1x4096x1024, .f32⟩
  | .hbm, ⟨55, _⟩ => ⟨S1x4096x1024, .f32⟩
  | .hbm, ⟨56, _⟩ => ⟨S_, .f32⟩
  | .hbm, ⟨57, _⟩ => ⟨S1x4224x1024, .f32⟩
  | .hbm, ⟨58, _⟩ => ⟨S1x4224x1024, .f32⟩
  | .hbm, ⟨59, _⟩ => ⟨S_, .f32⟩
  | .hbm, ⟨60, _⟩ => ⟨S1x1024, .f32⟩
  | .hbm, ⟨61, _⟩ => ⟨S1x1x1024, .f32⟩
  | .hbm, ⟨62, _⟩ => ⟨S1x4224x1024, .f32⟩
  | .hbm, ⟨63, _⟩ => ⟨S1x4224x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S1x4224x1024, .f32⟩
  | .hbm, ⟨68, _⟩ => ⟨S_, .f32⟩
  | .hbm, ⟨69, _⟩ => ⟨S1x4224, .f32⟩
  | .hbm, ⟨70, _⟩ => ⟨S1x4224x1, .f32⟩
  | .hbm, ⟨71, _⟩ => ⟨S1x4224x1024, .f32⟩
  | .hbm, ⟨72, _⟩ => ⟨S1x4224x1024, .f32⟩
  | .hbm, ⟨73, _⟩ => ⟨S1x4224x1, .f32⟩
  | .hbm, ⟨74, _⟩ => ⟨S_, .f32⟩
  | .hbm, ⟨75, _⟩ => ⟨S1x4224x1, .f32⟩
  | .hbm, ⟨76, _⟩ => ⟨S1x4224x1, .f32⟩
  | .hbm, ⟨77, _⟩ => ⟨S_, .f32⟩
  | .hbm, ⟨78, _⟩ => ⟨S4224, .f32⟩
  | .hbm, ⟨79, _⟩ => ⟨S1x4224, .f32⟩
  | .hbm, ⟨80, _⟩ => ⟨S1x4224x1024, .f32⟩
  | .hbm, ⟨81, _⟩ => ⟨S1x4224x1024, .f32⟩
  | .hbm, ⟨82, _⟩ => ⟨S1x4224x1024, .f32⟩
  | .hbm, ⟨83, _⟩ => ⟨S1x4224x1024, .f32⟩
  | .hbm, ⟨84, _⟩ => ⟨S1x4224x1024, .f32⟩
  | .hbm, ⟨85, _⟩ => ⟨S8x128, .f32⟩
  | .hbm, ⟨86, _⟩ => ⟨S4224x1024, .f32⟩
  | .hbm, ⟨87, _⟩ => ⟨S4224x1024, .f32⟩
  | .hbm, ⟨88, _⟩ => ⟨S4224x1024, .bf16⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_cst_8 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_11 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_15 : Ref sig .tc := ⟨.hbm, 74, rfl⟩
abbrev main_v53 : Ref sig .tc := ⟨.hbm, 75, rfl⟩
abbrev main_v54 : Ref sig .tc := ⟨.hbm, 76, rfl⟩
abbrev main_cst_16 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩

abbrev nD : Nat := 1
abbrev τ : Topo := Topo.v7x

variable {F : FTy → Type} [FloatOps F]
-- ==== OutNorm.lean ====
abbrev S4224x1024 : Shape := ⟨2, ![4224, 1024]⟩
abbrev S1024x1024 : Shape := ⟨2, ![1024, 1024]⟩
abbrev S1x1024 : Shape := ⟨2, ![1, 1024]⟩
abbrev S384x1024 : Shape := ⟨2, ![384, 1024]⟩
abbrev S384 : Shape := ⟨1, ![384]⟩
abbrev S384x1 : Shape := ⟨2, ![384, 1]⟩

abbrev nBuf : Space → Nat
  | .hbm => 6
  | .vmem => 10
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .hbm, ⟨3, _⟩ => ⟨S1x1024, .f32⟩
  | .hbm, ⟨4, _⟩ => ⟨S4224x1024, .f32⟩
  | .hbm, ⟨5, _⟩ => ⟨S4224x1024, .bf16⟩
  | .local _ .vmem, ⟨0, _⟩ => ⟨S384x1024, .bf16⟩
  | .local _ .vmem, ⟨1, _⟩ => ⟨S384x1024, .bf16⟩
  | .local _ .vmem, ⟨2, _⟩ => ⟨S1024x1024, .bf16⟩
  | .local _ .vmem, ⟨3, _⟩ => ⟨S384x1024, .f32⟩
  | .local _ .vmem, ⟨4, _⟩ => ⟨S384x1024, .f32⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .bf16⟩
  | .local _ .vmem, ⟨9, _⟩ => ⟨S384x1024, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutNormRefIdeal.lean ====
abbrev S4224x1024 : Shape := ⟨2, ![4224, 1024]⟩
abbrev S1024x1024 : Shape := ⟨2, ![1024, 1024]⟩
abbrev S1x1024 : Shape := ⟨2, ![1, 1024]⟩
abbrev S1x4224x1024 : Shape := ⟨3, ![1, 4224, 1024]⟩
abbrev S_ : Shape := ⟨0, ![]⟩
abbrev S1x4224 : Shape := ⟨2, ![1, 4224]⟩
abbrev S1x4224x1 : Shape := ⟨3, ![1, 4224, 1]⟩
abbrev S1x1x1024 : Shape := ⟨3, ![1, 1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .hbm, ⟨3, _⟩ => ⟨S1x1024, .f32⟩
  | .hbm, ⟨4, _⟩ => ⟨S1x4224x1024, .f32⟩
  | .hbm, ⟨5, _⟩ => ⟨S4224x1024, .f32⟩
  | .hbm, ⟨6, _⟩ => ⟨S1x4224x1024, .f32⟩
  | .hbm, ⟨7, _⟩ => ⟨S1024x1024, .f32⟩
  | .hbm, ⟨8, _⟩ => ⟨S1x4224x1024, .f32⟩
  | .hbm, ⟨9, _⟩ => ⟨S1x4224x1024, .f32⟩
  | .hbm, ⟨10, _⟩ => ⟨S4224x1024, .f32⟩
  | .hbm, ⟨11, _⟩ => ⟨S1x4224x1024, .f32⟩
  | .hbm, ⟨12, _⟩ => ⟨S_, .f32⟩
  | .hbm, ⟨13, _⟩ => ⟨S1x4224, .f32⟩
  | .hbm, ⟨14, _⟩ => ⟨S1x4224x1, .f32⟩
  | .hbm, ⟨15, _⟩ => ⟨S_, .f32⟩
  | .hbm, ⟨16, _⟩ => ⟨S1x4224x1, .f32⟩
  | .hbm, ⟨17, _⟩ => ⟨S1x4224x1, .f32⟩
  | .hbm, ⟨18, _⟩ => ⟨S_, .f32⟩
  | .hbm, ⟨19, _⟩ => ⟨S1x4224x1, .f32⟩
  | .hbm, ⟨20, _⟩ => ⟨S1x4224x1, .f32⟩
  | .hbm, ⟨21, _⟩ => ⟨S1x4224x1, .f32⟩
  | .hbm, ⟨22, _⟩ => ⟨S1x4224x1024, .f32⟩
  | .hbm, ⟨23, _⟩ => ⟨S1x4224x1024, .f32⟩
  | .hbm, ⟨24, _⟩ => ⟨S1x1x1024, .f32⟩
  | .hbm, ⟨25, _⟩ => ⟨S1x4224x1024, .f32⟩
  | .hbm, ⟨26, _⟩ => ⟨S1x4224x1024, .f32⟩
  | .hbm, ⟨27, _⟩ => ⟨S4224x1024, .f32⟩
  | .hbm, ⟨28, _⟩ => ⟨S4224x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== MmIn.lean ====
abbrev S4224x1024 : Shape := ⟨2, ![4224, 1024]⟩
abbrev S3200x1024 : Shape := ⟨2, ![3200, 1024]⟩
abbrev S4224x3200 : Shape := ⟨2, ![4224, 3200]⟩
abbrev S384x1024 : Shape := ⟨2, ![384, 1024]⟩
abbrev S384x3200 : Shape := ⟨2, ![384, 3200]⟩

abbrev nBuf : Space → Nat
  | .hbm => 3
  | .vmem => 5
  | .smem => 0
  | _ => 0

abbrev bufTy : (tb : Table) → Fin (tcTables nBuf tb) → BufTy
  | .hbm, ⟨0, _⟩ => ⟨S4224x1024, .bf16⟩
  | .hbm, ⟨1, _⟩ => ⟨S3200x1024, .bf16⟩
  | .hbm, ⟨2, _⟩ => ⟨S4224x3200, .f32⟩
  | .local _ .vmem, ⟨0, _⟩ => ⟨S384x1024, .bf16⟩
  | .local _ .vmem, ⟨1, _⟩ => ⟨S384x1024, .bf16⟩
  | .local _ .vmem, ⟨2, _⟩ => ⟨S3200x1024, .bf16⟩
  | .local _ .vmem, ⟨3, _⟩ => ⟨S384x3200, .f32⟩
  | .local _ .vmem, ⟨4, _⟩ => ⟨S384x3200, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S3200x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S384x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmInRefIdeal.lean ====
abbrev S4224x1024 : Shape := ⟨2, ![4224, 1024]⟩
abbrev S3200x1024 : Shape := ⟨2, ![3200, 1024]⟩
abbrev S1x4224x1024 : Shape := ⟨3, ![1, 4224, 1024]⟩
abbrev S1024x3200 : Shape := ⟨2, ![1024, 3200]⟩
abbrev S1x4224x3200 : Shape := ⟨3, ![1, 4224, 3200]⟩
abbrev S4224x3200 : Shape := ⟨2, ![4224, 3200]⟩

abbrev nBuf : Space → Nat
  | .hbm => 8
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S3200x1024, .bf16⟩
  | .hbm, ⟨2, _⟩ => ⟨S4224x1024, .f32⟩
  | .hbm, ⟨3, _⟩ => ⟨S1x4224x1024, .f32⟩
  | .hbm, ⟨4, _⟩ => ⟨S3200x1024, .f32⟩
  | .hbm, ⟨5, _⟩ => ⟨S1024x3200, .f32⟩
  | .hbm, ⟨6, _⟩ => ⟨S1x4224x3200, .f32⟩
  | .hbm, ⟨7, _⟩ => ⟨S4224x3200, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== UpConv.lean ====
abbrev S4224x1024 : Shape := ⟨2, ![4224, 1024]⟩
abbrev S2x2816x1024 : Shape := ⟨3, ![2, 2816, 1024]⟩
abbrev S3x2816 : Shape := ⟨2, ![3, 2816]⟩
abbrev S1x2816 : Shape := ⟨2, ![1, 2816]⟩
abbrev S_ : Shape := ⟨0, ![]⟩
abbrev S8x2816 : Shape := ⟨2, ![8, 2816]⟩
abbrev S2x4224x2816 : Shape := ⟨3, ![2, 4224, 2816]⟩
abbrev S4224x2816 : Shape := ⟨2, ![4224, 2816]⟩
abbrev S1x256x1024 : Shape := ⟨3, ![1, 256, 1024]⟩
abbrev S8x256 : Shape := ⟨2, ![8, 256]⟩
abbrev S1x256 : Shape := ⟨2, ![1, 256]⟩
abbrev S2x4224x256 : Shape := ⟨3, ![2, 4224, 256]⟩
abbrev S4224x256 : Shape := ⟨2, ![4224, 256]⟩
abbrev S384x1024 : Shape := ⟨2, ![384, 1024]⟩
abbrev S256x1024 : Shape := ⟨2, ![256, 1024]⟩
abbrev S384x256 : Shape := ⟨2, ![384, 256]⟩
abbrev S1x384x256 : Shape := ⟨3, ![1, 384, 256]⟩
abbrev S1x4224x256 : Shape := ⟨3, ![1, 4224, 256]⟩
abbrev S392x256 : Shape := ⟨2, ![392, 256]⟩
abbrev S392x1 : Shape := ⟨2, ![392, 1]⟩

abbrev nBuf : Space → Nat
  | .hbm => 9
  | .vmem => 13
  | .smem => 0
  | _ => 0

abbrev bufTy : (tb : Table) → Fin (tcTables nBuf tb) → BufTy
  | .hbm, ⟨0, _⟩ => ⟨S4224x1024, .bf16⟩
  | .hbm, ⟨1, _⟩ => ⟨S2x2816x1024, .bf16⟩
  | .hbm, ⟨2, _⟩ => ⟨S3x2816, .f32⟩
  | .hbm, ⟨3, _⟩ => ⟨S1x2816, .f32⟩
  | .hbm, ⟨4, _⟩ => ⟨S_, .i32⟩
  | .hbm, ⟨5, _⟩ => ⟨S_, .f32⟩
  | .hbm, ⟨6, _⟩ => ⟨S8x2816, .f32⟩
  | .hbm, ⟨7, _⟩ => ⟨S2x4224x2816, .f32⟩
  | .hbm, ⟨8, _⟩ => ⟨S4224x2816, .bf16⟩
  | .local _ .vmem, ⟨0, _⟩ => ⟨S4224x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S8x256, .f32⟩
  | .local _ .vmem, ⟨6, _⟩ => ⟨S8x256, .f32⟩
  | .local _ .vmem, ⟨7, _⟩ => ⟨S1x256, .f32⟩
  | .local _ .vmem, ⟨8, _⟩ => ⟨S1x256, .f32⟩
  | .local _ .vmem, ⟨9, _⟩ => ⟨S2x4224x256, .f32⟩
  | .local _ .vmem, ⟨10, _⟩ => ⟨S2x4224x256, .f32⟩
  | .local _ .vmem, ⟨11, _⟩ => ⟨S4224x256, .bf16⟩
  | .local _ .vmem, ⟨12, _⟩ => ⟨S4224x256, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4224x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x4224x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4224x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpConvRefIdeal.lean ====
abbrev S4224x1024 : Shape := ⟨2, ![4224, 1024]⟩
abbrev S2x2816x1024 : Shape := ⟨3, ![2, 2816, 1024]⟩
abbrev S3x2816 : Shape := ⟨2, ![3, 2816]⟩
abbrev S1x2816 : Shape := ⟨2, ![1, 2816]⟩
abbrev S1x2816x1024 : Shape := ⟨3, ![1, 2816, 1024]⟩
abbrev S2816x1024 : Shape := ⟨2, ![2816, 1024]⟩
abbrev S5632x1024 : Shape := ⟨2, ![5632, 1024]⟩
abbrev S1024x5632 : Shape := ⟨2, ![1024, 5632]⟩
abbrev S1x4224x1024 : Shape := ⟨3, ![1, 4224, 1024]⟩
abbrev S1x4224x5632 : Shape := ⟨3, ![1, 4224, 5632]⟩
abbrev S1x4224x2816 : Shape := ⟨3, ![1, 4224, 2816]⟩
abbrev S4224 : Shape := ⟨1, ![4224]⟩
abbrev S_ : Shape := ⟨0, ![]⟩
abbrev S1x2x2816 : Shape := ⟨3, ![1, 2, 2816]⟩
abbrev S1x4224x1 : Shape := ⟨3, ![1, 4224, 1]⟩
abbrev S1x4226x2816 : Shape := ⟨3, ![1, 4226, 2816]⟩
abbrev S2816 : Shape := ⟨1, ![2816]⟩
abbrev S1x1x2816 : Shape := ⟨3, ![1, 1, 2816]⟩
abbrev S2x4224x2816 : Shape := ⟨3, ![2, 4224, 2816]⟩
abbrev S4224x2816 : Shape := ⟨2, ![4224, 2816]⟩

abbrev nBuf : Space → Nat
  | .hbm => 63
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S2x2816x1024, .bf16⟩
  | .hbm, ⟨2, _⟩ => ⟨S3x2816, .f32⟩
  | .hbm, ⟨3, _⟩ => ⟨S1x2816, .f32⟩
  | .hbm, ⟨4, _⟩ => ⟨S1x2816x1024, .bf16⟩
  | .hbm, ⟨5, _⟩ => ⟨S2816x1024, .bf16⟩
  | .hbm, ⟨6, _⟩ => ⟨S1x2816x1024, .bf16⟩
  | .hbm, ⟨7, _⟩ => ⟨S2816x1024, .bf16⟩
  | .hbm, ⟨8, _⟩ => ⟨S5632x1024, .bf16⟩
  | .hbm, ⟨9, _⟩ => ⟨S5632x1024, .f32⟩
  | .hbm, ⟨10, _⟩ => ⟨S1024x5632, .f32⟩
  | .hbm, ⟨11, _⟩ => ⟨S4224x1024, .f32⟩
  | .hbm, ⟨12, _⟩ => ⟨S1x4224x1024, .f32⟩
  | .hbm, ⟨13, _⟩ => ⟨S1x4224x5632, .f32⟩
  | .hbm, ⟨14, _⟩ => ⟨S1x4224x2816, .f32⟩
  | .hbm, ⟨15, _⟩ => ⟨S1x4224x2816, .f32⟩
  | .hbm, ⟨16, _⟩ => ⟨S4224, .i32⟩
  | .hbm, ⟨17, _⟩ => ⟨S_, .i32⟩
  | .hbm, ⟨18, _⟩ => ⟨S4224, .i32⟩
  | .hbm, ⟨19, _⟩ => ⟨S4224, .i1⟩
  | .hbm, ⟨20, _⟩ => ⟨S_, .f32⟩
  | .hbm, ⟨21, _⟩ => ⟨S1x2x2816, .f32⟩
  | .hbm, ⟨22, _⟩ => ⟨S4224, .f32⟩
  | .hbm, ⟨23, _⟩ => ⟨S1x4224x1, .f32⟩
  | .hbm, ⟨24, _⟩ => ⟨S1x4224x2816, .f32⟩
  | .hbm, ⟨25, _⟩ => ⟨S1x4224x2816, .f32⟩
  | .hbm, ⟨26, _⟩ => ⟨S1x4226x2816, .f32⟩
  | .hbm, ⟨27, _⟩ => ⟨S1x4224x2816, .f32⟩
  | .hbm, ⟨28, _⟩ => ⟨S1x2816, .f32⟩
  | .hbm, ⟨29, _⟩ => ⟨S2816, .f32⟩
  | .hbm, ⟨30, _⟩ => ⟨S1x1x2816, .f32⟩
  | .hbm, ⟨31, _⟩ => ⟨S1x4224x2816, .f32⟩
  | .hbm, ⟨32, _⟩ => ⟨S1x4224x2816, .f32⟩
  | .hbm, ⟨33, _⟩ => ⟨S1x1x2816, .f32⟩
  | .hbm, ⟨34, _⟩ => ⟨S1x4224x2816, .f32⟩
  | .hbm, ⟨35, _⟩ => ⟨S1x4224x2816, .f32⟩
  | .hbm, ⟨36, _⟩ => ⟨S1x4224x2816, .f32⟩
  | .hbm, ⟨37, _⟩ => ⟨S1x2816, .f32⟩
  | .hbm, ⟨38, _⟩ => ⟨S2816, .f32⟩
  | .hbm, ⟨39, _⟩ => ⟨S1x1x2816, .f32⟩
  | .hbm, ⟨40, _⟩ => ⟨S1x4224x2816, .f32⟩
  | .hbm, ⟨41, _⟩ => ⟨S1x4224x2816, .f32⟩
  | .hbm, ⟨42, _⟩ => ⟨S1x4224x2816, .f32⟩
  | .hbm, ⟨43, _⟩ => ⟨S1x4224x2816, .f32⟩
  | .hbm, ⟨44, _⟩ => ⟨S1x2816, .f32⟩
  | .hbm, ⟨45, _⟩ => ⟨S2816, .f32⟩
  | .hbm, ⟨46, _⟩ => ⟨S1x1x2816, .f32⟩
  | .hbm, ⟨47, _⟩ => ⟨S1x4224x2816, .f32⟩
  | .hbm, ⟨48, _⟩ => ⟨S1x4224x2816, .f32⟩
  | .hbm, ⟨49, _⟩ => ⟨S1x4224x2816, .f32⟩
  | .hbm, ⟨50, _⟩ => ⟨S2x4224x2816, .f32⟩
  | .hbm, ⟨51, _⟩ => ⟨S1x4224x2816, .f32⟩
  | .hbm, ⟨52, _⟩ => ⟨S1x4224x2816, .f32⟩
  | .hbm, ⟨53, _⟩ => ⟨S_, .f32⟩
  | .hbm, ⟨54, _⟩ => ⟨S1x4224x2816, .f32⟩
  | .hbm, ⟨55, _⟩ => ⟨S1x4224x2816, .f32⟩
  | .hbm, ⟨56, _⟩ => ⟨S_, .f32⟩
  | .hbm, ⟨57, _⟩ => ⟨S1x4224x2816, .f32⟩
  | .hbm, ⟨58, _⟩ => ⟨S1x4224x2816, .f32⟩
  | .hbm, ⟨59, _⟩ => ⟨S1x4224x2816, .f32⟩
  | .hbm, ⟨60, _⟩ => ⟨S1x4224x2816, .f32⟩
  | .hbm, ⟨61, _⟩ => ⟨S4224x2816, .f32⟩
  | .hbm, ⟨62, _⟩ => ⟨S4224x2816, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== AdamOut.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutRefIdeal.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S704x1024 : Shape := ⟨2, ![704, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S352x1024 : Shape := ⟨2, ![352, 1024]⟩

abbrev nBuf : Space → Nat
  | .hbm => 7
  | .vmem => 7
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamDownRefIdeal.lean ====
abbrev S352x1024 : Shape := ⟨2, ![352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S_, .f32⟩
  | .hbm, ⟨5, _⟩ => ⟨S352x1024, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S352x1024, .f32⟩
  | .hbm, ⟨11, _⟩ => ⟨S_, .f32⟩
  | .hbm, ⟨12, _⟩ => ⟨S352x1024, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S385x1024 : Shape := ⟨2, ![385, 1024]⟩
abbrev S8x400x1024 : Shape := ⟨3, ![8, 400, 1024]⟩
abbrev S385x256 : Shape := ⟨2, ![385, 256]⟩
abbrev S8x400x256 : Shape := ⟨3, ![8, 400, 256]⟩
abbrev S1x385x256 : Shape := ⟨3, ![1, 385, 256]⟩

abbrev nBuf : Space → Nat
  | .hbm => 8
  | .vmem => 16
  | .smem => 0
  | _ => 0

abbrev bufTy : (tb : Table) → Fin (tcTables nBuf tb) → BufTy
  | .hbm, ⟨0, _⟩ => ⟨S385x1024, .f32⟩
  | .hbm, ⟨1, _⟩ => ⟨S8x400x1024, .bf16⟩
  | .hbm, ⟨2, _⟩ => ⟨S385x1024, .f32⟩
  | .hbm, ⟨3, _⟩ => ⟨S385x1024, .f32⟩
  | .hbm, ⟨4, _⟩ => ⟨S385x1024, .f32⟩
  | .hbm, ⟨5, _⟩ => ⟨S385x1024, .f32⟩
  | .hbm, ⟨6, _⟩ => ⟨S385x1024, .f32⟩
  | .hbm, ⟨7, _⟩ => ⟨S385x1024, .f32⟩
  | .local _ .vmem, ⟨0, _⟩ => ⟨S385x256, .f32⟩
  | .local _ .vmem, ⟨1, _⟩ => ⟨S385x256, .f32⟩
  | .local _ .vmem, ⟨2, _⟩ => ⟨S8x400x256, .bf16⟩
  | .local _ .vmem, ⟨3, _⟩ => ⟨S8x400x256, .bf16⟩
  | .local _ .vmem, ⟨4, _⟩ => ⟨S385x256, .f32⟩
  | .local _ .vmem, ⟨5, _⟩ => ⟨S385x256, .f32⟩
  | .local _ .vmem, ⟨6, _⟩ => ⟨S385x256, .f32⟩
  | .local _ .vmem, ⟨7, _⟩ => ⟨S385x256, .f32⟩
  | .local _ .vmem, ⟨8, _⟩ => ⟨S385x256, .f32⟩
  | .local _ .vmem, ⟨9, _⟩ => ⟨S385x256, .f32⟩
  | .local _ .vmem, ⟨10, _⟩ => ⟨S385x256, .f32⟩
  | .local _ .vmem, ⟨11, _⟩ => ⟨S385x256, .f32⟩
  | .local _ .vmem, ⟨12, _⟩ => ⟨S385x256, .f32⟩
  | .local _ .vmem, ⟨13, _⟩ => ⟨S385x256, .f32⟩
  | .local _ .vmem, ⟨14, _⟩ => ⟨S385x256, .f32⟩
  | .local _ .vmem, ⟨15, _⟩ => ⟨S385x256, .f32⟩
  | _, _ => ⟨S385x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S385x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x400x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S385x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S385x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S385x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S385x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S385x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S385x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S385x1024 : Shape := ⟨2, ![385, 1024]⟩
abbrev S8x400x1024 : Shape := ⟨3, ![8, 400, 1024]⟩
abbrev S8x385x1024 : Shape := ⟨3, ![8, 385, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S385x1024, .f32⟩
  | .hbm, ⟨1, _⟩ => ⟨S8x400x1024, .bf16⟩
  | .hbm, ⟨2, _⟩ => ⟨S385x1024, .f32⟩
  | .hbm, ⟨3, _⟩ => ⟨S385x1024, .f32⟩
  | .hbm, ⟨4, _⟩ => ⟨S8x385x1024, .bf16⟩
  | .hbm, ⟨5, _⟩ => ⟨S8x385x1024, .f32⟩
  | .hbm, ⟨6, _⟩ => ⟨S_, .f32⟩
  | .hbm, ⟨7, _⟩ => ⟨S385x1024, .f32⟩
  | .hbm, ⟨8, _⟩ => ⟨S_, .f32⟩
  | .hbm, ⟨9, _⟩ => ⟨S385x1024, .f32⟩
  | .hbm, ⟨10, _⟩ => ⟨S385x1024, .f32⟩
  | .hbm, ⟨11, _⟩ => ⟨S_, .f32⟩
  | .hbm, ⟨12, _⟩ => ⟨S385x1024, .f32⟩
  | .hbm, ⟨13, _⟩ => ⟨S385x1024, .f32⟩
  | .hbm, ⟨14, _⟩ => ⟨S385x1024, .f32⟩
  | .hbm, ⟨15, _⟩ => ⟨S_, .f32⟩
  | .hbm, ⟨16, _⟩ => ⟨S385x1024, .f32⟩
  | .hbm, ⟨17, _⟩ => ⟨S385x1024, .f32⟩
  | .hbm, ⟨18, _⟩ => ⟨S385x1024, .f32⟩
  | .hbm, ⟨19, _⟩ => ⟨S_, .f32⟩
  | .hbm, ⟨20, _⟩ => ⟨S385x1024, .f32⟩
  | .hbm, ⟨21, _⟩ => ⟨S385x1024, .f32⟩
  | .hbm, ⟨22, _⟩ => ⟨S385x1024, .f32⟩
  | .hbm, ⟨23, _⟩ => ⟨S_, .f32⟩
  | .hbm, ⟨24, _⟩ => ⟨S385x1024, .f32⟩
  | .hbm, ⟨25, _⟩ => ⟨S385x1024, .f32⟩
  | .hbm, ⟨26, _⟩ => ⟨S_, .f32⟩
  | .hbm, ⟨27, _⟩ => ⟨S385x1024, .f32⟩
  | .hbm, ⟨28, _⟩ => ⟨S385x1024, .f32⟩
  | .hbm, ⟨29, _⟩ => ⟨S385x1024, .f32⟩
  | .hbm, ⟨30, _⟩ => ⟨S_, .f32⟩
  | .hbm, ⟨31, _⟩ => ⟨S385x1024, .f32⟩
  | .hbm, ⟨32, _⟩ => ⟨S385x1024, .f32⟩
  | .hbm, ⟨33, _⟩ => ⟨S385x1024, .f32⟩
  | .hbm, ⟨34, _⟩ => ⟨S_, .f32⟩
  | .hbm, ⟨35, _⟩ => ⟨S385x1024, .f32⟩
  | .hbm, ⟨36, _⟩ => ⟨S385x1024, .f32⟩
  | .hbm, ⟨37, _⟩ => ⟨S385x1024, .f32⟩
  | .hbm, ⟨38, _⟩ => ⟨S_, .f32⟩
  | .hbm, ⟨39, _⟩ => ⟨S385x1024, .f32⟩
  | .hbm, ⟨40, _⟩ => ⟨S385x1024, .f32⟩
  | _, _ => ⟨S385x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Proof.Dg.Tile.lean ====
/- The arithmetic of one row tile of the kernel: its vectors, and each entry of them in terms of the entries of the three
   extended row windows (activation branch, other branch, incoming gradient) the tile reads. -/
module

public import proofs.«01_k».proof.Proof.Gen.DgConvIdeal.Skeleton
public import Idealize.ShloMosaic.PureOps.Ideal
public import Idealize.ShloMosaic.Lib.Pointwise

@[expose] public section

set_option maxRecDepth 16384

noncomputable section

namespace Cert.DgConvIdeal.Dg

open Idealize.ShloMosaic Gen

/-- The vectors of an extended window: 384 rows and a halo of 8 on both sides. -/
abbrev VW := FVec Ideal S400x256 .f32

/-- A row repeated. -/
abbrev bcV (w : Vec Ideal S1x256 .f32) : VW := broadcastTo S400x256 w broadcasts_S1x256_S400x256
/-- A row of the kernel's weights repeated. -/
abbrev rowV (w : Vec Ideal S1x256 .f32) : VW :=
  broadcastTo S400x256 (shapeCast S1x256 w shapeCasts_S1x256_S1x256) broadcasts_S1x256_S400x256
/-- The window turned by `n` rows. -/
abbrev rotV (n : BitVec 32) (a : VW) : VW := dynamicRotate 0 n none a rotates_S400x256_d0
/-- A constant window. -/
abbrev constV (b : BitVec 32) : VW := broadcast S400x256 (Scalar.ofBits (F := Ideal) .f32 b)
/-- The convolution's sum. -/
abbrev accV (a : VW) (w0 w1 w2 cb : Vec Ideal S1x256 .f32) : VW :=
  addf (addf (addf (bcV cb) (mulf (rotV 2#32 a) (rowV w0))) (mulf (rotV 1#32 a) (rowV w1))) (mulf a (rowV w2))
/-- The kernel's sigmoid. -/
abbrev sigV (acc : VW) : VW :=
  addf (mulf (constV 0x3F000000#32) (tanh (mulf (constV 0x3F000000#32) acc))) (constV 0x3F000000#32)
/-- The gradient at the convolution's sum. -/
abbrev dacV (d b acc : VW) : VW :=
  mulf (mulf d b) (mulf (sigV acc) (addf (constV 0x3F800000#32) (mulf acc (subf (constV 0x3F800000#32) (sigV acc)))))
/-- The 384 rows in the middle. -/
abbrev coreV (x : VW) : FVec Ideal S384x256 .f32 := extractStridedSlice S384x256 ![8, 0] x slices_S400x256_o8_0_S384x256
/-- The gradient of the activation branch. -/
abbrev daV (dac : VW) (w0 w1 w2 : Vec Ideal S1x256 .f32) : FVec Ideal S384x256 .f32 :=
  coreV (addf (addf (mulf dac (rowV w2)) (mulf (rotV 399#32 dac) (rowV w1))) (mulf (rotV 398#32 dac) (rowV w0)))
/-- The gradient of the other branch. -/
abbrev dbV (d acc : VW) : FVec Ideal S384x256 .f32 := coreV (mulf (mulf d acc) (sigV acc))
/-- A tile's 384 rows as stored. -/
abbrev outV (x : FVec Ideal S384x256 .f32) : FVec Ideal S1x384x256 .bf16 :=
  shapeCast S1x384x256 (truncf .bf16 x bitsLt_bf16_f32) shapeCasts_S384x256_S1x384x256
/-- The sum over the tile's rows. -/
abbrev sumV (x : FVec Ideal S384x256 .f32) : FVec Ideal S1x256 .f32 :=
  shapeCast S1x256 (multiReduction .add [0] S256 x 0x00000000#32 reduces_S384x256_S256 (.inl rfl) rfl) shapeCasts_S256_S1x256

/-! ## Entries -/

/-- The sigmoid as the kernel computes it, on one element. -/
def sg (x : EReal) : EReal :=
  Ideal.ofBits .f32 0x3F000000#32 * Ideal.tanh (Ideal.ofBits .f32 0x3F000000#32 * x) + Ideal.ofBits .f32 0x3F000000#32
/-- The derivative of `x * sg x`, as the kernel computes it. -/
def dsilu (x : EReal) : EReal := sg x * (1 + x * (1 - sg x))

section
variable {ι : Type} (A B D : ℕ → ι → EReal) (w0 w1 w2 cb : ι → EReal)

/-- The convolution's sum at padded row `s`. -/
def acc (s : ℕ) (q : ι) : EReal := cb q + A (s - 2) q * w0 q + A (s - 1) q * w1 q + A s q * w2 q
/-- The gradient at the convolution's sum. -/
def dac (s : ℕ) (q : ι) : EReal := D s q * B s q * dsilu (acc A w0 w1 w2 cb s q)
/-- The gradient of the activation branch (before the mask of the padding rows). -/
def da (s : ℕ) (q : ι) : EReal :=
  dac A B D w0 w1 w2 cb s q * w2 q + dac A B D w0 w1 w2 cb (s + 1) q * w1 q + dac A B D w0 w1 w2 cb (s + 2) q * w0 q
/-- The gradient of the other branch. -/
def db (s : ℕ) (q : ι) : EReal := D s q * acc A w0 w1 w2 cb s q * sg (acc A w0 w1 w2 cb s q)

end

variable {A B D : ℕ → Fin 256 → EReal} {w0 w1 w2 cb : Fin 256 → EReal} {o : ℕ} {a b d : VW} {r0 r1 r2 rb : Vec Ideal S1x256 .f32}

/-- The window `a` holds rows `o, o + 1, …` of `A`. -/
def Win (a : VW) (A : ℕ → Fin 256 → EReal) (o : ℕ) : Prop := ∀ (n : Fin 400) (q : Fin 256), a (ix2 n q) = A (o + n) q
/-- The row `r` holds `w`. -/
def Row (r : Vec Ideal S1x256 .f32) (w : Fin 256 → EReal) : Prop := ∀ q : Fin 256, r (ix2 (0 : Fin 1) q) = w q

theorem rowV_apply (h : Row r0 w0) (n : Fin 400) (q : Fin 256) : rowV r0 (ix2 n q) = w0 q := by
  rw [← h q]; pointwise
theorem bcV_apply (h : Row r0 w0) (n : Fin 400) (q : Fin 256) : bcV r0 (ix2 n q) = w0 q := by
  rw [← h q]; pointwise
theorem rot1_apply (n : Fin 400) (q : Fin 256) (hn : 2 ≤ n.val) :
    rotV 1#32 a (ix2 n q) = a (ix2 ⟨n.val - 1, by omega⟩ q) := by
  pointwise
  congr 2
  ext
  show (n.val + 400 - 1) % 400 = n.val - 1
  omega
theorem rot2_apply (n : Fin 400) (q : Fin 256) (hn : 2 ≤ n.val) :
    rotV 2#32 a (ix2 n q) = a (ix2 ⟨n.val - 2, by omega⟩ q) := by
  pointwise
  congr 2
  ext
  show (n.val + 400 - 2) % 400 = n.val - 2
  omega
theorem rot399_apply (n : Fin 400) (q : Fin 256) (hn : n.val < 398) :
    rotV 399#32 a (ix2 n q) = a (ix2 ⟨n.val + 1, by omega⟩ q) := by
  pointwise
  congr 2
  ext
  show (n.val + 400 - 399) % 400 = n.val + 1
  omega
theorem rot398_apply (n : Fin 400) (q : Fin 256) (hn : n.val < 398) :
    rotV 398#32 a (ix2 n q) = a (ix2 ⟨n.val + 2, by omega⟩ q) := by
  pointwise
  congr 2
  ext
  show (n.val + 400 - 398) % 400 = n.val + 2
  omega

theorem accV_apply (ha : Win a A o) (h0 : Row r0 w0) (h1 : Row r1 w1) (h2 : Row r2 w2) (hb : Row rb cb)
    (n : Fin 400) (q : Fin 256) (hn : 2 ≤ n.val) : accV a r0 r1 r2 rb (ix2 n q) = acc A w0 w1 w2 cb (o + n) q := by
  show bcV rb (ix2 n q) + rotV 2#32 a (ix2 n q) * rowV r0 (ix2 n q) + rotV 1#32 a (ix2 n q) * rowV r1 (ix2 n q)
    + a (ix2 n q) * rowV r2 (ix2 n q) = _
  rw [bcV_apply hb, rowV_apply h0, rowV_apply h1, rowV_apply h2, rot1_apply n q hn, rot2_apply n q hn, ha, ha, ha]
  unfold acc
  rw [show o + (n.val - 2) = o + n.val - 2 by omega, show o + (n.val - 1) = o + n.val - 1 by omega]

theorem one_bits : (Scalar.ofBits (F := Ideal) .f32 0x3F800000#32 : EReal) = 1 := by
  simp

theorem sigV_apply (x : VW) (i : S400x256.Idx) : sigV x i = sg (x i) := rfl

theorem dacV_apply (x : VW) (i : S400x256.Idx) : dacV d b x i = d i * b i * dsilu (x i) := by
  show d i * b i * (sg (x i) * (Scalar.ofBits (F := Ideal) .f32 0x3F800000#32 + x i * (Scalar.ofBits (F := Ideal) .f32 0x3F800000#32 - sg (x i)))) = _
  rw [one_bits]; rfl

theorem core_apply (x : VW) (n : Fin 384) (q : Fin 256) : coreV x (ix2 n q) = x (ix2 ⟨8 + n.val, by omega⟩ q) := by
  pointwise

theorem sumV_apply (x : FVec Ideal S384x256 .f32) (q : Fin 256) :
    sumV x (ix2 (0 : Fin 1) q) = ∑ n : Fin 384, x (ix2 n q) := by
  pointwise

section
variable (ha : Win a A o) (hb : Win b B o) (hd : Win d D o)
  (h0 : Row r0 w0) (h1 : Row r1 w1) (h2 : Row r2 w2) (hcb : Row rb cb)
include ha hb hd h0 h1 h2 hcb

theorem dac_apply (n : Fin 400) (q : Fin 256) (hn : 2 ≤ n.val) :
    dacV d b (accV a r0 r1 r2 rb) (ix2 n q) = dac A B D w0 w1 w2 cb (o + n) q := by
  rw [dacV_apply, accV_apply ha h0 h1 h2 hcb n q hn, hb, hd]; rfl

theorem da_apply (n : Fin 384) (q : Fin 256) :
    daV (dacV d b (accV a r0 r1 r2 rb)) r0 r1 r2 (ix2 n q) = da A B D w0 w1 w2 cb (o + 8 + n) q := by
  refine (core_apply _ n q).trans ?_
  generalize hx : dacV d b (accV a r0 r1 r2 rb) = x
  show x _ * rowV r2 _ + rotV 399#32 x _ * rowV r1 _ + rotV 398#32 x _ * rowV r0 _ = _
  rw [rowV_apply h0, rowV_apply h1, rowV_apply h2, rot399_apply _ q (by show 8 + n.val < 398; omega),
    rot398_apply _ q (by show 8 + n.val < 398; omega), ← hx,
    dac_apply ha hb hd h0 h1 h2 hcb _ q (by show 2 ≤ 8 + n.val; omega),
    dac_apply ha hb hd h0 h1 h2 hcb _ q (by show 2 ≤ 8 + n.val + 1; omega),
    dac_apply ha hb hd h0 h1 h2 hcb _ q (by show 2 ≤ 8 + n.val + 2; omega)]
  show _ * _ + dac _ _ _ _ _ _ _ (o + (8 + n.val + 1)) q * _ + dac _ _ _ _ _ _ _ (o + (8 + n.val + 2)) q * _ = _
  simp only [← Nat.add_assoc]
  rfl

theorem db_apply (n : Fin 384) (q : Fin 256) :
    dbV d (accV a r0 r1 r2 rb) (ix2 n q) = db A D w0 w1 w2 cb (o + 8 + n) q := by
  refine (core_apply _ n q).trans ?_
  show d _ * accV a r0 r1 r2 rb _ * sg (accV a r0 r1 r2 rb _) = _
  rw [accV_apply ha h0 h1 h2 hcb _ q (by show 2 ≤ 8 + n.val; omega), hd]
  show D (o + (8 + n.val)) q * acc _ _ _ _ _ (o + (8 + n.val)) q * sg (acc _ _ _ _ _ (o + (8 + n.val)) q) = _
  rw [← Nat.add_assoc]
  rfl

theorem sum0_apply (q : Fin 256) :
    sumV (mulf (coreV (dacV d b (accV a r0 r1 r2 rb))) (coreV (rotV 2#32 a))) (ix2 (0 : Fin 1) q)
      = ∑ n : Fin 384, dac A B D w0 w1 w2 cb (o + 8 + n) q * A (o + 8 + n - 2) q := by
  refine (sumV_apply _ q).trans (Finset.sum_congr rfl fun n _ => ?_)
  refine congrArg₂ (· * ·) ((core_apply _ n q).trans ?_) ((core_apply _ n q).trans ?_)
  · rw [dac_apply ha hb hd h0 h1 h2 hcb _ q (by show 2 ≤ 8 + n.val; omega)]
    show dac _ _ _ _ _ _ _ (o + (8 + n.val)) q = _
    rw [← Nat.add_assoc]
  · rw [rot2_apply _ q (by show 2 ≤ 8 + n.val; omega), ha]
    show A (o + (8 + n.val - 2)) q = _
    congr 1; omega

theorem sum1_apply (q : Fin 256) :
    sumV (mulf (coreV (dacV d b (accV a r0 r1 r2 rb))) (coreV (rotV 1#32 a))) (ix2 (0 : Fin 1) q)
      = ∑ n : Fin 384, dac A B D w0 w1 w2 cb (o + 8 + n) q * A (o + 8 + n - 1) q := by
  refine (sumV_apply _ q).trans (Finset.sum_congr rfl fun n _ => ?_)
  refine congrArg₂ (· * ·) ((core_apply _ n q).trans ?_) ((core_apply _ n q).trans ?_)
  · rw [dac_apply ha hb hd h0 h1 h2 hcb _ q (by show 2 ≤ 8 + n.val; omega)]
    show dac _ _ _ _ _ _ _ (o + (8 + n.val)) q = _
    rw [← Nat.add_assoc]
  · rw [rot1_apply _ q (by show 2 ≤ 8 + n.val; omega), ha]
    show A (o + (8 + n.val - 1)) q = _
    congr 1; omega

theorem sum2_apply (q : Fin 256) :
    sumV (mulf (coreV (dacV d b (accV a r0 r1 r2 rb))) (coreV a)) (ix2 (0 : Fin 1) q)
      = ∑ n : Fin 384, dac A B D w0 w1 w2 cb (o + 8 + n) q * A (o + 8 + n) q := by
  refine (sumV_apply _ q).trans (Finset.sum_congr rfl fun n _ => ?_)
  refine congrArg₂ (· * ·) ((core_apply _ n q).trans ?_) ((core_apply _ n q).trans ?_)
  · rw [dac_apply ha hb hd h0 h1 h2 hcb _ q (by show 2 ≤ 8 + n.val; omega)]
    show dac _ _ _ _ _ _ _ (o + (8 + n.val)) q = _
    rw [← Nat.add_assoc]
  · rw [ha]
    show A (o + (8 + n.val)) q = _
    rw [← Nat.add_assoc]

theorem sumb_apply (q : Fin 256) :
    sumV (coreV (dacV d b (accV a r0 r1 r2 rb))) (ix2 (0 : Fin 1) q) = ∑ n : Fin 384, dac A B D w0 w1 w2 cb (o + 8 + n) q := by
  refine (sumV_apply _ q).trans (Finset.sum_congr rfl fun n _ => (core_apply _ n q).trans ?_)
  rw [dac_apply ha hb hd h0 h1 h2 hcb _ q (by show 2 ≤ 8 + n.val; omega)]
  show dac _ _ _ _ _ _ _ (o + (8 + n.val)) q = _
  rw [← Nat.add_assoc]
end

theorem outV_apply (x : FVec Ideal S384x256 .f32) (u : Fin 1) (n : Fin 384) (q : Fin 256) : outV x (ix3 u n q) = x (ix2 n q) := by
  pointwise

end Cert.DgConvIdeal.Dg
-- ==== Proof.Dg.Win.lean ====
/- What the tiles read: the extended row windows of the two branches (zero outside the array; the activation branch zero at the
   padding rows too), and of the incoming gradient `dh2 · w_downᵀ`, which the kernel leaves in its scratch tile by tile. -/
module

public import proofs.«01_k».proof.Proof.Dg.Tile
public import Idealize.ShloMosaic.Lib.Pipeline.Value
public import Idealize.ShloMosaic.Lib.Pipeline.ValueKit.Tiles

@[expose] public section

set_option maxRecDepth 16384

noncomputable section

namespace Cert.DgConvIdeal.Dg

open Idealize.ShloMosaic Gen

variable (x0 x1 : Vec Ideal S1x4224x256 .f32) (x2 : Vec Ideal S8x256 .f32) (x4 : Vec Ideal S4224x1024 .bf16)
  (x5 : Vec Ideal S256x1024 .bf16)

/-- The activation branch, with 8 rows of zeros around it, and zero at the padding rows. -/
def pA (s : ℕ) (q : Fin 256) : EReal := if h : 120 ≤ s ∧ s < 4232 then x0 (ix3 (0 : Fin 1) (⟨s - 8, by omega⟩ : Fin 4224) q) else 0
/-- The other branch, with 8 rows of zeros around it. -/
def pB (s : ℕ) (q : Fin 256) : EReal := if h : 8 ≤ s ∧ s < 4232 then x1 (ix3 (0 : Fin 1) (⟨s - 8, by omega⟩ : Fin 4224) q) else 0
/-- The incoming gradient of one element of the gated rows. -/
def dg (n : Fin 4224) (q : Fin 256) : EReal := ∑ k : Fin 1024, x4 (ix2 n k) * x5 (ix2 q k)
/-- The incoming gradient, with 8 rows of zeros around it. -/
def pD (s : ℕ) (q : Fin 256) : EReal := if h : 8 ≤ s ∧ s < 4232 then dg x4 x5 (⟨s - 8, by omega⟩ : Fin 4224) q else 0

/-- A window inside the array. -/
abbrev midV (v : Vec Ideal S1x400x256 .f32) : VW := shapeCast S400x256 v shapeCasts_S1x400x256_S400x256
/-- The first window: zeros before. -/
abbrev firstV (v : FVec Ideal S392x256 .f32) : VW :=
  concatenate S400x256 0 [⟨S8x256, broadcast S8x256 (Scalar.ofBits (F := Ideal) .f32 0x00000000#32)⟩, ⟨S392x256, v⟩]
    concatenates_S8x256_S392x256_S400x256_d0
/-- The last window: zeros behind. -/
abbrev lastV (v : FVec Ideal S392x256 .f32) : VW :=
  concatenate S400x256 0 [⟨S392x256, v⟩, ⟨S8x256, broadcast S8x256 (Scalar.ofBits (F := Ideal) .f32 0x00000000#32)⟩]
    concatenates_S392x256_S8x256_S400x256_d0
abbrev castV (v : Vec Ideal S1x392x256 .f32) : FVec Ideal S392x256 .f32 := shapeCast S392x256 v shapeCasts_S1x392x256_S392x256

theorem midV_apply (v : Vec Ideal S1x400x256 .f32) (n : Fin 400) (q : Fin 256) : midV v (ix2 n q) = v (ix3 (0 : Fin 1) n q) := by
  pointwise
theorem castV_apply (v : Vec Ideal S1x392x256 .f32) (n : Fin 392) (q : Fin 256) : castV v (ix2 n q) = v (ix3 (0 : Fin 1) n q) := by
  pointwise
theorem firstV_apply (v : FVec Ideal S392x256 .f32) (n : Fin 400) (q : Fin 256) :
    firstV v (ix2 n q) = if h : 8 ≤ n.val then v (ix2 (⟨n.val - 8, by omega⟩ : Fin 392) q) else 0 := by
  pointwise
  by_cases h : n.val < 8
  · rw [dif_pos h, dif_neg (by omega)]
  · rw [dif_neg h, dif_pos (by omega)]
theorem lastV_apply (v : FVec Ideal S392x256 .f32) (n : Fin 400) (q : Fin 256) :
    lastV v (ix2 n q) = if h : n.val < 392 then v (ix2 (⟨n.val, h⟩ : Fin 392) q) else 0 := by
  pointwise

theorem idx3 (N p : ℕ) (h) (n : Fin N) (q : Fin 256) (hp : p + N ≤ 4224) :
    (Rect.unit (s := S1x4224x256) ![0, p, 0] ![1, N, 256] h).idx (ix3 (0 : Fin 1) n q)
      = ix3 (0 : Fin 1) (⟨p + n.val, by omega⟩ : Fin 4224) q := by
  funext a
  apply Fin.ext
  fin_cases a <;> simp [Rect.idx_unit_val]

theorem idx2 (M W N p : ℕ) (h) (n : Fin N) (q : Fin W) (hp : p + N ≤ M) :
    (Rect.unit (s := ⟨2, ![M, W]⟩) ![p, 0] ![N, W] h).idx (ix2 n q) = ix2 (⟨p + n.val, by omega⟩ : Fin M) q := by
  funext a
  apply Fin.ext
  fin_cases a <;> simp [Rect.idx_unit_val]

theorem ld3 (N p : ℕ) (h) (n : Fin N) (q : Fin 256) (hp : p + N ≤ 4224) :
    View.ld x0 (Rect.unit (s := S1x4224x256) ![0, p, 0] ![1, N, 256] h) (ix3 (0 : Fin 1) n q)
      = x0 (ix3 (0 : Fin 1) (⟨p + n.val, by omega⟩ : Fin 4224) q) := congrArg x0 (idx3 N p h n q hp)

theorem win_midA (p : ℕ) (h) (h1 : 112 ≤ p) (h2 : p + 400 ≤ 4224) :
    Win (midV (View.ld x0 (Rect.unit (s := S1x4224x256) ![0, p, 0] ![1, 400, 256] h))) (pA x0) (p + 8) := fun n q => by
  rw [midV_apply]
  refine (ld3 x0 400 p h n q h2).trans ?_
  unfold pA
  rw [dif_pos ⟨by omega, by omega⟩]
  congr 2; ext; show p + n.val = p + 8 + n.val - 8; omega

theorem win_midB (p : ℕ) (h) (h2 : p + 400 ≤ 4224) :
    Win (midV (View.ld x1 (Rect.unit (s := S1x4224x256) ![0, p, 0] ![1, 400, 256] h))) (pB x1) (p + 8) := fun n q => by
  rw [midV_apply]
  refine (ld3 x1 400 p h n q h2).trans ?_
  unfold pB
  rw [dif_pos ⟨by omega, by omega⟩]
  congr 2; ext; show p + n.val = p + 8 + n.val - 8; omega

theorem win_firstB (h) :
    Win (firstV (castV (View.ld x1 (Rect.unit (s := S1x4224x256) ![0, 0, 0] ![1, 392, 256] h)))) (pB x1) 0 := fun n q => by
  rw [firstV_apply]
  unfold pB
  by_cases hn : 8 ≤ n.val
  · rw [dif_pos hn, dif_pos ⟨by omega, by omega⟩, castV_apply]
    refine (ld3 x1 392 0 h _ q (by omega)).trans ?_
    congr 2; ext; show 0 + (n.val - 8) = 0 + n.val - 8; omega
  · rw [dif_neg hn, dif_neg (by omega)]

theorem win_lastA (h) :
    Win (lastV (castV (View.ld x0 (Rect.unit (s := S1x4224x256) ![0, 3832, 0] ![1, 392, 256] h)))) (pA x0) 3840 := fun n q => by
  rw [lastV_apply]
  unfold pA
  by_cases hn : n.val < 392
  · rw [dif_pos hn, dif_pos ⟨by omega, by omega⟩, castV_apply]
    refine (ld3 x0 392 3832 h _ q (by omega)).trans ?_
    congr 2; ext; show 3832 + n.val = 3840 + n.val - 8; omega
  · rw [dif_neg hn, dif_neg (by omega)]

theorem win_lastB (h) :
    Win (lastV (castV (View.ld x1 (Rect.unit (s := S1x4224x256) ![0, 3832, 0] ![1, 392, 256] h)))) (pB x1) 3840 := fun n q => by
  rw [lastV_apply]
  unfold pB
  by_cases hn : n.val < 392
  · rw [dif_pos hn, dif_pos ⟨by omega, by omega⟩, castV_apply]
    refine (ld3 x1 392 3832 h _ q (by omega)).trans ?_
    congr 2; ext; show 3832 + n.val = 3840 + n.val - 8; omega
  · rw [dif_neg hn, dif_neg (by omega)]

/-- The first window of the activation branch: the padding rows masked. -/
abbrev maskV (v : VW) : VW :=
  select (broadcastTo S400x256 (shapeCast S400x1 (cmpi .sge (addi (broadcast S400x1 4294967288#32)
      (iota .tc S400x1 32 [0] iota_S400x1_d0_w32)) (broadcast S400x1 112#32)) shapeCasts_S400x1_S400x1)
    broadcasts_S400x1_S400x256) v (constV 0x00000000#32)

/-- The same mask of the first tile's rows. -/
abbrev maskOutV (v : FVec Ideal S384x256 .f32) : FVec Ideal S384x256 .f32 :=
  select (broadcastTo S384x256 (shapeCast S384x1 (cmpi .sge (addi (broadcast S384x1 0#32)
      (iota .tc S384x1 32 [0] iota_S384x1_d0_w32)) (broadcast S384x1 112#32)) shapeCasts_S384x1_S384x1)
    broadcasts_S384x1_S384x256) v (broadcast S384x256 (Scalar.ofBits (F := Ideal) .f32 0x00000000#32))

theorem maskV_apply (v : VW) (n : Fin 400) (q : Fin 256) : maskV v (ix2 n q) = if 120 ≤ n.val then v (ix2 n q) else 0 := by
  have key : ∀ n : Fin 400, IntOp.cmpi CmpIPredicate.sge (IntOp.addi (4294967288#32) (BitVec.ofNat 32 n.val)) 112#32
      = if 120 ≤ n.val then 1#1 else 0#1 := by decide +kernel
  pointwise
  rw [key n]
  split <;> rfl
theorem maskOutV_apply (v : FVec Ideal S384x256 .f32) (n : Fin 384) (q : Fin 256) :
    maskOutV v (ix2 n q) = if 112 ≤ n.val then v (ix2 n q) else 0 := by
  have key : ∀ n : Fin 384, IntOp.cmpi CmpIPredicate.sge (IntOp.addi (0#32) (BitVec.ofNat 32 n.val)) 112#32
      = if 112 ≤ n.val then 1#1 else 0#1 := by decide +kernel
  pointwise
  rw [key n]
  split <;> rfl

theorem win_firstA (h) :
    Win (maskV (firstV (castV (View.ld x0 (Rect.unit (s := S1x4224x256) ![0, 0, 0] ![1, 392, 256] h))))) (pA x0) 0 := fun n q => by
  rw [maskV_apply, firstV_apply]
  unfold pA
  by_cases hn : 120 ≤ n.val
  · rw [if_pos hn, dif_pos (by omega), dif_pos ⟨by omega, by omega⟩, castV_apply]
    refine (ld3 x0 392 0 h _ q (by omega)).trans ?_
    congr 2; ext; show 0 + (n.val - 8) = 0 + n.val - 8; omega
  · rw [if_neg hn, dif_neg (by omega)]

theorem row_ld (p : ℕ) (h) (hp : p < 8) :
    Row (View.ld x2 (Rect.unit (s := S8x256) ![p, 0] ![1, 256] h)) fun q => x2 (ix2 (⟨p, hp⟩ : Fin 8) q) := fun q =>
  congrArg x2 ((idx2 8 256 1 p h 0 q (by omega)).trans (by simp))

/-! ## The scratch -/

/-- One tile of the incoming gradient. -/
abbrev projV (v : Vec Ideal S384x1024 .bf16) : FVec Ideal S384x256 .f32 :=
  shapeCast S384x256 (matmul (φ₁ := .bf16) (φ₂ := .bf16) dot_S384x1024_S256x1024_S384x256_1_1_0_0_n_n none v x5 (constant S384x256 .f32 0x00000000#32))
    shapeCasts_S384x256_S384x256

theorem projV_apply (v : Vec Ideal S384x1024 .bf16) (n : Fin 384) (q : Fin 256) :
    projV x5 v (ix2 n q) = ∑ k : Fin 1024, v (ix2 n k) * x5 (ix2 q k) := by
  pointwise

theorem proj_inb (W k : ℕ) (hk : k < 11) (a : Fin 2) :
    (![384 * k, 0] : Fin 2 → ℕ) a + (![384, W] : Fin 2 → ℕ) a ≤ (![4224, W] : Fin 2 → ℕ) a := by
  fin_cases a <;> simp <;> omega

/-- The store of tile `k` of the incoming gradient. -/
def proj (k : ℕ) (hk : k < 11) : View.Piece (Elt Ideal) S4224x256 .f32 :=
  ⟨Rect.unit ![384 * k, 0] ![384, 256] (proj_inb 256 k hk),
    projV x5 (View.ld x4 (Rect.unit (s := S4224x1024) ![384 * k, 0] ![384, 1024] (proj_inb 1024 k hk)))⟩

/-- The stores of the tiles up to `k`, last first. -/
def projs : (k : ℕ) → k < 11 → List (View.Piece (Elt Ideal) S4224x256 .f32)
  | 0, h => [proj x4 x5 0 h]
  | k + 1, h => proj x4 x5 (k + 1) h :: projs k (Nat.lt_of_succ_lt h)

/-- What the stores agree on. -/
def dgOf (y : S4224x256.Idx) : EReal := dg x4 x5 (y 0) (y 1)

theorem proj_eq (k : ℕ) (hk : k < 11) : ∀ x : (proj x4 x5 k hk).1.shape.Idx, (proj x4 x5 k hk).2 x = dgOf x4 x5 ((proj x4 x5 k hk).1.emb x) := by
  intro (x : S384x256.Idx)
  have hx : x = ix2 (x 0) (x 1) := by funext a; fin_cases a <;> rfl
  rw [hx]
  obtain ⟨n, hn⟩ : ∃ n : Fin 384, n = x 0 := ⟨_, rfl⟩
  obtain ⟨q, hq⟩ : ∃ q : Fin 256, q = x 1 := ⟨_, rfl⟩
  rw [← hn, ← hq]
  refine (projV_apply x5 _ n q).trans ?_
  show _ = dgOf x4 x5 ((Rect.unit (s := S4224x256) ![384 * k, 0] ![384, 256] (proj_inb 256 k hk)).idx (ix2 n q))
  rw [idx2 4224 256 384 (384 * k) _ n q (by omega)]
  show (_ : EReal) = ∑ j : Fin 1024, x4 (ix2 (⟨384 * k + n.val, by omega⟩ : Fin 4224) j) * x5 (ix2 q j)
  refine Finset.sum_congr rfl fun (j : Fin 1024) _ => congrArg (fun z : EReal => z * x5 (ix2 q j)) ?_
  exact congrArg x4 (idx2 4224 1024 384 (384 * k) _ n j (by omega))

theorem proj_mem (k : ℕ) (hk : k < 11) (y : S4224x256.Idx) (h1 : 384 * k ≤ (y 0).val) (h2 : (y 0).val < 384 * k + 384) :
    y ∈ (proj x4 x5 k hk).1.set := by
  refine (Rect.mem_set_unit (s := S4224x256) (off := ![384 * k, 0]) (size := ![384, 256]) (inb := proj_inb 256 k hk)).mpr fun a => ?_
  have hy := (y 1).isLt
  fin_cases a
  · exact ⟨h1, h2⟩
  · exact ⟨Nat.zero_le _, by simpa using hy⟩

theorem projs_eq : ∀ (k : ℕ) (hk : k < 11), ∀ p ∈ projs x4 x5 k hk, ∀ x : p.1.shape.Idx, p.2 x = dgOf x4 x5 (p.1.emb x)
  | 0, h, p, hp => by
    obtain rfl : p = proj x4 x5 0 h := by simpa [projs] using hp
    exact proj_eq x4 x5 0 h
  | k + 1, h, p, hp => by
    rcases List.mem_cons.mp hp with rfl | hp
    · exact proj_eq x4 x5 (k + 1) h
    · exact projs_eq k _ p hp

theorem projs_cover : ∀ (k : ℕ) (hk : k < 11) (y : S4224x256.Idx), (y 0).val < 384 * (k + 1) → ∃ p ∈ projs x4 x5 k hk, y ∈ p.1.set
  | 0, h, y, hy => ⟨proj x4 x5 0 h, by simp [projs], proj_mem x4 x5 0 h y (by omega) (by omega)⟩
  | k + 1, h, y, hy => by
    by_cases hk : (y 0).val < 384 * (k + 1)
    · obtain ⟨p, hp, hy⟩ := projs_cover k (Nat.lt_of_succ_lt h) y hk
      exact ⟨p, List.mem_cons_of_mem _ hp, hy⟩
    · exact ⟨proj x4 x5 (k + 1) h, List.mem_cons_self, proj_mem x4 x5 (k + 1) h y (by omega) (by omega)⟩

theorem readCov_dg {sp : Space} {v : View sig .tc sp S4224x256 .f32} (k : ℕ) (hk : k < 11)
    (L : List (View.Piece (Elt Ideal) S4224x256 .f32)) (hL : L = projs x4 x5 k hk)
    (N p : ℕ) (h) (hp : p + N ≤ 384 * (k + 1)) (n : Fin N) (q : Fin 256) :
    v.readCov L (Rect.unit (s := S4224x256) ![p, 0] ![N, 256] h).toLoadRect (ix2 n q) = dg x4 x5 (⟨p + n.val, by omega⟩ : Fin 4224) q := by
  subst hL
  rw [View.readCov_eq_canon']
  have hi : (Rect.unit (s := S4224x256) ![p, 0] ![N, 256] h).toLoadRect.idx (ix2 n q) = ix2 (⟨p + n.val, by omega⟩ : Fin 4224) q :=
    idx2 4224 256 N p h n q (by omega)
  refine (congrArg (View.canon (projs x4 x5 k hk)) hi).trans ?_
  exact View.canon_apply_of_pieces (dgOf x4 x5) _ (projs_eq x4 x5 k hk) _ (projs_cover x4 x5 k hk (ix2 (⟨p + n.val, by omega⟩ : Fin 4224) q) (by show p + n.val < _; omega))

section
variable {sp : Space} {v : View sig .tc sp S4224x256 .f32} {L : List (View.Piece (Elt Ideal) S4224x256 .f32)}

theorem win_midD (k : ℕ) (hk : k < 11) (hL : L = projs x4 x5 k hk) (p : ℕ) (h) (h2 : p + 400 ≤ 384 * (k + 1)) :
    Win (v.readCov L (Rect.unit (s := S4224x256) ![p, 0] ![400, 256] h).toLoadRect) (pD x4 x5) (p + 8) := fun n q => by
  refine (readCov_dg x4 x5 k hk L hL 400 p h h2 n q).trans ?_
  unfold pD
  rw [dif_pos ⟨by omega, by omega⟩]
  congr 1; ext; show p + n.val = p + 8 + n.val - 8; omega

theorem win_firstD (k : ℕ) (hk : k < 11) (hL : L = projs x4 x5 k hk) (h) (h2 : 392 ≤ 384 * (k + 1)) :
    Win (firstV (v.readCov L (Rect.unit (s := S4224x256) ![0, 0] ![392, 256] h).toLoadRect)) (pD x4 x5) 0 := fun n q => by
  rw [firstV_apply]
  unfold pD
  by_cases hn : 8 ≤ n.val
  · rw [dif_pos hn, dif_pos ⟨by omega, by omega⟩]
    refine (readCov_dg x4 x5 k hk L hL 392 0 h (by omega) _ q).trans ?_
    congr 1; ext; show 0 + (n.val - 8) = 0 + n.val - 8; omega
  · rw [dif_neg hn, dif_neg (by omega)]

theorem win_lastD (hL : L = projs x4 x5 10 (by omega)) (h) :
    Win (lastV (v.readCov L (Rect.unit (s := S4224x256) ![3832, 0] ![392, 256] h).toLoadRect)) (pD x4 x5) 3840 := fun n q => by
  rw [lastV_apply]
  unfold pD
  by_cases hn : n.val < 392
  · rw [dif_pos hn, dif_pos ⟨by omega, by omega⟩]
    refine (readCov_dg x4 x5 10 _ L hL 392 3832 h (by omega) _ q).trans ?_
    congr 1; ext; show 3832 + n.val = 3840 + n.val - 8; omega
  · rw [dif_neg hn, dif_neg (by omega)]
end

end Cert.DgConvIdeal.Dg
-- ==== Proof.Dg.Out.lean ====
/- What one grid point leaves in its three output blocks, element by element. -/
module

public import proofs.«01_k».proof.Proof.Gen.DgConvIdeal.Value
public import proofs.«01_k».proof.Proof.Dg.Win
public meta import Idealize.ShloMosaic.Lib.Pipeline.ValueKit.Acc
public import Idealize.ShloMosaic.Lib.Pipeline.ValueKit.Acc

@[expose] public section

set_option maxRecDepth 16384

noncomputable section

namespace Cert.DgConvIdeal.Dg

open Idealize.ShloMosaic Gen

section
variable (x0 x1 : Vec Ideal S1x4224x256 .f32) (x2 : Vec Ideal S8x256 .f32) (x3 : Vec Ideal S1x256 .f32) (x4 : Vec Ideal S4224x1024 .bf16)
  (x5 : Vec Ideal S256x1024 .bf16)

/-- Row `p` of the block of weights. -/
def wt (p : Fin 8) (q : Fin 256) : EReal := x2 (ix2 p q)
/-- The block's bias. -/
def bi (q : Fin 256) : EReal := x3 (ix2 (0 : Fin 1) q)
/-- The gradient at the convolution's sum, on the block's arguments. -/
def bdac : ℕ → Fin 256 → EReal := dac (pA x0) (pB x1) (pD x4 x5) (wt x2 0) (wt x2 1) (wt x2 2) (bi x3)
/-- The gradients of the two branches, on the block's arguments. -/
def bda (n : ℕ) (q : Fin 256) : EReal :=
  if 112 ≤ n then da (pA x0) (pB x1) (pD x4 x5) (wt x2 0) (wt x2 1) (wt x2 2) (bi x3) (n + 8) q else 0
def bdb (n : ℕ) (q : Fin 256) : EReal := db (pA x0) (pD x4 x5) (wt x2 0) (wt x2 1) (wt x2 2) (bi x3) (n + 8) q
/-- The block of gradients of the two branches. -/
def bdup (y : S2x4224x256.Idx) : EReal :=
  if (y 0).val = 0 then bda x0 x1 x2 x3 x4 x5 (y 1).val (y 2) else bdb x0 x2 x3 x4 x5 (y 1).val (y 2)

/-- The scratch's stores up to tile 1, last first. -/
abbrev scrL1 : List (View.Piece (Elt Ideal) S4224x256 .f32) :=
  [⟨Rect.unit ![384, 0] ![384, 256] inb_S4224x256_S384x256_384_0, k0_pay8 (View.ld x4 (Rect.unit ![384, 0] ![384, 1024] inb_S4224x1024_S384x1024_384_0)) x5⟩,
   ⟨Rect.unit ![0, 0] ![384, 256] inb_S4224x256_S384x256_0_0, k0_pay7 (View.ld x4 (Rect.unit ![0, 0] ![384, 1024] inb_S4224x1024_S384x1024_0_0)) x5⟩]
/-- The scratch's stores up to tile 2, last first. -/
abbrev scrL2 : List (View.Piece (Elt Ideal) S4224x256 .f32) :=
  [⟨Rect.unit ![768, 0] ![384, 256] inb_S4224x256_S384x256_768_0, k0_pay26 (View.ld x4 (Rect.unit ![768, 0] ![384, 1024] inb_S4224x1024_S384x1024_768_0)) x5⟩,
   ⟨Rect.unit ![384, 0] ![384, 256] inb_S4224x256_S384x256_384_0, k0_pay8 (View.ld x4 (Rect.unit ![384, 0] ![384, 1024] inb_S4224x1024_S384x1024_384_0)) x5⟩,
   ⟨Rect.unit ![0, 0] ![384, 256] inb_S4224x256_S384x256_0_0, k0_pay7 (View.ld x4 (Rect.unit ![0, 0] ![384, 1024] inb_S4224x1024_S384x1024_0_0)) x5⟩]
/-- The scratch's stores up to tile 3, last first. -/
abbrev scrL3 : List (View.Piece (Elt Ideal) S4224x256 .f32) :=
  [⟨Rect.unit ![1152, 0] ![384, 256] inb_S4224x256_S384x256_1152_0, k0_pay44 (View.ld x4 (Rect.unit ![1152, 0] ![384, 1024] inb_S4224x1024_S384x1024_1152_0)) x5⟩,
   ⟨Rect.unit ![768, 0] ![384, 256] inb_S4224x256_S384x256_768_0, k0_pay26 (View.ld x4 (Rect.unit ![768, 0] ![384, 1024] inb_S4224x1024_S384x1024_768_0)) x5⟩,
   ⟨Rect.unit ![384, 0] ![384, 256] inb_S4224x256_S384x256_384_0, k0_pay8 (View.ld x4 (Rect.unit ![384, 0] ![384, 1024] inb_S4224x1024_S384x1024_384_0)) x5⟩,
   ⟨Rect.unit ![0, 0] ![384, 256] inb_S4224x256_S384x256_0_0, k0_pay7 (View.ld x4 (Rect.unit ![0, 0] ![384, 1024] inb_S4224x1024_S384x1024_0_0)) x5⟩]
/-- The scratch's stores up to tile 4, last first. -/
abbrev scrL4 : List (View.Piece (Elt Ideal) S4224x256 .f32) :=
  [⟨Rect.unit ![1536, 0] ![384, 256] inb_S4224x256_S384x256_1536_0, k0_pay59 (View.ld x4 (Rect.unit ![1536, 0] ![384, 1024] inb_S4224x1024_S384x1024_1536_0)) x5⟩,
   ⟨Rect.unit ![1152, 0] ![384, 256] inb_S4224x256_S384x256_1152_0, k0_pay44 (View.ld x4 (Rect.unit ![1152, 0] ![384, 1024] inb_S4224x1024_S384x1024_1152_0)) x5⟩,
   ⟨Rect.unit ![768, 0] ![384, 256] inb_S4224x256_S384x256_768_0, k0_pay26 (View.ld x4 (Rect.unit ![768, 0] ![384, 1024] inb_S4224x1024_S384x1024_768_0)) x5⟩,
   ⟨Rect.unit ![384, 0] ![384, 256] inb_S4224x256_S384x256_384_0, k0_pay8 (View.ld x4 (Rect.unit ![384, 0] ![384, 1024] inb_S4224x1024_S384x1024_384_0)) x5⟩,
   ⟨Rect.unit ![0, 0] ![384, 256] inb_S4224x256_S384x256_0_0, k0_pay7 (View.ld x4 (Rect.unit ![0, 0] ![384, 1024] inb_S4224x1024_S384x1024_0_0)) x5⟩]
/-- The scratch's stores up to tile 5, last first. -/
abbrev scrL5 : List (View.Piece (Elt Ideal) S4224x256 .f32) :=
  [⟨Rect.unit ![1920, 0] ![384, 256] inb_S4224x256_S384x256_1920_0, k0_pay77 (View.ld x4 (Rect.unit ![1920, 0] ![384, 1024] inb_S4224x1024_S384x1024_1920_0)) x5⟩,
   ⟨Rect.unit ![1536, 0] ![384, 256] inb_S4224x256_S384x256_1536_0, k0_pay59 (View.ld x4 (Rect.unit ![1536, 0] ![384, 1024] inb_S4224x1024_S384x1024_1536_0)) x5⟩,
   ⟨Rect.unit ![1152, 0] ![384, 256] inb_S4224x256_S384x256_1152_0, k0_pay44 (View.ld x4 (Rect.unit ![1152, 0] ![384, 1024] inb_S4224x1024_S384x1024_1152_0)) x5⟩,
   ⟨Rect.unit ![768, 0] ![384, 256] inb_S4224x256_S384x256_768_0, k0_pay26 (View.ld x4 (Rect.unit ![768, 0] ![384, 1024] inb_S4224x1024_S384x1024_768_0)) x5⟩,
   ⟨Rect.unit ![384, 0] ![384, 256] inb_S4224x256_S384x256_384_0, k0_pay8 (View.ld x4 (Rect.unit ![384, 0] ![384, 1024] inb_S4224x1024_S384x1024_384_0)) x5⟩,
   ⟨Rect.unit ![0, 0] ![384, 256] inb_S4224x256_S384x256_0_0, k0_pay7 (View.ld x4 (Rect.unit ![0, 0] ![384, 1024] inb_S4224x1024_S384x1024_0_0)) x5⟩]
/-- The scratch's stores up to tile 6, last first. -/
abbrev scrL6 : List (View.Piece (Elt Ideal) S4224x256 .f32) :=
  [⟨Rect.unit ![2304, 0] ![384, 256] inb_S4224x256_S384x256_2304_0, k0_pay94 (k0_pay93 (View.ld x4 (Rect.unit ![2304, 0] ![384, 1024] inb_S4224x1024_S384x1024_2304_0)) x5)⟩,
   ⟨Rect.unit ![1920, 0] ![384, 256] inb_S4224x256_S384x256_1920_0, k0_pay77 (View.ld x4 (Rect.unit ![1920, 0] ![384, 1024] inb_S4224x1024_S384x1024_1920_0)) x5⟩,
   ⟨Rect.unit ![1536, 0] ![384, 256] inb_S4224x256_S384x256_1536_0, k0_pay59 (View.ld x4 (Rect.unit ![1536, 0] ![384, 1024] inb_S4224x1024_S384x1024_1536_0)) x5⟩,
   ⟨Rect.unit ![1152, 0] ![384, 256] inb_S4224x256_S384x256_1152_0, k0_pay44 (View.ld x4 (Rect.unit ![1152, 0] ![384, 1024] inb_S4224x1024_S384x1024_1152_0)) x5⟩,
   ⟨Rect.unit ![768, 0] ![384, 256] inb_S4224x256_S384x256_768_0, k0_pay26 (View.ld x4 (Rect.unit ![768, 0] ![384, 1024] inb_S4224x1024_S384x1024_768_0)) x5⟩,
   ⟨Rect.unit ![384, 0] ![384, 256] inb_S4224x256_S384x256_384_0, k0_pay8 (View.ld x4 (Rect.unit ![384, 0] ![384, 1024] inb_S4224x1024_S384x1024_384_0)) x5⟩,
   ⟨Rect.unit ![0, 0] ![384, 256] inb_S4224x256_S384x256_0_0, k0_pay7 (View.ld x4 (Rect.unit ![0, 0] ![384, 1024] inb_S4224x1024_S384x1024_0_0)) x5⟩]
/-- The scratch's stores up to tile 7, last first. -/
abbrev scrL7 : List (View.Piece (Elt Ideal) S4224x256 .f32) :=
  [⟨Rect.unit ![2688, 0] ![384, 256] inb_S4224x256_S384x256_2688_0, k0_pay111 (View.ld x4 (Rect.unit ![2688, 0] ![384, 1024] inb_S4224x1024_S384x1024_2688_0)) x5⟩,
   ⟨Rect.unit ![2304, 0] ![384, 256] inb_S4224x256_S384x256_2304_0, k0_pay94 (k0_pay93 (View.ld x4 (Rect.unit ![2304, 0] ![384, 1024] inb_S4224x1024_S384x1024_2304_0)) x5)⟩,
   ⟨Rect.unit ![1920, 0] ![384, 256] inb_S4224x256_S384x256_1920_0, k0_pay77 (View.ld x4 (Rect.unit ![1920, 0] ![384, 1024] inb_S4224x1024_S384x1024_1920_0)) x5⟩,
   ⟨Rect.unit ![1536, 0] ![384, 256] inb_S4224x256_S384x256_1536_0, k0_pay59 (View.ld x4 (Rect.unit ![1536, 0] ![384, 1024] inb_S4224x1024_S384x1024_1536_0)) x5⟩,
   ⟨Rect.unit ![1152, 0] ![384, 256] inb_S4224x256_S384x256_1152_0, k0_pay44 (View.ld x4 (Rect.unit ![1152, 0] ![384, 1024] inb_S4224x1024_S384x1024_1152_0)) x5⟩,
   ⟨Rect.unit ![768, 0] ![384, 256] inb_S4224x256_S384x256_768_0, k0_pay26 (View.ld x4 (Rect.unit ![768, 0] ![384, 1024] inb_S4224x1024_S384x1024_768_0)) x5⟩,
   ⟨Rect.unit ![384, 0] ![384, 256] inb_S4224x256_S384x256_384_0, k0_pay8 (View.ld x4 (Rect.unit ![384, 0] ![384, 1024] inb_S4224x1024_S384x1024_384_0)) x5⟩,
   ⟨Rect.unit ![0, 0] ![384, 256] inb_S4224x256_S384x256_0_0, k0_pay7 (View.ld x4 (Rect.unit ![0, 0] ![384, 1024] inb_S4224x1024_S384x1024_0_0)) x5⟩]
/-- The scratch's stores up to tile 8, last first. -/
abbrev scrL8 : List (View.Piece (Elt Ideal) S4224x256 .f32) :=
  [⟨Rect.unit ![3072, 0] ![384, 256] inb_S4224x256_S384x256_3072_0, k0_pay129 (View.ld x4 (Rect.unit ![3072, 0] ![384, 1024] inb_S4224x1024_S384x1024_3072_0)) x5⟩,
   ⟨Rect.unit ![2688, 0] ![384, 256] inb_S4224x256_S384x256_2688_0, k0_pay111 (View.ld x4 (Rect.unit ![2688, 0] ![384, 1024] inb_S4224x1024_S384x1024_2688_0)) x5⟩,
   ⟨Rect.unit ![2304, 0] ![384, 256] inb_S4224x256_S384x256_2304_0, k0_pay94 (k0_pay93 (View.ld x4 (Rect.unit ![2304, 0] ![384, 1024] inb_S4224x1024_S384x1024_2304_0)) x5)⟩,
   ⟨Rect.unit ![1920, 0] ![384, 256] inb_S4224x256_S384x256_1920_0, k0_pay77 (View.ld x4 (Rect.unit ![1920, 0] ![384, 1024] inb_S4224x1024_S384x1024_1920_0)) x5⟩,
   ⟨Rect.unit ![1536, 0] ![384, 256] inb_S4224x256_S384x256_1536_0, k0_pay59 (View.ld x4 (Rect.unit ![1536, 0] ![384, 1024] inb_S4224x1024_S384x1024_1536_0)) x5⟩,
   ⟨Rect.unit ![1152, 0] ![384, 256] inb_S4224x256_S384x256_1152_0, k0_pay44 (View.ld x4 (Rect.unit ![1152, 0] ![384, 1024] inb_S4224x1024_S384x1024_1152_0)) x5⟩,
   ⟨Rect.unit ![768, 0] ![384, 256] inb_S4224x256_S384x256_768_0, k0_pay26 (View.ld x4 (Rect.unit ![768, 0] ![384, 1024] inb_S4224x1024_S384x1024_768_0)) x5⟩,
   ⟨Rect.unit ![384, 0] ![384, 256] inb_S4224x256_S384x256_384_0, k0_pay8 (View.ld x4 (Rect.unit ![384, 0] ![384, 1024] inb_S4224x1024_S384x1024_384_0)) x5⟩,
   ⟨Rect.unit ![0, 0] ![384, 256] inb_S4224x256_S384x256_0_0, k0_pay7 (View.ld x4 (Rect.unit ![0, 0] ![384, 1024] inb_S4224x1024_S384x1024_0_0)) x5⟩]
/-- The scratch's stores up to tile 9, last first. -/
abbrev scrL9 : List (View.Piece (Elt Ideal) S4224x256 .f32) :=
  [⟨Rect.unit ![3456, 0] ![384, 256] inb_S4224x256_S384x256_3456_0, k0_pay144 (View.ld x4 (Rect.unit ![3456, 0] ![384, 1024] inb_S4224x1024_S384x1024_3456_0)) x5⟩,
   ⟨Rect.unit ![3072, 0] ![384, 256] inb_S4224x256_S384x256_3072_0, k0_pay129 (View.ld x4 (Rect.unit ![3072, 0] ![384, 1024] inb_S4224x1024_S384x1024_3072_0)) x5⟩,
   ⟨Rect.unit ![2688, 0] ![384, 256] inb_S4224x256_S384x256_2688_0, k0_pay111 (View.ld x4 (Rect.unit ![2688, 0] ![384, 1024] inb_S4224x1024_S384x1024_2688_0)) x5⟩,
   ⟨Rect.unit ![2304, 0] ![384, 256] inb_S4224x256_S384x256_2304_0, k0_pay94 (k0_pay93 (View.ld x4 (Rect.unit ![2304, 0] ![384, 1024] inb_S4224x1024_S384x1024_2304_0)) x5)⟩,
   ⟨Rect.unit ![1920, 0] ![384, 256] inb_S4224x256_S384x256_1920_0, k0_pay77 (View.ld x4 (Rect.unit ![1920, 0] ![384, 1024] inb_S4224x1024_S384x1024_1920_0)) x5⟩,
   ⟨Rect.unit ![1536, 0] ![384, 256] inb_S4224x256_S384x256_1536_0, k0_pay59 (View.ld x4 (Rect.unit ![1536, 0] ![384, 1024] inb_S4224x1024_S384x1024_1536_0)) x5⟩,
   ⟨Rect.unit ![1152, 0] ![384, 256] inb_S4224x256_S384x256_1152_0, k0_pay44 (View.ld x4 (Rect.unit ![1152, 0] ![384, 1024] inb_S4224x1024_S384x1024_1152_0)) x5⟩,
   ⟨Rect.unit ![768, 0] ![384, 256] inb_S4224x256_S384x256_768_0, k0_pay26 (View.ld x4 (Rect.unit ![768, 0] ![384, 1024] inb_S4224x1024_S384x1024_768_0)) x5⟩,
   ⟨Rect.unit ![384, 0] ![384, 256] inb_S4224x256_S384x256_384_0, k0_pay8 (View.ld x4 (Rect.unit ![384, 0] ![384, 1024] inb_S4224x1024_S384x1024_384_0)) x5⟩,
   ⟨Rect.unit ![0, 0] ![384, 256] inb_S4224x256_S384x256_0_0, k0_pay7 (View.ld x4 (Rect.unit ![0, 0] ![384, 1024] inb_S4224x1024_S384x1024_0_0)) x5⟩]
/-- The scratch's stores up to tile 10, last first. -/
abbrev scrL10 : List (View.Piece (Elt Ideal) S4224x256 .f32) :=
  [⟨Rect.unit ![3840, 0] ![384, 256] inb_S4224x256_S384x256_3840_0, k0_pay160 (View.ld x4 (Rect.unit ![3840, 0] ![384, 1024] inb_S4224x1024_S384x1024_3840_0)) x5⟩,
   ⟨Rect.unit ![3456, 0] ![384, 256] inb_S4224x256_S384x256_3456_0, k0_pay144 (View.ld x4 (Rect.unit ![3456, 0] ![384, 1024] inb_S4224x1024_S384x1024_3456_0)) x5⟩,
   ⟨Rect.unit ![3072, 0] ![384, 256] inb_S4224x256_S384x256_3072_0, k0_pay129 (View.ld x4 (Rect.unit ![3072, 0] ![384, 1024] inb_S4224x1024_S384x1024_3072_0)) x5⟩,
   ⟨Rect.unit ![2688, 0] ![384, 256] inb_S4224x256_S384x256_2688_0, k0_pay111 (View.ld x4 (Rect.unit ![2688, 0] ![384, 1024] inb_S4224x1024_S384x1024_2688_0)) x5⟩,
   ⟨Rect.unit ![2304, 0] ![384, 256] inb_S4224x256_S384x256_2304_0, k0_pay94 (k0_pay93 (View.ld x4 (Rect.unit ![2304, 0] ![384, 1024] inb_S4224x1024_S384x1024_2304_0)) x5)⟩,
   ⟨Rect.unit ![1920, 0] ![384, 256] inb_S4224x256_S384x256_1920_0, k0_pay77 (View.ld x4 (Rect.unit ![1920, 0] ![384, 1024] inb_S4224x1024_S384x1024_1920_0)) x5⟩,
   ⟨Rect.unit ![1536, 0] ![384, 256] inb_S4224x256_S384x256_1536_0, k0_pay59 (View.ld x4 (Rect.unit ![1536, 0] ![384, 1024] inb_S4224x1024_S384x1024_1536_0)) x5⟩,
   ⟨Rect.unit ![1152, 0] ![384, 256] inb_S4224x256_S384x256_1152_0, k0_pay44 (View.ld x4 (Rect.unit ![1152, 0] ![384, 1024] inb_S4224x1024_S384x1024_1152_0)) x5⟩,
   ⟨Rect.unit ![768, 0] ![384, 256] inb_S4224x256_S384x256_768_0, k0_pay26 (View.ld x4 (Rect.unit ![768, 0] ![384, 1024] inb_S4224x1024_S384x1024_768_0)) x5⟩,
   ⟨Rect.unit ![384, 0] ![384, 256] inb_S4224x256_S384x256_384_0, k0_pay8 (View.ld x4 (Rect.unit ![384, 0] ![384, 1024] inb_S4224x1024_S384x1024_384_0)) x5⟩,
   ⟨Rect.unit ![0, 0] ![384, 256] inb_S4224x256_S384x256_0_0, k0_pay7 (View.ld x4 (Rect.unit ![0, 0] ![384, 1024] inb_S4224x1024_S384x1024_0_0)) x5⟩]

theorem row_cb : Row x3 (bi x3) := fun _ => rfl

theorem emb_up (b p : ℕ) (hb : b < 2) (hp : p + 384 ≤ 4224) (h) (u : Fin 1) (n : Fin 384) (q : Fin 256) :
    (Rect.unit (s := S2x4224x256) ![b, p, 0] ![1, 384, 256] h).emb (ix3 u n q)
      = ix3 (⟨b, hb⟩ : Fin 2) (⟨p + n.val, by omega⟩ : Fin 4224) q := by
  funext a
  apply Fin.ext
  have hu : u.val = 0 := by omega
  show ((Rect.unit (s := S2x4224x256) ![b, p, 0] ![1, 384, 256] h).idx (ix3 u n q) a).val = _
  fin_cases a <;> simp [Rect.idx_unit_val, hu]

theorem ix3_surj {p : S1x384x256.Idx → Prop} (h : ∀ (u : Fin 1) (n : Fin 384) (q : Fin 256), p (ix3 u n q)) (x) : p x := by
  have hx : x = ix3 (x 0) (x 1) (x 2) := by funext a; fin_cases a <;> rfl
  rw [hx]; exact h _ _ _

theorem piece_da (p : ℕ) (h) (v : FVec Ideal S384x256 .f32) (hp : 112 ≤ p ∧ p + 384 ≤ 4224)
    (hv : ∀ (n : Fin 384) (q : Fin 256), v (ix2 n q) = da (pA x0) (pB x1) (pD x4 x5) (wt x2 0) (wt x2 1) (wt x2 2) (bi x3) (p + 8 + n) q) :
    ∀ x : S1x384x256.Idx, outV v x = bdup x0 x1 x2 x3 x4 x5 ((Rect.unit (s := S2x4224x256) ![0, p, 0] ![1, 384, 256] h).emb x) := by
  refine ix3_surj fun u n q => ?_
  rw [emb_up 0 p (by omega) hp.2 h]
  refine (outV_apply v _ _ _).trans ((hv n q).trans ?_)
  show _ = if 112 ≤ p + n.val then da _ _ _ _ _ _ _ (p + n.val + 8) q else 0
  rw [if_pos (by omega), Nat.add_right_comm p n.val 8]
theorem piece_da0 (h) (v : FVec Ideal S384x256 .f32)
    (hv : ∀ (n : Fin 384) (q : Fin 256), v (ix2 n q) = da (pA x0) (pB x1) (pD x4 x5) (wt x2 0) (wt x2 1) (wt x2 2) (bi x3) (0 + 8 + n) q) :
    ∀ x : S1x384x256.Idx, outV (maskOutV v) x = bdup x0 x1 x2 x3 x4 x5 ((Rect.unit (s := S2x4224x256) ![0, 0, 0] ![1, 384, 256] h).emb x) := by
  refine ix3_surj fun u n q => ?_
  rw [emb_up 0 0 (by omega) (by omega) h]
  refine (outV_apply _ _ _ _).trans ((maskOutV_apply v n q).trans ?_)
  rw [hv]
  show _ = if 112 ≤ 0 + n.val then da _ _ _ _ _ _ _ (0 + n.val + 8) q else 0
  rw [Nat.add_right_comm 0 n.val 8, Nat.zero_add n.val]
theorem piece_db (p : ℕ) (h) (v : FVec Ideal S384x256 .f32) (hp : p + 384 ≤ 4224)
    (hv : ∀ (n : Fin 384) (q : Fin 256), v (ix2 n q) = db (pA x0) (pD x4 x5) (wt x2 0) (wt x2 1) (wt x2 2) (bi x3) (p + 8 + n) q) :
    ∀ x : S1x384x256.Idx, outV v x = bdup x0 x1 x2 x3 x4 x5 ((Rect.unit (s := S2x4224x256) ![1, p, 0] ![1, 384, 256] h).emb x) := by
  refine ix3_surj fun u n q => ?_
  rw [emb_up 1 p (by omega) hp h]
  refine (outV_apply v _ _ _).trans ((hv n q).trans ?_)
  show _ = db _ _ _ _ _ _ (p + n.val + 8) q
  rw [Nat.add_right_comm p n.val 8]

/-- The sums over the rows: each weight row's gradient and the bias's. -/
def bgw (d : ℕ) (q : Fin 256) : EReal := ∑ r : Fin 4224, bdac x0 x1 x2 x3 x4 x5 (r + 8) q * pA x0 (r + 8 - d) q
def bgb (q : Fin 256) : EReal := ∑ r : Fin 4224, bdac x0 x1 x2 x3 x4 x5 (r + 8) q
/-- The block of gradients of the weights. -/
def bgcw (y : S8x256.Idx) : EReal :=
  if (y 0).val = 2 then bgw x0 x1 x2 x3 x4 x5 0 (y 1) else if (y 0).val = 1 then bgw x0 x1 x2 x3 x4 x5 1 (y 1)
  else if (y 0).val = 0 then bgw x0 x1 x2 x3 x4 x5 2 (y 1) else 0

theorem sum_tiles (f : ℕ → EReal) : (((((((((((0 + ∑ n : Fin 384, f (0 + 8 + n)) + ∑ n : Fin 384, f (384 + 8 + n)) + ∑ n : Fin 384, f (768 + 8 + n)) + ∑ n : Fin 384, f (1152 + 8 + n)) + ∑ n : Fin 384, f (1536 + 8 + n)) + ∑ n : Fin 384, f (1920 + 8 + n)) + ∑ n : Fin 384, f (2304 + 8 + n)) + ∑ n : Fin 384, f (2688 + 8 + n)) + ∑ n : Fin 384, f (3072 + 8 + n)) + ∑ n : Fin 384, f (3456 + 8 + n)) + ∑ n : Fin 384, f (3840 + 8 + n)) = ∑ r : Fin 4224, f (r + 8) := by
  have hs : ∀ o, (∑ n : Fin 384, f (o + 8 + n)) = ∑ n ∈ Finset.range 384, f (o + n + 8) := fun o => by
    rw [Fin.sum_univ_eq_sum_range (fun n => f (o + 8 + n))]
    exact Finset.sum_congr rfl fun n _ => by rw [Nat.add_right_comm]
  have ht : ∀ k, (∑ n ∈ Finset.range (k + 384), f (n + 8)) = (∑ n ∈ Finset.range k, f (n + 8)) + ∑ n ∈ Finset.range 384, f (k + n + 8) :=
    fun k => Finset.sum_range_add (fun n => f (n + 8)) k 384
  rw [Fin.sum_univ_eq_sum_range (fun n => f (n + 8)), ht 3840, ht 3456, ht 3072, ht 2688, ht 2304, ht 1920, ht 1536, ht 1152, ht 768, ht 384,
    ← Nat.zero_add 384, ht 0]
  simp only [hs, Finset.range_zero, Finset.sum_empty]

theorem zero_row (q : Fin 256) : (broadcast S1x256 (Scalar.ofBits (F := Ideal) .f32 0x00000000#32)) (ix2 (0 : Fin 1) q) = (0 : EReal) := by
  pointwise

theorem emb_row (p : ℕ) (hp : p < 8) (h) (q : Fin 256) :
    (Rect.unit (s := S8x256) ![p, 0] ![1, 256] h).emb (ix2 (0 : Fin 1) q) = ix2 (⟨p, hp⟩ : Fin 8) q :=
  (idx2 8 256 1 p h 0 q (by omega)).trans (by simp)

theorem not_mem_row (p : ℕ) (h) (v) (r : Fin 8) (q : Fin 256) (hr : r.val ≠ p) :
    (ix2 r q : S8x256.Idx) ∉ (⟨Rect.unit (s := S8x256) ![p, 0] ![1, 256] h, v⟩ : View.Piece (Elt Ideal) S8x256 .f32).1.set := by
  intro hm
  have := (Rect.mem_set_unit (s := S8x256) (off := ![p, 0]) (size := ![1, 256]) (inb := h)).mp hm 0
  have h1 : p ≤ r.val := this.1
  have h2 : r.val < p + 1 := this.2
  omega

theorem canon_row_hit (p : ℕ) (hp : p < 8) (h) (v : FVec Ideal S1x256 .f32) (L : List (View.Piece (Elt Ideal) S8x256 .f32)) (r : Fin 8)
    (q : Fin 256) (hr : r.val = p) :
    View.canon (Val := Elt Ideal) (⟨Rect.unit (s := S8x256) ![p, 0] ![1, 256] h, v⟩ :: L) (ix2 r q) = v (ix2 (0 : Fin 1) q) := by
  subst hr
  exact (congrArg (View.canon _) (emb_row r.val hp h q).symm).trans
    (View.canon_cons_emb (Val := Elt Ideal) (Rect.unit (s := S8x256) ![r.val, 0] ![1, 256] h) v L (ix2 (0 : Fin 1) q))

theorem canon_row_miss (p : ℕ) (h) (v : FVec Ideal S1x256 .f32) (L : List (View.Piece (Elt Ideal) S8x256 .f32)) (r : Fin 8)
    (q : Fin 256) (hr : r.val ≠ p) :
    View.canon (Val := Elt Ideal) (⟨Rect.unit (s := S8x256) ![p, 0] ![1, 256] h, v⟩ :: L) (ix2 r q) = View.canon L (ix2 r q) :=
  View.canon_cons_of_not_mem _ L (not_mem_row p h v r q hr)

theorem canon_whole {Val : EltTy → Type} [∀ e, Nonempty (Val e)] {e : EltTy}
    (h : ∀ a : Fin S8x256.rank, (![0, 0] : Fin 2 → ℕ) a + S8x256.size a ≤ S8x256.size a) (z : S8x256.Idx → Val e)
    (L : List (View.Piece Val S8x256 e)) :
    View.canon (⟨Rect.unit (s := S8x256) ![0, 0] S8x256.size h, z⟩ :: L) = z :=
  View.canon_cons_unit_lit h z L (by intro a; fin_cases a <;> rfl)

theorem canon_last (h : ∀ a : Fin S8x256.rank, (![0, 0] : Fin 2 → ℕ) a + S8x256.size a ≤ S8x256.size a) (z : FVec Ideal S8x256 .f32)
    (L : List (View.Piece (Elt Ideal) S8x256 .f32)) :
    View.canon (Val := Elt Ideal) (⟨Rect.unit (s := S8x256) ![0, 0] S8x256.size h, z⟩ :: L) = z := canon_whole h z L

/-- A block of weights written whole, then its first three rows. -/
theorem canon_rows (v0 v1 v2 : FVec Ideal S1x256 .f32) (z : FVec Ideal S8x256 .f32) (h0 h1 h2 hz) (r : Fin 8) (q : Fin 256) :
    View.canon (Val := Elt Ideal) (s := S8x256) (e := .f32)
      [⟨Rect.unit (s := S8x256) ![2, 0] ![1, 256] h2, v2⟩, ⟨Rect.unit (s := S8x256) ![1, 0] ![1, 256] h1, v1⟩,
        ⟨Rect.unit (s := S8x256) ![0, 0] ![1, 256] h0, v0⟩, ⟨Rect.unit (s := S8x256) ![0, 0] ![8, 256] hz, z⟩] (ix2 r q)
      = if r.val = 2 then v2 (ix2 (0 : Fin 1) q) else if r.val = 1 then v1 (ix2 (0 : Fin 1) q)
        else if r.val = 0 then v0 (ix2 (0 : Fin 1) q) else z (ix2 r q) := by
  by_cases e2 : r.val = 2
  · exact (canon_row_hit 2 (by omega) h2 v2 _ r q e2).trans (if_pos e2).symm
  refine (canon_row_miss 2 h2 v2 _ r q e2).trans (Eq.trans ?_ (if_neg e2).symm)
  by_cases e1 : r.val = 1
  · exact (canon_row_hit 1 (by omega) h1 v1 _ r q e1).trans (if_pos e1).symm
  refine (canon_row_miss 1 h1 v1 _ r q e1).trans (Eq.trans ?_ (if_neg e1).symm)
  by_cases e0 : r.val = 0
  · exact (canon_row_hit 0 (by omega) h0 v0 _ r q e0).trans (if_pos e0).symm
  exact (canon_row_miss 0 h0 v0 _ r q e0).trans ((congrFun (canon_last hz z []) (ix2 r q)).trans (if_neg e0).symm)

theorem out6 (c : Dev nD) (i : grid0.Coords) (arg1 : Memref sig .tc .vmem S1x4224x256 .f32) (harg1 : arg1.IsWhole) (arg2 : Memref sig .tc .vmem S1x4224x256 .f32) (harg2 : arg2.IsWhole) (arg3 : Memref sig .tc .vmem S8x256 .f32) (harg3 : arg3.IsWhole) (arg4 : Memref sig .tc .vmem S1x256 .f32) (harg4 : arg4.IsWhole) (arg5 : Memref sig .tc .vmem S4224x1024 .bf16) (harg5 : arg5.IsWhole) (arg6 : Memref sig .tc .vmem S256x1024 .bf16) (harg6 : arg6.IsWhole) (arg7 : Memref sig .tc .vmem S2x4224x256 .bf16) (harg7 : arg7.IsWhole) (arg8 : Memref sig .tc .vmem S8x256 .f32) (harg8 : arg8.IsWhole) (arg9 : Memref sig .tc .vmem S1x256 .f32) (harg9 : arg9.IsWhole) (arg10 : Memref sig .tc .vmem S4224x256 .f32) (harg10 : arg10.IsWhole)
    (j : S2x4224x256.Idx) :
    out0_A_6 c i arg1 harg1 arg2 harg2 arg3 harg3 arg4 harg4 arg5 harg5 arg6 harg6 arg7 harg7 arg8 harg8 arg9 harg9 arg10 harg10 x0 x1 x2 x3 x4 x5 j = bdup x0 x1 x2 x3 x4 x5 j := by
  unfold out0_A_6
  refine View.read_writes_apply_of_pieces (Val := Elt Ideal) _ _ (bdup x0 x1 x2 x3 x4 x5) _ ?_ j (cover0_A_6 _ _ _ _ _ _ _ _ _ _ _ _ _ _ _ _ _ _ _ _ _ _ _ _ _ _ _ _ _)
  frame_out
  simp only [List.forall_mem_cons]
  obtain ⟨d0, hd0⟩ : ∃ v, v = arg10.view.readCov (scrL1 x4 x5) (Rect.unit ![0, 0] ![392, 256] inb_S4224x256_S392x256_0_0).toLoadRect := ⟨_, rfl⟩
  have D0 : Win (firstV d0) (pD x4 x5) 0 := by rw [hd0]; exact win_firstD _ _ 1 (by decide) rfl _ (by decide)
  obtain ⟨a0, ha0⟩ : ∃ v, v = View.ld x0 (Rect.unit ![0, 0, 0] ![1, 392, 256] inb_S1x4224x256_S1x392x256_0_0_0) := ⟨_, rfl⟩
  have A0 : Win (maskV (firstV (castV a0))) (pA x0) 0 := by rw [ha0]; exact win_firstA _ _
  obtain ⟨b0, hb0⟩ : ∃ v, v = View.ld x1 (Rect.unit ![0, 0, 0] ![1, 392, 256] inb_S1x4224x256_S1x392x256_0_0_0) := ⟨_, rfl⟩
  have B0 : Win (firstV (castV b0)) (pB x1) 0 := by rw [hb0]; exact win_firstB _ _
  obtain ⟨d1, hd1⟩ : ∃ v, v = arg10.view.readCov (scrL2 x4 x5) (Rect.unit ![376, 0] ![400, 256] inb_S4224x256_S400x256_376_0).toLoadRect := ⟨_, rfl⟩
  have D1 : Win d1 (pD x4 x5) 384 := by rw [hd1]; exact win_midD _ _ 2 (by decide) rfl 376 _ (by decide)
  obtain ⟨a1, ha1⟩ : ∃ v, v = View.ld x0 (Rect.unit ![0, 376, 0] ![1, 400, 256] inb_S1x4224x256_S1x400x256_0_376_0) := ⟨_, rfl⟩
  have A1 : Win (midV a1) (pA x0) 384 := by rw [ha1]; exact win_midA _ 376 _ (by decide) (by decide)
  obtain ⟨b1, hb1⟩ : ∃ v, v = View.ld x1 (Rect.unit ![0, 376, 0] ![1, 400, 256] inb_S1x4224x256_S1x400x256_0_376_0) := ⟨_, rfl⟩
  have B1 : Win (midV b1) (pB x1) 384 := by rw [hb1]; exact win_midB _ 376 _ (by decide)
  obtain ⟨d2, hd2⟩ : ∃ v, v = arg10.view.readCov (scrL3 x4 x5) (Rect.unit ![760, 0] ![400, 256] inb_S4224x256_S400x256_760_0).toLoadRect := ⟨_, rfl⟩
  have D2 : Win d2 (pD x4 x5) 768 := by rw [hd2]; exact win_midD _ _ 3 (by decide) rfl 760 _ (by decide)
  obtain ⟨a2, ha2⟩ : ∃ v, v = View.ld x0 (Rect.unit ![0, 760, 0] ![1, 400, 256] inb_S1x4224x256_S1x400x256_0_760_0) := ⟨_, rfl⟩
  have A2 : Win (midV a2) (pA x0) 768 := by rw [ha2]; exact win_midA _ 760 _ (by decide) (by decide)
  obtain ⟨b2, hb2⟩ : ∃ v, v = View.ld x1 (Rect.unit ![0, 760, 0] ![1, 400, 256] inb_S1x4224x256_S1x400x256_0_760_0) := ⟨_, rfl⟩
  have B2 : Win (midV b2) (pB x1) 768 := by rw [hb2]; exact win_midB _ 760 _ (by decide)
  obtain ⟨d3, hd3⟩ : ∃ v, v = arg10.view.readCov (scrL4 x4 x5) (Rect.unit ![1144, 0] ![400, 256] inb_S4224x256_S400x256_1144_0).toLoadRect := ⟨_, rfl⟩
  have D3 : Win d3 (pD x4 x5) 1152 := by rw [hd3]; exact win_midD _ _ 4 (by decide) rfl 1144 _ (by decide)
  obtain ⟨a3, ha3⟩ : ∃ v, v = View.ld x0 (Rect.unit ![0, 1144, 0] ![1, 400, 256] inb_S1x4224x256_S1x400x256_0_1144_0) := ⟨_, rfl⟩
  have A3 : Win (midV a3) (pA x0) 1152 := by rw [ha3]; exact win_midA _ 1144 _ (by decide) (by decide)
  obtain ⟨b3, hb3⟩ : ∃ v, v = View.ld x1 (Rect.unit ![0, 1144, 0] ![1, 400, 256] inb_S1x4224x256_S1x400x256_0_1144_0) := ⟨_, rfl⟩
  have B3 : Win (midV b3) (pB x1) 1152 := by rw [hb3]; exact win_midB _ 1144 _ (by decide)
  obtain ⟨d4, hd4⟩ : ∃ v, v = arg10.view.readCov (scrL5 x4 x5) (Rect.unit ![1528, 0] ![400, 256] inb_S4224x256_S400x256_1528_0).toLoadRect := ⟨_, rfl⟩
  have D4 : Win d4 (pD x4 x5) 1536 := by rw [hd4]; exact win_midD _ _ 5 (by decide) rfl 1528 _ (by decide)
  obtain ⟨a4, ha4⟩ : ∃ v, v = View.ld x0 (Rect.unit ![0, 1528, 0] ![1, 400, 256] inb_S1x4224x256_S1x400x256_0_1528_0) := ⟨_, rfl⟩
  have A4 : Win (midV a4) (pA x0) 1536 := by rw [ha4]; exact win_midA _ 1528 _ (by decide) (by decide)
  obtain ⟨b4, hb4⟩ : ∃ v, v = View.ld x1 (Rect.unit ![0, 1528, 0] ![1, 400, 256] inb_S1x4224x256_S1x400x256_0_1528_0) := ⟨_, rfl⟩
  have B4 : Win (midV b4) (pB x1) 1536 := by rw [hb4]; exact win_midB _ 1528 _ (by decide)
  obtain ⟨d5, hd5⟩ : ∃ v, v = arg10.view.readCov (scrL6 x4 x5) (Rect.unit ![1912, 0] ![400, 256] inb_S4224x256_S400x256_1912_0).toLoadRect := ⟨_, rfl⟩
  have D5 : Win d5 (pD x4 x5) 1920 := by rw [hd5]; exact win_midD _ _ 6 (by decide) rfl 1912 _ (by decide)
  obtain ⟨a5, ha5⟩ : ∃ v, v = View.ld x0 (Rect.unit ![0, 1912, 0] ![1, 400, 256] inb_S1x4224x256_S1x400x256_0_1912_0) := ⟨_, rfl⟩
  have A5 : Win (midV a5) (pA x0) 1920 := by rw [ha5]; exact win_midA _ 1912 _ (by decide) (by decide)
  obtain ⟨b5, hb5⟩ : ∃ v, v = View.ld x1 (Rect.unit ![0, 1912, 0] ![1, 400, 256] inb_S1x4224x256_S1x400x256_0_1912_0) := ⟨_, rfl⟩
  have B5 : Win (midV b5) (pB x1) 1920 := by rw [hb5]; exact win_midB _ 1912 _ (by decide)
  obtain ⟨d6, hd6⟩ : ∃ v, v = arg10.view.readCov (scrL7 x4 x5) (Rect.unit ![2296, 0] ![400, 256] inb_S4224x256_S400x256_2296_0).toLoadRect := ⟨_, rfl⟩
  have D6 : Win d6 (pD x4 x5) 2304 := by rw [hd6]; exact win_midD _ _ 7 (by decide) rfl 2296 _ (by decide)
  obtain ⟨a6, ha6⟩ : ∃ v, v = View.ld x0 (Rect.unit ![0, 2296, 0] ![1, 400, 256] inb_S1x4224x256_S1x400x256_0_2296_0) := ⟨_, rfl⟩
  have A6 : Win (midV a6) (pA x0) 2304 := by rw [ha6]; exact win_midA _ 2296 _ (by decide) (by decide)
  obtain ⟨b6, hb6⟩ : ∃ v, v = View.ld x1 (Rect.unit ![0, 2296, 0] ![1, 400, 256] inb_S1x4224x256_S1x400x256_0_2296_0) := ⟨_, rfl⟩
  have B6 : Win (midV b6) (pB x1) 2304 := by rw [hb6]; exact win_midB _ 2296 _ (by decide)
  obtain ⟨d7, hd7⟩ : ∃ v, v = arg10.view.readCov (scrL8 x4 x5) (Rect.unit ![2680, 0] ![400, 256] inb_S4224x256_S400x256_2680_0).toLoadRect := ⟨_, rfl⟩
  have D7 : Win d7 (pD x4 x5) 2688 := by rw [hd7]; exact win_midD _ _ 8 (by decide) rfl 2680 _ (by decide)
  obtain ⟨a7, ha7⟩ : ∃ v, v = View.ld x0 (Rect.unit ![0, 2680, 0] ![1, 400, 256] inb_S1x4224x256_S1x400x256_0_2680_0) := ⟨_, rfl⟩
  have A7 : Win (midV a7) (pA x0) 2688 := by rw [ha7]; exact win_midA _ 2680 _ (by decide) (by decide)
  obtain ⟨b7, hb7⟩ : ∃ v, v = View.ld x1 (Rect.unit ![0, 2680, 0] ![1, 400, 256] inb_S1x4224x256_S1x400x256_0_2680_0) := ⟨_, rfl⟩
  have B7 : Win (midV b7) (pB x1) 2688 := by rw [hb7]; exact win_midB _ 2680 _ (by decide)
  obtain ⟨d8, hd8⟩ : ∃ v, v = arg10.view.readCov (scrL9 x4 x5) (Rect.unit ![3064, 0] ![400, 256] inb_S4224x256_S400x256_3064_0).toLoadRect := ⟨_, rfl⟩
  have D8 : Win d8 (pD x4 x5) 3072 := by rw [hd8]; exact win_midD _ _ 9 (by decide) rfl 3064 _ (by decide)
  obtain ⟨a8, ha8⟩ : ∃ v, v = View.ld x0 (Rect.unit ![0, 3064, 0] ![1, 400, 256] inb_S1x4224x256_S1x400x256_0_3064_0) := ⟨_, rfl⟩
  have A8 : Win (midV a8) (pA x0) 3072 := by rw [ha8]; exact win_midA _ 3064 _ (by decide) (by decide)
  obtain ⟨b8, hb8⟩ : ∃ v, v = View.ld x1 (Rect.unit ![0, 3064, 0] ![1, 400, 256] inb_S1x4224x256_S1x400x256_0_3064_0) := ⟨_, rfl⟩
  have B8 : Win (midV b8) (pB x1) 3072 := by rw [hb8]; exact win_midB _ 3064 _ (by decide)
  obtain ⟨d9, hd9⟩ : ∃ v, v = arg10.view.readCov (scrL10 x4 x5) (Rect.unit ![3448, 0] ![400, 256] inb_S4224x256_S400x256_3448_0).toLoadRect := ⟨_, rfl⟩
  have D9 : Win d9 (pD x4 x5) 3456 := by rw [hd9]; exact win_midD _ _ 10 (by decide) rfl 3448 _ (by decide)
  obtain ⟨a9, ha9⟩ : ∃ v, v = View.ld x0 (Rect.unit ![0, 3448, 0] ![1, 400, 256] inb_S1x4224x256_S1x400x256_0_3448_0) := ⟨_, rfl⟩
  have A9 : Win (midV a9) (pA x0) 3456 := by rw [ha9]; exact win_midA _ 3448 _ (by decide) (by decide)
  obtain ⟨b9, hb9⟩ : ∃ v, v = View.ld x1 (Rect.unit ![0, 3448, 0] ![1, 400, 256] inb_S1x4224x256_S1x400x256_0_3448_0) := ⟨_, rfl⟩
  have B9 : Win (midV b9) (pB x1) 3456 := by rw [hb9]; exact win_midB _ 3448 _ (by decide)
  obtain ⟨d10, hd10⟩ : ∃ v, v = arg10.view.readCov (scrL10 x4 x5) (Rect.unit ![3832, 0] ![392, 256] inb_S4224x256_S392x256_3832_0).toLoadRect := ⟨_, rfl⟩
  have D10 : Win (lastV d10) (pD x4 x5) 3840 := by rw [hd10]; exact win_lastD _ _ rfl _
  obtain ⟨a10, ha10⟩ : ∃ v, v = View.ld x0 (Rect.unit ![0, 3832, 0] ![1, 392, 256] inb_S1x4224x256_S1x392x256_0_3832_0) := ⟨_, rfl⟩
  have A10 : Win (lastV (castV a10)) (pA x0) 3840 := by rw [ha10]; exact win_lastA _ _
  obtain ⟨b10, hb10⟩ : ∃ v, v = View.ld x1 (Rect.unit ![0, 3832, 0] ![1, 392, 256] inb_S1x4224x256_S1x392x256_0_3832_0) := ⟨_, rfl⟩
  have B10 : Win (lastV (castV b10)) (pB x1) 3840 := by rw [hb10]; exact win_lastB _ _
  obtain ⟨w0, hw0⟩ : ∃ v, v = View.ld x2 (Rect.unit ![0, 0] ![1, 256] inb_S8x256_S1x256_0_0) := ⟨_, rfl⟩
  have W0 : Row w0 (wt x2 0) := by rw [hw0]; exact row_ld _ 0 _ (by decide)
  obtain ⟨w1, hw1⟩ : ∃ v, v = View.ld x2 (Rect.unit ![1, 0] ![1, 256] inb_S8x256_S1x256_1_0) := ⟨_, rfl⟩
  have W1 : Row w1 (wt x2 1) := by rw [hw1]; exact row_ld _ 1 _ (by decide)
  obtain ⟨w2, hw2⟩ : ∃ v, v = View.ld x2 (Rect.unit ![2, 0] ![1, 256] inb_S8x256_S1x256_2_0) := ⟨_, rfl⟩
  have W2 : Row w2 (wt x2 2) := by rw [hw2]; exact row_ld _ 2 _ (by decide)
  rw [← hd0, ← hd1, ← hd2, ← hd3, ← hd4, ← hd5, ← hd6, ← hd7, ← hd8, ← hd9, ← hd10]
  rw [← ha0, ← hb0, ← ha1, ← hb1, ← ha2, ← hb2, ← ha3, ← hb3, ← ha4, ← hb4, ← ha5, ← hb5, ← ha6, ← hb6, ← ha7, ← hb7, ← ha8, ← hb8, ← ha9, ← hb9, ← ha10, ← hb10, ← hw0, ← hw1, ← hw2]
  clear hd0 ha0 hb0 hd1 ha1 hb1 hd2 ha2 hb2 hd3 ha3 hb3 hd4 ha4 hb4 hd5 ha5 hb5 hd6 ha6 hb6 hd7 ha7 hb7 hd8 ha8 hb8 hd9 ha9 hb9 hd10 ha10 hb10 hw0 hw1 hw2
  refine ⟨?_, ?_, ?_, ?_, ?_, ?_, ?_, ?_, ?_, ?_, ?_, ?_, ?_, ?_, ?_, ?_, ?_, ?_, ?_, ?_, ?_, ?_, by simp⟩
  · exact piece_db x0 x1 x2 x3 x4 x5 3840 _ (dbV (lastV d10) (accV (lastV (castV a10)) w0 w1 w2 x3)) (by decide) (db_apply A10 B10 D10 W0 W1 W2 (row_cb x3))
  · exact piece_da x0 x1 x2 x3 x4 x5 3840 _ (daV (dacV (lastV d10) (lastV (castV b10)) (accV (lastV (castV a10)) w0 w1 w2 x3)) w0 w1 w2) (by decide) (da_apply A10 B10 D10 W0 W1 W2 (row_cb x3))
  · exact piece_db x0 x1 x2 x3 x4 x5 3456 _ (dbV d9 (accV (midV a9) w0 w1 w2 x3)) (by decide) (db_apply A9 B9 D9 W0 W1 W2 (row_cb x3))
  · exact piece_da x0 x1 x2 x3 x4 x5 3456 _ (daV (dacV d9 (midV b9) (accV (midV a9) w0 w1 w2 x3)) w0 w1 w2) (by decide) (da_apply A9 B9 D9 W0 W1 W2 (row_cb x3))
  · exact piece_db x0 x1 x2 x3 x4 x5 3072 _ (dbV d8 (accV (midV a8) w0 w1 w2 x3)) (by decide) (db_apply A8 B8 D8 W0 W1 W2 (row_cb x3))
  · exact piece_da x0 x1 x2 x3 x4 x5 3072 _ (daV (dacV d8 (midV b8) (accV (midV a8) w0 w1 w2 x3)) w0 w1 w2) (by decide) (da_apply A8 B8 D8 W0 W1 W2 (row_cb x3))
  · exact piece_db x0 x1 x2 x3 x4 x5 2688 _ (dbV d7 (accV (midV a7) w0 w1 w2 x3)) (by decide) (db_apply A7 B7 D7 W0 W1 W2 (row_cb x3))
  · exact piece_da x0 x1 x2 x3 x4 x5 2688 _ (daV (dacV d7 (midV b7) (accV (midV a7) w0 w1 w2 x3)) w0 w1 w2) (by decide) (da_apply A7 B7 D7 W0 W1 W2 (row_cb x3))
  · exact piece_db x0 x1 x2 x3 x4 x5 2304 _ (dbV d6 (accV (midV a6) w0 w1 w2 x3)) (by decide) (db_apply A6 B6 D6 W0 W1 W2 (row_cb x3))
  · exact piece_da x0 x1 x2 x3 x4 x5 2304 _ (daV (dacV d6 (midV b6) (accV (midV a6) w0 w1 w2 x3)) w0 w1 w2) (by decide) (da_apply A6 B6 D6 W0 W1 W2 (row_cb x3))
  · exact piece_db x0 x1 x2 x3 x4 x5 1920 _ (dbV d5 (accV (midV a5) w0 w1 w2 x3)) (by decide) (db_apply A5 B5 D5 W0 W1 W2 (row_cb x3))
  · exact piece_da x0 x1 x2 x3 x4 x5 1920 _ (daV (dacV d5 (midV b5) (accV (midV a5) w0 w1 w2 x3)) w0 w1 w2) (by decide) (da_apply A5 B5 D5 W0 W1 W2 (row_cb x3))
  · exact piece_db x0 x1 x2 x3 x4 x5 1536 _ (dbV d4 (accV (midV a4) w0 w1 w2 x3)) (by decide) (db_apply A4 B4 D4 W0 W1 W2 (row_cb x3))
  · exact piece_da x0 x1 x2 x3 x4 x5 1536 _ (daV (dacV d4 (midV b4) (accV (midV a4) w0 w1 w2 x3)) w0 w1 w2) (by decide) (da_apply A4 B4 D4 W0 W1 W2 (row_cb x3))
  · exact piece_db x0 x1 x2 x3 x4 x5 1152 _ (dbV d3 (accV (midV a3) w0 w1 w2 x3)) (by decide) (db_apply A3 B3 D3 W0 W1 W2 (row_cb x3))
  · exact piece_da x0 x1 x2 x3 x4 x5 1152 _ (daV (dacV d3 (midV b3) (accV (midV a3) w0 w1 w2 x3)) w0 w1 w2) (by decide) (da_apply A3 B3 D3 W0 W1 W2 (row_cb x3))
  · exact piece_db x0 x1 x2 x3 x4 x5 768 _ (dbV d2 (accV (midV a2) w0 w1 w2 x3)) (by decide) (db_apply A2 B2 D2 W0 W1 W2 (row_cb x3))
  · exact piece_da x0 x1 x2 x3 x4 x5 768 _ (daV (dacV d2 (midV b2) (accV (midV a2) w0 w1 w2 x3)) w0 w1 w2) (by decide) (da_apply A2 B2 D2 W0 W1 W2 (row_cb x3))
  · exact piece_db x0 x1 x2 x3 x4 x5 384 _ (dbV d1 (accV (midV a1) w0 w1 w2 x3)) (by decide) (db_apply A1 B1 D1 W0 W1 W2 (row_cb x3))
  · exact piece_da x0 x1 x2 x3 x4 x5 384 _ (daV (dacV d1 (midV b1) (accV (midV a1) w0 w1 w2 x3)) w0 w1 w2) (by decide) (da_apply A1 B1 D1 W0 W1 W2 (row_cb x3))
  · exact piece_db x0 x1 x2 x3 x4 x5 0 _ (dbV (firstV d0) (accV (maskV (firstV (castV a0))) w0 w1 w2 x3)) (by decide) (db_apply A0 B0 D0 W0 W1 W2 (row_cb x3))
  · exact piece_da0 x0 x1 x2 x3 x4 x5 _ (daV (dacV (firstV d0) (firstV (castV b0)) (accV (maskV (firstV (castV a0))) w0 w1 w2 x3)) w0 w1 w2) (da_apply A0 B0 D0 W0 W1 W2 (row_cb x3))

theorem out7 (c : Dev nD) (i : grid0.Coords) (arg1 : Memref sig .tc .vmem S1x4224x256 .f32) (harg1 : arg1.IsWhole) (arg2 : Memref sig .tc .vmem S1x4224x256 .f32) (harg2 : arg2.IsWhole) (arg3 : Memref sig .tc .vmem S8x256 .f32) (harg3 : arg3.IsWhole) (arg4 : Memref sig .tc .vmem S1x256 .f32) (harg4 : arg4.IsWhole) (arg5 : Memref sig .tc .vmem S4224x1024 .bf16) (harg5 : arg5.IsWhole) (arg6 : Memref sig .tc .vmem S256x1024 .bf16) (harg6 : arg6.IsWhole) (arg7 : Memref sig .tc .vmem S2x4224x256 .bf16) (harg7 : arg7.IsWhole) (arg8 : Memref sig .tc .vmem S8x256 .f32) (harg8 : arg8.IsWhole) (arg9 : Memref sig .tc .vmem S1x256 .f32) (harg9 : arg9.IsWhole) (arg10 : Memref sig .tc .vmem S4224x256 .f32) (harg10 : arg10.IsWhole)
    (r : Fin 8) (q : Fin 256) :
    out0_A_7 c i arg1 harg1 arg2 harg2 arg3 harg3 arg4 harg4 arg5 harg5 arg6 harg6 arg7 harg7 arg8 harg8 arg9 harg9 arg10 harg10 x0 x1 x2 x3 x4 x5 (ix2 r q) = bgcw x0 x1 x2 x3 x4 x5 (ix2 r q) := by
  unfold out0_A_7
  frame_out
  obtain ⟨d0, hd0⟩ : ∃ v, v = arg10.view.readCov (scrL1 x4 x5) (Rect.unit ![0, 0] ![392, 256] inb_S4224x256_S392x256_0_0).toLoadRect := ⟨_, rfl⟩
  have D0 : Win (firstV d0) (pD x4 x5) 0 := by rw [hd0]; exact win_firstD _ _ 1 (by decide) rfl _ (by decide)
  obtain ⟨a0, ha0⟩ : ∃ v, v = View.ld x0 (Rect.unit ![0, 0, 0] ![1, 392, 256] inb_S1x4224x256_S1x392x256_0_0_0) := ⟨_, rfl⟩
  have A0 : Win (maskV (firstV (castV a0))) (pA x0) 0 := by rw [ha0]; exact win_firstA _ _
  obtain ⟨b0, hb0⟩ : ∃ v, v = View.ld x1 (Rect.unit ![0, 0, 0] ![1, 392, 256] inb_S1x4224x256_S1x392x256_0_0_0) := ⟨_, rfl⟩
  have B0 : Win (firstV (castV b0)) (pB x1) 0 := by rw [hb0]; exact win_firstB _ _
  obtain ⟨d1, hd1⟩ : ∃ v, v = arg10.view.readCov (scrL2 x4 x5) (Rect.unit ![376, 0] ![400, 256] inb_S4224x256_S400x256_376_0).toLoadRect := ⟨_, rfl⟩
  have D1 : Win d1 (pD x4 x5) 384 := by rw [hd1]; exact win_midD _ _ 2 (by decide) rfl 376 _ (by decide)
  obtain ⟨a1, ha1⟩ : ∃ v, v = View.ld x0 (Rect.unit ![0, 376, 0] ![1, 400, 256] inb_S1x4224x256_S1x400x256_0_376_0) := ⟨_, rfl⟩
  have A1 : Win (midV a1) (pA x0) 384 := by rw [ha1]; exact win_midA _ 376 _ (by decide) (by decide)
  obtain ⟨b1, hb1⟩ : ∃ v, v = View.ld x1 (Rect.unit ![0, 376, 0] ![1, 400, 256] inb_S1x4224x256_S1x400x256_0_376_0) := ⟨_, rfl⟩
  have B1 : Win (midV b1) (pB x1) 384 := by rw [hb1]; exact win_midB _ 376 _ (by decide)
  obtain ⟨d2, hd2⟩ : ∃ v, v = arg10.view.readCov (scrL3 x4 x5) (Rect.unit ![760, 0] ![400, 256] inb_S4224x256_S400x256_760_0).toLoadRect := ⟨_, rfl⟩
  have D2 : Win d2 (pD x4 x5) 768 := by rw [hd2]; exact win_midD _ _ 3 (by decide) rfl 760 _ (by decide)
  obtain ⟨a2, ha2⟩ : ∃ v, v = View.ld x0 (Rect.unit ![0, 760, 0] ![1, 400, 256] inb_S1x4224x256_S1x400x256_0_760_0) := ⟨_, rfl⟩
  have A2 : Win (midV a2) (pA x0) 768 := by rw [ha2]; exact win_midA _ 760 _ (by decide) (by decide)
  obtain ⟨b2, hb2⟩ : ∃ v, v = View.ld x1 (Rect.unit ![0, 760, 0] ![1, 400, 256] inb_S1x4224x256_S1x400x256_0_760_0) := ⟨_, rfl⟩
  have B2 : Win (midV b2) (pB x1) 768 := by rw [hb2]; exact win_midB _ 760 _ (by decide)
  obtain ⟨d3, hd3⟩ : ∃ v, v = arg10.view.readCov (scrL4 x4 x5) (Rect.unit ![1144, 0] ![400, 256] inb_S4224x256_S400x256_1144_0).toLoadRect := ⟨_, rfl⟩
  have D3 : Win d3 (pD x4 x5) 1152 := by rw [hd3]; exact win_midD _ _ 4 (by decide) rfl 1144 _ (by decide)
  obtain ⟨a3, ha3⟩ : ∃ v, v = View.ld x0 (Rect.unit ![0, 1144, 0] ![1, 400, 256] inb_S1x4224x256_S1x400x256_0_1144_0) := ⟨_, rfl⟩
  have A3 : Win (midV a3) (pA x0) 1152 := by rw [ha3]; exact win_midA _ 1144 _ (by decide) (by decide)
  obtain ⟨b3, hb3⟩ : ∃ v, v = View.ld x1 (Rect.unit ![0, 1144, 0] ![1, 400, 256] inb_S1x4224x256_S1x400x256_0_1144_0) := ⟨_, rfl⟩
  have B3 : Win (midV b3) (pB x1) 1152 := by rw [hb3]; exact win_midB _ 1144 _ (by decide)
  obtain ⟨d4, hd4⟩ : ∃ v, v = arg10.view.readCov (scrL5 x4 x5) (Rect.unit ![1528, 0] ![400, 256] inb_S4224x256_S400x256_1528_0).toLoadRect := ⟨_, rfl⟩
  have D4 : Win d4 (pD x4 x5) 1536 := by rw [hd4]; exact win_midD _ _ 5 (by decide) rfl 1528 _ (by decide)
  obtain ⟨a4, ha4⟩ : ∃ v, v = View.ld x0 (Rect.unit ![0, 1528, 0] ![1, 400, 256] inb_S1x4224x256_S1x400x256_0_1528_0) := ⟨_, rfl⟩
  have A4 : Win (midV a4) (pA x0) 1536 := by rw [ha4]; exact win_midA _ 1528 _ (by decide) (by decide)
  obtain ⟨b4, hb4⟩ : ∃ v, v = View.ld x1 (Rect.unit ![0, 1528, 0] ![1, 400, 256] inb_S1x4224x256_S1x400x256_0_1528_0) := ⟨_, rfl⟩
  have B4 : Win (midV b4) (pB x1) 1536 := by rw [hb4]; exact win_midB _ 1528 _ (by decide)
  obtain ⟨d5, hd5⟩ : ∃ v, v = arg10.view.readCov (scrL6 x4 x5) (Rect.unit ![1912, 0] ![400, 256] inb_S4224x256_S400x256_1912_0).toLoadRect := ⟨_, rfl⟩
  have D5 : Win d5 (pD x4 x5) 1920 := by rw [hd5]; exact win_midD _ _ 6 (by decide) rfl 1912 _ (by decide)
  obtain ⟨a5, ha5⟩ : ∃ v, v = View.ld x0 (Rect.unit ![0, 1912, 0] ![1, 400, 256] inb_S1x4224x256_S1x400x256_0_1912_0) := ⟨_, rfl⟩
  have A5 : Win (midV a5) (pA x0) 1920 := by rw [ha5]; exact win_midA _ 1912 _ (by decide) (by decide)
  obtain ⟨b5, hb5⟩ : ∃ v, v = View.ld x1 (Rect.unit ![0, 1912, 0] ![1, 400, 256] inb_S1x4224x256_S1x400x256_0_1912_0) := ⟨_, rfl⟩
  have B5 : Win (midV b5) (pB x1) 1920 := by rw [hb5]; exact win_midB _ 1912 _ (by decide)
  obtain ⟨d6, hd6⟩ : ∃ v, v = arg10.view.readCov (scrL7 x4 x5) (Rect.unit ![2296, 0] ![400, 256] inb_S4224x256_S400x256_2296_0).toLoadRect := ⟨_, rfl⟩
  have D6 : Win d6 (pD x4 x5) 2304 := by rw [hd6]; exact win_midD _ _ 7 (by decide) rfl 2296 _ (by decide)
  obtain ⟨a6, ha6⟩ : ∃ v, v = View.ld x0 (Rect.unit ![0, 2296, 0] ![1, 400, 256] inb_S1x4224x256_S1x400x256_0_2296_0) := ⟨_, rfl⟩
  have A6 : Win (midV a6) (pA x0) 2304 := by rw [ha6]; exact win_midA _ 2296 _ (by decide) (by decide)
  obtain ⟨b6, hb6⟩ : ∃ v, v = View.ld x1 (Rect.unit ![0, 2296, 0] ![1, 400, 256] inb_S1x4224x256_S1x400x256_0_2296_0) := ⟨_, rfl⟩
  have B6 : Win (midV b6) (pB x1) 2304 := by rw [hb6]; exact win_midB _ 2296 _ (by decide)
  obtain ⟨d7, hd7⟩ : ∃ v, v = arg10.view.readCov (scrL8 x4 x5) (Rect.unit ![2680, 0] ![400, 256] inb_S4224x256_S400x256_2680_0).toLoadRect := ⟨_, rfl⟩
  have D7 : Win d7 (pD x4 x5) 2688 := by rw [hd7]; exact win_midD _ _ 8 (by decide) rfl 2680 _ (by decide)
  obtain ⟨a7, ha7⟩ : ∃ v, v = View.ld x0 (Rect.unit ![0, 2680, 0] ![1, 400, 256] inb_S1x4224x256_S1x400x256_0_2680_0) := ⟨_, rfl⟩
  have A7 : Win (midV a7) (pA x0) 2688 := by rw [ha7]; exact win_midA _ 2680 _ (by decide) (by decide)
  obtain ⟨b7, hb7⟩ : ∃ v, v = View.ld x1 (Rect.unit ![0, 2680, 0] ![1, 400, 256] inb_S1x4224x256_S1x400x256_0_2680_0) := ⟨_, rfl⟩
  have B7 : Win (midV b7) (pB x1) 2688 := by rw [hb7]; exact win_midB _ 2680 _ (by decide)
  obtain ⟨d8, hd8⟩ : ∃ v, v = arg10.view.readCov (scrL9 x4 x5) (Rect.unit ![3064, 0] ![400, 256] inb_S4224x256_S400x256_3064_0).toLoadRect := ⟨_, rfl⟩
  have D8 : Win d8 (pD x4 x5) 3072 := by rw [hd8]; exact win_midD _ _ 9 (by decide) rfl 3064 _ (by decide)
  obtain ⟨a8, ha8⟩ : ∃ v, v = View.ld x0 (Rect.unit ![0, 3064, 0] ![1, 400, 256] inb_S1x4224x256_S1x400x256_0_3064_0) := ⟨_, rfl⟩
  have A8 : Win (midV a8) (pA x0) 3072 := by rw [ha8]; exact win_midA _ 3064 _ (by decide) (by decide)
  obtain ⟨b8, hb8⟩ : ∃ v, v = View.ld x1 (Rect.unit ![0, 3064, 0] ![1, 400, 256] inb_S1x4224x256_S1x400x256_0_3064_0) := ⟨_, rfl⟩
  have B8 : Win (midV b8) (pB x1) 3072 := by rw [hb8]; exact win_midB _ 3064 _ (by decide)
  obtain ⟨d9, hd9⟩ : ∃ v, v = arg10.view.readCov (scrL10 x4 x5) (Rect.unit ![3448, 0] ![400, 256] inb_S4224x256_S400x256_3448_0).toLoadRect := ⟨_, rfl⟩
  have D9 : Win d9 (pD x4 x5) 3456 := by rw [hd9]; exact win_midD _ _ 10 (by decide) rfl 3448 _ (by decide)
  obtain ⟨a9, ha9⟩ : ∃ v, v = View.ld x0 (Rect.unit ![0, 3448, 0] ![1, 400, 256] inb_S1x4224x256_S1x400x256_0_3448_0) := ⟨_, rfl⟩
  have A9 : Win (midV a9) (pA x0) 3456 := by rw [ha9]; exact win_midA _ 3448 _ (by decide) (by decide)
  obtain ⟨b9, hb9⟩ : ∃ v, v = View.ld x1 (Rect.unit ![0, 3448, 0] ![1, 400, 256] inb_S1x4224x256_S1x400x256_0_3448_0) := ⟨_, rfl⟩
  have B9 : Win (midV b9) (pB x1) 3456 := by rw [hb9]; exact win_midB _ 3448 _ (by decide)
  obtain ⟨d10, hd10⟩ : ∃ v, v = arg10.view.readCov (scrL10 x4 x5) (Rect.unit ![3832, 0] ![392, 256] inb_S4224x256_S392x256_3832_0).toLoadRect := ⟨_, rfl⟩
  have D10 : Win (lastV d10) (pD x4 x5) 3840 := by rw [hd10]; exact win_lastD _ _ rfl _
  obtain ⟨a10, ha10⟩ : ∃ v, v = View.ld x0 (Rect.unit ![0, 3832, 0] ![1, 392, 256] inb_S1x4224x256_S1x392x256_0_3832_0) := ⟨_, rfl⟩
  have A10 : Win (lastV (castV a10)) (pA x0) 3840 := by rw [ha10]; exact win_lastA _ _
  obtain ⟨b10, hb10⟩ : ∃ v, v = View.ld x1 (Rect.unit ![0, 3832, 0] ![1, 392, 256] inb_S1x4224x256_S1x392x256_0_3832_0) := ⟨_, rfl⟩
  have B10 : Win (lastV (castV b10)) (pB x1) 3840 := by rw [hb10]; exact win_lastB _ _
  obtain ⟨w0, hw0⟩ : ∃ v, v = View.ld x2 (Rect.unit ![0, 0] ![1, 256] inb_S8x256_S1x256_0_0) := ⟨_, rfl⟩
  have W0 : Row w0 (wt x2 0) := by rw [hw0]; exact row_ld _ 0 _ (by decide)
  obtain ⟨w1, hw1⟩ : ∃ v, v = View.ld x2 (Rect.unit ![1, 0] ![1, 256] inb_S8x256_S1x256_1_0) := ⟨_, rfl⟩
  have W1 : Row w1 (wt x2 1) := by rw [hw1]; exact row_ld _ 1 _ (by decide)
  obtain ⟨w2, hw2⟩ : ∃ v, v = View.ld x2 (Rect.unit ![2, 0] ![1, 256] inb_S8x256_S1x256_2_0) := ⟨_, rfl⟩
  have W2 : Row w2 (wt x2 2) := by rw [hw2]; exact row_ld _ 2 _ (by decide)
  rw [← hd0, ← hd1, ← hd2, ← hd3, ← hd4, ← hd5, ← hd6, ← hd7, ← hd8, ← hd9, ← hd10]
  rw [← ha0, ← hb0, ← ha1, ← hb1, ← ha2, ← hb2, ← ha3, ← hb3, ← ha4, ← hb4, ← ha5, ← hb5, ← ha6, ← hb6, ← ha7, ← hb7, ← ha8, ← hb8, ← ha9, ← hb9, ← ha10, ← hb10, ← hw0, ← hw1, ← hw2]
  clear hd0 ha0 hb0 hd1 ha1 hb1 hd2 ha2 hb2 hd3 ha3 hb3 hd4 ha4 hb4 hd5 ha5 hb5 hd6 ha6 hb6 hd7 ha7 hb7 hd8 ha8 hb8 hd9 ha9 hb9 hd10 ha10 hb10 hw0 hw1 hw2
  refine (canon_rows (addf (addf (addf (addf (addf (addf (addf (addf (addf (addf (addf (broadcast S1x256 (Scalar.ofBits (F := Ideal) .f32 0x00000000#32))
      (sumV (mulf (coreV (dacV (firstV d0) (firstV (castV b0)) (accV (maskV (firstV (castV a0))) w0 w1 w2 x3))) (coreV (rotV 2#32 (maskV (firstV (castV a0))))))))
      (sumV (mulf (coreV (dacV d1 (midV b1) (accV (midV a1) w0 w1 w2 x3))) (coreV (rotV 2#32 (midV a1))))))
      (sumV (mulf (coreV (dacV d2 (midV b2) (accV (midV a2) w0 w1 w2 x3))) (coreV (rotV 2#32 (midV a2))))))
      (sumV (mulf (coreV (dacV d3 (midV b3) (accV (midV a3) w0 w1 w2 x3))) (coreV (rotV 2#32 (midV a3))))))
      (sumV (mulf (coreV (dacV d4 (midV b4) (accV (midV a4) w0 w1 w2 x3))) (coreV (rotV 2#32 (midV a4))))))
      (sumV (mulf (coreV (dacV d5 (midV b5) (accV (midV a5) w0 w1 w2 x3))) (coreV (rotV 2#32 (midV a5))))))
      (sumV (mulf (coreV (dacV d6 (midV b6) (accV (midV a6) w0 w1 w2 x3))) (coreV (rotV 2#32 (midV a6))))))
      (sumV (mulf (coreV (dacV d7 (midV b7) (accV (midV a7) w0 w1 w2 x3))) (coreV (rotV 2#32 (midV a7))))))
      (sumV (mulf (coreV (dacV d8 (midV b8) (accV (midV a8) w0 w1 w2 x3))) (coreV (rotV 2#32 (midV a8))))))
      (sumV (mulf (coreV (dacV d9 (midV b9) (accV (midV a9) w0 w1 w2 x3))) (coreV (rotV 2#32 (midV a9))))))
      (sumV (mulf (coreV (dacV (lastV d10) (lastV (castV b10)) (accV (lastV (castV a10)) w0 w1 w2 x3))) (coreV (rotV 2#32 (lastV (castV a10)))))))
    (addf (addf (addf (addf (addf (addf (addf (addf (addf (addf (addf (broadcast S1x256 (Scalar.ofBits (F := Ideal) .f32 0x00000000#32))
      (sumV (mulf (coreV (dacV (firstV d0) (firstV (castV b0)) (accV (maskV (firstV (castV a0))) w0 w1 w2 x3))) (coreV (rotV 1#32 (maskV (firstV (castV a0))))))))
      (sumV (mulf (coreV (dacV d1 (midV b1) (accV (midV a1) w0 w1 w2 x3))) (coreV (rotV 1#32 (midV a1))))))
      (sumV (mulf (coreV (dacV d2 (midV b2) (accV (midV a2) w0 w1 w2 x3))) (coreV (rotV 1#32 (midV a2))))))
      (sumV (mulf (coreV (dacV d3 (midV b3) (accV (midV a3) w0 w1 w2 x3))) (coreV (rotV 1#32 (midV a3))))))
      (sumV (mulf (coreV (dacV d4 (midV b4) (accV (midV a4) w0 w1 w2 x3))) (coreV (rotV 1#32 (midV a4))))))
      (sumV (mulf (coreV (dacV d5 (midV b5) (accV (midV a5) w0 w1 w2 x3))) (coreV (rotV 1#32 (midV a5))))))
      (sumV (mulf (coreV (dacV d6 (midV b6) (accV (midV a6) w0 w1 w2 x3))) (coreV (rotV 1#32 (midV a6))))))
      (sumV (mulf (coreV (dacV d7 (midV b7) (accV (midV a7) w0 w1 w2 x3))) (coreV (rotV 1#32 (midV a7))))))
      (sumV (mulf (coreV (dacV d8 (midV b8) (accV (midV a8) w0 w1 w2 x3))) (coreV (rotV 1#32 (midV a8))))))
      (sumV (mulf (coreV (dacV d9 (midV b9) (accV (midV a9) w0 w1 w2 x3))) (coreV (rotV 1#32 (midV a9))))))
      (sumV (mulf (coreV (dacV (lastV d10) (lastV (castV b10)) (accV (lastV (castV a10)) w0 w1 w2 x3))) (coreV (rotV 1#32 (lastV (castV a10)))))))
    (addf (addf (addf (addf (addf (addf (addf (addf (addf (addf (addf (broadcast S1x256 (Scalar.ofBits (F := Ideal) .f32 0x00000000#32))
      (sumV (mulf (coreV (dacV (firstV d0) (firstV (castV b0)) (accV (maskV (firstV (castV a0))) w0 w1 w2 x3))) (coreV (maskV (firstV (castV a0)))))))
      (sumV (mulf (coreV (dacV d1 (midV b1) (accV (midV a1) w0 w1 w2 x3))) (coreV (midV a1)))))
      (sumV (mulf (coreV (dacV d2 (midV b2) (accV (midV a2) w0 w1 w2 x3))) (coreV (midV a2)))))
      (sumV (mulf (coreV (dacV d3 (midV b3) (accV (midV a3) w0 w1 w2 x3))) (coreV (midV a3)))))
      (sumV (mulf (coreV (dacV d4 (midV b4) (accV (midV a4) w0 w1 w2 x3))) (coreV (midV a4)))))
      (sumV (mulf (coreV (dacV d5 (midV b5) (accV (midV a5) w0 w1 w2 x3))) (coreV (midV a5)))))
      (sumV (mulf (coreV (dacV d6 (midV b6) (accV (midV a6) w0 w1 w2 x3))) (coreV (midV a6)))))
      (sumV (mulf (coreV (dacV d7 (midV b7) (accV (midV a7) w0 w1 w2 x3))) (coreV (midV a7)))))
      (sumV (mulf (coreV (dacV d8 (midV b8) (accV (midV a8) w0 w1 w2 x3))) (coreV (midV a8)))))
      (sumV (mulf (coreV (dacV d9 (midV b9) (accV (midV a9) w0 w1 w2 x3))) (coreV (midV a9)))))
      (sumV (mulf (coreV (dacV (lastV d10) (lastV (castV b10)) (accV (lastV (castV a10)) w0 w1 w2 x3))) (coreV (lastV (castV a10)))))) _ _ _ _ _ r q).trans ?_
  have e0 := (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (zero_row q) (sum0_apply A0 B0 D0 W0 W1 W2 (row_cb x3) q))
      (sum0_apply A1 B1 D1 W0 W1 W2 (row_cb x3) q))
      (sum0_apply A2 B2 D2 W0 W1 W2 (row_cb x3) q))
      (sum0_apply A3 B3 D3 W0 W1 W2 (row_cb x3) q))
      (sum0_apply A4 B4 D4 W0 W1 W2 (row_cb x3) q))
      (sum0_apply A5 B5 D5 W0 W1 W2 (row_cb x3) q))
      (sum0_apply A6 B6 D6 W0 W1 W2 (row_cb x3) q))
      (sum0_apply A7 B7 D7 W0 W1 W2 (row_cb x3) q))
      (sum0_apply A8 B8 D8 W0 W1 W2 (row_cb x3) q))
      (sum0_apply A9 B9 D9 W0 W1 W2 (row_cb x3) q))
      (sum0_apply A10 B10 D10 W0 W1 W2 (row_cb x3) q))
  have e1 := (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (zero_row q) (sum1_apply A0 B0 D0 W0 W1 W2 (row_cb x3) q))
      (sum1_apply A1 B1 D1 W0 W1 W2 (row_cb x3) q))
      (sum1_apply A2 B2 D2 W0 W1 W2 (row_cb x3) q))
      (sum1_apply A3 B3 D3 W0 W1 W2 (row_cb x3) q))
      (sum1_apply A4 B4 D4 W0 W1 W2 (row_cb x3) q))
      (sum1_apply A5 B5 D5 W0 W1 W2 (row_cb x3) q))
      (sum1_apply A6 B6 D6 W0 W1 W2 (row_cb x3) q))
      (sum1_apply A7 B7 D7 W0 W1 W2 (row_cb x3) q))
      (sum1_apply A8 B8 D8 W0 W1 W2 (row_cb x3) q))
      (sum1_apply A9 B9 D9 W0 W1 W2 (row_cb x3) q))
      (sum1_apply A10 B10 D10 W0 W1 W2 (row_cb x3) q))
  have e2 := (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (zero_row q) (sum2_apply A0 B0 D0 W0 W1 W2 (row_cb x3) q))
      (sum2_apply A1 B1 D1 W0 W1 W2 (row_cb x3) q))
      (sum2_apply A2 B2 D2 W0 W1 W2 (row_cb x3) q))
      (sum2_apply A3 B3 D3 W0 W1 W2 (row_cb x3) q))
      (sum2_apply A4 B4 D4 W0 W1 W2 (row_cb x3) q))
      (sum2_apply A5 B5 D5 W0 W1 W2 (row_cb x3) q))
      (sum2_apply A6 B6 D6 W0 W1 W2 (row_cb x3) q))
      (sum2_apply A7 B7 D7 W0 W1 W2 (row_cb x3) q))
      (sum2_apply A8 B8 D8 W0 W1 W2 (row_cb x3) q))
      (sum2_apply A9 B9 D9 W0 W1 W2 (row_cb x3) q))
      (sum2_apply A10 B10 D10 W0 W1 W2 (row_cb x3) q))
  have f0 := e0.trans (sum_tiles (fun s => bdac x0 x1 x2 x3 x4 x5 s q * pA x0 (s - 2) q))
  have f1 := e1.trans (sum_tiles (fun s => bdac x0 x1 x2 x3 x4 x5 s q * pA x0 (s - 1) q))
  have f2 := e2.trans (sum_tiles (fun s => bdac x0 x1 x2 x3 x4 x5 s q * pA x0 s q))
  refine (if_congr Iff.rfl f2 (if_congr Iff.rfl f1 (if_congr Iff.rfl f0 ?_))).trans rfl
  unfold k0_pay2
  pointwise

theorem out8 (c : Dev nD) (i : grid0.Coords) (arg1 : Memref sig .tc .vmem S1x4224x256 .f32) (harg1 : arg1.IsWhole) (arg2 : Memref sig .tc .vmem S1x4224x256 .f32) (harg2 : arg2.IsWhole) (arg3 : Memref sig .tc .vmem S8x256 .f32) (harg3 : arg3.IsWhole) (arg4 : Memref sig .tc .vmem S1x256 .f32) (harg4 : arg4.IsWhole) (arg5 : Memref sig .tc .vmem S4224x1024 .bf16) (harg5 : arg5.IsWhole) (arg6 : Memref sig .tc .vmem S256x1024 .bf16) (harg6 : arg6.IsWhole) (arg7 : Memref sig .tc .vmem S2x4224x256 .bf16) (harg7 : arg7.IsWhole) (arg8 : Memref sig .tc .vmem S8x256 .f32) (harg8 : arg8.IsWhole) (arg9 : Memref sig .tc .vmem S1x256 .f32) (harg9 : arg9.IsWhole) (arg10 : Memref sig .tc .vmem S4224x256 .f32) (harg10 : arg10.IsWhole)
    (q : Fin 256) :
    out0_A_8 c i arg1 harg1 arg2 harg2 arg3 harg3 arg4 harg4 arg5 harg5 arg6 harg6 arg7 harg7 arg8 harg8 arg9 harg9 arg10 harg10 x0 x1 x2 x3 x4 x5 (ix2 (0 : Fin 1) q) = bgb x0 x1 x2 x3 x4 x5 q := by
  unfold out0_A_8
  frame_out
  obtain ⟨d0, hd0⟩ : ∃ v, v = arg10.view.readCov (scrL1 x4 x5) (Rect.unit ![0, 0] ![392, 256] inb_S4224x256_S392x256_0_0).toLoadRect := ⟨_, rfl⟩
  have D0 : Win (firstV d0) (pD x4 x5) 0 := by rw [hd0]; exact win_firstD _ _ 1 (by decide) rfl _ (by decide)
  obtain ⟨a0, ha0⟩ : ∃ v, v = View.ld x0 (Rect.unit ![0, 0, 0] ![1, 392, 256] inb_S1x4224x256_S1x392x256_0_0_0) := ⟨_, rfl⟩
  have A0 : Win (maskV (firstV (castV a0))) (pA x0) 0 := by rw [ha0]; exact win_firstA _ _
  obtain ⟨b0, hb0⟩ : ∃ v, v = View.ld x1 (Rect.unit ![0, 0, 0] ![1, 392, 256] inb_S1x4224x256_S1x392x256_0_0_0) := ⟨_, rfl⟩
  have B0 : Win (firstV (castV b0)) (pB x1) 0 := by rw [hb0]; exact win_firstB _ _
  obtain ⟨d1, hd1⟩ : ∃ v, v = arg10.view.readCov (scrL2 x4 x5) (Rect.unit ![376, 0] ![400, 256] inb_S4224x256_S400x256_376_0).toLoadRect := ⟨_, rfl⟩
  have D1 : Win d1 (pD x4 x5) 384 := by rw [hd1]; exact win_midD _ _ 2 (by decide) rfl 376 _ (by decide)
  obtain ⟨a1, ha1⟩ : ∃ v, v = View.ld x0 (Rect.unit ![0, 376, 0] ![1, 400, 256] inb_S1x4224x256_S1x400x256_0_376_0) := ⟨_, rfl⟩
  have A1 : Win (midV a1) (pA x0) 384 := by rw [ha1]; exact win_midA _ 376 _ (by decide) (by decide)
  obtain ⟨b1, hb1⟩ : ∃ v, v = View.ld x1 (Rect.unit ![0, 376, 0] ![1, 400, 256] inb_S1x4224x256_S1x400x256_0_376_0) := ⟨_, rfl⟩
  have B1 : Win (midV b1) (pB x1) 384 := by rw [hb1]; exact win_midB _ 376 _ (by decide)
  obtain ⟨d2, hd2⟩ : ∃ v, v = arg10.view.readCov (scrL3 x4 x5) (Rect.unit ![760, 0] ![400, 256] inb_S4224x256_S400x256_760_0).toLoadRect := ⟨_, rfl⟩
  have D2 : Win d2 (pD x4 x5) 768 := by rw [hd2]; exact win_midD _ _ 3 (by decide) rfl 760 _ (by decide)
  obtain ⟨a2, ha2⟩ : ∃ v, v = View.ld x0 (Rect.unit ![0, 760, 0] ![1, 400, 256] inb_S1x4224x256_S1x400x256_0_760_0) := ⟨_, rfl⟩
  have A2 : Win (midV a2) (pA x0) 768 := by rw [ha2]; exact win_midA _ 760 _ (by decide) (by decide)
  obtain ⟨b2, hb2⟩ : ∃ v, v = View.ld x1 (Rect.unit ![0, 760, 0] ![1, 400, 256] inb_S1x4224x256_S1x400x256_0_760_0) := ⟨_, rfl⟩
  have B2 : Win (midV b2) (pB x1) 768 := by rw [hb2]; exact win_midB _ 760 _ (by decide)
  obtain ⟨d3, hd3⟩ : ∃ v, v = arg10.view.readCov (scrL4 x4 x5) (Rect.unit ![1144, 0] ![400, 256] inb_S4224x256_S400x256_1144_0).toLoadRect := ⟨_, rfl⟩
  have D3 : Win d3 (pD x4 x5) 1152 := by rw [hd3]; exact win_midD _ _ 4 (by decide) rfl 1144 _ (by decide)
  obtain ⟨a3, ha3⟩ : ∃ v, v = View.ld x0 (Rect.unit ![0, 1144, 0] ![1, 400, 256] inb_S1x4224x256_S1x400x256_0_1144_0) := ⟨_, rfl⟩
  have A3 : Win (midV a3) (pA x0) 1152 := by rw [ha3]; exact win_midA _ 1144 _ (by decide) (by decide)
  obtain ⟨b3, hb3⟩ : ∃ v, v = View.ld x1 (Rect.unit ![0, 1144, 0] ![1, 400, 256] inb_S1x4224x256_S1x400x256_0_1144_0) := ⟨_, rfl⟩
  have B3 : Win (midV b3) (pB x1) 1152 := by rw [hb3]; exact win_midB _ 1144 _ (by decide)
  obtain ⟨d4, hd4⟩ : ∃ v, v = arg10.view.readCov (scrL5 x4 x5) (Rect.unit ![1528, 0] ![400, 256] inb_S4224x256_S400x256_1528_0).toLoadRect := ⟨_, rfl⟩
  have D4 : Win d4 (pD x4 x5) 1536 := by rw [hd4]; exact win_midD _ _ 5 (by decide) rfl 1528 _ (by decide)
  obtain ⟨a4, ha4⟩ : ∃ v, v = View.ld x0 (Rect.unit ![0, 1528, 0] ![1, 400, 256] inb_S1x4224x256_S1x400x256_0_1528_0) := ⟨_, rfl⟩
  have A4 : Win (midV a4) (pA x0) 1536 := by rw [ha4]; exact win_midA _ 1528 _ (by decide) (by decide)
  obtain ⟨b4, hb4⟩ : ∃ v, v = View.ld x1 (Rect.unit ![0, 1528, 0] ![1, 400, 256] inb_S1x4224x256_S1x400x256_0_1528_0) := ⟨_, rfl⟩
  have B4 : Win (midV b4) (pB x1) 1536 := by rw [hb4]; exact win_midB _ 1528 _ (by decide)
  obtain ⟨d5, hd5⟩ : ∃ v, v = arg10.view.readCov (scrL6 x4 x5) (Rect.unit ![1912, 0] ![400, 256] inb_S4224x256_S400x256_1912_0).toLoadRect := ⟨_, rfl⟩
  have D5 : Win d5 (pD x4 x5) 1920 := by rw [hd5]; exact win_midD _ _ 6 (by decide) rfl 1912 _ (by decide)
  obtain ⟨a5, ha5⟩ : ∃ v, v = View.ld x0 (Rect.unit ![0, 1912, 0] ![1, 400, 256] inb_S1x4224x256_S1x400x256_0_1912_0) := ⟨_, rfl⟩
  have A5 : Win (midV a5) (pA x0) 1920 := by rw [ha5]; exact win_midA _ 1912 _ (by decide) (by decide)
  obtain ⟨b5, hb5⟩ : ∃ v, v = View.ld x1 (Rect.unit ![0, 1912, 0] ![1, 400, 256] inb_S1x4224x256_S1x400x256_0_1912_0) := ⟨_, rfl⟩
  have B5 : Win (midV b5) (pB x1) 1920 := by rw [hb5]; exact win_midB _ 1912 _ (by decide)
  obtain ⟨d6, hd6⟩ : ∃ v, v = arg10.view.readCov (scrL7 x4 x5) (Rect.unit ![2296, 0] ![400, 256] inb_S4224x256_S400x256_2296_0).toLoadRect := ⟨_, rfl⟩
  have D6 : Win d6 (pD x4 x5) 2304 := by rw [hd6]; exact win_midD _ _ 7 (by decide) rfl 2296 _ (by decide)
  obtain ⟨a6, ha6⟩ : ∃ v, v = View.ld x0 (Rect.unit ![0, 2296, 0] ![1, 400, 256] inb_S1x4224x256_S1x400x256_0_2296_0) := ⟨_, rfl⟩
  have A6 : Win (midV a6) (pA x0) 2304 := by rw [ha6]; exact win_midA _ 2296 _ (by decide) (by decide)
  obtain ⟨b6, hb6⟩ : ∃ v, v = View.ld x1 (Rect.unit ![0, 2296, 0] ![1, 400, 256] inb_S1x4224x256_S1x400x256_0_2296_0) := ⟨_, rfl⟩
  have B6 : Win (midV b6) (pB x1) 2304 := by rw [hb6]; exact win_midB _ 2296 _ (by decide)
  obtain ⟨d7, hd7⟩ : ∃ v, v = arg10.view.readCov (scrL8 x4 x5) (Rect.unit ![2680, 0] ![400, 256] inb_S4224x256_S400x256_2680_0).toLoadRect := ⟨_, rfl⟩
  have D7 : Win d7 (pD x4 x5) 2688 := by rw [hd7]; exact win_midD _ _ 8 (by decide) rfl 2680 _ (by decide)
  obtain ⟨a7, ha7⟩ : ∃ v, v = View.ld x0 (Rect.unit ![0, 2680, 0] ![1, 400, 256] inb_S1x4224x256_S1x400x256_0_2680_0) := ⟨_, rfl⟩
  have A7 : Win (midV a7) (pA x0) 2688 := by rw [ha7]; exact win_midA _ 2680 _ (by decide) (by decide)
  obtain ⟨b7, hb7⟩ : ∃ v, v = View.ld x1 (Rect.unit ![0, 2680, 0] ![1, 400, 256] inb_S1x4224x256_S1x400x256_0_2680_0) := ⟨_, rfl⟩
  have B7 : Win (midV b7) (pB x1) 2688 := by rw [hb7]; exact win_midB _ 2680 _ (by decide)
  obtain ⟨d8, hd8⟩ : ∃ v, v = arg10.view.readCov (scrL9 x4 x5) (Rect.unit ![3064, 0] ![400, 256] inb_S4224x256_S400x256_3064_0).toLoadRect := ⟨_, rfl⟩
  have D8 : Win d8 (pD x4 x5) 3072 := by rw [hd8]; exact win_midD _ _ 9 (by decide) rfl 3064 _ (by decide)
  obtain ⟨a8, ha8⟩ : ∃ v, v = View.ld x0 (Rect.unit ![0, 3064, 0] ![1, 400, 256] inb_S1x4224x256_S1x400x256_0_3064_0) := ⟨_, rfl⟩
  have A8 : Win (midV a8) (pA x0) 3072 := by rw [ha8]; exact win_midA _ 3064 _ (by decide) (by decide)
  obtain ⟨b8, hb8⟩ : ∃ v, v = View.ld x1 (Rect.unit ![0, 3064, 0] ![1, 400, 256] inb_S1x4224x256_S1x400x256_0_3064_0) := ⟨_, rfl⟩
  have B8 : Win (midV b8) (pB x1) 3072 := by rw [hb8]; exact win_midB _ 3064 _ (by decide)
  obtain ⟨d9, hd9⟩ : ∃ v, v = arg10.view.readCov (scrL10 x4 x5) (Rect.unit ![3448, 0] ![400, 256] inb_S4224x256_S400x256_3448_0).toLoadRect := ⟨_, rfl⟩
  have D9 : Win d9 (pD x4 x5) 3456 := by rw [hd9]; exact win_midD _ _ 10 (by decide) rfl 3448 _ (by decide)
  obtain ⟨a9, ha9⟩ : ∃ v, v = View.ld x0 (Rect.unit ![0, 3448, 0] ![1, 400, 256] inb_S1x4224x256_S1x400x256_0_3448_0) := ⟨_, rfl⟩
  have A9 : Win (midV a9) (pA x0) 3456 := by rw [ha9]; exact win_midA _ 3448 _ (by decide) (by decide)
  obtain ⟨b9, hb9⟩ : ∃ v, v = View.ld x1 (Rect.unit ![0, 3448, 0] ![1, 400, 256] inb_S1x4224x256_S1x400x256_0_3448_0) := ⟨_, rfl⟩
  have B9 : Win (midV b9) (pB x1) 3456 := by rw [hb9]; exact win_midB _ 3448 _ (by decide)
  obtain ⟨d10, hd10⟩ : ∃ v, v = arg10.view.readCov (scrL10 x4 x5) (Rect.unit ![3832, 0] ![392, 256] inb_S4224x256_S392x256_3832_0).toLoadRect := ⟨_, rfl⟩
  have D10 : Win (lastV d10) (pD x4 x5) 3840 := by rw [hd10]; exact win_lastD _ _ rfl _
  obtain ⟨a10, ha10⟩ : ∃ v, v = View.ld x0 (Rect.unit ![0, 3832, 0] ![1, 392, 256] inb_S1x4224x256_S1x392x256_0_3832_0) := ⟨_, rfl⟩
  have A10 : Win (lastV (castV a10)) (pA x0) 3840 := by rw [ha10]; exact win_lastA _ _
  obtain ⟨b10, hb10⟩ : ∃ v, v = View.ld x1 (Rect.unit ![0, 3832, 0] ![1, 392, 256] inb_S1x4224x256_S1x392x256_0_3832_0) := ⟨_, rfl⟩
  have B10 : Win (lastV (castV b10)) (pB x1) 3840 := by rw [hb10]; exact win_lastB _ _
  obtain ⟨w0, hw0⟩ : ∃ v, v = View.ld x2 (Rect.unit ![0, 0] ![1, 256] inb_S8x256_S1x256_0_0) := ⟨_, rfl⟩
  have W0 : Row w0 (wt x2 0) := by rw [hw0]; exact row_ld _ 0 _ (by decide)
  obtain ⟨w1, hw1⟩ : ∃ v, v = View.ld x2 (Rect.unit ![1, 0] ![1, 256] inb_S8x256_S1x256_1_0) := ⟨_, rfl⟩
  have W1 : Row w1 (wt x2 1) := by rw [hw1]; exact row_ld _ 1 _ (by decide)
  obtain ⟨w2, hw2⟩ : ∃ v, v = View.ld x2 (Rect.unit ![2, 0] ![1, 256] inb_S8x256_S1x256_2_0) := ⟨_, rfl⟩
  have W2 : Row w2 (wt x2 2) := by rw [hw2]; exact row_ld _ 2 _ (by decide)
  rw [← hd0, ← hd1, ← hd2, ← hd3, ← hd4, ← hd5, ← hd6, ← hd7, ← hd8, ← hd9, ← hd10]
  rw [← ha0, ← hb0, ← ha1, ← hb1, ← ha2, ← hb2, ← ha3, ← hb3, ← ha4, ← hb4, ← ha5, ← hb5, ← ha6, ← hb6, ← ha7, ← hb7, ← ha8, ← hb8, ← ha9, ← hb9, ← ha10, ← hb10, ← hw0, ← hw1, ← hw2]
  clear hd0 ha0 hb0 hd1 ha1 hb1 hd2 ha2 hb2 hd3 ha3 hb3 hd4 ha4 hb4 hd5 ha5 hb5 hd6 ha6 hb6 hd7 ha7 hb7 hd8 ha8 hb8 hd9 ha9 hb9 hd10 ha10 hb10 hw0 hw1 hw2
  refine (show _ = (addf (addf (addf (addf (addf (addf (addf (addf (addf (addf (addf (broadcast S1x256 (Scalar.ofBits (F := Ideal) .f32 0x00000000#32))
      (sumV (coreV (dacV (firstV d0) (firstV (castV b0)) (accV (maskV (firstV (castV a0))) w0 w1 w2 x3)))))
      (sumV (coreV (dacV d1 (midV b1) (accV (midV a1) w0 w1 w2 x3)))))
      (sumV (coreV (dacV d2 (midV b2) (accV (midV a2) w0 w1 w2 x3)))))
      (sumV (coreV (dacV d3 (midV b3) (accV (midV a3) w0 w1 w2 x3)))))
      (sumV (coreV (dacV d4 (midV b4) (accV (midV a4) w0 w1 w2 x3)))))
      (sumV (coreV (dacV d5 (midV b5) (accV (midV a5) w0 w1 w2 x3)))))
      (sumV (coreV (dacV d6 (midV b6) (accV (midV a6) w0 w1 w2 x3)))))
      (sumV (coreV (dacV d7 (midV b7) (accV (midV a7) w0 w1 w2 x3)))))
      (sumV (coreV (dacV d8 (midV b8) (accV (midV a8) w0 w1 w2 x3)))))
      (sumV (coreV (dacV d9 (midV b9) (accV (midV a9) w0 w1 w2 x3)))))
      (sumV (coreV (dacV (lastV d10) (lastV (castV b10)) (accV (lastV (castV a10)) w0 w1 w2 x3))))) (ix2 (0 : Fin 1) q) from ?_).trans ?_
  · rfl
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (zero_row q) (sumb_apply A0 B0 D0 W0 W1 W2 (row_cb x3) q))
      (sumb_apply A1 B1 D1 W0 W1 W2 (row_cb x3) q))
      (sumb_apply A2 B2 D2 W0 W1 W2 (row_cb x3) q))
      (sumb_apply A3 B3 D3 W0 W1 W2 (row_cb x3) q))
      (sumb_apply A4 B4 D4 W0 W1 W2 (row_cb x3) q))
      (sumb_apply A5 B5 D5 W0 W1 W2 (row_cb x3) q))
      (sumb_apply A6 B6 D6 W0 W1 W2 (row_cb x3) q))
      (sumb_apply A7 B7 D7 W0 W1 W2 (row_cb x3) q))
      (sumb_apply A8 B8 D8 W0 W1 W2 (row_cb x3) q))
      (sumb_apply A9 B9 D9 W0 W1 W2 (row_cb x3) q))
      (sumb_apply A10 B10 D10 W0 W1 W2 (row_cb x3) q)).trans (sum_tiles (fun s => bdac x0 x1 x2 x3 x4 x5 s q))

end

end Cert.DgConvIdeal.Dg
-- ==== Proof.Dg.Arr.lean ====
/- The three arrays the kernel leaves, as functions of its five arguments. -/
module

public import proofs.«01_k».proof.Proof.Dg.Out
public import Idealize.ShloMosaic.Lib.StableHlo.ReadAt
public meta import Idealize.ShloMosaic.Lib.Pipeline.ValueKit.Geometry
public import Idealize.ShloMosaic.Lib.Pipeline.ValueKit.Geometry

@[expose] public section

set_option maxRecDepth 16384

noncomputable section

namespace Cert.DgConvIdeal.Dg

open Idealize.ShloMosaic Gen Idealize.ShloMosaic.TcCoe Idealize.ShloMosaic.Tactic Idealize.SL.Sem
open Idealize.ShloMosaic.Pipeline (Dat)

section
variable (U : Vec Ideal S2x4224x2816 .f32) (cw : Vec Ideal S3x2816 .f32) (cb : Vec Ideal S1x2816 .f32) (H : Vec Ideal S4224x1024 .bf16)
  (Wd : Vec Ideal S2816x1024 .bf16)

/-- The activation branch with its padding rows zero, 8 rows of zeros before it and as many after. -/
def gA (s : ℕ) (q : Fin 2816) : EReal := if h : 120 ≤ s ∧ s < 4232 then U (ix3 (0 : Fin 2) (⟨s - 8, by omega⟩ : Fin 4224) q) else 0
/-- The other branch. -/
def gB (s : ℕ) (q : Fin 2816) : EReal := if h : 8 ≤ s ∧ s < 4232 then U (ix3 (1 : Fin 2) (⟨s - 8, by omega⟩ : Fin 4224) q) else 0
/-- The gradient at the down projection's input. -/
def gdg (n : Fin 4224) (q : Fin 2816) : EReal := ∑ k : Fin 1024, H (ix2 n k) * Wd (ix2 q k)
def gD (s : ℕ) (q : Fin 2816) : EReal := if h : 8 ≤ s ∧ s < 4232 then gdg H Wd (⟨s - 8, by omega⟩ : Fin 4224) q else 0
/-- A tap of the convolution, and its bias. -/
def gwt (p : Fin 3) (q : Fin 2816) : EReal := cw (ix2 p q)
def gbi (q : Fin 2816) : EReal := cb (ix2 (0 : Fin 1) q)
/-- The gradient at the convolution's sum, and those of the two branches. -/
def gdac : ℕ → Fin 2816 → EReal := dac (gA U) (gB U) (gD H Wd) (gwt cw 0) (gwt cw 1) (gwt cw 2) (gbi cb)
def gda (n : ℕ) (q : Fin 2816) : EReal :=
  if 112 ≤ n then da (gA U) (gB U) (gD H Wd) (gwt cw 0) (gwt cw 1) (gwt cw 2) (gbi cb) (n + 8) q else 0
def gdb (n : ℕ) (q : Fin 2816) : EReal := db (gA U) (gD H Wd) (gwt cw 0) (gwt cw 1) (gwt cw 2) (gbi cb) (n + 8) q
/-- The gradient of a tap, and that of the bias. -/
def ggw (d : ℕ) (q : Fin 2816) : EReal := ∑ r : Fin 4224, gdac U cw cb H Wd (r.val + 8) q * gA U (r.val + 8 - d) q
def ggb (q : Fin 2816) : EReal := ∑ r : Fin 4224, gdac U cw cb H Wd (r.val + 8) q
/-- The three arrays. -/
def G6 (y : S2x4224x2816.Idx) : EReal := if (y 0).val = 0 then gda U cw cb H Wd (y 1).val (y 2) else gdb U cw cb H Wd (y 1).val (y 2)
def G7 (y : S8x2816.Idx) : EReal :=
  if (y 0).val = 2 then ggw U cw cb H Wd 0 (y 1) else if (y 0).val = 1 then ggw U cw cb H Wd 1 (y 1)
  else if (y 0).val = 0 then ggw U cw cb H Wd 2 (y 1) else 0
def G8 (y : S1x2816.Idx) : EReal := ggb U cw cb H Wd (y 1)

variable {U cw cb H Wd}
variable {x0 x1 : Vec Ideal S1x4224x256 .f32} {x2 : Vec Ideal S8x256 .f32} {x3 : Vec Ideal S1x256 .f32} {x4 : Vec Ideal S4224x1024 .bf16}
  {x5 : Vec Ideal S256x1024 .bf16} {e : Fin 256 → Fin 2816}

/-- The block's arguments are the columns `e` of the arrays. -/
structure Cols (U : Vec Ideal S2x4224x2816 .f32) (cw : Vec Ideal S3x2816 .f32) (cb : Vec Ideal S1x2816 .f32) (H : Vec Ideal S4224x1024 .bf16)
    (Wd : Vec Ideal S2816x1024 .bf16) (x0 x1 : Vec Ideal S1x4224x256 .f32) (x2 : Vec Ideal S8x256 .f32) (x3 : Vec Ideal S1x256 .f32)
    (x4 : Vec Ideal S4224x1024 .bf16) (x5 : Vec Ideal S256x1024 .bf16) (e : Fin 256 → Fin 2816) : Prop where
  h0 : ∀ n q, x0 (ix3 (0 : Fin 1) n q) = U (ix3 (0 : Fin 2) n (e q))
  h1 : ∀ n q, x1 (ix3 (0 : Fin 1) n q) = U (ix3 (1 : Fin 2) n (e q))
  h2 : ∀ (p : Fin 3) q, x2 (ix2 (⟨p.val, by omega⟩ : Fin 8) q) = cw (ix2 p (e q))
  h3 : ∀ q, x3 (ix2 (0 : Fin 1) q) = cb (ix2 (0 : Fin 1) (e q))
  h4 : ∀ n k, x4 (ix2 n k) = H (ix2 n k)
  h5 : ∀ q k, x5 (ix2 q k) = Wd (ix2 (e q) k)

variable (h : Cols U cw cb H Wd x0 x1 x2 x3 x4 x5 e)
include h

theorem pA_eq (s : ℕ) (q : Fin 256) : pA x0 s q = gA U s (e q) := by simp only [pA, gA, h.h0]
theorem pB_eq (s : ℕ) (q : Fin 256) : pB x1 s q = gB U s (e q) := by simp only [pB, gB, h.h1]
theorem pD_eq (s : ℕ) (q : Fin 256) : pD x4 x5 s q = gD H Wd s (e q) := by simp only [pD, gD, dg, gdg, h.h4, h.h5]
theorem wt0_eq (q : Fin 256) : wt x2 0 q = gwt cw 0 (e q) := h.h2 0 q
theorem wt1_eq (q : Fin 256) : wt x2 1 q = gwt cw 1 (e q) := h.h2 1 q
theorem wt2_eq (q : Fin 256) : wt x2 2 q = gwt cw 2 (e q) := h.h2 2 q
theorem bi_eq (q : Fin 256) : bi x3 q = gbi cb (e q) := h.h3 q
theorem bdac_eq (s : ℕ) (q : Fin 256) : bdac x0 x1 x2 x3 x4 x5 s q = gdac U cw cb H Wd s (e q) := by
  simp only [bdac, gdac, dac, acc, pA_eq h, pB_eq h, pD_eq h, wt0_eq h, wt1_eq h, wt2_eq h, bi_eq h]
theorem bda_eq (n : ℕ) (q : Fin 256) : bda x0 x1 x2 x3 x4 x5 n q = gda U cw cb H Wd n (e q) := by
  simp only [bda, gda, da, dac, acc, pA_eq h, pB_eq h, pD_eq h, wt0_eq h, wt1_eq h, wt2_eq h, bi_eq h]
theorem bdb_eq (n : ℕ) (q : Fin 256) : bdb x0 x2 x3 x4 x5 n q = gdb U cw cb H Wd n (e q) := by
  simp only [bdb, gdb, db, acc, pA_eq h, pD_eq h, wt0_eq h, wt1_eq h, wt2_eq h, bi_eq h]
theorem bgw_eq (d : ℕ) (q : Fin 256) : bgw x0 x1 x2 x3 x4 x5 d q = ggw U cw cb H Wd d (e q) := by
  simp only [bgw, ggw, bdac_eq h, pA_eq h]
theorem bgb_eq (q : Fin 256) : bgb x0 x1 x2 x3 x4 x5 q = ggb U cw cb H Wd (e q) := by
  simp only [bgb, ggb, bdac_eq h]
theorem bdup_eq (p : Fin 2) (n : Fin 4224) (q : Fin 256) :
    bdup x0 x1 x2 x3 x4 x5 (ix3 p n q) = G6 U cw cb H Wd (ix3 p n (e q)) := by
  show (if p.val = 0 then bda x0 x1 x2 x3 x4 x5 n.val q else bdb x0 x2 x3 x4 x5 n.val q)
    = (if p.val = 0 then gda U cw cb H Wd n.val (e q) else gdb U cw cb H Wd n.val (e q))
  rw [bda_eq h, bdb_eq h]
theorem bgcw_eq (p : Fin 8) (q : Fin 256) : bgcw x0 x1 x2 x3 x4 x5 (ix2 p q) = G7 U cw cb H Wd (ix2 p (e q)) := by
  show (if p.val = 2 then bgw x0 x1 x2 x3 x4 x5 0 q else if p.val = 1 then bgw x0 x1 x2 x3 x4 x5 1 q
      else if p.val = 0 then bgw x0 x1 x2 x3 x4 x5 2 q else 0)
    = (if p.val = 2 then ggw U cw cb H Wd 0 (e q) else if p.val = 1 then ggw U cw cb H Wd 1 (e q)
      else if p.val = 0 then ggw U cw cb H Wd 2 (e q) else 0)
  rw [bgw_eq h, bgw_eq h, bgw_eq h]

end

/-! ## The blocks -/

section
variable (m : (ℓ : Loc nD τ sig) → Buf (Elt Ideal) ℓ) (ρ : Dev nD → PrngReg)

/-- Column `q` of block `t`, in the array. -/
def colOf (t : Fin cfg0.N) (q : Fin 256) : Fin 2816 := ⟨256 * t.val + q.val, by have : t.val < 11 := t.isLt; omega⟩

theorem idx : ∀ t : Fin cfg0.N, win0_0.index t = ![0, 0, t.val] ∧ win0_1.index t = ![1, 0, t.val] ∧ win0_2.index t = ![0, t.val]
    ∧ win0_3.index t = ![0, t.val] ∧ win0_4.index t = ![0, 0] ∧ win0_5.index t = ![t.val, 0] ∧ win0_6.index t = ![0, 0, t.val]
    ∧ win0_7.index t = ![0, t.val] ∧ win0_8.index t = ![0, t.val] := by
  decide +kernel

theorem blk0 (c : Dev nD) (t : Fin cfg0.N) (n : Fin 4224) (q : Fin 256) :
    iblk m c 0 t (ix3 (0 : Fin 1) n q) = m ((c : Thread nD τ).loc main_arg0) (ix3 (0 : Fin 2) n (colOf t q)) := by
  rw [← V_main_arg0 m c]
  blk_ext [iblk, idx t, colOf]
theorem blk1 (c : Dev nD) (t : Fin cfg0.N) (n : Fin 4224) (q : Fin 256) :
    iblk m c 1 t (ix3 (0 : Fin 1) n q) = m ((c : Thread nD τ).loc main_arg0) (ix3 (1 : Fin 2) n (colOf t q)) := by
  rw [← V_main_arg0 m c]
  blk_ext [iblk, idx t, colOf]
theorem blk3 (c : Dev nD) (t : Fin cfg0.N) (q : Fin 256) :
    iblk m c 3 t (ix2 (0 : Fin 1) q) = m ((c : Thread nD τ).loc main_arg2) (ix2 (0 : Fin 1) (colOf t q)) := by
  rw [← V_main_arg2 m c]
  blk_ext [iblk, idx t, colOf]
theorem blk4 (c : Dev nD) (t : Fin cfg0.N) (n : Fin 4224) (k : Fin 1024) :
    iblk m c 4 t (ix2 n k) = m ((c : Thread nD τ).loc main_arg3) (ix2 n k) := by
  rw [← V_main_arg3 m c]
  blk_ext [iblk, idx t, colOf]
theorem blk5 (c : Dev nD) (t : Fin cfg0.N) (q : Fin 256) (k : Fin 1024) :
    iblk m c 5 t (ix2 q k) = m ((c : Thread nD τ).loc main_arg4) (ix2 (colOf t q) k) := by
  rw [← V_main_arg4 m c]
  blk_ext [iblk, idx t, colOf]
theorem V2 (c : Dev nD) (p : Fin 3) (q : Fin 2816) :
    V m c main_v0 (ix2 (⟨p.val, by omega⟩ : Fin 8) q) = m ((c : Thread nD τ).loc main_arg1) (ix2 p q) := by
  unfold V
  simp only [hostOps0, hostOps0_1]
  after_reads_at
theorem blk2 (c : Dev nD) (t : Fin cfg0.N) (p : Fin 3) (q : Fin 256) :
    iblk m c 2 t (ix2 (⟨p.val, by omega⟩ : Fin 8) q) = m ((c : Thread nD τ).loc main_arg1) (ix2 p (colOf t q)) := by
  rw [← V2 m c]
  blk_ext [iblk, idx t, colOf]

theorem cols (c : Dev nD) (t : Fin cfg0.N) :
    Cols (m ((c : Thread nD τ).loc main_arg0)) (m ((c : Thread nD τ).loc main_arg1)) (m ((c : Thread nD τ).loc main_arg2))
      (m ((c : Thread nD τ).loc main_arg3)) (m ((c : Thread nD τ).loc main_arg4)) (iblk m c 0 t) (iblk m c 1 t) (iblk m c 2 t)
      (iblk m c 3 t) (iblk m c 4 t) (iblk m c 5 t) (colOf t) :=
  ⟨blk0 m c t, blk1 m c t, blk2 m c t, blk3 m c t, blk4 m c t, blk5 m c t⟩

/-- What a grid point leaves in its three blocks. -/
theorem point6 (c : Dev nD) (t : Fin cfg0.N) (y : S2x4224x256.Idx) : (outsAt0 m c t).1 y = bdup (iblk m c 0 t) (iblk m c 1 t) (iblk m c 2 t) (iblk m c 3 t) (iblk m c 4 t) (iblk m c 5 t) y := by
  have e := out6 (iblk m c 0 t) (iblk m c 1 t) (iblk m c 2 t) (iblk m c 3 t) (iblk m c 4 t) (iblk m c 5 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) y
  unfold outsAt0
  dsimp only
  exact e
theorem point7 (c : Dev nD) (t : Fin cfg0.N) (p : Fin 8) (q : Fin 256) : (outsAt0 m c t).2.1 (ix2 p q) = bgcw (iblk m c 0 t) (iblk m c 1 t) (iblk m c 2 t) (iblk m c 3 t) (iblk m c 4 t) (iblk m c 5 t) (ix2 p q) := by
  have e := out7 (iblk m c 0 t) (iblk m c 1 t) (iblk m c 2 t) (iblk m c 3 t) (iblk m c 4 t) (iblk m c 5 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) p q
  unfold outsAt0
  dsimp only
  exact e
theorem point8 (c : Dev nD) (t : Fin cfg0.N) (q : Fin 256) : (outsAt0 m c t).2.2 (ix2 (0 : Fin 1) q) = bgb (iblk m c 0 t) (iblk m c 1 t) (iblk m c 2 t) (iblk m c 3 t) (iblk m c 4 t) (iblk m c 5 t) q := by
  have e := out8 (iblk m c 0 t) (iblk m c 1 t) (iblk m c 2 t) (iblk m c 3 t) (iblk m c 4 t) (iblk m c 5 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) q
  unfold outsAt0
  dsimp only
  exact e

/-- The three arrays after the run. -/
theorem arr6 (c : Dev nD) : (dats m 0 c).arrAt 6 cfg0.N = G6 (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  refine (point6 m c t y).trans ?_
  rw [eq_ix3 y]
  refine (bdup_eq (cols m c t) (y 0) (y 1) (y 2)).trans ?_
  refine congrArg _ ?_
  blk_ext [idx t, colOf]
theorem arr7 (c : Dev nD) : (dats m 0 c).arrAt 7 cfg0.N = G7 (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  rw [eq_ix2 y]
  refine (point7 m c t (y 0) (y 1)).trans ?_
  refine (bgcw_eq (cols m c t) (y 0) (y 1)).trans ?_
  refine congrArg _ ?_
  blk_ext [idx t, colOf]
theorem arr8 (c : Dev nD) : (dats m 0 c).arrAt 8 cfg0.N = G8 (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  obtain ⟨q, rfl⟩ : ∃ q : Fin 256, y = ix2 (0 : Fin 1) q := ⟨y 1, by blk_ext⟩
  refine (point8 m c t q).trans ?_
  refine (bgb_eq (cols m c t) q).trans ?_
  show G8 _ _ _ _ _ (ix2 (0 : Fin 1) (colOf t q)) = _
  refine congrArg _ ?_
  blk_ext [idx t, colOf]

end

end Cert.DgConvIdeal.Dg

end
-- ==== Proof.Dg.Ref.lean ====
/- The reference's three results, stage by stage, and each stage at an index. -/
module

public import proofs.«01_k».proof.Proof.Gen.DgConvRefIdeal.Run
public import proofs.«01_k».proof.Proof.Dg.Arr

@[expose] public section

set_option maxRecDepth 16384

noncomputable section

namespace Cert.DgConvRefIdeal.Dg

open Idealize.ShloMosaic Gen Idealize.ShloMosaic.TcCoe Idealize.ShloMosaic.Tactic Idealize.SL.Sem
open Cert.DgConvIdeal.Dg (gA gB gD gdg gwt gbi acc)

abbrev T := FVec Ideal S1x4224x2816 .f32
abbrev T2 := FVec Ideal S1x4226x2816 .f32

section
variable (U : FVec Ideal S2x4224x2816 .f32) (cw : FVec Ideal S3x2816 .f32) (cb : FVec Ideal S1x2816 .f32) (H : FVec Ideal S4224x1024 .bf16)
  (Wd : FVec Ideal S2816x1024 .bf16)

/-- One where the row is a token's, zero where it is padding. -/
def validV : FVec Ideal S1x4224x1 .f32 :=
  broadcastInDim S1x4224x1 ![1] bcast_S4224_S1x4224x1_1 (uitofp .f32 (cmpi .sge (iotaInDim S4224 32 0) (broadcastInDim S4224 ![] bcast_S_S4224 (constantI S_ 32 112#32))))
def maskV : T := broadcastInDim S1x4224x2816 ![0, 1, 2] bcast_S1x4224x1_S1x4224x2816_0_1_2 validV
/-- The activation branch with two rows of zeros before it. -/
def padV : T2 :=
  concatenate S1x4226x2816 1 [⟨S1x2x2816, (broadcastInDim S1x2x2816 ![] bcast_S_S1x2x2816 (constant S_ .f32 0x00000000#32))⟩, ⟨S1x4224x2816, (mulf (broadcastInDim S1x4224x2816 ![1, 2] bcast_S4224x2816_S1x4224x2816_1_2 (shapeCast _ (extractStridedSlice S1x4224x2816 ![0, 0, 0] U slices_S2x4224x2816_S1x4224x2816_0_0_0) shapeCasts_S1x4224x2816_S4224x2816)) maskV)⟩] concatenates_S1x2x2816_S1x4224x2816_S1x4226x2816_d1
def a0V : T := extractStridedSlice S1x4224x2816 ![0, 0, 0] (padV U) slices_S1x4226x2816_S1x4224x2816_0_0_0
def a1V : T := extractStridedSlice S1x4224x2816 ![0, 1, 0] (padV U) slices_S1x4226x2816_S1x4224x2816_0_1_0
def a2V : T := extractStridedSlice S1x4224x2816 ![0, 2, 0] (padV U) slices_S1x4226x2816_S1x4224x2816_0_2_0
/-- The other branch. -/
def bV : T := broadcastInDim S1x4224x2816 ![1, 2] bcast_S4224x2816_S1x4224x2816_1_2 (shapeCast _ (extractStridedSlice S1x4224x2816 ![1, 0, 0] U slices_S2x4224x2816_S1x4224x2816_1_0_0) shapeCasts_S1x4224x2816_S4224x2816)
/-- The taps, spread over the rows. -/
def w0V : T := broadcastInDim S1x4224x2816 ![0, 1, 2] bcast_S1x1x2816_S1x4224x2816_0_1_2 (broadcastInDim S1x1x2816 ![2] bcast_S2816_S1x1x2816_2 (shapeCast _ (extractStridedSlice S1x2816 ![0, 0] cw slices_S3x2816_S1x2816_0_0) shapeCasts_S1x2816_S2816))
def w1V : T := broadcastInDim S1x4224x2816 ![0, 1, 2] bcast_S1x1x2816_S1x4224x2816_0_1_2 (broadcastInDim S1x1x2816 ![2] bcast_S2816_S1x1x2816_2 (shapeCast _ (extractStridedSlice S1x2816 ![1, 0] cw slices_S3x2816_S1x2816_1_0) shapeCasts_S1x2816_S2816))
def w2V : T := broadcastInDim S1x4224x2816 ![0, 1, 2] bcast_S1x1x2816_S1x4224x2816_0_1_2 (broadcastInDim S1x1x2816 ![2] bcast_S2816_S1x1x2816_2 (shapeCast _ (extractStridedSlice S1x2816 ![2, 0] cw slices_S3x2816_S1x2816_2_0) shapeCasts_S1x2816_S2816))
def cbV : T := broadcastInDim S1x4224x2816 ![0, 1, 2] bcast_S1x1x2816_S1x4224x2816_0_1_2 (broadcastInDim S1x1x2816 ![1, 2] bcast_S1x2816_S1x1x2816_1_2 cb)
/-- The convolution's sum, its sigmoid, and the incoming gradient. -/
def accV : T := addf (addf (addf (cbV cb) (mulf (a0V U) (w0V cw))) (mulf (a1V U) (w1V cw))) (mulf (a2V U) (w2V cw))
def oneV : T := broadcastInDim S1x4224x2816 ![] bcast_S_S1x4224x2816 (constant S_ .f32 0x3F800000#32)
def sgV : T := Host.divf oneV (addf oneV (Host.exp (Host.negf (accV U cw cb))))
def dgV : T := Host.dotGeneral dot_S1x4224x1024_S2816x1024_S1x4224x2816_2_1_01_0_n_n none (broadcastInDim S1x4224x1024 ![1, 2] bcast_S4224x1024_S1x4224x1024_1_2 (extf .f32 H bitsLt_bf16_f32)) (extf .f32 Wd bitsLt_bf16_f32)
def dbV : T := mulf (dgV H Wd) (bV U)
/-- The gradient at the convolution's sum. -/
def dacV : T := addf (mulf (dbV U H Wd) (sgV U cw cb)) (mulf (mulf (accV U cw cb) (dbV U H Wd)) (mulf (sgV U cw cb) (subf oneV (sgV U cw cb))))
/-- A sum over the rows. -/
def sumV (x : T) : FVec Ideal S1x2816 .f32 :=
  broadcastInDim S1x2816 ![1] bcast_S2816_S1x2816_1 (Host.reduceAdd (shapeCast S1x1x2816 (Host.reduceAdd x (constant S_ .f32 0x00000000#32) reducesTo_S1x4224x2816_S1x2816_d1 h_S_) shapeCasts_S1x2816_S1x1x2816) (constant S_ .f32 0x00000000#32) reducesTo_S1x1x2816_S2816_d0_1 h_S_)
/-- The three gradients of the taps, stacked, over rows of zeros. -/
def gwV (x0 x1 x2 : T) : FVec Ideal S8x2816 .f32 :=
  pad S8x2816 ![0, 0] ![5, 0] ![0, 0] (addf (addf (pad S3x2816 ![2, 0] ![0, 0] ![0, 0] (sumV x2) (constant S_ .f32 0x00000000#32) pads_S1x2816_S3x2816_200_000 h_S_)
    (pad S3x2816 ![1, 0] ![1, 0] ![0, 0] (sumV x1) (constant S_ .f32 0x00000000#32) pads_S1x2816_S3x2816_110_000 h_S_))
    (pad S3x2816 ![0, 0] ![2, 0] ![0, 0] (sumV x0) (constant S_ .f32 0x00000000#32) pads_S1x2816_S3x2816_020_000 h_S_))
    (sitofp .f32 (constantI S_ 32 0#32)) pads_S3x2816_S8x2816_050_000 h_S_
/-- The gradient of the activation branch from that of the convolution's sum `d`. -/
def daV (d w0 w1 w2 : T) : T :=
  mulf (extractStridedSlice S1x4224x2816 ![0, 2, 0] (addf (addf
    (pad S1x4226x2816 ![0, 2, 0] ![0, 0, 0] ![0, 0, 0] (mulf d w2) (constant S_ .f32 0x00000000#32) pads_S1x4224x2816_S1x4226x2816_000_200_000 h_S_)
    (pad S1x4226x2816 ![0, 1, 0] ![0, 1, 0] ![0, 0, 0] (mulf d w1) (constant S_ .f32 0x00000000#32) pads_S1x4224x2816_S1x4226x2816_000_110_000 h_S_))
    (pad S1x4226x2816 ![0, 0, 0] ![0, 2, 0] ![0, 0, 0] (mulf d w0) (constant S_ .f32 0x00000000#32) pads_S1x4224x2816_S1x4226x2816_000_020_000 h_S_))
    slices_S1x4226x2816_S1x4224x2816_0_2_0) maskV
/-- The gradients of the two branches, stacked. -/
def dupV (da db : T) : FVec Ideal S2x4224x2816 .bf16 :=
  truncf .bf16 (addf
    (pad S2x4224x2816 ![1, 0, 0] ![0, 0, 0] ![0, 0, 0] (broadcastInDim S1x4224x2816 ![1, 2] bcast_S4224x2816_S1x4224x2816_1_2 (Host.reduceAdd db (constant S_ .f32 0x00000000#32) reducesTo_S1x4224x2816_S4224x2816_d0 h_S_)) (constant S_ .f32 0x00000000#32) pads_S1x4224x2816_S2x4224x2816_100_000_000 h_S_)
    (pad S2x4224x2816 ![0, 0, 0] ![1, 0, 0] ![0, 0, 0] (broadcastInDim S1x4224x2816 ![1, 2] bcast_S4224x2816_S1x4224x2816_1_2 (Host.reduceAdd da (constant S_ .f32 0x00000000#32) reducesTo_S1x4224x2816_S4224x2816_d0 h_S_)) (constant S_ .f32 0x00000000#32) pads_S1x4224x2816_S2x4224x2816_010_000_000 h_S_)) bitsLt_bf16_f32

def R0 : FVec Ideal S2x4224x2816 .bf16 :=
  dupV (daV (dacV U cw cb H Wd) (w0V cw) (w1V cw) (w2V cw)) (mulf (mulf (accV U cw cb) (sgV U cw cb)) (dgV H Wd))
def R1 : FVec Ideal S8x2816 .f32 :=
  gwV (mulf (a0V U) (dacV U cw cb H Wd)) (mulf (a1V U) (dacV U cw cb H Wd)) (mulf (a2V U) (dacV U cw cb H Wd))
def R2 : FVec Ideal S1x2816 .f32 := sumV (dacV U cw cb H Wd)

end

section
variable (m : (ℓ : Loc nD τ sig) → Buf (Elt Ideal) ℓ) (c : Dev nD)

theorem res2 : Value.res_out2 m c = R2 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) := rfl
theorem res1 : Value.res_out1 m c = R1 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) := rfl
theorem res0 : Value.res_out0 m c = R0 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) := rfl

end

/-! ## Entries -/

section
variable (U : FVec Ideal S2x4224x2816 .f32) (cw : FVec Ideal S3x2816 .f32) (cb : FVec Ideal S1x2816 .f32) (H : FVec Ideal S4224x1024 .bf16)
  (Wd : FVec Ideal S2816x1024 .bf16)

theorem maskV_apply (n : Fin 4224) (q : Fin 2816) : maskV (ix3 (0 : Fin 1) n q) = if 112 ≤ n.val then 1 else 0 := by
  unfold maskV validV
  pointwise
  have hs : BitVec.sle 112#32 (BitVec.ofNat 32 n.val) = decide (112 ≤ n.val) := by
    have := n.isLt
    rw [BitVec.sle_eq_decide, BitVec.toInt_eq_toNat_of_lt (by simp),
      BitVec.toInt_eq_toNat_of_lt (by simp only [BitVec.toNat_ofNat]; omega)]
    simp only [BitVec.toNat_ofNat]
    refine decide_eq_decide.mpr ?_
    omega
  by_cases h : 112 ≤ n.val
  · simp [IntOp.cmpi, hs, h]
    show (((1#1).toNat : ℝ) : EReal) = 1
    simp
  · simp [IntOp.cmpi, hs, h]
    show (((0#1).toNat : ℝ) : EReal) = 0
    simp
theorem padV_apply (n : Fin 4226) (q : Fin 2816) : padV U (ix3 (0 : Fin 1) n q) = gA U (n.val + 6) q := by
  unfold padV gA
  pointwise
  by_cases h : n.val < 2
  · rw [dif_pos h, dif_neg (by omega)]
  rw [dif_neg h, maskV_apply]
  by_cases h' : 112 ≤ n.val - 2
  · rw [if_pos h', dif_pos (by have := n.isLt; omega), mul_one]
    rfl
  · rw [if_neg h', dif_neg (by omega), mul_zero]
theorem a0V_apply (n : Fin 4224) (q : Fin 2816) : a0V U (ix3 (0 : Fin 1) n q) = gA U (n.val + 8 - 2) q := by
  unfold a0V
  pointwise
  exact padV_apply U _ q
theorem a1V_apply (n : Fin 4224) (q : Fin 2816) : a1V U (ix3 (0 : Fin 1) n q) = gA U (n.val + 8 - 1) q := by
  unfold a1V
  pointwise
  refine (padV_apply U _ q).trans (congrArg (gA U · q) ?_)
  show 1 + n.val + 6 = _
  omega
theorem a2V_apply (n : Fin 4224) (q : Fin 2816) : a2V U (ix3 (0 : Fin 1) n q) = gA U (n.val + 8) q := by
  unfold a2V
  pointwise
  refine (padV_apply U _ q).trans (congrArg (gA U · q) ?_)
  show 2 + n.val + 6 = _
  omega
theorem bV_apply (n : Fin 4224) (q : Fin 2816) : bV U (ix3 (0 : Fin 1) n q) = gB U (n.val + 8) q := by
  unfold bV gB
  rw [dif_pos (by have := n.isLt; omega)]
  pointwise
  rfl
theorem w0V_apply (n : Fin 4224) (q : Fin 2816) : w0V cw (ix3 (0 : Fin 1) n q) = gwt cw 0 q := by
  unfold w0V gwt
  pointwise
theorem w1V_apply (n : Fin 4224) (q : Fin 2816) : w1V cw (ix3 (0 : Fin 1) n q) = gwt cw 1 q := by
  unfold w1V gwt
  pointwise
theorem w2V_apply (n : Fin 4224) (q : Fin 2816) : w2V cw (ix3 (0 : Fin 1) n q) = gwt cw 2 q := by
  unfold w2V gwt
  pointwise
theorem cbV_apply (n : Fin 4224) (q : Fin 2816) : cbV cb (ix3 (0 : Fin 1) n q) = gbi cb q := by
  unfold cbV gbi
  pointwise
theorem dgV_apply (n : Fin 4224) (q : Fin 2816) : dgV H Wd (ix3 (0 : Fin 1) n q) = gD H Wd (n.val + 8) q := by
  unfold dgV gD gdg
  rw [dif_pos (by have := n.isLt; omega)]
  pointwise
  rfl
/-- The convolution's sum at padded row `s`, of the arrays. -/
def gacc (s : ℕ) (q : Fin 2816) : EReal := acc (gA U) (gwt cw 0) (gwt cw 1) (gwt cw 2) (gbi cb) s q
theorem accV_apply (n : Fin 4224) (q : Fin 2816) : accV U cw cb (ix3 (0 : Fin 1) n q) = gacc U cw cb (n.val + 8) q := by
  show cbV cb (ix3 (0 : Fin 1) n q) + a0V U (ix3 (0 : Fin 1) n q) * w0V cw (ix3 (0 : Fin 1) n q)
    + a1V U (ix3 (0 : Fin 1) n q) * w1V cw (ix3 (0 : Fin 1) n q) + a2V U (ix3 (0 : Fin 1) n q) * w2V cw (ix3 (0 : Fin 1) n q) = _
  rw [cbV_apply, a0V_apply, a1V_apply, a2V_apply, w0V_apply, w1V_apply, w2V_apply]
  rfl
theorem sgV_apply (n : Fin 4224) (q : Fin 2816) : sgV U cw cb (ix3 (0 : Fin 1) n q) = Ideal.logistic (gacc U cw cb (n.val + 8) q) := by
  rw [← accV_apply]
  unfold sgV oneV Ideal.logistic
  pointwise
theorem oneV_apply (n : Fin 4224) (q : Fin 2816) : oneV (ix3 (0 : Fin 1) n q) = 1 := by
  unfold oneV
  pointwise
theorem dacV_apply (n : Fin 4224) (q : Fin 2816) : dacV U cw cb H Wd (ix3 (0 : Fin 1) n q)
    = gD H Wd (n.val + 8) q * gB U (n.val + 8) q * Ideal.logistic (gacc U cw cb (n.val + 8) q)
      + gacc U cw cb (n.val + 8) q * (gD H Wd (n.val + 8) q * gB U (n.val + 8) q)
        * (Ideal.logistic (gacc U cw cb (n.val + 8) q) * (1 - Ideal.logistic (gacc U cw cb (n.val + 8) q))) := by
  rw [← sgV_apply, ← accV_apply, ← dgV_apply, ← bV_apply, ← oneV_apply n q]
  rfl
theorem red_one (x : FVec Ideal S1x1x2816 .f32) (q : Fin 2816) :
    Ideal.hostReduceAdd reducesTo_S1x1x2816_S2816_d0_1 x 0 (ix1 q) = x (ix3 (0 : Fin 1) (0 : Fin 1) q) := by
  unfold Ideal.hostReduceAdd
  rw [zero_add]
  refine Finset.sum_eq_single_of_mem _ ?_ ?_
  · rw [Finset.mem_filter]
    refine ⟨Finset.mem_univ _, ?_⟩
    funext a
    fin_cases a
    exact Fin.ext (Shape.ReducesTo.drop_apply_val_of_eq reducesTo_S1x1x2816_S2816_d0_1 (ix3 (0 : Fin 1) (0 : Fin 1) q) 0 2)
  · intro i hi hne
    rw [Finset.mem_filter] at hi
    refine absurd ?_ hne
    have h2 : (i 2).val = q.val := (Shape.ReducesTo.drop_apply_val_of_eq reducesTo_S1x1x2816_S2816_d0_1 i 0 2).symm.trans (congrArg Fin.val (congrFun hi.2 0))
    have h0 : (i 0).val < 1 := (i 0).isLt
    have h1 : (i 1).val < 1 := (i 1).isLt
    funext a
    fin_cases a
    · exact Fin.ext (by show (i 0).val = 0; omega)
    · exact Fin.ext (by show (i 1).val = 0; omega)
    · exact Fin.ext h2
theorem sumV_apply (x : T) (q : Fin 2816) : sumV x (ix2 (0 : Fin 1) q) = ∑ n : Fin 4224, x (ix3 (0 : Fin 1) n q) := by
  unfold sumV
  pointwise
  rw [red_one]
  pointwise
theorem dupV_apply (da db : T) (p : Fin 2) (n : Fin 4224) (q : Fin 2816) :
    dupV da db (ix3 p n q) = if p.val = 0 then da (ix3 (0 : Fin 1) n q) else db (ix3 (0 : Fin 1) n q) := by
  unfold dupV
  pointwise
  fin_cases p
  · simp
  · simp
theorem daV_apply (d w0 w1 w2 : T) (n : Fin 4224) (q : Fin 2816) :
    daV d w0 w1 w2 (ix3 (0 : Fin 1) n q) = (d (ix3 (0 : Fin 1) n q) * w2 (ix3 (0 : Fin 1) n q)
      + (if h : n.val + 1 < 4224 then d (ix3 (0 : Fin 1) ⟨n.val + 1, h⟩ q) * w1 (ix3 (0 : Fin 1) ⟨n.val + 1, h⟩ q) else 0)
      + (if h : n.val + 2 < 4224 then d (ix3 (0 : Fin 1) ⟨n.val + 2, h⟩ q) * w0 (ix3 (0 : Fin 1) ⟨n.val + 2, h⟩ q) else 0))
      * (if 112 ≤ n.val then 1 else 0) := by
  rw [← maskV_apply n q]
  unfold daV
  pointwise
  have e1 : ∀ h, (⟨2 + n.val - 1, h⟩ : Fin 4224) = ⟨n.val + 1, by omega⟩ := fun h => Fin.ext (by show 2 + n.val - 1 = n.val + 1; omega)
  have e2 : ∀ h, (⟨2 + n.val, h⟩ : Fin 4224) = ⟨n.val + 2, by omega⟩ := fun h => Fin.ext (by show 2 + n.val = n.val + 2; omega)
  simp only [e1, e2]
  refine congrArg₂ _ (congrArg₂ _ (congrArg₂ _ rfl ?_) ?_) rfl
  · by_cases h : n.val + 1 < 4224
    · rw [dif_pos h, dif_pos (by omega)]
    · rw [dif_neg h, dif_neg (by omega)]
  · by_cases h : n.val + 2 < 4224
    · rw [dif_pos h, dif_pos (by omega)]
    · rw [dif_neg h, dif_neg (by omega)]
theorem gwV_apply (x0 x1 x2 : T) (p : Fin 8) (q : Fin 2816) :
    gwV x0 x1 x2 (ix2 p q) = if p.val = 2 then sumV x2 (ix2 (0 : Fin 1) q) else if p.val = 1 then sumV x1 (ix2 (0 : Fin 1) q)
      else if p.val = 0 then sumV x0 (ix2 (0 : Fin 1) q) else 0 := by
  unfold gwV
  pointwise
  by_cases h : p.val < 3
  · obtain ⟨p, hp⟩ := p
    simp only at h
    interval_cases p <;> simp
  · rw [dif_neg h, if_neg (by omega), if_neg (by omega), if_neg (by omega)]
    show (((0#32).toInt : ℝ) : EReal) = 0
    simp
end

end Cert.DgConvRefIdeal.Dg

end
-- ==== Proof.Dg.Math.lean ====
/- The kernel's three arrays are the reference's, where every argument is a real number. -/
module

public import proofs.«01_k».proof.Proof.Dg.Ref
public import proofs.«01_k».proof.Defs
public import Idealize.ShloMosaic.Lib.ReduceAll

@[expose] public section

set_option maxRecDepth 16384

noncomputable section

namespace Cert.DgConvRefIdeal.Dg

open Idealize.ShloMosaic Gen Idealize.ShloMosaic.TcCoe Idealize.SL.Sem
open Cert.DgConvIdeal.Dg

/-- An extended real that is a real number. -/
def IsR (x : EReal) : Prop := ∃ r : ℝ, x = r

theorem IsR.add {x y : EReal} (hx : IsR x) (hy : IsR y) : IsR (x + y) := by
  obtain ⟨a, rfl⟩ := hx; obtain ⟨b, rfl⟩ := hy; exact ⟨a + b, by norm_cast⟩
theorem IsR.mul {x y : EReal} (hx : IsR x) (hy : IsR y) : IsR (x * y) := by
  obtain ⟨a, rfl⟩ := hx; obtain ⟨b, rfl⟩ := hy; exact ⟨a * b, by norm_cast⟩
theorem IsR.zero : IsR 0 := ⟨0, by norm_cast⟩
theorem IsR.sum {ι : Type} (s : Finset ι) (f : ι → EReal) (h : ∀ i, IsR (f i)) : IsR (∑ i ∈ s, f i) :=
  Finset.sum_induction _ IsR (fun _ _ => IsR.add) IsR.zero fun i _ => h i
theorem IsR.of_abs_lt {x : EReal} (h : max x (-x) < ⊤) : IsR x := by
  induction x with
  | bot => simp at h
  | top => simp at h
  | coe r => exact ⟨r, rfl⟩

/-- The real sigmoid. -/
def sgR (x : ℝ) : ℝ := 1 / (1 + Real.exp (-x))
theorem logistic_coe (x : ℝ) : Ideal.logistic (x : EReal) = (sgR x : ℝ) := by
  have h : (1 + Real.exp (-x)) ≠ 0 := by positivity
  unfold Ideal.logistic Ideal.div
  have e : (1 : EReal) + Ideal.exp (-(x : EReal)) = ((1 + Real.exp (-x) : ℝ) : EReal) := by
    rw [← EReal.coe_neg]; show (1 : EReal) + ((Real.exp (-x) : ℝ) : EReal) = _; norm_cast
  rw [e, if_neg (by exact_mod_cast h), one_mul, ← EReal.coe_inv]
  unfold sgR
  norm_num
theorem sg_coe (x : ℝ) : sg (x : EReal) = (sgR x : ℝ) := by
  have hc : Ideal.ofBits .f32 0x3F000000#32 = ((1 / 2 : ℝ) : EReal) := by
    simp [Ideal.ofBits, Ideal.ieee, -EReal.coe_mul]; norm_num
  unfold sg
  rw [hc, ← EReal.coe_mul]
  show ((1 / 2 : ℝ) : EReal) * ((Real.tanh (1 / 2 * x) : ℝ) : EReal) + ((1 / 2 : ℝ) : EReal) = _
  rw [← EReal.coe_mul, ← EReal.coe_add]
  refine congrArg _ ?_
  unfold sgR
  rw [Real.tanh_eq_sinh_div_cosh, Real.sinh_eq, Real.cosh_eq]
  have h1 : Real.exp (-x) = Real.exp (-(1 / 2 * x)) * Real.exp (-(1 / 2 * x)) := by rw [← Real.exp_add]; congr 1; ring
  have h2 : Real.exp (1 / 2 * x) * Real.exp (-(1 / 2 * x)) = 1 := by rw [← Real.exp_add]; simp
  rw [h1]
  have p1 := Real.exp_pos (1 / 2 * x)
  have p2 := Real.exp_pos (-(1 / 2 * x))
  generalize Real.exp (1 / 2 * x) = a at *
  generalize Real.exp (-(1 / 2 * x)) = b at *
  field_simp
  nlinarith [h2]
theorem sg_eq {x : EReal} (h : IsR x) : sg x = Ideal.logistic x := by
  obtain ⟨r, rfl⟩ := h; rw [sg_coe, logistic_coe]
/-- The product rule of the gate, on reals. -/
theorem gate {d b x : EReal} (hd : IsR d) (hb : IsR b) (hx : IsR x) :
    d * b * Ideal.logistic x + x * (d * b) * (Ideal.logistic x * (1 - Ideal.logistic x)) = d * b * dsilu x := by
  unfold dsilu
  rw [sg_eq hx]
  obtain ⟨d, rfl⟩ := hd; obtain ⟨b, rfl⟩ := hb; obtain ⟨x, rfl⟩ := hx
  rw [logistic_coe]
  norm_cast
  ring

section
variable {U : FVec Ideal S2x4224x2816 .f32} {cw : FVec Ideal S3x2816 .f32} {cb : FVec Ideal S1x2816 .f32} {H : FVec Ideal S4224x1024 .bf16}
  {Wd : FVec Ideal S2816x1024 .bf16}
variable (hU : ∀ i, IsR (U i)) (hw : ∀ i, IsR (cw i)) (hb : ∀ i, IsR (cb i)) (hH : ∀ i, IsR (H i)) (hWd : ∀ i, IsR (Wd i))
include hU

theorem gA_isR (s : ℕ) (q : Fin 2816) : IsR (gA U s q) := by
  unfold gA; split
  · exact hU _
  · exact IsR.zero
theorem gB_isR (s : ℕ) (q : Fin 2816) : IsR (gB U s q) := by
  unfold gB; split
  · exact hU _
  · exact IsR.zero
include hw hb
theorem gacc_isR (s : ℕ) (q : Fin 2816) : IsR (gacc U cw cb s q) :=
  (((hb _).add ((gA_isR hU _ _).mul (hw _))).add ((gA_isR hU _ _).mul (hw _))).add ((gA_isR hU _ _).mul (hw _))
include hH hWd
omit hU hw hb in
theorem gD_isR (s : ℕ) (q : Fin 2816) : IsR (gD H Wd s q) := by
  unfold gD gdg; split
  · exact IsR.sum _ _ fun k => (hH _).mul (hWd _)
  · exact IsR.zero

theorem dacV_eq (n : Fin 4224) (q : Fin 2816) : dacV U cw cb H Wd (ix3 (0 : Fin 1) n q) = gdac U cw cb H Wd (n.val + 8) q := by
  rw [dacV_apply, gate (gD_isR hH hWd _ _) (gB_isR hU _ _) (gacc_isR hU hw hb _ _)]
  rfl
theorem R2_eq : R2 U cw cb H Wd = G8 U cw cb H Wd := by
  funext y
  obtain ⟨q, rfl⟩ : ∃ q : Fin 2816, y = ix2 (0 : Fin 1) q := ⟨y 1, (eq_ix2 y).trans (congrArg (ix2 · (y 1)) (Subsingleton.elim _ _))⟩
  show sumV _ (ix2 (0 : Fin 1) q) = ggb U cw cb H Wd q
  rw [sumV_apply]
  exact Finset.sum_congr rfl fun n _ => dacV_eq hU hw hb hH hWd n q
theorem R1_eq : R1 U cw cb H Wd = G7 U cw cb H Wd := by
  funext y
  obtain ⟨p, q, rfl⟩ : ∃ (p : Fin 8) (q : Fin 2816), y = ix2 p q := ⟨y 0, y 1, eq_ix2 y⟩
  show gwV _ _ _ (ix2 p q) = (if p.val = 2 then ggw U cw cb H Wd 0 q else if p.val = 1 then ggw U cw cb H Wd 1 q
      else if p.val = 0 then ggw U cw cb H Wd 2 q else 0)
  rw [gwV_apply, sumV_apply, sumV_apply, sumV_apply]
  have e (d : ℕ) (a : T) (q : Fin 2816) (h : ∀ n : Fin 4224, a (ix3 (0 : Fin 1) n q) = gA U (n.val + 8 - d) q) :
      ∑ n : Fin 4224, mulf a (dacV U cw cb H Wd) (ix3 (0 : Fin 1) n q) = ggw U cw cb H Wd d q :=
    Finset.sum_congr rfl fun n _ => by
      show a (ix3 (0 : Fin 1) n q) * dacV U cw cb H Wd (ix3 (0 : Fin 1) n q) = _
      rw [h, dacV_eq hU hw hb hH hWd, mul_comm]
  rw [e 0 (a2V U) q fun n => a2V_apply U n _, e 1 (a1V U) q fun n => a1V_apply U n _, e 2 (a0V U) q fun n => a0V_apply U n _]
theorem gdac_out (s : ℕ) (q : Fin 2816) (h : 4232 ≤ s) : gdac U cw cb H Wd s q = 0 := by
  have e : gD H Wd s q = 0 := dif_neg (by omega)
  show gD H Wd s q * _ * _ = 0
  rw [e, zero_mul, zero_mul]
theorem R0_eq : R0 U cw cb H Wd = G6 U cw cb H Wd := by
  funext y
  obtain ⟨p, n, q, rfl⟩ : ∃ (p : Fin 2) (n : Fin 4224) (q : Fin 2816), y = ix3 p n q := ⟨y 0, y 1, y 2, eq_ix3 y⟩
  show dupV _ _ (ix3 p n q) = (if p.val = 0 then gda U cw cb H Wd n.val q else gdb U cw cb H Wd n.val q)
  rw [dupV_apply]
  refine if_congr Iff.rfl ?_ ?_
  · rw [daV_apply]
    simp only [w0V_apply, w1V_apply, w2V_apply, dacV_eq hU hw hb hH hWd]
    unfold gda
    by_cases h : 112 ≤ n.val
    · rw [if_pos h, if_pos h, mul_one]
      show _ = gdac U cw cb H Wd (n.val + 8) q * gwt cw 2 q + gdac U cw cb H Wd (n.val + 8 + 1) q * gwt cw 1 q + gdac U cw cb H Wd (n.val + 8 + 2) q * gwt cw 0 q
      refine congrArg₂ _ (congrArg₂ _ rfl ?_) ?_
      · split
        · rw [show n.val + 1 + 8 = n.val + 8 + 1 by omega]
        · rw [gdac_out hU hw hb hH hWd _ _ (by omega), zero_mul]
      · split
        · rw [show n.val + 2 + 8 = n.val + 8 + 2 by omega]
        · rw [gdac_out hU hw hb hH hWd _ _ (by omega), zero_mul]
    · rw [if_neg h, if_neg h, mul_zero]
  · show accV U cw cb (ix3 (0 : Fin 1) n q) * sgV U cw cb (ix3 (0 : Fin 1) n q) * dgV H Wd (ix3 (0 : Fin 1) n q)
      = gD H Wd (n.val + 8) q * gacc U cw cb (n.val + 8) q * sg (gacc U cw cb (n.val + 8) q)
    rw [accV_apply, sgV_apply, dgV_apply, sg_eq (gacc_isR hU hw hb _ _), mul_comm, mul_assoc]
end

/-! ## The precondition -/

theorem real_of_all {s : Shape} {axes : List (Fin s.rank)} (x : FVec Ideal s .f32) (bc : S_.BroadcastsInDim s ![]) (r : s.ReducesTo axes S_)
    (e : Host.reduce IntOp.andi (cmpf .olt (Host.absf x) (broadcastInDim s ![] bc (constant S_ .f32 0x7F800000#32))) (constantI S_ 1 1#1) r h_S_ ix0 = 1#1)
    (i : s.Idx) : IsR (x i) := by
  have h := Host.reduce_andi_all _ _ _ _ _ e i
  have ht : Ideal.ofBits .f32 0x7F800000#32 = ⊤ := by simp [Ideal.ofBits, Ideal.ieee]
  have h' : Ideal.cmp .olt (max (x i) (-(x i))) (Ideal.ofBits .f32 0x7F800000#32) = 1#1 := h
  rw [ht] at h'
  refine IsR.of_abs_lt ?_
  by_contra hn
  simp [Ideal.cmp, hn] at h'

theorem reals [Cert.Pre_dg_finite.Facts] (U : FVec Ideal S2x4224x2816 .f32) (cw : FVec Ideal S3x2816 .f32) (cb : FVec Ideal S1x2816 .f32) (H : FVec Ideal S4224x1024 .bf16)
    (Wd : FVec Ideal S2816x1024 .bf16) (h : Cert.Pre_dg_finite.fn (F := Ideal) U cw cb H Wd = fun _ => 1#1) :
    (∀ i, IsR (U i)) ∧ (∀ i, IsR (cw i)) ∧ (∀ i, IsR (cb i)) ∧ (∀ i, IsR (H i)) ∧ (∀ i, IsR (Wd i)) := by
  have h := congrFun h ix0
  unfold Cert.Pre_dg_finite.fn Cert.Pre_dg_finite.fn_part1 at h
  dsimp only at h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨real_of_all _ _ _ h0, real_of_all _ _ _ h1, real_of_all _ _ _ h2, real_of_all _ _ _ h3, real_of_all _ _ _ h4⟩

end Cert.DgConvRefIdeal.Dg

end
-- ==== Proof.Mm.Down.lean ====
/- The gradient of the down projection's weights: what the kernel's array holds, and that the reference's holds the same. -/
module

public import proofs.«01_k».proof.Proof.Gen.GwDownIdeal.Value
public import proofs.«01_k».proof.Proof.Gen.GwDownRefIdeal.Run
public import Idealize.ShloMosaic.PureOps.Ideal
public import Idealize.ShloMosaic.Lib.Pointwise
public import Idealize.ShloMosaic.Lib.Pipeline.Value
public import Idealize.ShloMosaic.Lib.Pipeline.ValueKit.Tiles
public meta import Idealize.ShloMosaic.Lib.Pipeline.ValueKit.Acc
public import Idealize.ShloMosaic.Lib.Pipeline.ValueKit.Acc
public import Idealize.ShloMosaic.Lib.StableHlo.ReadAt
public meta import Idealize.ShloMosaic.Lib.Pipeline.ValueKit.Geometry
public import Idealize.ShloMosaic.Lib.Pipeline.ValueKit.Geometry

@[expose] public section

set_option maxRecDepth 16384

noncomputable section

namespace Cert.GwDownIdeal.Mm

open Idealize.ShloMosaic Gen Idealize.ShloMosaic.TcCoe Idealize.ShloMosaic.Tactic Idealize.SL.Sem
open Idealize.ShloMosaic.Pipeline (Dat)

/-- Channel `p` against feature `q`, summed over all tokens. -/
def G (A : FVec Ideal S4224x2816 .bf16) (B : FVec Ideal S4224x1024 .bf16) : FVec Ideal S2816x1024 .bf16 :=
  fun y => ∑ k : Fin 4224, A (ix2 k (y 0)) * B (ix2 k (y 1))

theorem z2 : (![0, 0] : Fin 2 → ℕ) = fun _ => 0 := by funext a; fin_cases a <;> rfl

theorem out_eq (x0 : Vec Ideal S4224x1408 .bf16) (x1 : Vec Ideal S4224x1024 .bf16) (p : Fin 1408) (q : Fin 1024) :
    out0_2 x0 x1 (ix2 p q) = ∑ k : Fin 4224, x0 (ix2 k p) * x1 (ix2 k q) := by
  unfold out0_2
  rw [View.canon_unit_zero z2, View.ld_unit_zero z2, View.ld_unit_zero z2]
  unfold k0_pay1
  pointwise

variable (m : (ℓ : Loc nD τ sig) → Buf (Elt Ideal) ℓ)

theorem idx : ∀ t : Fin cfg0.N, win0_0.index t = ![0, t.val] ∧ win0_1.index t = ![0, 0] ∧ win0_2.index t = ![t.val, 0] := by
  decide +kernel

theorem arr (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  obtain ⟨p, q, rfl⟩ : ∃ (p : Fin 1408) (q : Fin 1024), y = ix2 p q := ⟨y 0, y 1, eq_ix2 y⟩
  refine (out_eq _ _ p q).trans ?_
  refine Finset.sum_congr rfl fun k _ => ?_
  refine congrArg₂ (· * ·) ?_ ?_
  · blk_ext [iblk, idx t]
  · blk_ext [iblk, idx t]

end Cert.GwDownIdeal.Mm

namespace Cert.GwDownRefIdeal.Mm

open Idealize.ShloMosaic Gen Idealize.ShloMosaic.TcCoe Idealize.ShloMosaic.Tactic Idealize.SL.Sem
open Cert.GwDownIdeal.Mm (G)

/-- The reference's result. -/
def R (A : FVec Ideal S4224x2816 .bf16) (B : FVec Ideal S4224x1024 .bf16) : FVec Ideal S2816x1024 .bf16 :=
  truncf .bf16 (transpose S2816x1024 [1, 0] (Host.dotGeneral dot_S1x4224x1024_S1x4224x2816_S1024x2816_01_01_2_2_n_n none (broadcastInDim S1x4224x1024 ![1, 2] bcast_S4224x1024_S1x4224x1024_1_2 (extf .f32 B bitsLt_bf16_f32)) (broadcastInDim S1x4224x2816 ![1, 2] bcast_S4224x2816_S1x4224x2816_1_2 (extf .f32 A bitsLt_bf16_f32))) transposes_S1024x2816_S2816x1024_1_0) bitsLt_bf16_f32

theorem R_eq (A : FVec Ideal S4224x2816 .bf16) (B : FVec Ideal S4224x1024 .bf16) : R A B = G A B := by
  funext y
  obtain ⟨p, q, rfl⟩ : ∃ (p : Fin 2816) (q : Fin 1024), y = ix2 p q := ⟨y 0, y 1, eq_ix2 y⟩
  unfold R
  pointwise
  refine (Fin.sum_univ_one _).trans ?_
  exact Finset.sum_congr rfl fun _ _ => mul_comm _ _

end Cert.GwDownRefIdeal.Mm

end
-- ==== Proof.Mm.Up.lean ====
/- The gradient of the up projection's weights: what the kernel's array holds, and that the reference's holds the same. -/
module

public import proofs.«01_k».proof.Proof.Gen.GwUpIdeal.Value
public import proofs.«01_k».proof.Proof.Gen.GwUpRefIdeal.Run
public import Idealize.ShloMosaic.PureOps.Ideal
public import Idealize.ShloMosaic.Lib.Pointwise
public import Idealize.ShloMosaic.Lib.Pipeline.Value
public import Idealize.ShloMosaic.Lib.Pipeline.ValueKit.Tiles
public meta import Idealize.ShloMosaic.Lib.Pipeline.ValueKit.Acc
public import Idealize.ShloMosaic.Lib.Pipeline.ValueKit.Acc
public import Idealize.ShloMosaic.Lib.StableHlo.ReadAt
public meta import Idealize.ShloMosaic.Lib.Pipeline.ValueKit.Geometry
public import Idealize.ShloMosaic.Lib.Pipeline.ValueKit.Geometry

@[expose] public section

set_option maxRecDepth 16384

noncomputable section

namespace Cert.GwUpIdeal.Mm

open Idealize.ShloMosaic Gen Idealize.ShloMosaic.TcCoe Idealize.ShloMosaic.Tactic Idealize.SL.Sem
open Idealize.ShloMosaic.Pipeline (Dat)

/-- Row `k` of the gradient at the two projected halves laid side by side, at channel `n`. -/
def side (A : FVec Ideal S2x4224x2816 .bf16) (k : Fin 4224) (n : Fin 5632) : EReal :=
  if h : n.val < 2816 then A (ix3 (0 : Fin 2) k (⟨n.val, h⟩ : Fin 2816)) else A (ix3 (1 : Fin 2) k (⟨n.val - 2816, by omega⟩ : Fin 2816))

theorem side_eq (A : FVec Ideal S2x4224x2816 .bf16) (k : Fin 4224) (n : Fin 5632) (h : Fin 2) (j : Fin 2816) (e : n.val = 2816 * h.val + j.val) :
    side A k n = A (ix3 h k j) := by
  unfold side
  split_ifs with hn
  · refine congrArg A ?_
    have : h = 0 := by apply Fin.ext; show h.val = 0; omega
    subst this
    refine congrArg (ix3 (0 : Fin 2) k) (Fin.ext ?_)
    show n.val = j.val
    omega
  · refine congrArg A ?_
    have : h = 1 := by apply Fin.ext; show h.val = 1; omega
    subst this
    refine congrArg (ix3 (1 : Fin 2) k) (Fin.ext ?_)
    show n.val - 2816 = j.val
    omega

/-- Channel `p` of both halves against feature `q`, summed over all tokens. -/
def G (A : FVec Ideal S2x4224x2816 .bf16) (B : FVec Ideal S4224x1024 .bf16) : FVec Ideal S5632x1024 .bf16 :=
  fun y => ∑ k : Fin 4224, side A k (y 0) * B (ix2 k (y 1))

/-- The share of one half of the tokens. -/
def part (x0 : Vec Ideal S1x2112x1408 .bf16) (x1 : Vec Ideal S2112x1024 .bf16) (p : Fin 1408) (q : Fin 1024) : EReal := ∑ k : Fin 2112, x0 (ix3 (0 : Fin 1) k p) * x1 (ix2 k q)

section
variable (c : Dev nD) (i : grid0.Coords) (arg3 : Memref sig .tc .vmem S1x2112x1408 .bf16) (harg3 : arg3.IsWhole) (arg4 : Memref sig .tc .vmem S2112x1024 .bf16)
  (harg4 : arg4.IsWhole) (arg5 : Memref sig .tc .vmem S1408x1024 .bf16) (harg5 : arg5.IsWhole) (arg6 : Memref sig .tc .vmem S1408x1024 .f32) (harg6 : arg6.IsWhole)
  (x0 : Vec Ideal S1x2112x1408 .bf16) (x1 : Vec Ideal S2112x1024 .bf16)

/-- The first half of the tokens starts the accumulator. -/
theorem first (h0 : cond0_0 i) (h1 : ¬cond0_1 i) (h2 : ¬cond0_2 i) (p : Fin 1408) (q : Fin 1024) :
    sout0_A_0 c i arg3 harg3 arg4 harg4 arg5 harg5 arg6 harg6 h0 h1 h2 x0 x1 (ix2 p q) = part x0 x1 p q := by
  unfold sout0_A_0
  frame_out
  unfold k0_pay2 k0_pay1 part
  pointwise

/-- The second half is added to it, and the sum is stored. -/
theorem second (h0 : ¬cond0_0 i) (h1 : cond0_1 i) (h2 : cond0_2 i) (s : Vec Ideal S1408x1024 .f32) (p : Fin 1408) (q : Fin 1024) :
    out0_B_2 c i arg3 harg3 arg4 harg4 arg5 harg5 arg6 harg6 h0 h1 h2 x0 x1 s (ix2 p q) = s (ix2 p q) + part x0 x1 p q := by
  unfold out0_B_2
  frame_out
  unfold k0_pay4 k0_pay3 k0_pay1 part
  pointwise

end

variable (m : (ℓ : Loc nD τ sig) → Buf (Elt Ideal) ℓ)

theorem idx : ∀ t : Fin cfg0.N, win0_0.index t = ![t.val / 4, t.val % 2, t.val / 2 % 2] ∧ win0_1.index t = ![t.val % 2, 0] ∧ win0_2.index t = ![t.val / 2, 0] := by
  decide +kernel

theorem flushed : ∀ t : Fin cfg0.N, (cfg0.win 2).flush t = true → t.val % 2 = 1 := by decide +kernel

/-- A sum over all tokens, half by half. -/
theorem sum_halves (f : Fin 4224 → EReal) : ∑ k, f k = ∑ k : Fin 2112, f ⟨k.val, by omega⟩ + ∑ k : Fin 2112, f ⟨2112 + k.val, by omega⟩ :=
  Fin.sum_univ_add (a := 2112) (b := 2112) f

theorem point_first (c : Dev nD) (t : Fin cfg0.N) (h0 : t.val % 2 = 0) (p : Fin 1408) (q : Fin 1024) :
    (outsAt0 m c t.val t.isLt).2 (ix2 p q) = part (iblk m c 0 t) (iblk m c 1 t) p q := by
  have h1 : ¬t.val % 2 = 1 := by omega
  have e := first c (grid0.coords t) (ms0_0 t) (hs0_0 t) (ms0_1 t) (hs0_1 t) (ms0_2 t) (hs0_2 t) scM0_0 (Memref.isWhole_whole _) (iblk m c 0 t) (iblk m c 1 t) ((hcond0_0 t).mpr h0) (fun h => h1 ((hcond0_1 t).mp h)) (fun h => h1 ((hcond0_2 t).mp h)) p q
  rw [outsAt0_A m c t h0 h1 h1]
  dsimp only
  exact e

theorem point_second (c : Dev nD) (t : Fin cfg0.N) (h1 : t.val % 2 = 1) (p : Fin 1408) (q : Fin 1024) :
    (outsAt0 m c t.val t.isLt).1 (ix2 p q) = (outsAt0 m c (t.val - 1) (Nat.lt_of_le_of_lt (Nat.sub_le _ _) t.isLt)).2 (ix2 p q)
      + part (iblk m c 0 t) (iblk m c 1 t) p q := by
  have h0 : ¬t.val % 2 = 0 := by omega
  have e := second c (grid0.coords t) (ms0_0 t) (hs0_0 t) (ms0_1 t) (hs0_1 t) (ms0_2 t) (hs0_2 t) scM0_0 (Memref.isWhole_whole _) (iblk m c 0 t) (iblk m c 1 t) (fun h => h0 ((hcond0_0 t).mp h)) ((hcond0_1 t).mpr h1) ((hcond0_2 t).mpr h1)
    (outsAt0 m c (t.val - 1) (Nat.lt_of_le_of_lt (Nat.sub_le _ _) t.isLt)).2 p q
  rw [outsAt0_B m c t h0 h1 h1]
  dsimp only
  exact e

/-- The block of channels that point `t` reads. -/
theorem blk_a (c : Dev nD) (t : Fin cfg0.N) (k : Fin 2112) (p : Fin 1408) (n : Fin 5632) (r : Fin 4224) (hn : n.val = 1408 * (t.val / 2) + p.val)
    (hr : r.val = 2112 * (t.val % 2) + k.val) :
    iblk m c 0 t (ix3 (0 : Fin 1) k p) = side (m ((c : Thread nD τ).loc main_arg0)) r n := by
  have ht : t.val < 8 := t.isLt
  refine Eq.trans ?_ (side_eq _ r n (⟨t.val / 4, by omega⟩ : Fin 2) (⟨1408 * (t.val / 2 % 2) + p.val, by omega⟩ : Fin 2816) (by show _ = 2816 * (t.val / 4) + (1408 * (t.val / 2 % 2) + p.val); omega)).symm
  have hb : 2112 * (t.val % 2) + k.val < 4224 := by clear hn hr; omega
  obtain rfl : r = (⟨2112 * (t.val % 2) + k.val, hb⟩ : Fin 4224) := Fin.ext hr
  rw [← V_main_arg0 m c]
  blk_ext [iblk, idx t]

theorem arr (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  have h1 : t.val % 2 = 1 := flushed t hf
  obtain ⟨p, q, rfl⟩ : ∃ (p : Fin 1408) (q : Fin 1024), y = ix2 p q := ⟨y 0, y 1, eq_ix2 y⟩
  have hs : t.val - 1 < cfg0.N := Nat.lt_of_le_of_lt (Nat.sub_le _ _) t.isLt
  obtain ⟨s, hsv⟩ : ∃ s : Fin cfg0.N, s.val = t.val - 1 := ⟨⟨t.val - 1, hs⟩, rfl⟩
  have e := point_first m c s (by omega) p q
  simp only [hsv] at e
  refine (point_second m c t h1 p q).trans ?_
  rw [e]
  unfold part
  have hn : ((win0_2.blk t).view.emb (ix2 p q) 0).val = 1408 * (t.val / 2) + p.val := by
    have e2 : (win0_2.blk t).view.emb (ix2 p q) = ix2 (⟨1408 * (t.val / 2) + p.val, by have : t.val < 8 := t.isLt; omega⟩ : Fin 5632) q := by blk_ext [idx t]
    rw [e2]
    rfl
  refine Eq.trans ?_ (sum_halves _).symm
  refine congrArg₂ (· + ·) (Finset.sum_congr rfl fun k _ => ?_) (Finset.sum_congr rfl fun k _ => ?_)
  · refine congrArg₂ (· * ·) ?_ ?_
    · exact blk_a m c s k p _ _ (by rw [hn, hsv]; omega) (by show k.val = _; omega)
    · blk_ext [iblk, idx s, idx t]
  · refine congrArg₂ (· * ·) ?_ ?_
    · exact blk_a m c t k p _ _ (by rw [hn]) (by show 2112 + k.val = _; omega)
    · blk_ext [iblk, idx t]

end Cert.GwUpIdeal.Mm

namespace Cert.GwUpRefIdeal.Mm

open Idealize.ShloMosaic Gen Idealize.ShloMosaic.TcCoe Idealize.ShloMosaic.Tactic Idealize.SL.Sem
open Cert.GwUpIdeal.Mm

/-- The reference's result. -/
def R (A : FVec Ideal S2x4224x2816 .bf16) (B : FVec Ideal S4224x1024 .bf16) : FVec Ideal S5632x1024 .bf16 :=
  truncf .bf16 (transpose S5632x1024 [1, 0] (transpose S1024x5632 [1, 0] (Host.dotGeneral dot_S1x4224x5632_S1x4224x1024_S5632x1024_01_01_2_2_n_n none (concatenate S1x4224x5632 2 [⟨S1x4224x2816, (broadcastInDim S1x4224x2816 ![1, 2] bcast_S4224x2816_S1x4224x2816_1_2 (extf .f32 (shapeCast _ (extractStridedSlice S1x4224x2816 ![0, 0, 0] A slices_S2x4224x2816_S1x4224x2816_0_0_0) shapeCasts_S1x4224x2816_S4224x2816) bitsLt_bf16_f32))⟩, ⟨S1x4224x2816, (broadcastInDim S1x4224x2816 ![1, 2] bcast_S4224x2816_S1x4224x2816_1_2 (extf .f32 (shapeCast _ (extractStridedSlice S1x4224x2816 ![1, 0, 0] A slices_S2x4224x2816_S1x4224x2816_1_0_0) shapeCasts_S1x4224x2816_S4224x2816) bitsLt_bf16_f32))⟩] concatenates_S1x4224x2816_S1x4224x2816_S1x4224x5632_d2) (broadcastInDim S1x4224x1024 ![1, 2] bcast_S4224x1024_S1x4224x1024_1_2 (extf .f32 B bitsLt_bf16_f32))) transposes_S5632x1024_S1024x5632_1_0) transposes_S1024x5632_S5632x1024_1_0) bitsLt_bf16_f32

theorem R_eq (A : FVec Ideal S2x4224x2816 .bf16) (B : FVec Ideal S4224x1024 .bf16) : R A B = G A B := by
  funext y
  obtain ⟨p, q, rfl⟩ : ∃ (p : Fin 5632) (q : Fin 1024), y = ix2 p q := ⟨y 0, y 1, eq_ix2 y⟩
  unfold R
  pointwise
  refine (Fin.sum_univ_one _).trans ?_
  rfl

end Cert.GwUpRefIdeal.Mm

end
-- ==== Proof.Mm.Out.lean ====
/- The gradient of the mixer's output projection: what the kernel's array holds, and that the reference's holds the same. -/
module

public import proofs.«01_k».proof.Proof.Gen.GwOutIdeal.Value
public import proofs.«01_k».proof.Proof.Gen.GwOutRefIdeal.Run
public import Idealize.ShloMosaic.PureOps.Ideal
public import Idealize.ShloMosaic.Lib.Pointwise
public import Idealize.ShloMosaic.Lib.Pipeline.Value
public import Idealize.ShloMosaic.Lib.Pipeline.ValueKit.Tiles
public meta import Idealize.ShloMosaic.Lib.Pipeline.ValueKit.Acc
public import Idealize.ShloMosaic.Lib.Pipeline.ValueKit.Acc
public import Idealize.ShloMosaic.Lib.StableHlo.ReadAt
public meta import Idealize.ShloMosaic.Lib.Pipeline.ValueKit.Geometry
public import Idealize.ShloMosaic.Lib.Pipeline.ValueKit.Geometry

@[expose] public section

set_option maxRecDepth 16384

noncomputable section

namespace Cert.GwOutIdeal.Mm

open Idealize.ShloMosaic Gen Idealize.ShloMosaic.TcCoe Idealize.ShloMosaic.Tactic Idealize.SL.Sem
open Idealize.ShloMosaic.Pipeline (Dat)

/-- Channel `p` against feature `q`, summed over all tokens. -/
def G (A : FVec Ideal S4224x1024 .bf16) (B : FVec Ideal S4224x1024 .f32) : FVec Ideal S1024x1024 .bf16 :=
  fun y => ∑ k : Fin 4224, A (ix2 k (y 0)) * B (ix2 k (y 1))

/-- The share of one half of the tokens. -/
def part (x0 : Vec Ideal S2112x1024 .bf16) (x1 : Vec Ideal S2112x1024 .f32) (p : Fin 1024) (q : Fin 1024) : EReal := ∑ k : Fin 2112, x0 (ix2 k p) * x1 (ix2 k q)

section
variable (c : Dev nD) (i : grid0.Coords) (arg3 : Memref sig .tc .vmem S2112x1024 .bf16) (harg3 : arg3.IsWhole) (arg4 : Memref sig .tc .vmem S2112x1024 .f32)
  (harg4 : arg4.IsWhole) (arg5 : Memref sig .tc .vmem S1024x1024 .bf16) (harg5 : arg5.IsWhole) (arg6 : Memref sig .tc .vmem S1024x1024 .f32) (harg6 : arg6.IsWhole)
  (x0 : Vec Ideal S2112x1024 .bf16) (x1 : Vec Ideal S2112x1024 .f32)

/-- The first half of the tokens starts the accumulator. -/
theorem first (h0 : cond0_0 i) (h1 : ¬cond0_1 i) (h2 : ¬cond0_2 i) (p : Fin 1024) (q : Fin 1024) :
    sout0_A_0 c i arg3 harg3 arg4 harg4 arg5 harg5 arg6 harg6 h0 h1 h2 x0 x1 (ix2 p q) = part x0 x1 p q := by
  unfold sout0_A_0
  frame_out
  unfold k0_pay2 k0_pay1 part
  pointwise

/-- The second half is added to it, and the sum is stored. -/
theorem second (h0 : ¬cond0_0 i) (h1 : cond0_1 i) (h2 : cond0_2 i) (s : Vec Ideal S1024x1024 .f32) (p : Fin 1024) (q : Fin 1024) :
    out0_B_2 c i arg3 harg3 arg4 harg4 arg5 harg5 arg6 harg6 h0 h1 h2 x0 x1 s (ix2 p q) = s (ix2 p q) + part x0 x1 p q := by
  unfold out0_B_2
  frame_out
  unfold k0_pay4 k0_pay3 k0_pay1 part
  pointwise

end

variable (m : (ℓ : Loc nD τ sig) → Buf (Elt Ideal) ℓ)

theorem idx : ∀ t : Fin cfg0.N, win0_0.index t = ![t.val, 0] ∧ win0_1.index t = ![t.val, 0] ∧ win0_2.index t = ![0, 0] := by
  decide +kernel

theorem flushed : ∀ t : Fin cfg0.N, (cfg0.win 2).flush t = true → t.val % 2 = 1 := by decide +kernel

/-- A sum over all tokens, half by half. -/
theorem sum_halves (f : Fin 4224 → EReal) : ∑ k, f k = ∑ k : Fin 2112, f ⟨k.val, by omega⟩ + ∑ k : Fin 2112, f ⟨2112 + k.val, by omega⟩ :=
  Fin.sum_univ_add (a := 2112) (b := 2112) f

theorem point_first (c : Dev nD) (t : Fin cfg0.N) (h0 : t.val % 2 = 0) (p : Fin 1024) (q : Fin 1024) :
    (outsAt0 m c t.val t.isLt).2 (ix2 p q) = part (iblk m c 0 t) (iblk m c 1 t) p q := by
  have h1 : ¬t.val % 2 = 1 := by omega
  have e := first c (grid0.coords t) (ms0_0 t) (hs0_0 t) (ms0_1 t) (hs0_1 t) (ms0_2 t) (hs0_2 t) scM0_0 (Memref.isWhole_whole _) (iblk m c 0 t) (iblk m c 1 t) ((hcond0_0 t).mpr h0) (fun h => h1 ((hcond0_1 t).mp h)) (fun h => h1 ((hcond0_2 t).mp h)) p q
  rw [outsAt0_A m c t h0 h1 h1]
  dsimp only
  exact e

theorem point_second (c : Dev nD) (t : Fin cfg0.N) (h1 : t.val % 2 = 1) (p : Fin 1024) (q : Fin 1024) :
    (outsAt0 m c t.val t.isLt).1 (ix2 p q) = (outsAt0 m c (t.val - 1) (Nat.lt_of_le_of_lt (Nat.sub_le _ _) t.isLt)).2 (ix2 p q)
      + part (iblk m c 0 t) (iblk m c 1 t) p q := by
  have h0 : ¬t.val % 2 = 0 := by omega
  have e := second c (grid0.coords t) (ms0_0 t) (hs0_0 t) (ms0_1 t) (hs0_1 t) (ms0_2 t) (hs0_2 t) scM0_0 (Memref.isWhole_whole _) (iblk m c 0 t) (iblk m c 1 t) (fun h => h0 ((hcond0_0 t).mp h)) ((hcond0_1 t).mpr h1) ((hcond0_2 t).mpr h1)
    (outsAt0 m c (t.val - 1) (Nat.lt_of_le_of_lt (Nat.sub_le _ _) t.isLt)).2 p q
  rw [outsAt0_B m c t h0 h1 h1]
  dsimp only
  exact e

theorem arr (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  have h1 : t.val % 2 = 1 := flushed t hf
  obtain ⟨p, q, rfl⟩ : ∃ (p : Fin 1024) (q : Fin 1024), y = ix2 p q := ⟨y 0, y 1, eq_ix2 y⟩
  have hs : t.val - 1 < cfg0.N := Nat.lt_of_le_of_lt (Nat.sub_le _ _) t.isLt
  obtain ⟨s, hsv⟩ : ∃ s : Fin cfg0.N, s.val = t.val - 1 := ⟨⟨t.val - 1, hs⟩, rfl⟩
  have e := point_first m c s (by omega) p q
  simp only [hsv] at e
  refine (point_second m c t h1 p q).trans ?_
  rw [e]
  unfold part
  refine Eq.trans ?_ (sum_halves _).symm
  refine congrArg₂ (· + ·) (Finset.sum_congr rfl fun k _ => ?_) (Finset.sum_congr rfl fun k _ => ?_)
  · refine congrArg₂ (· * ·) ?_ ?_
    · blk_ext [iblk, idx s, idx t]
    · blk_ext [iblk, idx s, idx t]
  · refine congrArg₂ (· * ·) ?_ ?_
    · blk_ext [iblk, idx t]
    · blk_ext [iblk, idx t]

end Cert.GwOutIdeal.Mm

namespace Cert.GwOutRefIdeal.Mm

open Idealize.ShloMosaic Gen Idealize.ShloMosaic.TcCoe Idealize.ShloMosaic.Tactic Idealize.SL.Sem
open Cert.GwOutIdeal.Mm

/-- The reference's result. -/
def R (A : FVec Ideal S4224x1024 .bf16) (B : FVec Ideal S4224x1024 .f32) : FVec Ideal S1024x1024 .bf16 :=
  truncf .bf16 (transpose S1024x1024 [1, 0] (Host.dotGeneral dot_S1x4224x1024_S1x4224x1024_S1024x1024_01_01_2_2_n_n none (broadcastInDim S1x4224x1024 ![1, 2] bcast_S4224x1024_S1x4224x1024_1_2 B) (broadcastInDim S1x4224x1024 ![1, 2] bcast_S4224x1024_S1x4224x1024_1_2 (extf .f32 A bitsLt_bf16_f32))) transposes_S1024x1024_S1024x1024_1_0) bitsLt_bf16_f32

theorem R_eq (A : FVec Ideal S4224x1024 .bf16) (B : FVec Ideal S4224x1024 .f32) : R A B = G A B := by
  funext y
  obtain ⟨p, q, rfl⟩ : ∃ (p : Fin 1024) (q : Fin 1024), y = ix2 p q := ⟨y 0, y 1, eq_ix2 y⟩
  unfold R
  pointwise
  refine (Fin.sum_univ_one _).trans ?_
  exact Finset.sum_congr rfl fun _ _ => mul_comm _ _

end Cert.GwOutRefIdeal.Mm

end
-- ==== Proof.Mm.In.lean ====
/- The gradient of the mixer's input projection's weights: what the kernel's array holds, and that the reference's holds the same. -/
module

public import proofs.«01_k».proof.Proof.Gen.GwInIdeal.Value
public import proofs.«01_k».proof.Proof.Gen.GwInRefIdeal.Run
public import Idealize.ShloMosaic.PureOps.Ideal
public import Idealize.ShloMosaic.Lib.Pointwise
public import Idealize.ShloMosaic.Lib.Pipeline.Value
public import Idealize.ShloMosaic.Lib.Pipeline.ValueKit.Tiles
public meta import Idealize.ShloMosaic.Lib.Pipeline.ValueKit.Acc
public import Idealize.ShloMosaic.Lib.Pipeline.ValueKit.Acc
public import Idealize.ShloMosaic.Lib.StableHlo.ReadAt
public meta import Idealize.ShloMosaic.Lib.Pipeline.ValueKit.Geometry
public import Idealize.ShloMosaic.Lib.Pipeline.ValueKit.Geometry

@[expose] public section

set_option maxRecDepth 16384

noncomputable section

namespace Cert.GwInIdeal.Mm

open Idealize.ShloMosaic Gen Idealize.ShloMosaic.TcCoe Idealize.ShloMosaic.Tactic Idealize.SL.Sem
open Idealize.ShloMosaic.Pipeline (Dat)

/-- Channel `p` against feature `q`, summed over all tokens. -/
def G (A : FVec Ideal S4224x3200 .bf16) (B : FVec Ideal S4224x1024 .bf16) : FVec Ideal S3200x1024 .bf16 :=
  fun y => ∑ k : Fin 4224, A (ix2 k (y 0)) * B (ix2 k (y 1))

theorem z2 : (![0, 0] : Fin 2 → ℕ) = fun _ => 0 := by funext a; fin_cases a <;> rfl

theorem out_eq (x0 : Vec Ideal S4224x640 .bf16) (x1 : Vec Ideal S4224x1024 .bf16) (p : Fin 640) (q : Fin 1024) :
    out0_2 x0 x1 (ix2 p q) = ∑ k : Fin 4224, x0 (ix2 k p) * x1 (ix2 k q) := by
  unfold out0_2
  rw [View.canon_unit_zero z2, View.ld_unit_zero z2, View.ld_unit_zero z2]
  unfold k0_pay1
  pointwise

variable (m : (ℓ : Loc nD τ sig) → Buf (Elt Ideal) ℓ)

theorem idx : ∀ t : Fin cfg0.N, win0_0.index t = ![0, t.val] ∧ win0_1.index t = ![0, 0] ∧ win0_2.index t = ![t.val, 0] := by
  decide +kernel

theorem arr (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  obtain ⟨p, q, rfl⟩ : ∃ (p : Fin 640) (q : Fin 1024), y = ix2 p q := ⟨y 0, y 1, eq_ix2 y⟩
  refine (out_eq _ _ p q).trans ?_
  refine Finset.sum_congr rfl fun k _ => ?_
  refine congrArg₂ (· * ·) ?_ ?_
  · blk_ext [iblk, idx t]
  · blk_ext [iblk, idx t]

end Cert.GwInIdeal.Mm

namespace Cert.GwInRefIdeal.Mm

open Idealize.ShloMosaic Gen Idealize.ShloMosaic.TcCoe Idealize.ShloMosaic.Tactic Idealize.SL.Sem
open Cert.GwInIdeal.Mm (G)

/-- The reference's result. -/
def R (A : FVec Ideal S4224x3200 .bf16) (B : FVec Ideal S4224x1024 .bf16) : FVec Ideal S3200x1024 .bf16 :=
  truncf .bf16 (transpose S3200x1024 [1, 0] (transpose S1024x3200 [1, 0] (Host.dotGeneral dot_S1x4224x3200_S1x4224x1024_S3200x1024_01_01_2_2_n_n none (broadcastInDim S1x4224x3200 ![1, 2] bcast_S4224x3200_S1x4224x3200_1_2 (extf .f32 A bitsLt_bf16_f32)) (broadcastInDim S1x4224x1024 ![1, 2] bcast_S4224x1024_S1x4224x1024_1_2 (extf .f32 B bitsLt_bf16_f32))) transposes_S3200x1024_S1024x3200_1_0) transposes_S1024x3200_S3200x1024_1_0) bitsLt_bf16_f32

theorem R_eq (A : FVec Ideal S4224x3200 .bf16) (B : FVec Ideal S4224x1024 .bf16) : R A B = G A B := by
  funext y
  obtain ⟨p, q, rfl⟩ : ∃ (p : Fin 3200) (q : Fin 1024), y = ix2 p q := ⟨y 0, y 1, eq_ix2 y⟩
  unfold R
  pointwise
  exact Fin.sum_univ_one _

end Cert.GwInRefIdeal.Mm

end
-- ==== Proof.Norm.Row.lean ====
/- One row of a root-mean-square norm and of its gradient, over the extended reals. -/
module

public import Idealize.ShloMosaic.PureOps.Ideal
public import Idealize.ShloMosaic.Lib.Pointwise

@[expose] public section

set_option maxRecDepth 16384

noncomputable section

namespace Cert.Norm

open Idealize.ShloMosaic

/-- An extended real that is a real number. -/
def IsR (x : EReal) : Prop := ∃ r : ℝ, x = r

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The row's length, the norm's small constant, and minus one half, as the programs write them. -/
def cN : EReal := Ideal.ofBits .f32 0x44800000#32
def cEps : EReal := Ideal.ofBits .f32 0x358637BD#32
def cH : EReal := Ideal.ofBits .f32 0xBF000000#32

theorem cN_eq : cN = ((1024 : ℝ) : EReal) := by
  unfold cN
  simp [Ideal.ofBits, Ideal.ieee, -EReal.coe_mul]
  norm_num
theorem cH_eq : cH = ((-(1 / 2) : ℝ) : EReal) := by
  unfold cH
  simp [Ideal.ofBits, Ideal.ieee, -EReal.coe_mul]
  norm_num
theorem cEps_eq : ∃ e : ℝ, 0 < e ∧ cEps = (e : EReal) := by
  refine ⟨8796093 * (2 : ℝ) ^ (-43 : ℤ), by positivity, ?_⟩
  unfold cEps
  simp [Ideal.ofBits, Ideal.ieee, -EReal.coe_mul]

theorem div_N (a : ℝ) : Ideal.div (a : EReal) cN = ((a / 1024 : ℝ) : EReal) := by
  rw [cN_eq]
  unfold Ideal.div
  rw [if_neg (by norm_num), ← EReal.coe_inv, ← EReal.coe_mul, div_eq_mul_inv]
theorem div_pos (a b : ℝ) (h : 0 < b) : Ideal.div (a : EReal) (b : EReal) = ((a / b : ℝ) : EReal) := by
  unfold Ideal.div
  rw [if_neg (by exact_mod_cast h.ne'), ← EReal.coe_inv, ← EReal.coe_mul, div_eq_mul_inv]
theorem rsqrt_pos (b : ℝ) (h : 0 < b) : Ideal.rsqrt (b : EReal) = (((Real.sqrt b)⁻¹ : ℝ) : EReal) := by
  show (if b < 0 then (⊥ : EReal) else if b = 0 then ⊤ else (((Real.sqrt b)⁻¹ : ℝ) : EReal)) = _
  rw [if_neg (by linarith), if_neg h.ne']

/-- The mean square of a row, with the small constant, and its inverse root. -/
def vv (x : Fin 1024 → EReal) : EReal := Ideal.div (∑ k, x k * x k) cN + cEps
def rr (x : Fin 1024 → EReal) : EReal := Ideal.rsqrt (vv x)
/-- The gradient through the norm as the kernels write it: `u` is the incoming gradient times the gain. -/
def dhK (u x : Fin 1024 → EReal) (q : Fin 1024) : EReal :=
  rr x * (u q - x q * rr x * Ideal.div (∑ k, u k * (x k * rr x)) cN)
/-- What the derivative of the inverse root gives to each factor of the square. -/
def tR (u x : Fin 1024 → EReal) : EReal :=
  Ideal.div ((∑ k, x k * u k) * (cH * Ideal.div (rr x) (vv x))) cN

theorem vv_real (x : Fin 1024 → ℝ) : ∃ v : ℝ, 0 < v ∧ vv (fun k => (x k : EReal)) = (v : EReal) := by
  obtain ⟨e, he, hE⟩ := cEps_eq
  refine ⟨(∑ k, x k * x k) / 1024 + e, ?_, ?_⟩
  · have : 0 ≤ ∑ k, x k * x k := Finset.sum_nonneg fun k _ => mul_self_nonneg _
    positivity
  · unfold vv
    rw [hE]
    simp only [← EReal.coe_mul]
    rw [sum_coe, div_N, ← EReal.coe_add]

theorem exists_real {ι : Type} {x : ι → EReal} (h : ∀ i, IsR (x i)) : ∃ y : ι → ℝ, x = fun i => (y i : EReal) := by
  choose y hy using h
  exact ⟨y, funext hy⟩

theorem sum_mul_nn {ι : Type} (s : Finset ι) (f : ι → EReal) (r : ℝ) (h : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (EReal.coe_nonneg.mpr h) (EReal.coe_ne_top r), ih]
theorem div_cN (y : EReal) : Ideal.div y cN = y * (((1024 : ℝ)⁻¹ : ℝ) : EReal) := by
  rw [cN_eq]
  unfold Ideal.div
  rw [if_neg (by norm_num), ← EReal.coe_inv]
theorem twice (S : EReal) (a : ℝ) : S * (a : EReal) + S * (a : EReal) = S * ((a + a : ℝ) : EReal) := by
  rcases lt_trichotomy a 0 with h | rfl | h
  · have h2 : a + a < 0 := by linarith
    induction S with
    | bot => simp [EReal.bot_mul_coe_of_neg h, EReal.bot_mul_coe_of_neg h2, -EReal.coe_add]
    | top => simp [EReal.top_mul_coe_of_neg h, EReal.top_mul_coe_of_neg h2, -EReal.coe_add]
    | coe s => norm_cast; ring
  · simp
  · have h2 : 0 < a + a := by linarith
    induction S with
    | bot => simp [EReal.bot_mul_coe_of_pos h, EReal.bot_mul_coe_of_pos h2, -EReal.coe_add]
    | top => simp [EReal.top_mul_coe_of_pos h, EReal.top_mul_coe_of_pos h2, -EReal.coe_add]
    | coe s => norm_cast; ring

theorem sum_top {x : Fin 1024 → EReal} (h : ¬∀ k, IsR (x k)) : ∑ k, x k * x k = ⊤ := by
  push Not at h
  obtain ⟨k, hk⟩ := h
  have nn : ∀ i, 0 ≤ x i * x i := fun i => by
    induction x i with
    | bot => simp
    | top => simp
    | coe r => rw [← EReal.coe_mul]; exact EReal.coe_nonneg.mpr (mul_self_nonneg r)
  have ht : x k * x k = ⊤ := by
    revert hk
    induction x k with
    | bot => intro _; simp
    | top => intro _; simp
    | coe r => intro h; exact absurd ⟨r, rfl⟩ h
  rw [← Finset.add_sum_erase _ _ (Finset.mem_univ k), ht]
  refine EReal.top_add_of_ne_bot fun e => ?_
  have := Finset.sum_nonneg (s := Finset.univ.erase k) fun i _ => nn i
  rw [e] at this
  simp at this

theorem rr_top {x : Fin 1024 → EReal} (h : ¬∀ k, IsR (x k)) : vv x = ⊤ ∧ rr x = 0 := by
  have hv : vv x = ⊤ := by
    obtain ⟨e, -, hE⟩ := cEps_eq
    unfold vv
    rw [sum_top h, div_cN, EReal.top_mul_coe_of_pos (by norm_num), hE]
    exact EReal.top_add_of_ne_bot (EReal.coe_ne_bot e)
  exact ⟨hv, by unfold rr; rw [hv]; rfl⟩

/-- The transposed derivative is the kernels' formula. -/
theorem core (u x : Fin 1024 → EReal) (q : Fin 1024) : u q * rr x + x q * tR u x + tR u x * x q = dhK u x q := by
  by_cases hx : ∀ k, IsR (x k)
  · obtain ⟨x, rfl⟩ := exists_real hx
    obtain ⟨v, hv, e⟩ := vv_real x
    have hs : 0 < Real.sqrt v := Real.sqrt_pos.mpr hv
    have h2 : v = Real.sqrt v * Real.sqrt v := (Real.mul_self_sqrt hv.le).symm
    have hr : 0 < (Real.sqrt v)⁻¹ := inv_pos.mpr hs
    unfold dhK tR rr
    rw [e, rsqrt_pos v hv, cH_eq, div_pos _ _ hv, div_cN, div_cN]
    have hS : ∑ k, u k * ((x k : EReal) * (((Real.sqrt v)⁻¹ : ℝ) : EReal)) = (∑ k, (x k : EReal) * u k) * (((Real.sqrt v)⁻¹ : ℝ) : EReal) := by
      rw [sum_mul_nn _ _ _ hr.le]
      exact Finset.sum_congr rfl fun k _ => by ac_rfl
    rw [hS, sub_eq_add_neg, EReal.left_distrib_of_nonneg_of_ne_top (EReal.coe_nonneg.mpr hr.le) (EReal.coe_ne_top _), add_assoc]
    generalize ∑ k, (x k : EReal) * u k = S
    refine congrArg₂ (· + ·) (mul_comm _ _) ?_
    have a1 : (x q : EReal) * (S * (((-(1 / 2) : ℝ) : EReal) * (((Real.sqrt v)⁻¹ / v : ℝ) : EReal)) * (((1024 : ℝ)⁻¹ : ℝ) : EReal))
        = S * ((x q * (-(1 / 2) * ((Real.sqrt v)⁻¹ / v)) * (1024 : ℝ)⁻¹ : ℝ) : EReal) := by
      simp only [EReal.coe_mul]; ac_rfl
    rw [mul_comm _ (x q : EReal), a1, twice, mul_neg]
    have a2 : (((Real.sqrt v)⁻¹ : ℝ) : EReal) * ((x q : EReal) * (((Real.sqrt v)⁻¹ : ℝ) : EReal) * (S * (((Real.sqrt v)⁻¹ : ℝ) : EReal) * (((1024 : ℝ)⁻¹ : ℝ) : EReal)))
        = S * (((Real.sqrt v)⁻¹ * (x q * (Real.sqrt v)⁻¹ * ((Real.sqrt v)⁻¹ * (1024 : ℝ)⁻¹)) : ℝ) : EReal) := by
      simp only [EReal.coe_mul]; ac_rfl
    rw [a2, ← mul_neg, ← EReal.coe_neg]
    refine congrArg (fun t : ℝ => S * (t : EReal)) ?_
    generalize Real.sqrt v = s at *
    subst h2
    field_simp
    ring
  · obtain ⟨hv, h0⟩ := rr_top hx
    have h1 : Ideal.div 0 ⊤ = 0 := by unfold Ideal.div; simp
    unfold dhK tR
    rw [hv, h0, h1, div_cN]
    simp

end Cert.Norm

end
-- ==== Proof.Norm.Dn2.lean ====
/- The gradient below the feed-forward block: what the kernel's three arrays hold. -/
module

public import proofs.«01_k».proof.Proof.Norm.Row
public import proofs.«01_k».proof.Proof.Gen.Dn2Ideal.Value
public import Idealize.ShloMosaic.PureOps.Ideal
public import Idealize.ShloMosaic.Lib.Pointwise
public import Idealize.ShloMosaic.Lib.Pipeline.Value
public import Idealize.ShloMosaic.Lib.Pipeline.ValueKit.Tiles
public meta import Idealize.ShloMosaic.Lib.Pipeline.ValueKit.Acc
public import Idealize.ShloMosaic.Lib.Pipeline.ValueKit.Acc
public import Idealize.ShloMosaic.Lib.StableHlo.ReadAt
public meta import Idealize.ShloMosaic.Lib.Pipeline.ValueKit.Geometry
public import Idealize.ShloMosaic.Lib.Pipeline.ValueKit.Geometry

@[expose] public section

set_option maxRecDepth 16384

noncomputable section

namespace Cert.Dn2Ideal.Nb

open Idealize.ShloMosaic Gen Idealize.ShloMosaic.TcCoe Idealize.ShloMosaic.Tactic Idealize.SL.Sem
open Idealize.ShloMosaic.Pipeline (Dat)
open Cert.Norm

/-! ## One tile -/

section
variable (v0 : Vec Ideal S1x384x2816 .bf16) (v2 : Vec Ideal S1x2816x1024 .bf16) (v5 : Vec Ideal S1x384x2816 .bf16) (v7 : Vec Ideal S1x2816x1024 .bf16)
  (x : Vec Ideal S384x1024 .f32) (g : Vec Ideal S1x1024 .f32)

/-- The gradient at the normed rows: both halves projected back. -/
def accB (p : Fin 384) (q : Fin 1024) : EReal :=
  ∑ k : Fin 2816, v0 (ix3 (0 : Fin 1) p k) * v2 (ix3 (0 : Fin 1) k q) + ∑ k : Fin 2816, v5 (ix3 (0 : Fin 1) p k) * v7 (ix3 (0 : Fin 1) k q)
def rowB (x : Vec Ideal S384x1024 .f32) (p : Fin 384) : Fin 1024 → EReal := fun k => x (ix2 p k)
def uB (p : Fin 384) : Fin 1024 → EReal := fun k => accB v0 v2 v5 v7 p k * g (ix2 (0 : Fin 1) k)

theorem pay5_apply (p : Fin 384) (q : Fin 1024) : k0_pay5 v0 v2 v5 v7 (ix2 p q) = accB v0 v2 v5 v7 p q := by
  unfold k0_pay5 accB
  pointwise
theorem pay6_apply (p : Fin 384) : k0_pay6 x (ix2 p (0 : Fin 1)) = rr (rowB x p) := by
  unfold k0_pay6
  pointwise
  rfl
theorem pay7_apply (p : Fin 384) (q : Fin 1024) : k0_pay7 x (ix2 p q) = x (ix2 p q) * rr (rowB x p) := by
  unfold k0_pay7
  pointwise
  rw [pay6_apply]
theorem pay8_apply (p : Fin 384) (q : Fin 1024) : k0_pay8 v0 v2 v5 v7 x g (ix2 p q)
    = uB v0 v2 v5 v7 g p q - x (ix2 p q) * rr (rowB x p) * Ideal.div (∑ k, uB v0 v2 v5 v7 g p k * (x (ix2 p k) * rr (rowB x p))) cN := by
  unfold k0_pay8
  pointwise
  simp only [pay7_apply, pay5_apply]
  rfl
theorem pay1_apply (d : Vec Ideal S384x1024 .f32) (p : Fin 384) (q : Fin 1024) : k0_pay1 d (k0_pay6 x) (k0_pay8 v0 v2 v5 v7 x g) (ix2 p q)
    = d (ix2 p q) + dhK (uB v0 v2 v5 v7 g p) (rowB x p) q := by
  unfold k0_pay1
  pointwise
  rw [pay6_apply, pay8_apply]
  rfl
theorem pay2_apply (q : Fin 1024) : k0_pay2 (k0_pay5 v0 v2 v5 v7) (k0_pay7 x) (ix2 (0 : Fin 1) q)
    = ∑ p : Fin 384, accB v0 v2 v5 v7 p q * (x (ix2 p q) * rr (rowB x p)) := by
  unfold k0_pay2
  pointwise
  exact Finset.sum_congr rfl fun p _ => by rw [pay5_apply, pay7_apply]
theorem pay3_apply (s : Vec Ideal S1x1024 .f32) (q : Fin 1024) : k0_pay3 (k0_pay5 v0 v2 v5 v7) (k0_pay7 x) s (ix2 (0 : Fin 1) q)
    = s (ix2 (0 : Fin 1) q) + ∑ p : Fin 384, accB v0 v2 v5 v7 p q * (x (ix2 p q) * rr (rowB x p)) := by
  unfold k0_pay3
  pointwise
  rw [pay2_apply]
theorem pay4_apply (d : Vec Ideal S384x1024 .f32) (w : Vec Ideal S1024x1024 .bf16) (p : Fin 384) (q : Fin 1024) :
    k0_pay4 d (k0_pay6 x) (k0_pay8 v0 v2 v5 v7 x g) w (ix2 p q)
      = ∑ e : Fin 1024, (d (ix2 p e) + dhK (uB v0 v2 v5 v7 g p) (rowB x p) e) * w (ix2 q e) := by
  unfold k0_pay4
  pointwise
  exact Finset.sum_congr rfl fun p _ => by rw [pay1_apply]

end
end Cert.Dn2Ideal.Nb

end
-- ==== Proof.Norm.Dn2Arr.lean ====
/- The gradient below the feed-forward block: the kernel's three arrays, over all tiles. -/
module

public import proofs.«01_k».proof.Proof.Norm.Dn2
public import proofs.«01_k».proof.Proof.Gen.Dn2Ideal.Value
public import Idealize.ShloMosaic.PureOps.Ideal
public import Idealize.ShloMosaic.Lib.Pointwise
public import Idealize.ShloMosaic.Lib.Pipeline.Value
public import Idealize.ShloMosaic.Lib.Pipeline.ValueKit.Tiles
public meta import Idealize.ShloMosaic.Lib.Pipeline.ValueKit.Acc
public import Idealize.ShloMosaic.Lib.Pipeline.ValueKit.Acc
public import Idealize.ShloMosaic.Lib.StableHlo.ReadAt
public meta import Idealize.ShloMosaic.Lib.Pipeline.ValueKit.Geometry
public import Idealize.ShloMosaic.Lib.Pipeline.ValueKit.Geometry

@[expose] public section

set_option maxRecDepth 16384

noncomputable section

namespace Cert.Dn2Ideal.Nb

open Idealize.ShloMosaic Gen Idealize.ShloMosaic.TcCoe Idealize.ShloMosaic.Tactic Idealize.SL.Sem
open Idealize.ShloMosaic.Pipeline (Dat)
open Cert.Norm

section
variable (x0 x1 : Vec Ideal S1x384x2816 .bf16) (x2 x3 : Vec Ideal S1x2816x1024 .bf16) (x4 : Vec Ideal S384x1024 .f32) (x5 : Vec Ideal S1x1024 .f32)
  (x6 : Vec Ideal S384x1024 .f32) (x7 : Vec Ideal S1024x1024 .bf16)

/-- A tile of the gradient at the block's input, its part of the gain's gradient, and the tile of the mixer's gradient. -/
def t8 (p : Fin 384) (q : Fin 1024) : EReal := x6 (ix2 p q) + dhK (uB x0 x2 x1 x3 x5 p) (rowB x4 p) q
def t9 (q : Fin 1024) : EReal := ∑ p : Fin 384, accB x0 x2 x1 x3 p q * (x4 (ix2 p q) * rr (rowB x4 p))
def t10 (p : Fin 384) (q : Fin 1024) : EReal := ∑ e : Fin 1024, t8 x0 x1 x2 x3 x4 x5 x6 p e * x7 (ix2 q e)

variable (c : Dev nD) (i : grid0.Coords) (a1 : Memref sig .tc .vmem S1x384x2816 .bf16) (h1 : a1.IsWhole) (a2 : Memref sig .tc .vmem S1x384x2816 .bf16) (h2 : a2.IsWhole) (a3 : Memref sig .tc .vmem S1x2816x1024 .bf16) (h3 : a3.IsWhole) (a4 : Memref sig .tc .vmem S1x2816x1024 .bf16) (h4 : a4.IsWhole) (a5 : Memref sig .tc .vmem S384x1024 .f32) (h5 : a5.IsWhole) (a6 : Memref sig .tc .vmem S1x1024 .f32) (h6 : a6.IsWhole) (a7 : Memref sig .tc .vmem S384x1024 .f32) (h7 : a7.IsWhole) (a8 : Memref sig .tc .vmem S1024x1024 .bf16) (h8 : a8.IsWhole) (a9 : Memref sig .tc .vmem S384x1024 .f32) (h9 : a9.IsWhole) (a10 : Memref sig .tc .vmem S1x1024 .f32) (h10 : a10.IsWhole) (a11 : Memref sig .tc .vmem S384x1024 .f32) (h11 : a11.IsWhole)

theorem outA8 (k0 : cond0_0 i) (k1 : ¬cond0_1 i) (p : Fin 384) (q : Fin 1024) :
    out0_A_8 c i a1 h1 a2 h2 a3 h3 a4 h4 a5 h5 a6 h6 a7 h7 a8 h8 a9 h9 a10 h10 a11 h11 k0 k1 x0 x1 x2 x3 x4 x5 x6 x7 (ix2 p q) = t8 x0 x1 x2 x3 x4 x5 x6 p q := by
  unfold out0_A_8
  frame_out
  exact pay1_apply _ _ _ _ _ _ _ _ _
theorem outB8 (k0 : ¬cond0_0 i) (k1 : cond0_1 i) (s : Vec Ideal S1x1024 .f32) (p : Fin 384) (q : Fin 1024) :
    out0_B_8 c i a1 h1 a2 h2 a3 h3 a4 h4 a5 h5 a6 h6 a7 h7 a8 h8 a9 h9 a10 h10 a11 h11 k0 k1 x0 x1 x2 x3 x4 x5 x6 x7 s (ix2 p q) = t8 x0 x1 x2 x3 x4 x5 x6 p q := by
  unfold out0_B_8
  frame_out
  exact pay1_apply _ _ _ _ _ _ _ _ _
theorem outA9 (k0 : cond0_0 i) (k1 : ¬cond0_1 i) (q : Fin 1024) :
    out0_A_9 c i a1 h1 a2 h2 a3 h3 a4 h4 a5 h5 a6 h6 a7 h7 a8 h8 a9 h9 a10 h10 a11 h11 k0 k1 x0 x1 x2 x3 x4 x5 x6 x7 (ix2 (0 : Fin 1) q) = t9 x0 x1 x2 x3 x4 q := by
  unfold out0_A_9
  frame_out
  exact pay2_apply _ _ _ _ _ _
theorem outB9 (k0 : ¬cond0_0 i) (k1 : cond0_1 i) (s : Vec Ideal S1x1024 .f32) (q : Fin 1024) :
    out0_B_9 c i a1 h1 a2 h2 a3 h3 a4 h4 a5 h5 a6 h6 a7 h7 a8 h8 a9 h9 a10 h10 a11 h11 k0 k1 x0 x1 x2 x3 x4 x5 x6 x7 s (ix2 (0 : Fin 1) q) = s (ix2 (0 : Fin 1) q) + t9 x0 x1 x2 x3 x4 q := by
  unfold out0_B_9
  frame_out
  exact pay3_apply _ _ _ _ _ _ _
theorem outA10 (k0 : cond0_0 i) (k1 : ¬cond0_1 i) (p : Fin 384) (q : Fin 1024) :
    out0_A_10 c i a1 h1 a2 h2 a3 h3 a4 h4 a5 h5 a6 h6 a7 h7 a8 h8 a9 h9 a10 h10 a11 h11 k0 k1 x0 x1 x2 x3 x4 x5 x6 x7 (ix2 p q) = t10 x0 x1 x2 x3 x4 x5 x6 x7 p q := by
  unfold out0_A_10
  frame_out
  exact pay4_apply _ _ _ _ _ _ _ _ _ _
theorem outB10 (k0 : ¬cond0_0 i) (k1 : cond0_1 i) (s : Vec Ideal S1x1024 .f32) (p : Fin 384) (q : Fin 1024) :
    out0_B_10 c i a1 h1 a2 h2 a3 h3 a4 h4 a5 h5 a6 h6 a7 h7 a8 h8 a9 h9 a10 h10 a11 h11 k0 k1 x0 x1 x2 x3 x4 x5 x6 x7 s (ix2 p q) = t10 x0 x1 x2 x3 x4 x5 x6 x7 p q := by
  unfold out0_B_10
  frame_out
  exact pay4_apply _ _ _ _ _ _ _ _ _ _

end

variable (m : (ℓ : Loc nD τ sig) → Buf (Elt Ideal) ℓ)

theorem point8 (c : Dev nD) (t : Fin cfg0.N) (p : Fin 384) (q : Fin 1024) : (outsAt0 m c t.val t.isLt).1 (ix2 p q) = t8 (iblk m c 0 t) (iblk m c 1 t) (iblk m c 2 t) (iblk m c 3 t) (iblk m c 4 t) (iblk m c 5 t) (iblk m c 6 t) p q := by
  have hN : t.val < 11 := t.isLt
  by_cases h0 : t.val % 11 = 0
  · have h1 : ¬1 ≤ t.val := by omega
    have e := outA8 (iblk m c 0 t) (iblk m c 1 t) (iblk m c 2 t) (iblk m c 3 t) (iblk m c 4 t) (iblk m c 5 t) (iblk m c 6 t) (iblk m c 7 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (fun h => h1 ((hcond0_1 t).mp h)) p q
    rw [outsAt0_A m c t h0 h1]
    dsimp only
    exact e
  · have h1 : 1 ≤ t.val := by omega
    have e := outB8 (iblk m c 0 t) (iblk m c 1 t) (iblk m c 2 t) (iblk m c 3 t) (iblk m c 4 t) (iblk m c 5 t) (iblk m c 6 t) (iblk m c 7 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) ((hcond0_1 t).mpr h1)
      (outsAt0 m c (t.val - 1) (Nat.lt_of_le_of_lt (Nat.sub_le _ _) t.isLt)).2.1 p q
    rw [outsAt0_B m c t h0 h1]
    dsimp only
    exact e
theorem point10 (c : Dev nD) (t : Fin cfg0.N) (p : Fin 384) (q : Fin 1024) : (outsAt0 m c t.val t.isLt).2.2 (ix2 p q) = t10 (iblk m c 0 t) (iblk m c 1 t) (iblk m c 2 t) (iblk m c 3 t) (iblk m c 4 t) (iblk m c 5 t) (iblk m c 6 t) (iblk m c 7 t) p q := by
  have hN : t.val < 11 := t.isLt
  by_cases h0 : t.val % 11 = 0
  · have h1 : ¬1 ≤ t.val := by omega
    have e := outA10 (iblk m c 0 t) (iblk m c 1 t) (iblk m c 2 t) (iblk m c 3 t) (iblk m c 4 t) (iblk m c 5 t) (iblk m c 6 t) (iblk m c 7 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (fun h => h1 ((hcond0_1 t).mp h)) p q
    rw [outsAt0_A m c t h0 h1]
    dsimp only
    exact e
  · have h1 : 1 ≤ t.val := by omega
    have e := outB10 (iblk m c 0 t) (iblk m c 1 t) (iblk m c 2 t) (iblk m c 3 t) (iblk m c 4 t) (iblk m c 5 t) (iblk m c 6 t) (iblk m c 7 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) ((hcond0_1 t).mpr h1)
      (outsAt0 m c (t.val - 1) (Nat.lt_of_le_of_lt (Nat.sub_le _ _) t.isLt)).2.1 p q
    rw [outsAt0_B m c t h0 h1]
    dsimp only
    exact e
theorem point9_first (c : Dev nD) (t : Fin cfg0.N) (h0 : t.val % 11 = 0) (q : Fin 1024) :
    (outsAt0 m c t.val t.isLt).2.1 (ix2 (0 : Fin 1) q) = t9 (iblk m c 0 t) (iblk m c 1 t) (iblk m c 2 t) (iblk m c 3 t) (iblk m c 4 t) q := by
  have hN : t.val < 11 := t.isLt
  have h1 : ¬1 ≤ t.val := by omega
  have e := outA9 (iblk m c 0 t) (iblk m c 1 t) (iblk m c 2 t) (iblk m c 3 t) (iblk m c 4 t) (iblk m c 5 t) (iblk m c 6 t) (iblk m c 7 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (fun h => h1 ((hcond0_1 t).mp h)) q
  rw [outsAt0_A m c t h0 h1]
  dsimp only
  exact e
theorem point9_step (c : Dev nD) (t : Fin cfg0.N) (h0 : ¬t.val % 11 = 0) (q : Fin 1024) :
    (outsAt0 m c t.val t.isLt).2.1 (ix2 (0 : Fin 1) q)
      = (outsAt0 m c (t.val - 1) (Nat.lt_of_le_of_lt (Nat.sub_le _ _) t.isLt)).2.1 (ix2 (0 : Fin 1) q) + t9 (iblk m c 0 t) (iblk m c 1 t) (iblk m c 2 t) (iblk m c 3 t) (iblk m c 4 t) q := by
  have h1 : 1 ≤ t.val := by omega
  have e := outB9 (iblk m c 0 t) (iblk m c 1 t) (iblk m c 2 t) (iblk m c 3 t) (iblk m c 4 t) (iblk m c 5 t) (iblk m c 6 t) (iblk m c 7 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) ((hcond0_1 t).mpr h1)
    (outsAt0 m c (t.val - 1) (Nat.lt_of_le_of_lt (Nat.sub_le _ _) t.isLt)).2.1 q
  rw [outsAt0_B m c t h0 h1]
  dsimp only
  exact e

/-! ## The arrays -/

section
variable (A : FVec Ideal S2x4224x2816 .bf16) (W : FVec Ideal S2x2816x1024 .bf16) (h : FVec Ideal S4224x1024 .f32) (g : FVec Ideal S1x1024 .f32)
  (d : FVec Ideal S4224x1024 .f32) (Wo : FVec Ideal S1024x1024 .bf16)

/-- The gradient at the normed rows. -/
def accG (n : Fin 4224) (q : Fin 1024) : EReal :=
  ∑ k : Fin 2816, A (ix3 (0 : Fin 2) n k) * W (ix3 (0 : Fin 2) k q) + ∑ k : Fin 2816, A (ix3 (1 : Fin 2) n k) * W (ix3 (1 : Fin 2) k q)
def rowG (n : Fin 4224) : Fin 1024 → EReal := fun k => h (ix2 n k)
def uG (n : Fin 4224) : Fin 1024 → EReal := fun k => accG A W n k * g (ix2 (0 : Fin 1) k)
/-- The gradient at the block's input. -/
def dhG (n : Fin 4224) (q : Fin 1024) : EReal := d (ix2 n q) + dhK (uG A W g n) (rowG h n) q
def G8 : FVec Ideal S4224x1024 .f32 := fun y => dhG A W h g d (y 0) (y 1)
/-- A row's part of the gain's gradient. -/
def part9 (q : Fin 1024) (n : Fin 4224) : EReal := accG A W n q * (h (ix2 n q) * rr (rowG h n))
def G9 : FVec Ideal S1x1024 .f32 := fun y => ∑ n : Fin 4224, part9 A W h (y 1) n
def G10 : FVec Ideal S4224x1024 .f32 := fun y => ∑ e : Fin 1024, dhG A W h g d (y 0) e * Wo (ix2 (y 1) e)
end

theorem idx : ∀ t : Fin cfg0.N, win0_0.index t = ![0, t.val, 0] ∧ win0_1.index t = ![1, t.val, 0] ∧ win0_2.index t = ![0, 0, 0] ∧ win0_3.index t = ![1, 0, 0]
    ∧ win0_4.index t = ![t.val, 0] ∧ win0_5.index t = ![0, 0] ∧ win0_6.index t = ![t.val, 0] ∧ win0_7.index t = ![0, 0]
    ∧ win0_8.index t = ![t.val, 0] ∧ win0_9.index t = ![0, 0] ∧ win0_10.index t = ![t.val, 0] := by
  decide +kernel

/-- A row of the array, from its tile and its place there. -/
def rowOf (t : Fin cfg0.N) (p : Fin 384) : Fin 4224 := ⟨384 * t.val + p.val, by have : t.val < 11 := t.isLt; omega⟩

section
variable (c : Dev nD) (t : Fin cfg0.N) (p : Fin 384)

theorem acc_blk (q : Fin 1024) : accB (iblk m c 0 t) (iblk m c 2 t) (iblk m c 1 t) (iblk m c 3 t) p q
    = accG (m ((c : Thread nD τ).loc main_arg0)) (m ((c : Thread nD τ).loc main_arg1)) (rowOf t p) q := by
  unfold accB accG rowOf
  rw [← V_main_arg0 m c, ← V_main_arg1 m c]
  refine congrArg₂ (· + ·) (Finset.sum_congr rfl fun k _ => congrArg₂ (· * ·) ?_ ?_) (Finset.sum_congr rfl fun k _ => congrArg₂ (· * ·) ?_ ?_)
  · blk_ext [iblk, idx t]
  · blk_ext [iblk, idx t]
  · blk_ext [iblk, idx t]
  · blk_ext [iblk, idx t]
theorem h_blk (q : Fin 1024) : iblk m c 4 t (ix2 p q) = m ((c : Thread nD τ).loc main_arg2) (ix2 (rowOf t p) q) := by
  unfold rowOf
  rw [← V_main_arg2 m c]
  blk_ext [iblk, idx t]
theorem g_blk (q : Fin 1024) : iblk m c 5 t (ix2 (0 : Fin 1) q) = m ((c : Thread nD τ).loc main_arg3) (ix2 (0 : Fin 1) q) := by
  rw [← V_main_arg3 m c]
  blk_ext [iblk, idx t]
theorem d_blk (q : Fin 1024) : iblk m c 6 t (ix2 p q) = m ((c : Thread nD τ).loc main_arg4) (ix2 (rowOf t p) q) := by
  unfold rowOf
  rw [← V_main_arg4 m c]
  blk_ext [iblk, idx t]
theorem w_blk (q e : Fin 1024) : iblk m c 7 t (ix2 q e) = m ((c : Thread nD τ).loc main_arg5) (ix2 q e) := by
  rw [← V_main_arg5 m c]
  blk_ext [iblk, idx t]
theorem row_blk : rowB (iblk m c 4 t) p = rowG (m ((c : Thread nD τ).loc main_arg2)) (rowOf t p) := funext fun q => h_blk m c t p q
theorem u_blk : uB (iblk m c 0 t) (iblk m c 2 t) (iblk m c 1 t) (iblk m c 3 t) (iblk m c 5 t) p
    = uG (m ((c : Thread nD τ).loc main_arg0)) (m ((c : Thread nD τ).loc main_arg1)) (m ((c : Thread nD τ).loc main_arg3)) (rowOf t p) :=
  funext fun q => congrArg₂ (· * ·) (acc_blk m c t p q) (g_blk m c t q)
theorem t8_blk (q : Fin 1024) : t8 (iblk m c 0 t) (iblk m c 1 t) (iblk m c 2 t) (iblk m c 3 t) (iblk m c 4 t) (iblk m c 5 t) (iblk m c 6 t) p q
    = dhG (m ((c : Thread nD τ).loc main_arg0)) (m ((c : Thread nD τ).loc main_arg1)) (m ((c : Thread nD τ).loc main_arg2)) (m ((c : Thread nD τ).loc main_arg3))
      (m ((c : Thread nD τ).loc main_arg4)) (rowOf t p) q := by
  unfold t8 dhG
  rw [u_blk, row_blk]
  exact congrArg (· + _) (d_blk m c t p q)

end

theorem arr8 (c : Dev nD) : (dats m 0 c).arrAt 8 cfg0.N = G8 (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 8 _ (by decide +kernel) fun t hf y => ?_
  blk_simp
  rw [after0_8]
  obtain ⟨p, q, rfl⟩ : ∃ (p : Fin 384) (q : Fin 1024), y = ix2 p q := ⟨y 0, y 1, eq_ix2 y⟩
  have e2 : (win0_8.blk t).view.emb (ix2 p q) = ix2 (rowOf t p) q := by unfold rowOf; blk_ext [idx t]
  refine (point8 m c t p q).trans ((t8_blk m c t p q).trans ?_)
  refine Eq.trans ?_ (congrArg (G8 _ _ _ _ _) e2.symm)
  rfl
theorem arr10 (c : Dev nD) : (dats m 0 c).arrAt 10 cfg0.N = G10 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  refine (dats m 0 c).arrAt_eq_of_covers 10 _ (by decide +kernel) fun t hf y => ?_
  blk_simp
  rw [after0_10]
  obtain ⟨p, q, rfl⟩ : ∃ (p : Fin 384) (q : Fin 1024), y = ix2 p q := ⟨y 0, y 1, eq_ix2 y⟩
  have e2 : (win0_10.blk t).view.emb (ix2 p q) = ix2 (rowOf t p) q := by unfold rowOf; blk_ext [idx t]
  refine (point10 m c t p q).trans ?_
  refine Eq.trans ?_ (congrArg (G10 _ _ _ _ _ _) e2.symm)
  unfold t10
  exact Finset.sum_congr rfl fun e _ => congrArg₂ (· * ·) (t8_blk m c t p e) (w_blk m c t q e)
theorem flushed : ∀ t : Fin cfg0.N, (cfg0.win 9).flush t = true → t.val = 10 := by decide +kernel
/-- A sum over all tokens, tile by tile. -/
theorem sum_tiles (f : Fin 4224 → EReal) : ∑ t : Fin cfg0.N, ∑ p : Fin 384, f (rowOf t p) = ∑ n, f n := by
  rw [show (∑ t : Fin cfg0.N, ∑ p : Fin 384, f (rowOf t p)) = ∑ t : Fin 11, ∑ p : Fin 384, f ⟨t.val * 384 + p.val, by omega⟩ from
    Finset.sum_congr rfl fun t _ => Finset.sum_congr rfl fun p _ => congrArg f (Fin.ext (congrArg (· + p.val) (Nat.mul_comm 384 t.val)))]
  exact Fin.sum_mul_add_fin 11 384 f
theorem arr9 (c : Dev nD) : (dats m 0 c).arrAt 9 cfg0.N = G9 (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9]
  obtain ⟨q, rfl⟩ : ∃ q : Fin 1024, y = ix2 (0 : Fin 1) q := ⟨y 1, (eq_ix2 y).trans (congrArg (ix2 · (y 1)) (Subsingleton.elim _ _))⟩
  have e2 : (win0_9.blk t).view.emb (ix2 (0 : Fin 1) q) = ix2 (0 : Fin 1) q := by blk_ext [idx t]
  refine Eq.trans ?_ (congrArg (G9 _ _ _) e2.symm)
  have e := Pipeline.eq_sum_fin_of_reset_step_last (fun n h => (outsAt0 m c n h).2.1 (ix2 (0 : Fin 1) q)) 11 0 (fun t => t9 (iblk m c 0 t) (iblk m c 1 t) (iblk m c 2 t) (iblk m c 3 t) (iblk m c 4 t) q)
    (fun t h => (point9_first m c t h q).trans (zero_add _).symm) (fun t h => point9_step m c t h q) (le_of_eq N_0) t (by rw [flushed t hf]; rfl)
  refine e.trans ((zero_add _).trans ?_)
  refine Eq.trans ?_ (sum_tiles (part9 (m ((c : Thread nD τ).loc main_arg0)) (m ((c : Thread nD τ).loc main_arg1)) (m ((c : Thread nD τ).loc main_arg2)) q))
  unfold t9
  refine Finset.sum_congr rfl fun t _ => Finset.sum_congr rfl fun p _ => congrArg₂ (· * ·) (acc_blk m c t p q) (congrArg₂ (· * ·) (h_blk m c t p q) ?_)
  rw [row_blk]

end Cert.Dn2Ideal.Nb

end
-- ==== Proof.Norm.Dn2Ref.lean ====
/- The gradient below the feed-forward block: the reference's three results, stage by stage, and that the kernel's arrays are those. -/
module

public import proofs.«01_k».proof.Proof.Gen.Dn2RefIdeal.Run
public import proofs.«01_k».proof.Proof.Norm.Dn2Arr

@[expose] public section

set_option maxRecDepth 16384

noncomputable section

namespace Cert.Dn2RefIdeal.Nb

open Idealize.ShloMosaic Gen Idealize.ShloMosaic.TcCoe Idealize.ShloMosaic.Tactic Idealize.SL.Sem
open Cert.Norm
open Cert.Dn2Ideal.Nb (accG rowG uG dhG part9 G8 G9 G10)

abbrev T := FVec Ideal S1x4224x1024 .f32

section
variable (A : FVec Ideal S2x4224x2816 .bf16) (W : FVec Ideal S2x2816x1024 .bf16) (h : FVec Ideal S4224x1024 .f32) (g : FVec Ideal S1x1024 .f32)
  (d : FVec Ideal S4224x1024 .f32) (Wo : FVec Ideal S1024x1024 .bf16)

/-- The weights, both halves side by side. -/
def wV : FVec Ideal S1024x5632 .f32 :=
  transpose S1024x5632 [1, 0] (extf .f32 (concatenate S5632x1024 0 [⟨S2816x1024, (shapeCast _ (extractStridedSlice S1x2816x1024 ![0, 0, 0] W slices_S2x2816x1024_S1x2816x1024_0_0_0) shapeCasts_S1x2816x1024_S2816x1024)⟩, ⟨S2816x1024, (shapeCast _ (extractStridedSlice S1x2816x1024 ![1, 0, 0] W slices_S2x2816x1024_S1x2816x1024_1_0_0) shapeCasts_S1x2816x1024_S2816x1024)⟩] concatenates_S2816x1024_S2816x1024_S5632x1024_d0) bitsLt_bf16_f32) transposes_S5632x1024_S1024x5632_1_0
/-- The gradients of both halves side by side. -/
def ctV : FVec Ideal S1x4224x5632 .f32 :=
  concatenate S1x4224x5632 2 [⟨S1x4224x2816, (broadcastInDim S1x4224x2816 ![1, 2] bcast_S4224x2816_S1x4224x2816_1_2 (extf .f32 (shapeCast _ (extractStridedSlice S1x4224x2816 ![0, 0, 0] A slices_S2x4224x2816_S1x4224x2816_0_0_0) shapeCasts_S1x4224x2816_S4224x2816) bitsLt_bf16_f32))⟩, ⟨S1x4224x2816, (broadcastInDim S1x4224x2816 ![1, 2] bcast_S4224x2816_S1x4224x2816_1_2 (extf .f32 (shapeCast _ (extractStridedSlice S1x4224x2816 ![1, 0, 0] A slices_S2x4224x2816_S1x4224x2816_1_0_0) shapeCasts_S1x4224x2816_S4224x2816) bitsLt_bf16_f32))⟩] concatenates_S1x4224x2816_S1x4224x2816_S1x4224x5632_d2
def xV : T := broadcastInDim S1x4224x1024 ![1, 2] bcast_S4224x1024_S1x4224x1024_1_2 h
def wide (x : FVec Ideal S1x4224x1 .f32) : T := broadcastInDim S1x4224x1024 ![0, 1, 2] bcast_S1x4224x1_S1x4224x1024_0_1_2 x
def rowSum (x : T) : FVec Ideal S1x4224 .f32 := Host.reduceAdd x (constant S_ .f32 0x00000000#32) reducesTo_S1x4224x1024_S1x4224_d2 h_S_
def nV : FVec Ideal S1x4224x1 .f32 := broadcastInDim S1x4224x1 ![] bcast_S_S1x4224x1 (constant S_ .f32 0x44800000#32)
/-- The mean square with the small constant, and its inverse root. -/
def vV : FVec Ideal S1x4224x1 .f32 := addf (Host.divf (broadcastInDim S1x4224x1 ![0, 1] bcast_S1x4224_S1x4224x1_0_1 (rowSum (mulf (xV h) (xV h)))) nV) (broadcastInDim S1x4224x1 ![] bcast_S_S1x4224x1 (constant S_ .f32 0x358637BD#32))
def rV : FVec Ideal S1x4224x1 .f32 := Host.rsqrt (vV h)
def dyV : T := Host.dotGeneral dot_S1x4224x5632_S1024x5632_S1x4224x1024_2_1_01_0_n_n none (ctV A) (wV W)
def uV : T := mulf (dyV A W) (broadcastInDim S1x4224x1024 ![0, 1, 2] bcast_S1x1x1024_S1x4224x1024_0_1_2 (broadcastInDim S1x1x1024 ![1, 2] bcast_S1x1024_S1x1x1024_1_2 g))
def tV : FVec Ideal S1x4224x1 .f32 := Host.divf (mulf (shapeCast _ (rowSum (mulf (xV h) (uV A W g))) shapeCasts_S1x4224_S1x4224x1) (mulf (broadcastInDim S1x4224x1 ![] bcast_S_S1x4224x1 (constant S_ .f32 0xBF000000#32)) (Host.divf (rV h) (vV h)))) nV
def twV : T := broadcastInDim S1x4224x1024 ![0, 1] bcast_S1x4224_S1x4224x1024_0_1 (broadcastInDim S1x4224 ![1] bcast_S4224_S1x4224_1 (Host.reduceAdd (tV A W h g) (constant S_ .f32 0x00000000#32) reducesTo_S1x4224x1_S4224_d0_2 h_S_))
def dhV : T := addf (addf (addf (xV d) (mulf (uV A W g) (wide (rV h)))) (mulf (xV h) (twV A W h g))) (mulf (twV A W h g) (xV h))

def R0 : FVec Ideal S4224x1024 .f32 := shapeCast _ (dhV A W h g d) shapeCasts_S1x4224x1024_S4224x1024
def R1 : FVec Ideal S1x1024 .f32 :=
  broadcastInDim S1x1024 ![1] bcast_S1024_S1x1024_1 (Host.reduceAdd (shapeCast _ (Host.reduceAdd (mulf (mulf (xV h) (wide (rV h))) (dyV A W)) (constant S_ .f32 0x00000000#32) reducesTo_S1x4224x1024_S1x1024_d1 h_S_) shapeCasts_S1x1024_S1x1x1024) (constant S_ .f32 0x00000000#32) reducesTo_S1x1x1024_S1024_d0_1 h_S_)
def R2 : FVec Ideal S4224x1024 .f32 :=
  shapeCast _ (Host.dotGeneral dot_S1x4224x1024_S1024x1024_S1x4224x1024_2_1_01_0_n_n none (dhV A W h g d) (extf .f32 Wo bitsLt_bf16_f32)) shapeCasts_S1x4224x1024_S4224x1024

end

section
variable (m : (ℓ : Loc nD τ sig) → Buf (Elt Ideal) ℓ) (c : Dev nD)

theorem res0 : Value.res_out0 m c = R0 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) := rfl
theorem res2 : Value.res_out2 m c = R2 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) := rfl

end

/-! ## Entries -/

theorem sum_halves (f : Fin 5632 → EReal) :
    ∑ k, f k = ∑ k : Fin 2816, f ⟨k.val, by omega⟩ + ∑ k : Fin 2816, f ⟨2816 + k.val, by omega⟩ := Fin.sum_univ_add (a := 2816) (b := 2816) f

section
variable (A : FVec Ideal S2x4224x2816 .bf16) (W : FVec Ideal S2x2816x1024 .bf16) (h : FVec Ideal S4224x1024 .f32) (g : FVec Ideal S1x1024 .f32)
  (d : FVec Ideal S4224x1024 .f32) (Wo : FVec Ideal S1024x1024 .bf16)

theorem wV_lo (q : Fin 1024) (k : Fin 2816) (hk : k.val < 5632) : wV W (ix2 q (⟨k.val, hk⟩ : Fin 5632)) = W (ix3 (0 : Fin 2) k q) := by
  unfold wV
  pointwise
theorem wV_hi (q : Fin 1024) (k : Fin 2816) (hk : 2816 + k.val < 5632) : wV W (ix2 q (⟨2816 + k.val, hk⟩ : Fin 5632)) = W (ix3 (1 : Fin 2) k q) := by
  unfold wV
  pointwise
theorem ctV_lo (n : Fin 4224) (k : Fin 2816) (hk : k.val < 5632) : ctV A (ix3 (0 : Fin 1) n (⟨k.val, hk⟩ : Fin 5632)) = A (ix3 (0 : Fin 2) n k) := by
  unfold ctV
  pointwise
theorem ctV_hi (n : Fin 4224) (k : Fin 2816) (hk : 2816 + k.val < 5632) : ctV A (ix3 (0 : Fin 1) n (⟨2816 + k.val, hk⟩ : Fin 5632)) = A (ix3 (1 : Fin 2) n k) := by
  unfold ctV
  pointwise
theorem dyV_apply (n : Fin 4224) (q : Fin 1024) : dyV A W (ix3 (0 : Fin 1) n q) = accG A W n q := by
  unfold dyV
  pointwise
  rw [sum_halves]
  unfold accG
  refine congrArg₂ (· + ·) (Finset.sum_congr rfl fun k _ => ?_) (Finset.sum_congr rfl fun k _ => ?_)
  · rw [ctV_lo, wV_lo]
  · rw [ctV_hi, wV_hi]
theorem xV_apply (n : Fin 4224) (q : Fin 1024) : xV h (ix3 (0 : Fin 1) n q) = h (ix2 n q) := by
  unfold xV
  pointwise
theorem rowSum_apply (x : T) (n : Fin 4224) : rowSum x (ix2 (0 : Fin 1) n) = ∑ q, x (ix3 (0 : Fin 1) n q) := by
  unfold rowSum
  pointwise
theorem nV_apply (n : Fin 4224) : nV (ix3 (0 : Fin 1) n (0 : Fin 1)) = cN := by
  unfold nV
  pointwise
  rfl
theorem vV_apply (n : Fin 4224) : vV h (ix3 (0 : Fin 1) n (0 : Fin 1)) = vv (rowG h n) := by
  unfold vV
  pointwise
  rw [rowSum_apply, nV_apply]
  unfold vv rowG
  refine congrArg₂ (· + ·) (congrArg (Ideal.div · cN) (Finset.sum_congr rfl fun k _ => ?_)) rfl
  exact congrArg₂ (· * ·) (xV_apply h n k) (xV_apply h n k)
theorem rV_apply (n : Fin 4224) : rV h (ix3 (0 : Fin 1) n (0 : Fin 1)) = rr (rowG h n) := congrArg Ideal.rsqrt (vV_apply h n)
theorem wide_apply (x : FVec Ideal S1x4224x1 .f32) (n : Fin 4224) (q : Fin 1024) : wide x (ix3 (0 : Fin 1) n q) = x (ix3 (0 : Fin 1) n (0 : Fin 1)) := by
  unfold wide
  pointwise
theorem uV_apply (n : Fin 4224) (q : Fin 1024) : uV A W g (ix3 (0 : Fin 1) n q) = uG A W g n q := by
  unfold uV
  pointwise
  rw [dyV_apply]
  rfl
theorem tV_apply (n : Fin 4224) : tV A W h g (ix3 (0 : Fin 1) n (0 : Fin 1)) = tR (uG A W g n) (rowG h n) := by
  unfold tV
  pointwise
  rw [rowSum_apply, nV_apply, rV_apply, vV_apply]
  unfold tR
  refine congrArg (Ideal.div · cN) (congrArg₂ (· * ·) (Finset.sum_congr rfl fun k _ => ?_) rfl)
  exact congrArg₂ (· * ·) (xV_apply h n k) (uV_apply A W g n k)
theorem red_mid (x : FVec Ideal S1x4224x1 .f32) (n : Fin 4224) :
    Ideal.hostReduceAdd reducesTo_S1x4224x1_S4224_d0_2 x 0 (ix1 n) = x (ix3 (0 : Fin 1) n (0 : Fin 1)) := by
  unfold Ideal.hostReduceAdd
  rw [zero_add]
  refine Finset.sum_eq_single_of_mem _ ?_ ?_
  · rw [Finset.mem_filter]
    refine ⟨Finset.mem_univ _, ?_⟩
    funext a
    fin_cases a
    exact Fin.ext (Shape.ReducesTo.drop_apply_val_of_eq reducesTo_S1x4224x1_S4224_d0_2 (ix3 (0 : Fin 1) n (0 : Fin 1)) 0 1)
  · intro i hi hne
    rw [Finset.mem_filter] at hi
    refine absurd ?_ hne
    have h1 : (i 1).val = n.val := (Shape.ReducesTo.drop_apply_val_of_eq reducesTo_S1x4224x1_S4224_d0_2 i 0 1).symm.trans (congrArg Fin.val (congrFun hi.2 0))
    have h0 : (i 0).val < 1 := (i 0).isLt
    have h2 : (i 2).val < 1 := (i 2).isLt
    funext a
    fin_cases a
    · exact Fin.ext (by show (i 0).val = 0; omega)
    · exact Fin.ext h1
    · exact Fin.ext (by show (i 2).val = 0; omega)
theorem red_one (x : FVec Ideal S1x1x1024 .f32) (q : Fin 1024) :
    Ideal.hostReduceAdd reducesTo_S1x1x1024_S1024_d0_1 x 0 (ix1 q) = x (ix3 (0 : Fin 1) (0 : Fin 1) q) := by
  unfold Ideal.hostReduceAdd
  rw [zero_add]
  refine Finset.sum_eq_single_of_mem _ ?_ ?_
  · rw [Finset.mem_filter]
    refine ⟨Finset.mem_univ _, ?_⟩
    funext a
    fin_cases a
    exact Fin.ext (Shape.ReducesTo.drop_apply_val_of_eq reducesTo_S1x1x1024_S1024_d0_1 (ix3 (0 : Fin 1) (0 : Fin 1) q) 0 2)
  · intro i hi hne
    rw [Finset.mem_filter] at hi
    refine absurd ?_ hne
    have h2 : (i 2).val = q.val := (Shape.ReducesTo.drop_apply_val_of_eq reducesTo_S1x1x1024_S1024_d0_1 i 0 2).symm.trans (congrArg Fin.val (congrFun hi.2 0))
    have h0 : (i 0).val < 1 := (i 0).isLt
    have h1 : (i 1).val < 1 := (i 1).isLt
    funext a
    fin_cases a
    · exact Fin.ext (by show (i 0).val = 0; omega)
    · exact Fin.ext (by show (i 1).val = 0; omega)
    · exact Fin.ext h2
theorem twV_apply (n : Fin 4224) (q : Fin 1024) : twV A W h g (ix3 (0 : Fin 1) n q) = tR (uG A W g n) (rowG h n) := by
  unfold twV
  pointwise
  rw [red_mid, tV_apply]
theorem dhV_apply (n : Fin 4224) (q : Fin 1024) :
    dhV A W h g d (ix3 (0 : Fin 1) n q) = dhG A W h g d n q := by
  show xV d (ix3 (0 : Fin 1) n q) + uV A W g (ix3 (0 : Fin 1) n q) * wide (rV h) (ix3 (0 : Fin 1) n q) + xV h (ix3 (0 : Fin 1) n q) * twV A W h g (ix3 (0 : Fin 1) n q)
    + twV A W h g (ix3 (0 : Fin 1) n q) * xV h (ix3 (0 : Fin 1) n q) = _
  rw [xV_apply, xV_apply, uV_apply, wide_apply, rV_apply, twV_apply]
  unfold dhG
  rw [← core (uG A W g n) (rowG h n) q, ← add_assoc, ← add_assoc]
  rfl

theorem R0_eq : R0 A W h g d = G8 A W h g d := by
  funext y
  obtain ⟨p, q, rfl⟩ : ∃ (p : Fin 4224) (q : Fin 1024), y = ix2 p q := ⟨y 0, y 1, eq_ix2 y⟩
  unfold R0
  pointwise
  exact dhV_apply A W h g d p q
theorem R2_eq : R2 A W h g d Wo = G10 A W h g d Wo := by
  funext y
  obtain ⟨p, q, rfl⟩ : ∃ (p : Fin 4224) (q : Fin 1024), y = ix2 p q := ⟨y 0, y 1, eq_ix2 y⟩
  unfold R2
  pointwise
  refine Finset.sum_congr rfl fun k _ => congrArg₂ (· * ·) ?_ rfl
  exact dhV_apply A W h g d p k
theorem R1_eq : R1 A W h = G9 A W h := by
  funext y
  obtain ⟨q, rfl⟩ : ∃ q : Fin 1024, y = ix2 (0 : Fin 1) q := ⟨y 1, (eq_ix2 y).trans (congrArg (ix2 · (y 1)) (Subsingleton.elim _ _))⟩
  unfold R1
  pointwise
  rw [red_one]
  pointwise
  refine Finset.sum_congr rfl fun n _ => ?_
  rw [dyV_apply, xV_apply, wide_apply, rV_apply]
  exact mul_comm _ _

end

end Cert.Dn2RefIdeal.Nb

end
-- ==== Proof.Norm.DownLossRun.lean ====
/- The loss and its gradient: the kernel's run, point by point, over any float values; both frames read it. -/
module

public import proofs.«01_k».proof.Proof.Gen.DownLossIdeal.Frame.RunB
public import proofs.«01_k».proof.Proof.Gen.DownLoss
public import Idealize.ShloMosaic.Lib.Claim

@[expose] public section

set_option maxRecDepth 65536

noncomputable section

namespace Cert.DownLossIdeal.Nb

open Idealize.ShloMosaic Gen Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves in each output's block: at the first point (A) and at the later ones (B) -/

section
variable (c : Dev nD) (i : grid0.Coords) (a1 : Memref sig .tc .vmem S384x2816 .bf16) (h1 : a1.IsWhole) (a2 : Memref sig .tc .vmem S2816x1024 .bf16) (h2 : a2.IsWhole) (a3 : Memref sig .tc .vmem S384x1024 .f32) (h3 : a3.IsWhole) (a4 : Memref sig .tc .vmem S128x1024 .f32) (h4 : a4.IsWhole) (a5 : Memref sig .tc .vmem S128x1024 .f32) (h5 : a5.IsWhole) (a6 : Memref sig .tc .vmem S128x1024 .f32) (h6 : a6.IsWhole) (a7 : Memref sig .tc .vmem S1x1024 .f32) (h7 : a7.IsWhole) (a8 : Memref sig .tc .vmem S8x128 .f32) (h8 : a8.IsWhole) (a9 : Memref sig .tc .vmem S384x1024 .f32) (h9 : a9.IsWhole) (a10 : Memref sig .tc .vmem S384x1024 .bf16) (h10 : a10.IsWhole) (a11 : Memref sig .tc .vmem S1x1024 .f32) (h11 : a11.IsWhole)
  (x0 : Vec F S384x2816 .bf16) (x1 : Vec F S2816x1024 .bf16) (x2 : Vec F S384x1024 .f32) (x3 : Vec F S128x1024 .f32) (x4 : Vec F S128x1024 .f32) (x5 : Vec F S128x1024 .f32) (x6 : Vec F S1x1024 .f32) (s7 : Vec F S8x128 .f32) (s10 : Vec F S1x1024 .f32)
def oA7 (k0 : cond0_0 i) (k1 : ¬cond0_1 i) (k2 : cond0_2 i) (k3 : ¬cond0_3 i) : Vec F S8x128 .f32 :=
  VO0_7.read (Elt F) (VO0_7.writes (Elt F) VO0_7.junk (kernelRun0_A c i a1 h1 a2 h2 a3 h3 a4 h4 a5 h5 a6 h6 a7 h7 a8 h8 a9 h9 a10 h10 a11 h11 k0 k1 k2 k3 x0 x1 x2 x3 x4 x5 x6).1)
theorem covA7 (k0 : cond0_0 i) (k1 : ¬cond0_1 i) (k2 : cond0_2 i) (k3 : ¬cond0_3 i) (y : S8x128.Idx) :
    ∃ pc ∈ (kernelRun0_A c i a1 h1 a2 h2 a3 h3 a4 h4 a5 h5 a6 h6 a7 h7 a8 h8 a9 h9 a10 h10 a11 h11 k0 k1 k2 k3 x0 x1 x2 x3 x4 x5 x6).1, y ∈ pc.1.set :=
  View.cover_of_tiledL (kernelRun0_A c i a1 h1 a2 h2 a3 h3 a4 h4 a5 h5 a6 h6 a7 h7 a8 h8 a9 h9 a10 h10 a11 h11 k0 k1 k2 k3 x0 x1 x2 x3 x4 x5 x6).1 S8x128.size (by sl_kernel_rfl) y
def oA8 (k0 : cond0_0 i) (k1 : ¬cond0_1 i) (k2 : cond0_2 i) (k3 : ¬cond0_3 i) : Vec F S384x1024 .f32 :=
  VO0_8.read (Elt F) (VO0_8.writes (Elt F) VO0_8.junk (kernelRun0_A c i a1 h1 a2 h2 a3 h3 a4 h4 a5 h5 a6 h6 a7 h7 a8 h8 a9 h9 a10 h10 a11 h11 k0 k1 k2 k3 x0 x1 x2 x3 x4 x5 x6).2.1)
theorem covA8 (k0 : cond0_0 i) (k1 : ¬cond0_1 i) (k2 : cond0_2 i) (k3 : ¬cond0_3 i) (y : S384x1024.Idx) :
    ∃ pc ∈ (kernelRun0_A c i a1 h1 a2 h2 a3 h3 a4 h4 a5 h5 a6 h6 a7 h7 a8 h8 a9 h9 a10 h10 a11 h11 k0 k1 k2 k3 x0 x1 x2 x3 x4 x5 x6).2.1, y ∈ pc.1.set :=
  View.cover_of_tiledL (kernelRun0_A c i a1 h1 a2 h2 a3 h3 a4 h4 a5 h5 a6 h6 a7 h7 a8 h8 a9 h9 a10 h10 a11 h11 k0 k1 k2 k3 x0 x1 x2 x3 x4 x5 x6).2.1 S384x1024.size (by sl_kernel_rfl) y
def oA9 (k0 : cond0_0 i) (k1 : ¬cond0_1 i) (k2 : cond0_2 i) (k3 : ¬cond0_3 i) : Vec F S384x1024 .bf16 :=
  VO0_9.read (Elt F) (VO0_9.writes (Elt F) VO0_9.junk (kernelRun0_A c i a1 h1 a2 h2 a3 h3 a4 h4 a5 h5 a6 h6 a7 h7 a8 h8 a9 h9 a10 h10 a11 h11 k0 k1 k2 k3 x0 x1 x2 x3 x4 x5 x6).2.2.1)
theorem covA9 (k0 : cond0_0 i) (k1 : ¬cond0_1 i) (k2 : cond0_2 i) (k3 : ¬cond0_3 i) (y : S384x1024.Idx) :
    ∃ pc ∈ (kernelRun0_A c i a1 h1 a2 h2 a3 h3 a4 h4 a5 h5 a6 h6 a7 h7 a8 h8 a9 h9 a10 h10 a11 h11 k0 k1 k2 k3 x0 x1 x2 x3 x4 x5 x6).2.2.1, y ∈ pc.1.set :=
  View.cover_of_tiledL (kernelRun0_A c i a1 h1 a2 h2 a3 h3 a4 h4 a5 h5 a6 h6 a7 h7 a8 h8 a9 h9 a10 h10 a11 h11 k0 k1 k2 k3 x0 x1 x2 x3 x4 x5 x6).2.2.1 S384x1024.size (by sl_kernel_rfl) y
def oA10 (k0 : cond0_0 i) (k1 : ¬cond0_1 i) (k2 : cond0_2 i) (k3 : ¬cond0_3 i) : Vec F S1x1024 .f32 :=
  VO0_10.read (Elt F) (VO0_10.writes (Elt F) VO0_10.junk (kernelRun0_A c i a1 h1 a2 h2 a3 h3 a4 h4 a5 h5 a6 h6 a7 h7 a8 h8 a9 h9 a10 h10 a11 h11 k0 k1 k2 k3 x0 x1 x2 x3 x4 x5 x6).2.2.2.1)
theorem covA10 (k0 : cond0_0 i) (k1 : ¬cond0_1 i) (k2 : cond0_2 i) (k3 : ¬cond0_3 i) (y : S1x1024.Idx) :
    ∃ pc ∈ (kernelRun0_A c i a1 h1 a2 h2 a3 h3 a4 h4 a5 h5 a6 h6 a7 h7 a8 h8 a9 h9 a10 h10 a11 h11 k0 k1 k2 k3 x0 x1 x2 x3 x4 x5 x6).2.2.2.1, y ∈ pc.1.set :=
  View.cover_of_tiledL (kernelRun0_A c i a1 h1 a2 h2 a3 h3 a4 h4 a5 h5 a6 h6 a7 h7 a8 h8 a9 h9 a10 h10 a11 h11 k0 k1 k2 k3 x0 x1 x2 x3 x4 x5 x6).2.2.2.1 S1x1024.size (by sl_kernel_rfl) y
def oB7 (k0 : ¬cond0_0 i) (k1 : cond0_1 i) (k2 : ¬cond0_2 i) (k3 : cond0_3 i) : Vec F S8x128 .f32 :=
  VO0_7.read (Elt F) (VO0_7.writes (Elt F) VO0_7.junk (kernelRun0_B c i a1 h1 a2 h2 a3 h3 a4 h4 a5 h5 a6 h6 a7 h7 a8 h8 a9 h9 a10 h10 a11 h11 k0 k1 k2 k3 x0 x1 x2 x3 x4 x5 x6 s7 s10).1)
theorem covB7 (k0 : ¬cond0_0 i) (k1 : cond0_1 i) (k2 : ¬cond0_2 i) (k3 : cond0_3 i) (y : S8x128.Idx) :
    ∃ pc ∈ (kernelRun0_B c i a1 h1 a2 h2 a3 h3 a4 h4 a5 h5 a6 h6 a7 h7 a8 h8 a9 h9 a10 h10 a11 h11 k0 k1 k2 k3 x0 x1 x2 x3 x4 x5 x6 s7 s10).1, y ∈ pc.1.set :=
  View.cover_of_tiledL (kernelRun0_B c i a1 h1 a2 h2 a3 h3 a4 h4 a5 h5 a6 h6 a7 h7 a8 h8 a9 h9 a10 h10 a11 h11 k0 k1 k2 k3 x0 x1 x2 x3 x4 x5 x6 s7 s10).1 S8x128.size (by sl_kernel_rfl) y
def oB8 (k0 : ¬cond0_0 i) (k1 : cond0_1 i) (k2 : ¬cond0_2 i) (k3 : cond0_3 i) : Vec F S384x1024 .f32 :=
  VO0_8.read (Elt F) (VO0_8.writes (Elt F) VO0_8.junk (kernelRun0_B c i a1 h1 a2 h2 a3 h3 a4 h4 a5 h5 a6 h6 a7 h7 a8 h8 a9 h9 a10 h10 a11 h11 k0 k1 k2 k3 x0 x1 x2 x3 x4 x5 x6 s7 s10).2.1)
theorem covB8 (k0 : ¬cond0_0 i) (k1 : cond0_1 i) (k2 : ¬cond0_2 i) (k3 : cond0_3 i) (y : S384x1024.Idx) :
    ∃ pc ∈ (kernelRun0_B c i a1 h1 a2 h2 a3 h3 a4 h4 a5 h5 a6 h6 a7 h7 a8 h8 a9 h9 a10 h10 a11 h11 k0 k1 k2 k3 x0 x1 x2 x3 x4 x5 x6 s7 s10).2.1, y ∈ pc.1.set :=
  View.cover_of_tiledL (kernelRun0_B c i a1 h1 a2 h2 a3 h3 a4 h4 a5 h5 a6 h6 a7 h7 a8 h8 a9 h9 a10 h10 a11 h11 k0 k1 k2 k3 x0 x1 x2 x3 x4 x5 x6 s7 s10).2.1 S384x1024.size (by sl_kernel_rfl) y
def oB9 (k0 : ¬cond0_0 i) (k1 : cond0_1 i) (k2 : ¬cond0_2 i) (k3 : cond0_3 i) : Vec F S384x1024 .bf16 :=
  VO0_9.read (Elt F) (VO0_9.writes (Elt F) VO0_9.junk (kernelRun0_B c i a1 h1 a2 h2 a3 h3 a4 h4 a5 h5 a6 h6 a7 h7 a8 h8 a9 h9 a10 h10 a11 h11 k0 k1 k2 k3 x0 x1 x2 x3 x4 x5 x6 s7 s10).2.2.1)
theorem covB9 (k0 : ¬cond0_0 i) (k1 : cond0_1 i) (k2 : ¬cond0_2 i) (k3 : cond0_3 i) (y : S384x1024.Idx) :
    ∃ pc ∈ (kernelRun0_B c i a1 h1 a2 h2 a3 h3 a4 h4 a5 h5 a6 h6 a7 h7 a8 h8 a9 h9 a10 h10 a11 h11 k0 k1 k2 k3 x0 x1 x2 x3 x4 x5 x6 s7 s10).2.2.1, y ∈ pc.1.set :=
  View.cover_of_tiledL (kernelRun0_B c i a1 h1 a2 h2 a3 h3 a4 h4 a5 h5 a6 h6 a7 h7 a8 h8 a9 h9 a10 h10 a11 h11 k0 k1 k2 k3 x0 x1 x2 x3 x4 x5 x6 s7 s10).2.2.1 S384x1024.size (by sl_kernel_rfl) y
def oB10 (k0 : ¬cond0_0 i) (k1 : cond0_1 i) (k2 : ¬cond0_2 i) (k3 : cond0_3 i) : Vec F S1x1024 .f32 :=
  VO0_10.read (Elt F) (VO0_10.writes (Elt F) VO0_10.junk (kernelRun0_B c i a1 h1 a2 h2 a3 h3 a4 h4 a5 h5 a6 h6 a7 h7 a8 h8 a9 h9 a10 h10 a11 h11 k0 k1 k2 k3 x0 x1 x2 x3 x4 x5 x6 s7 s10).2.2.2.1)
theorem covB10 (k0 : ¬cond0_0 i) (k1 : cond0_1 i) (k2 : ¬cond0_2 i) (k3 : cond0_3 i) (y : S1x1024.Idx) :
    ∃ pc ∈ (kernelRun0_B c i a1 h1 a2 h2 a3 h3 a4 h4 a5 h5 a6 h6 a7 h7 a8 h8 a9 h9 a10 h10 a11 h11 k0 k1 k2 k3 x0 x1 x2 x3 x4 x5 x6 s7 s10).2.2.2.1, y ∈ pc.1.set :=
  View.cover_of_tiledL (kernelRun0_B c i a1 h1 a2 h2 a3 h3 a4 h4 a5 h5 a6 h6 a7 h7 a8 h8 a9 h9 a10 h10 a11 h11 k0 k1 k2 k3 x0 x1 x2 x3 x4 x5 x6 s7 s10).2.2.2.1 S1x1024.size (by sl_kernel_rfl) y
end
/-! ## The conditions, by the point's number -/

section
variable (t : Fin cfg0.N)
theorem cA0 (h : t.val = 0) : cond0_0 (grid0.coords t) := (hcond0_0 t).mpr (by rw [h])
theorem cA1 (h : t.val = 0) : ¬cond0_1 (grid0.coords t) := fun e => by have := (hcond0_1 t).mp e; omega
theorem cA2 (h : t.val = 0) : cond0_2 (grid0.coords t) := (hcond0_2 t).mpr (by rw [h])
theorem cA3 (h : t.val = 0) : ¬cond0_3 (grid0.coords t) := fun e => by have := (hcond0_3 t).mp e; omega
theorem cB0 (h : t.val ≠ 0) : ¬cond0_0 (grid0.coords t) := fun e => by
  have := (hcond0_0 t).mp e
  have hN : t.val < 11 := lt_of_lt_of_eq t.isLt (show cfg0.N = 11 from N_0)
  omega
theorem cB1 (h : t.val ≠ 0) : cond0_1 (grid0.coords t) := (hcond0_1 t).mpr (by omega)
theorem cB2 (h : t.val ≠ 0) : ¬cond0_2 (grid0.coords t) := fun e => by
  have := (hcond0_2 t).mp e
  have hN : t.val < 11 := lt_of_lt_of_eq t.isLt (show cfg0.N = 11 from N_0)
  omega
theorem cB3 (h : t.val ≠ 0) : cond0_3 (grid0.coords t) := (hcond0_3 t).mpr (by omega)
theorem live7 : ∀ t : Fin cfg0.N, cfg0.idle 7 (grid0.coords t) = false := by decide +kernel
theorem live10 : ∀ t : Fin cfg0.N, cfg0.idle 10 (grid0.coords t) = false := by decide +kernel
end

variable (m : (ℓ : Loc nD τ sig) → Buf (Elt F) ℓ) (ρ : Dev nD → PrngReg)

/-- The four outputs' blocks after the first point. -/
def ptA (c : Dev nD) (t : Fin cfg0.N) (h : t.val = 0) : Vec F S8x128 .f32 × Vec F S384x1024 .f32 × Vec F S384x1024 .bf16 × Vec F S1x1024 .f32 :=
  (oA7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (cA0 t h) (cA1 t h) (cA2 t h) (cA3 t h), oA8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (cA0 t h) (cA1 t h) (cA2 t h) (cA3 t h), oA9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (cA0 t h) (cA1 t h) (cA2 t h) (cA3 t h), oA10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (cA0 t h) (cA1 t h) (cA2 t h) (cA3 t h))
/-- And after a later one, from the loss and the gain's gradient so far. -/
def ptB (c : Dev nD) (t : Fin cfg0.N) (h : t.val ≠ 0) (s7 : Vec F S8x128 .f32) (s10 : Vec F S1x1024 .f32) : Vec F S8x128 .f32 × Vec F S384x1024 .f32 × Vec F S384x1024 .bf16 × Vec F S1x1024 .f32 :=
  (oB7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) s7 s10 (cB0 t h) (cB1 t h) (cB2 t h) (cB3 t h), oB8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) s7 s10 (cB0 t h) (cB1 t h) (cB2 t h) (cB3 t h), oB9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) s7 s10 (cB0 t h) (cB1 t h) (cB2 t h) (cB3 t h), oB10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) s7 s10 (cB0 t h) (cB1 t h) (cB2 t h) (cB3 t h))
/-- The blocks after every point. -/
def outs (c : Dev nD) : (n : ℕ) → n < cfg0.N → Vec F S8x128 .f32 × Vec F S384x1024 .f32 × Vec F S384x1024 .bf16 × Vec F S1x1024 .f32
  | 0, hn => ptA m c ⟨0, hn⟩ rfl
  | n + 1, hn => ptB m c ⟨n + 1, hn⟩ (Nat.succ_ne_zero n) (outs c n (Nat.lt_of_succ_lt hn)).1 (outs c n (Nat.lt_of_succ_lt hn)).2.2.2
theorem outs_A (c : Dev nD) (t : Fin cfg0.N) (h : t.val = 0) : outs m c t.val t.isLt = ptA m c t h := by
  obtain ⟨n, hn⟩ := t
  cases n with
  | zero => rfl
  | succ n => exact absurd h (Nat.succ_ne_zero n)
/-- What the point before left. -/
abbrev prev (c : Dev nD) (t : Fin cfg0.N) : Vec F S8x128 .f32 × Vec F S384x1024 .f32 × Vec F S384x1024 .bf16 × Vec F S1x1024 .f32 := outs m c (t.val - 1) (Nat.lt_of_le_of_lt (Nat.sub_le _ _) t.isLt)
theorem outs_B (c : Dev nD) (t : Fin cfg0.N) (h : t.val ≠ 0) : outs m c t.val t.isLt = ptB m c t h (prev m c t).1 (prev m c t).2.2.2 := by
  obtain ⟨n, hn⟩ := t
  cases n with
  | zero => exact absurd rfl h
  | succ n => rfl

/-! ## The pipeline's data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outs m c t.val t.isLt).1
    | ⟨8, _⟩ => (outs m c t.val t.isLt).2.1
    | ⟨9, _⟩ => (outs m c t.val t.isLt).2.2.1
    | ⟨10, _⟩ => (outs m c t.val t.isLt).2.2.2
  Φ _ := Pipeline.ΦA spec0 c
  q w := Pipeline.shareOf spec0 w
  owed _ := 0
theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = (outs m c t.val t.isLt).1 := by dsimp only [dats]
theorem after8 (c : Dev nD) (t : Fin cfg0.N) : (dats m 0 c).after 8 t = (outs m c t.val t.isLt).2.1 := by dsimp only [dats]
theorem after9 (c : Dev nD) (t : Fin cfg0.N) : (dats m 0 c).after 9 t = (outs m c t.val t.isLt).2.2.1 := by dsimp only [dats]
theorem after10 (c : Dev nD) (t : Fin cfg0.N) : (dats m 0 c).after 10 t = (outs m c t.val t.isLt).2.2.2 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (h : t.val ≠ 0) (d) : (dats m 0 c).before 7 t d = (prev m c t).1 := by
  rw [Dat.before_out_traj _ 7 rfl (fun _ _ => rfl) (fun t _ hi _ => absurd ((live7 t).symm.trans hi) Bool.false_ne_true) t.val t rfl d,
    if_neg (by rw [notFresh0_7_B t (cB0 t h) (cB1 t h) (cB2 t h) (cB3 t h)]; exact Bool.false_ne_true)]
  dsimp only [dats]
theorem before10 (c : Dev nD) (t : Fin cfg0.N) (h : t.val ≠ 0) (d) : (dats m 0 c).before 10 t d = (prev m c t).2.2.2 := by
  rw [Dat.before_out_traj _ 10 rfl (fun _ _ => rfl) (fun t _ hi _ => absurd ((live10 t).symm.trans hi) Bool.false_ne_true) t.val t rfl d,
    if_neg (by rw [notFresh0_10_B t (cB0 t h) (cB1 t h) (cB2 t h) (cB3 t h)]; exact Bool.false_ne_true)]
  dsimp only [dats]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)
theorem leaves0 (c : Dev nD) (t : Fin cfg0.N) : (dats m 0 c).leavesExact 0 t = owns (c : Thread nD τ) (ms0_0 t) fullShare ((dats m 0 c).after 0 t) := by
  unfold Dat.leavesExact
  rw [liveAt0_0 t]
theorem leaves1 (c : Dev nD) (t : Fin cfg0.N) : (dats m 0 c).leavesExact 1 t = owns (c : Thread nD τ) (ms0_1 t) fullShare ((dats m 0 c).after 1 t) := by
  unfold Dat.leavesExact
  rw [liveAt0_1 t]
theorem leaves2 (c : Dev nD) (t : Fin cfg0.N) : (dats m 0 c).leavesExact 2 t = owns (c : Thread nD τ) (ms0_2 t) fullShare ((dats m 0 c).after 2 t) := by
  unfold Dat.leavesExact
  rw [liveAt0_2 t]
theorem leaves3 (c : Dev nD) (t : Fin cfg0.N) : (dats m 0 c).leavesExact 3 t = owns (c : Thread nD τ) (ms0_3 t) fullShare ((dats m 0 c).after 3 t) := by
  unfold Dat.leavesExact
  rw [liveAt0_3 t]
theorem leaves4 (c : Dev nD) (t : Fin cfg0.N) : (dats m 0 c).leavesExact 4 t = owns (c : Thread nD τ) (ms0_4 t) fullShare ((dats m 0 c).after 4 t) := by
  unfold Dat.leavesExact
  rw [liveAt0_4 t]
theorem leaves5 (c : Dev nD) (t : Fin cfg0.N) : (dats m 0 c).leavesExact 5 t = owns (c : Thread nD τ) (ms0_5 t) fullShare ((dats m 0 c).after 5 t) := by
  unfold Dat.leavesExact
  rw [liveAt0_5 t]
theorem leaves6 (c : Dev nD) (t : Fin cfg0.N) : (dats m 0 c).leavesExact 6 t = owns (c : Thread nD τ) (ms0_6 t) fullShare ((dats m 0 c).after 6 t) := by
  unfold Dat.leavesExact
  rw [liveAt0_6 t]
theorem leaves7 (c : Dev nD) (t : Fin cfg0.N) : (dats m 0 c).leavesExact 7 t = owns (c : Thread nD τ) (ms0_7 t) fullShare ((dats m 0 c).after 7 t) := by
  unfold Dat.leavesExact
  rw [live7 t]
theorem leaves8 (c : Dev nD) (t : Fin cfg0.N) : (dats m 0 c).leavesExact 8 t = owns (c : Thread nD τ) (ms0_8 t) fullShare ((dats m 0 c).after 8 t) := by
  unfold Dat.leavesExact
  rw [liveAt0_8 t]
theorem leaves9 (c : Dev nD) (t : Fin cfg0.N) : (dats m 0 c).leavesExact 9 t = owns (c : Thread nD τ) (ms0_9 t) fullShare ((dats m 0 c).after 9 t) := by
  unfold Dat.leavesExact
  rw [liveAt0_9 t]
theorem leaves10 (c : Dev nD) (t : Fin cfg0.N) : (dats m 0 c).leavesExact 10 t = owns (c : Thread nD τ) (ms0_10 t) fullShare ((dats m 0 c).after 10 t) := by
  unfold Dat.leavesExact
  rw [live10 t]

set_option maxHeartbeats 1600000 in
/-- The body at any point takes the blocks before it to the blocks after it. -/
theorem sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl, show (dats m 0 c).owesAt () t.succ = (dats m 0 c).owesAt () t.castSucc from rfl]
  rw [leaves0, leaves1, leaves2, leaves3, leaves4, leaves5, leaves6, leaves7, leaves8, leaves9, leaves10]
  rw [after0, after1, after2, after3, after4, after5, after6, after7, after8, after9, after10]
  by_cases h : t.val = 0
  · rw [outs_A m c t h]
    unfold ptA oA7 oA8 oA9 oA10; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords t) _ _ _ _ _ _ _ _ _ _ _ _ _ _ _ _ _ _ _ _ _ _ (cA0 t h) (cA1 t h) (cA2 t h) (cA3 t h) (iblk m c 0 t) (iblk m c 1 t) (iblk m c 2 t) (iblk m c 3 t) (iblk m c 4 t) (iblk m c 5 t) (iblk m c 6 t)).2.2.2.2 _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    iintro ⟨H0, H1, H2, H3, H4, H5, H6, ⟨%e7, H7⟩, ⟨%e8, H8⟩, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (covA7 c _ _ _ _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (covA8 c _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (covA9 c _ _ _ _ _ _ _ _ _ _ _ _ _ _ _ _ _ _ _ _ _ _ _ _ _ _ _ _ _ _ _ _ _ _)
    unfold owns; iexists _; isplitr
    swap; · iexact H10
    ipureintro; exact View.read_writes_of_cover _ _ _ _ _ (covA10 c _ _ _ _ _ _ _ _ _ _ _ _ _ _ _ _ _ _ _ _ _ _ _ _ _ _ _ _ _ _ _ _ _ _)
  · rw [outs_B m c t h]
    simp only [before7 m c t h, before10 m c t h]
    unfold ptB oB7 oB8 oB9 oB10; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_B c (grid0.coords t) _ _ _ _ _ _ _ _ _ _ _ _ _ _ _ _ _ _ _ _ _ _ (cB0 t h) (cB1 t h) (cB2 t h) (cB3 t h) (iblk m c 0 t) (iblk m c 1 t) (iblk m c 2 t) (iblk m c 3 t) (iblk m c 4 t) (iblk m c 5 t) (iblk m c 6 t) (prev m c t).1 (prev m c t).2.2.2).2.2.2.2 _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    iintro ⟨H0, H1, H2, H3, H4, H5, H6, ⟨%e7, H7⟩, ⟨%e8, H8⟩, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (covB7 c _ _ _ _ _ _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (covB8 c _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (covB9 c _ _ _ _ _ _ _ _ _ _ _ _ _ _ _ _ _ _ _ _ _ _ _ _ _ _ _ _ _ _ _ _ _ _ _ _)
    unfold owns; iexists _; isplitr
    swap; · iexact H10
    ipureintro; exact View.read_writes_of_cover _ _ _ _ _ (covB10 c _ _ _ _ _ _ _ _ _ _ _ _ _ _ _ _ _ _ _ _ _ _ _ _ _ _ _ _ _ _ _ _ _ _ _ _)

theorem row (t : Fin cfg0.N) : defs₀ (F := F) .tc cfg0.body (cfg0.bodyArgs t (cfg0.slots t)) = bodyAt0 t := by
  unfold defs₀; rw [Defs.onTc_tc]
theorem obligation (c : Dev nD) : BodyObligation (dats (F := F) m 0 c) (defs₀ (F := F)) Variants.none () Set.univ := fun t => by
  rw [bigSep_W0, bigSep_W0, row]
  exact triple_restated (sound m c t) rfl .rfl fun _ => .rfl

/-! ## The run -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- Every run ends with the outputs at the arrays the points leave, the arguments unchanged and the semaphores at zero. -/
theorem run : θ_run defs (onTc (τ := τ) (main (F := F))) ⟨m, fun _ => 0, ρ⟩ fun r => (∀ c : Dev nD,
      r.2.mem ((c : Thread nD τ).loc main_v0_0) = (dats m 0 c).arrAt 7 cfg0.N
      ∧ r.2.mem ((c : Thread nD τ).loc main_v0_1) = (dats m 0 c).arrAt 8 cfg0.N
      ∧ r.2.mem ((c : Thread nD τ).loc main_v0_2) = (dats m 0 c).arrAt 9 cfg0.N
      ∧ r.2.mem ((c : Thread nD τ).loc main_v0_3) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0 :=
  (θ_run defs _ _).mono (fun r h => ⟨fun c => ⟨(h.1 c).1 7, (h.1 c).1 8, (h.1 c).1 9, (h.1 c).1 10,
    ((h.1 c).1 0).trans (((dats m 0 c).arrAt_in 0 rfl _).trans ((A_eq m c 0).trans (V_main_arg0 m c))),
    ((h.1 c).1 1).trans (((dats m 0 c).arrAt_in 1 rfl _).trans ((A_eq m c 1).trans (V_main_arg1 m c))),
    ((h.1 c).1 2).trans (((dats m 0 c).arrAt_in 2 rfl _).trans ((A_eq m c 2).trans (V_main_arg2 m c))),
    ((h.1 c).1 5).trans (((dats m 0 c).arrAt_in 5 rfl _).trans ((A_eq m c 5).trans (V_main_arg3 m c))),
    ((h.1 c).1 6).trans (((dats m 0 c).arrAt_in 6 rfl _).trans ((A_eq m c 6).trans (V_main_arg4 m c)))⟩, h.2⟩) (run_quiet m ρ)

/-- The frame of the idealised program, over any float values. -/
theorem frame : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r h => ⟨fun c => (h.1 c).2.2.2.2, h.2⟩) (run m ρ)

end Cert.DownLossIdeal.Nb

end
-- ==== Proof.Norm.DownLoss.lean ====
/- The loss and its gradient: one tile of the kernel. -/
module

public import proofs.«01_k».proof.Proof.Norm.Row
public import proofs.«01_k».proof.Proof.Norm.DownLossRun
public import Idealize.ShloMosaic.PureOps.Ideal
public import Idealize.ShloMosaic.Lib.Pointwise
public import Idealize.ShloMosaic.Lib.Pipeline.Value
public import Idealize.ShloMosaic.Lib.Pipeline.ValueKit.Tiles
public meta import Idealize.ShloMosaic.Lib.Pipeline.ValueKit.Acc
public import Idealize.ShloMosaic.Lib.Pipeline.ValueKit.Acc
public import Idealize.ShloMosaic.Lib.StableHlo.ReadAt
public meta import Idealize.ShloMosaic.Lib.Pipeline.ValueKit.Geometry
public import Idealize.ShloMosaic.Lib.Pipeline.ValueKit.Geometry

@[expose] public section

set_option maxRecDepth 16384

noncomputable section

namespace Cert.DownLossIdeal.Nb

open Idealize.ShloMosaic Gen Idealize.ShloMosaic.TcCoe Idealize.ShloMosaic.Tactic Idealize.SL.Sem
open Idealize.ShloMosaic.Pipeline (Dat)
open Cert.Norm

/-! ## One tile -/

/-- One over the row's length, and one half, as the programs write them. -/
def cI : EReal := Ideal.ofBits .f32 0x3A800000#32
def cF : EReal := Ideal.ofBits .f32 0x3F000000#32
theorem cI_eq : cI = (((1024 : ℝ)⁻¹ : ℝ) : EReal) := by
  unfold cI
  simp [Ideal.ofBits, Ideal.ieee, -EReal.coe_mul]
  norm_num
theorem cF_eq : cF = (((1 / 2 : ℝ)) : EReal) := by
  unfold cF
  simp [Ideal.ofBits, Ideal.ieee, -EReal.coe_mul]
  norm_num

section
variable (i : grid0.Coords) (v0 : Vec Ideal S384x2816 .bf16) (v1 : Vec Ideal S2816x1024 .bf16) (v3 : Vec Ideal S384x1024 .f32)
  (v5 v6 v7 : Vec Ideal S128x1024 .f32) (g : Vec Ideal S1x1024 .f32)

/-- A row after the residual. -/
def hB (p : Fin 384) : Fin 1024 → EReal := fun q => ∑ k : Fin 2816, v0 (ix2 p k) * v1 (ix2 k q) + v3 (ix2 p q)
/-- The tile's three blocks of the target, one below the other. -/
def tgtB (p : Fin 384) (q : Fin 1024) : EReal :=
  if h : p.val < 128 then v5 (ix2 (⟨p.val, h⟩ : Fin 128) q)
  else if h2 : p.val - 128 < 128 then v6 (ix2 (⟨p.val - 128, h2⟩ : Fin 128) q) else v7 (ix2 (⟨p.val - 128 - 128, by omega⟩ : Fin 128) q)
/-- The error at the tokens that count, zero at the prefix. -/
def errB (p : Fin 384) (q : Fin 1024) : EReal :=
  if 128 ≤ 384 * (i 0).val + p.val then hB v0 v1 v3 p q * rr (hB v0 v1 v3 p) * g (ix2 (0 : Fin 1) q) - tgtB v5 v6 v7 p q else 0
def uB (p : Fin 384) : Fin 1024 → EReal := fun q => errB i v0 v1 v3 v5 v6 v7 g p q * cI * g (ix2 (0 : Fin 1) q)

theorem pay2_apply (p : Fin 384) (q : Fin 1024) : k0_pay2 v0 v1 v3 (ix2 p q) = hB v0 v1 v3 p q := by
  unfold k0_pay2
  pointwise
  rfl
theorem pay3_apply (p : Fin 384) : k0_pay3 v0 v1 v3 (ix2 p (0 : Fin 1)) = rr (hB v0 v1 v3 p) := by
  unfold k0_pay3
  pointwise
  simp only [pay2_apply]
  rfl
theorem pay4_apply (p : Fin 384) (q : Fin 1024) : k0_pay4 v0 v1 v3 (ix2 p q) = hB v0 v1 v3 p q * rr (hB v0 v1 v3 p) := by
  unfold k0_pay4
  pointwise
  rw [pay2_apply, pay3_apply]
theorem mask_eq (p : Fin 384) : IntOp.cmpi CmpIPredicate.sge (IntOp.addi (Scalar.muli (BitVec.ofNat 32 (i 0).val) 384#32) (BitVec.ofNat 32 p.val)) 128#32
    = if 128 ≤ 384 * (i 0).val + p.val then 1#1 else 0#1 := by
  have key : ∀ (a : Fin 11) (n : Fin 384), IntOp.cmpi CmpIPredicate.sge (IntOp.addi (Scalar.muli (BitVec.ofNat 32 a.val) 384#32) (BitVec.ofNat 32 n.val)) 128#32
    = if 128 ≤ 384 * a.val + n.val then 1#1 else 0#1 := by decide +kernel
  exact key (i 0) p
theorem pay5_apply (p : Fin 384) (q : Fin 1024) : k0_pay5 i v0 v1 v3 v5 v6 v7 g (ix2 p q) = errB i v0 v1 v3 v5 v6 v7 g p q := by
  unfold k0_pay5
  pointwise
  rw [pay4_apply, mask_eq]
  unfold errB
  by_cases h : 128 ≤ 384 * (i 0).val + p.val
  · rw [if_pos h, if_pos h]; rfl
  · rw [if_neg h, if_neg h]; rfl
theorem pay6_apply (p : Fin 384) (q : Fin 1024) : k0_pay6 i v0 v1 v3 v5 v6 v7 g (ix2 p q) = errB i v0 v1 v3 v5 v6 v7 g p q * cI := by
  unfold k0_pay6
  pointwise
  rw [pay5_apply]
  rfl
theorem pay7_apply (p : Fin 384) (q : Fin 1024) : k0_pay7 i v0 v1 v3 v5 v6 v7 g (ix2 p q) = uB i v0 v1 v3 v5 v6 v7 g p q := by
  unfold k0_pay7
  pointwise
  rw [pay6_apply]
  rfl
theorem pay8_apply (p : Fin 384) (q : Fin 1024) : k0_pay8 (k0_pay3 v0 v1 v3) (k0_pay4 v0 v1 v3) (k0_pay7 i v0 v1 v3 v5 v6 v7 g) (ix2 p q)
    = dhK (uB i v0 v1 v3 v5 v6 v7 g p) (hB v0 v1 v3 p) q := by
  unfold k0_pay8
  pointwise
  simp only [pay3_apply, pay4_apply, pay7_apply]
  rfl
theorem pay12_apply (p : Fin 384) (q : Fin 1024) : k0_pay12 (k0_pay3 v0 v1 v3) (k0_pay4 v0 v1 v3) (k0_pay7 i v0 v1 v3 v5 v6 v7 g) (ix2 p q)
    = dhK (uB i v0 v1 v3 v5 v6 v7 g p) (hB v0 v1 v3 p) q := pay8_apply i v0 v1 v3 v5 v6 v7 g p q
/-- The tile's part of the gain's gradient and of the loss. -/
def ggB (q : Fin 1024) : EReal := ∑ p : Fin 384, errB i v0 v1 v3 v5 v6 v7 g p q * cI * (hB v0 v1 v3 p q * rr (hB v0 v1 v3 p))
def lossB : EReal := cF * ∑ p : Fin 384, Ideal.div (∑ k : Fin 1024, errB i v0 v1 v3 v5 v6 v7 g p k * errB i v0 v1 v3 v5 v6 v7 g p k) cN
theorem pay9_apply (q : Fin 1024) : k0_pay9 (k0_pay4 v0 v1 v3) (k0_pay6 i v0 v1 v3 v5 v6 v7 g) (ix2 (0 : Fin 1) q) = ggB i v0 v1 v3 v5 v6 v7 g q := by
  unfold k0_pay9
  pointwise
  exact Finset.sum_congr rfl fun p _ => by rw [pay4_apply, pay6_apply]
theorem pay1_apply (s : Vec Ideal S1x1024 .f32) (q : Fin 1024) :
    k0_pay1 (k0_pay9 (k0_pay4 v0 v1 v3) (k0_pay6 i v0 v1 v3 v5 v6 v7 g)) s (ix2 (0 : Fin 1) q) = s (ix2 (0 : Fin 1) q) + ggB i v0 v1 v3 v5 v6 v7 g q := by
  unfold k0_pay1
  pointwise
  rw [pay9_apply]
theorem pay10_apply (a : Fin 8) (b : Fin 128) : k0_pay10 (k0_pay5 i v0 v1 v3 v5 v6 v7 g) (ix2 a b) = lossB i v0 v1 v3 v5 v6 v7 g := by
  unfold k0_pay10
  pointwise
  unfold lossB
  refine congrArg (Ideal.ofBits .f32 0x3F000000#32 * ·) (Finset.sum_congr rfl fun p _ => ?_)
  refine (Fintype.sum_unique _).trans (congrArg (Ideal.div · cN) (Finset.sum_congr rfl fun k _ => ?_))
  rw [pay5_apply]
theorem pay11_apply (s : Vec Ideal S8x128 .f32) (a : Fin 8) (b : Fin 128) :
    k0_pay11 (k0_pay5 i v0 v1 v3 v5 v6 v7 g) s (ix2 a b) = s (ix2 a b) + lossB i v0 v1 v3 v5 v6 v7 g := by
  unfold k0_pay11
  pointwise
  rw [pay10_apply]

end
end Cert.DownLossIdeal.Nb

end
-- ==== Proof.Norm.DownLossArr.lean ====
/- The loss and its gradient: the kernel's four arrays, over all tiles. -/
module

public import proofs.«01_k».proof.Proof.Norm.DownLoss
public import Idealize.ShloMosaic.PureOps.Ideal
public import Idealize.ShloMosaic.Lib.Pointwise
public import Idealize.ShloMosaic.Lib.Pipeline.Value
public import Idealize.ShloMosaic.Lib.Pipeline.ValueKit.Tiles
public meta import Idealize.ShloMosaic.Lib.Pipeline.ValueKit.Acc
public import Idealize.ShloMosaic.Lib.Pipeline.ValueKit.Acc
public import Idealize.ShloMosaic.Lib.StableHlo.ReadAt
public meta import Idealize.ShloMosaic.Lib.Pipeline.ValueKit.Geometry
public import Idealize.ShloMosaic.Lib.Pipeline.ValueKit.Geometry

@[expose] public section

set_option maxRecDepth 16384

noncomputable section

namespace Cert.DownLossIdeal.Nb

open Idealize.ShloMosaic Gen Idealize.ShloMosaic.TcCoe Idealize.ShloMosaic.Tactic Idealize.SL.Sem
open Idealize.ShloMosaic.Pipeline (Dat)
open Cert.Norm

section
variable (x0 : Vec Ideal S384x2816 .bf16) (x1 : Vec Ideal S2816x1024 .bf16) (x2 : Vec Ideal S384x1024 .f32)
  (x3 x4 x5 : Vec Ideal S128x1024 .f32) (x6 : Vec Ideal S1x1024 .f32)
variable (c : Dev nD) (i : grid0.Coords) (a1 : Memref sig .tc .vmem S384x2816 .bf16) (h1 : a1.IsWhole) (a2 : Memref sig .tc .vmem S2816x1024 .bf16) (h2 : a2.IsWhole) (a3 : Memref sig .tc .vmem S384x1024 .f32) (h3 : a3.IsWhole) (a4 : Memref sig .tc .vmem S128x1024 .f32) (h4 : a4.IsWhole) (a5 : Memref sig .tc .vmem S128x1024 .f32) (h5 : a5.IsWhole) (a6 : Memref sig .tc .vmem S128x1024 .f32) (h6 : a6.IsWhole) (a7 : Memref sig .tc .vmem S1x1024 .f32) (h7 : a7.IsWhole) (a8 : Memref sig .tc .vmem S8x128 .f32) (h8 : a8.IsWhole) (a9 : Memref sig .tc .vmem S384x1024 .f32) (h9 : a9.IsWhole) (a10 : Memref sig .tc .vmem S384x1024 .bf16) (h10 : a10.IsWhole) (a11 : Memref sig .tc .vmem S1x1024 .f32) (h11 : a11.IsWhole)
theorem outA7 (k0 : cond0_0 i) (k1 : ¬cond0_1 i) (k2 : cond0_2 i) (k3 : ¬cond0_3 i) (a : Fin 8) (b : Fin 128) :
    oA7 c i a1 h1 a2 h2 a3 h3 a4 h4 a5 h5 a6 h6 a7 h7 a8 h8 a9 h9 a10 h10 a11 h11 x0 x1 x2 x3 x4 x5 x6 k0 k1 k2 k3 (ix2 a b) = lossB i x0 x1 x2 x3 x4 x5 x6 := by
  unfold oA7
  frame_out
  exact pay10_apply _ _ _ _ _ _ _ _ _ _
theorem outA8 (k0 : cond0_0 i) (k1 : ¬cond0_1 i) (k2 : cond0_2 i) (k3 : ¬cond0_3 i) (p : Fin 384) (q : Fin 1024) :
    oA8 c i a1 h1 a2 h2 a3 h3 a4 h4 a5 h5 a6 h6 a7 h7 a8 h8 a9 h9 a10 h10 a11 h11 x0 x1 x2 x3 x4 x5 x6 k0 k1 k2 k3 (ix2 p q) = dhK (uB i x0 x1 x2 x3 x4 x5 x6 p) (hB x0 x1 x2 p) q := by
  unfold oA8
  frame_out
  exact pay8_apply _ _ _ _ _ _ _ _ _ _
theorem outA9 (k0 : cond0_0 i) (k1 : ¬cond0_1 i) (k2 : cond0_2 i) (k3 : ¬cond0_3 i) (p : Fin 384) (q : Fin 1024) :
    oA9 c i a1 h1 a2 h2 a3 h3 a4 h4 a5 h5 a6 h6 a7 h7 a8 h8 a9 h9 a10 h10 a11 h11 x0 x1 x2 x3 x4 x5 x6 k0 k1 k2 k3 (ix2 p q) = dhK (uB i x0 x1 x2 x3 x4 x5 x6 p) (hB x0 x1 x2 p) q := by
  unfold oA9
  frame_out
  exact pay12_apply _ _ _ _ _ _ _ _ _ _
theorem outA10 (k0 : cond0_0 i) (k1 : ¬cond0_1 i) (k2 : cond0_2 i) (k3 : ¬cond0_3 i) (q : Fin 1024) :
    oA10 c i a1 h1 a2 h2 a3 h3 a4 h4 a5 h5 a6 h6 a7 h7 a8 h8 a9 h9 a10 h10 a11 h11 x0 x1 x2 x3 x4 x5 x6 k0 k1 k2 k3 (ix2 (0 : Fin 1) q) = ggB i x0 x1 x2 x3 x4 x5 x6 q := by
  unfold oA10
  frame_out
  exact pay9_apply _ _ _ _ _ _ _ _ _
theorem outB7 (s7 : Vec Ideal S8x128 .f32) (s10 : Vec Ideal S1x1024 .f32) (k0 : ¬cond0_0 i) (k1 : cond0_1 i) (k2 : ¬cond0_2 i) (k3 : cond0_3 i) (a : Fin 8) (b : Fin 128) :
    oB7 c i a1 h1 a2 h2 a3 h3 a4 h4 a5 h5 a6 h6 a7 h7 a8 h8 a9 h9 a10 h10 a11 h11 x0 x1 x2 x3 x4 x5 x6 s7 s10 k0 k1 k2 k3 (ix2 a b) = s7 (ix2 a b) + lossB i x0 x1 x2 x3 x4 x5 x6 := by
  unfold oB7
  frame_out
  exact pay11_apply _ _ _ _ _ _ _ _ _ _ _
theorem outB8 (s7 : Vec Ideal S8x128 .f32) (s10 : Vec Ideal S1x1024 .f32) (k0 : ¬cond0_0 i) (k1 : cond0_1 i) (k2 : ¬cond0_2 i) (k3 : cond0_3 i) (p : Fin 384) (q : Fin 1024) :
    oB8 c i a1 h1 a2 h2 a3 h3 a4 h4 a5 h5 a6 h6 a7 h7 a8 h8 a9 h9 a10 h10 a11 h11 x0 x1 x2 x3 x4 x5 x6 s7 s10 k0 k1 k2 k3 (ix2 p q) = dhK (uB i x0 x1 x2 x3 x4 x5 x6 p) (hB x0 x1 x2 p) q := by
  unfold oB8
  frame_out
  exact pay8_apply _ _ _ _ _ _ _ _ _ _
theorem outB9 (s7 : Vec Ideal S8x128 .f32) (s10 : Vec Ideal S1x1024 .f32) (k0 : ¬cond0_0 i) (k1 : cond0_1 i) (k2 : ¬cond0_2 i) (k3 : cond0_3 i) (p : Fin 384) (q : Fin 1024) :
    oB9 c i a1 h1 a2 h2 a3 h3 a4 h4 a5 h5 a6 h6 a7 h7 a8 h8 a9 h9 a10 h10 a11 h11 x0 x1 x2 x3 x4 x5 x6 s7 s10 k0 k1 k2 k3 (ix2 p q) = dhK (uB i x0 x1 x2 x3 x4 x5 x6 p) (hB x0 x1 x2 p) q := by
  unfold oB9
  frame_out
  exact pay12_apply _ _ _ _ _ _ _ _ _ _
theorem outB10 (s7 : Vec Ideal S8x128 .f32) (s10 : Vec Ideal S1x1024 .f32) (k0 : ¬cond0_0 i) (k1 : cond0_1 i) (k2 : ¬cond0_2 i) (k3 : cond0_3 i) (q : Fin 1024) :
    oB10 c i a1 h1 a2 h2 a3 h3 a4 h4 a5 h5 a6 h6 a7 h7 a8 h8 a9 h9 a10 h10 a11 h11 x0 x1 x2 x3 x4 x5 x6 s7 s10 k0 k1 k2 k3 (ix2 (0 : Fin 1) q) = s10 (ix2 (0 : Fin 1) q) + ggB i x0 x1 x2 x3 x4 x5 x6 q := by
  unfold oB10
  frame_out
  exact pay1_apply _ _ _ _ _ _ _ _ _ _

end

variable (m : (ℓ : Loc nD τ sig) → Buf (Elt Ideal) ℓ)
theorem point8 (c : Dev nD) (t : Fin cfg0.N) (p : Fin 384) (q : Fin 1024) :
    (outs m c t.val t.isLt).2.1 (ix2 p q) = dhK (uB (grid0.coords t) (iblk m c 0 t) (iblk m c 1 t) (iblk m c 2 t) (iblk m c 3 t) (iblk m c 4 t) (iblk m c 5 t) (iblk m c 6 t) p) (hB (iblk m c 0 t) (iblk m c 1 t) (iblk m c 2 t) p) q := by
  by_cases h : t.val = 0
  · rw [outs_A m c t h]; unfold ptA; dsimp only; exact outA8 (iblk m c 0 t) (iblk m c 1 t) (iblk m c 2 t) (iblk m c 3 t) (iblk m c 4 t) (iblk m c 5 t) (iblk m c 6 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (cA0 t h) (cA1 t h) (cA2 t h) (cA3 t h) p q
  · rw [outs_B m c t h]; unfold ptB; dsimp only; exact outB8 (iblk m c 0 t) (iblk m c 1 t) (iblk m c 2 t) (iblk m c 3 t) (iblk m c 4 t) (iblk m c 5 t) (iblk m c 6 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (prev m c t).1 (prev m c t).2.2.2 (cB0 t h) (cB1 t h) (cB2 t h) (cB3 t h) p q
theorem point9 (c : Dev nD) (t : Fin cfg0.N) (p : Fin 384) (q : Fin 1024) :
    (outs m c t.val t.isLt).2.2.1 (ix2 p q) = dhK (uB (grid0.coords t) (iblk m c 0 t) (iblk m c 1 t) (iblk m c 2 t) (iblk m c 3 t) (iblk m c 4 t) (iblk m c 5 t) (iblk m c 6 t) p) (hB (iblk m c 0 t) (iblk m c 1 t) (iblk m c 2 t) p) q := by
  by_cases h : t.val = 0
  · rw [outs_A m c t h]; unfold ptA; dsimp only; exact outA9 (iblk m c 0 t) (iblk m c 1 t) (iblk m c 2 t) (iblk m c 3 t) (iblk m c 4 t) (iblk m c 5 t) (iblk m c 6 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (cA0 t h) (cA1 t h) (cA2 t h) (cA3 t h) p q
  · rw [outs_B m c t h]; unfold ptB; dsimp only; exact outB9 (iblk m c 0 t) (iblk m c 1 t) (iblk m c 2 t) (iblk m c 3 t) (iblk m c 4 t) (iblk m c 5 t) (iblk m c 6 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (prev m c t).1 (prev m c t).2.2.2 (cB0 t h) (cB1 t h) (cB2 t h) (cB3 t h) p q
theorem point7_first (c : Dev nD) (t : Fin cfg0.N) (h : t.val = 0) (a : Fin 8) (b : Fin 128) :
    (outs m c t.val t.isLt).1 (ix2 a b) = lossB (grid0.coords t) (iblk m c 0 t) (iblk m c 1 t) (iblk m c 2 t) (iblk m c 3 t) (iblk m c 4 t) (iblk m c 5 t) (iblk m c 6 t) := by
  rw [outs_A m c t h]; unfold ptA; dsimp only; exact outA7 (iblk m c 0 t) (iblk m c 1 t) (iblk m c 2 t) (iblk m c 3 t) (iblk m c 4 t) (iblk m c 5 t) (iblk m c 6 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (cA0 t h) (cA1 t h) (cA2 t h) (cA3 t h) a b
theorem point7_step (c : Dev nD) (t : Fin cfg0.N) (h : t.val ≠ 0) (a : Fin 8) (b : Fin 128) :
    (outs m c t.val t.isLt).1 (ix2 a b) = (prev m c t).1 (ix2 a b) + lossB (grid0.coords t) (iblk m c 0 t) (iblk m c 1 t) (iblk m c 2 t) (iblk m c 3 t) (iblk m c 4 t) (iblk m c 5 t) (iblk m c 6 t) := by
  rw [outs_B m c t h]; unfold ptB; dsimp only; exact outB7 (iblk m c 0 t) (iblk m c 1 t) (iblk m c 2 t) (iblk m c 3 t) (iblk m c 4 t) (iblk m c 5 t) (iblk m c 6 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (prev m c t).1 (prev m c t).2.2.2 (cB0 t h) (cB1 t h) (cB2 t h) (cB3 t h) a b
theorem point10_first (c : Dev nD) (t : Fin cfg0.N) (h : t.val = 0) (q : Fin 1024) :
    (outs m c t.val t.isLt).2.2.2 (ix2 (0 : Fin 1) q) = ggB (grid0.coords t) (iblk m c 0 t) (iblk m c 1 t) (iblk m c 2 t) (iblk m c 3 t) (iblk m c 4 t) (iblk m c 5 t) (iblk m c 6 t) q := by
  rw [outs_A m c t h]; unfold ptA; dsimp only; exact outA10 (iblk m c 0 t) (iblk m c 1 t) (iblk m c 2 t) (iblk m c 3 t) (iblk m c 4 t) (iblk m c 5 t) (iblk m c 6 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (cA0 t h) (cA1 t h) (cA2 t h) (cA3 t h) q
theorem point10_step (c : Dev nD) (t : Fin cfg0.N) (h : t.val ≠ 0) (q : Fin 1024) :
    (outs m c t.val t.isLt).2.2.2 (ix2 (0 : Fin 1) q) = (prev m c t).2.2.2 (ix2 (0 : Fin 1) q) + ggB (grid0.coords t) (iblk m c 0 t) (iblk m c 1 t) (iblk m c 2 t) (iblk m c 3 t) (iblk m c 4 t) (iblk m c 5 t) (iblk m c 6 t) q := by
  rw [outs_B m c t h]; unfold ptB; dsimp only; exact outB10 (iblk m c 0 t) (iblk m c 1 t) (iblk m c 2 t) (iblk m c 3 t) (iblk m c 4 t) (iblk m c 5 t) (iblk m c 6 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (prev m c t).1 (prev m c t).2.2.2 (cB0 t h) (cB1 t h) (cB2 t h) (cB3 t h) q

/-! ## The arrays -/

section
variable (A : FVec Ideal S4224x2816 .bf16) (W : FVec Ideal S2816x1024 .bf16) (h : FVec Ideal S4224x1024 .f32) (T : FVec Ideal S4096x1024 .f32)
  (g : FVec Ideal S1x1024 .f32)

/-- A row after the residual, the error at it, and the gradient below the gain. -/
def rowG (n : Fin 4224) : Fin 1024 → EReal := fun q => ∑ k : Fin 2816, A (ix2 n k) * W (ix2 k q) + h (ix2 n q)
def errG (n : Fin 4224) (q : Fin 1024) : EReal :=
  if n.val < 128 then 0 else rowG A W h n q * rr (rowG A W h n) * g (ix2 (0 : Fin 1) q) - T (ix2 (⟨n.val - 128, by omega⟩ : Fin 4096) q)
def uG (n : Fin 4224) : Fin 1024 → EReal := fun q => errG A W h T g n q * cI * g (ix2 (0 : Fin 1) q)
/-- A row's part of the gain's gradient and of the loss. -/
def partG (q : Fin 1024) (n : Fin 4224) : EReal := errG A W h T g n q * cI * (rowG A W h n q * rr (rowG A W h n))
def partL (n : Fin 4224) : EReal := Ideal.div (∑ k : Fin 1024, errG A W h T g n k * errG A W h T g n k) cN
def G7 : FVec Ideal S8x128 .f32 := fun _ => (∑ n : Fin 4224, partL A W h T g n) * cF
def G8 : FVec Ideal S4224x1024 .f32 := fun y => dhK (uG A W h T g (y 0)) (rowG A W h (y 0)) (y 1)
def G9 : FVec Ideal S4224x1024 .bf16 := fun y => dhK (uG A W h T g (y 0)) (rowG A W h (y 0)) (y 1)
def G10 : FVec Ideal S1x1024 .f32 := fun y => ∑ n : Fin 4224, partG A W h T g (y 1) n
end
theorem idx : ∀ t : Fin cfg0.N, win0_0.index t = ![t.val, 0] ∧ win0_1.index t = ![0, 0] ∧ win0_2.index t = ![t.val, 0]
    ∧ win0_3.index t = ![3 * t.val - 1, 0] ∧ win0_4.index t = ![3 * t.val, 0] ∧ win0_5.index t = ![3 * t.val + 1, 0] ∧ win0_6.index t = ![0, 0]
    ∧ win0_7.index t = ![0, 0] ∧ win0_8.index t = ![t.val, 0] ∧ win0_9.index t = ![t.val, 0] ∧ win0_10.index t = ![0, 0] := by
  decide +kernel
theorem coord : ∀ t : Fin cfg0.N, ((grid0.coords t) 0).val = t.val := by decide +kernel

/-- A row of the array, from its tile and its place there. -/
def rowOf (t : Fin cfg0.N) (p : Fin 384) : Fin 4224 := ⟨384 * t.val + p.val, by have : t.val < 11 := t.isLt; omega⟩

section
variable (c : Dev nD) (t : Fin cfg0.N) (p : Fin 384)
theorem row_blk : hB (iblk m c 0 t) (iblk m c 1 t) (iblk m c 2 t) p = rowG (m ((c : Thread nD τ).loc main_arg0)) (m ((c : Thread nD τ).loc main_arg1)) (m ((c : Thread nD τ).loc main_arg2)) (rowOf t p) := by
  unfold hB rowG rowOf
  rw [← V_main_arg0 m c, ← V_main_arg1 m c, ← V_main_arg2 m c]
  refine funext fun q => congrArg₂ (· + ·) (Finset.sum_congr rfl fun k _ => congrArg₂ (· * ·) ?_ ?_) ?_
  · blk_ext [iblk, idx t]
  · blk_ext [iblk, idx t]
  · blk_ext [iblk, idx t]
theorem g_blk (q : Fin 1024) : iblk m c 6 t (ix2 (0 : Fin 1) q) = m ((c : Thread nD τ).loc main_arg4) (ix2 (0 : Fin 1) q) := by
  rw [← V_main_arg4 m c]
  blk_ext [iblk, idx t]
theorem tgt_blk (q : Fin 1024) (hn : 128 ≤ 384 * t.val + p.val) : tgtB (iblk m c 3 t) (iblk m c 4 t) (iblk m c 5 t) p q
    = m ((c : Thread nD τ).loc main_arg3) (ix2 (⟨(rowOf t p).val - 128, by have := (rowOf t p).isLt; omega⟩ : Fin 4096) q) := by
  have hN : t.val < 11 := t.isLt
  unfold tgtB rowOf
  rw [← V_main_arg3 m c]
  by_cases h : p.val < 128
  · rw [dif_pos h]
    blk_ext [iblk, idx t]
  · rw [dif_neg h]
    by_cases h2 : p.val - 128 < 128
    · rw [dif_pos h2]
      blk_ext [iblk, idx t]
    · rw [dif_neg h2]
      blk_ext [iblk, idx t]
theorem err_blk (q : Fin 1024) : errB (grid0.coords t) (iblk m c 0 t) (iblk m c 1 t) (iblk m c 2 t) (iblk m c 3 t) (iblk m c 4 t) (iblk m c 5 t) (iblk m c 6 t) p q = errG (m ((c : Thread nD τ).loc main_arg0)) (m ((c : Thread nD τ).loc main_arg1)) (m ((c : Thread nD τ).loc main_arg2)) (m ((c : Thread nD τ).loc main_arg3)) (m ((c : Thread nD τ).loc main_arg4)) (rowOf t p) q := by
  unfold errB errG
  rw [coord]
  by_cases h : 128 ≤ 384 * t.val + p.val
  · rw [if_pos h, if_neg (show ¬(rowOf t p).val < 128 from Nat.not_lt.mpr h), row_blk, tgt_blk m c t p q h]
    exact congrArg (fun z => _ * z - _) (g_blk m c t q)
  · rw [if_neg h, if_pos (show (rowOf t p).val < 128 from Nat.not_le.mp h)]
theorem u_blk : uB (grid0.coords t) (iblk m c 0 t) (iblk m c 1 t) (iblk m c 2 t) (iblk m c 3 t) (iblk m c 4 t) (iblk m c 5 t) (iblk m c 6 t) p = uG (m ((c : Thread nD τ).loc main_arg0)) (m ((c : Thread nD τ).loc main_arg1)) (m ((c : Thread nD τ).loc main_arg2)) (m ((c : Thread nD τ).loc main_arg3)) (m ((c : Thread nD τ).loc main_arg4)) (rowOf t p) :=
  funext fun q => congrArg₂ (· * ·) (congrArg (· * cI) (err_blk m c t p q)) (g_blk m c t q)

end
theorem arr8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after8]
  obtain ⟨p, q, rfl⟩ : ∃ (p : Fin 384) (q : Fin 1024), y = ix2 p q := ⟨y 0, y 1, eq_ix2 y⟩
  have e2 : (win0_8.blk t).view.emb (ix2 p q) = ix2 (rowOf t p) q := by unfold rowOf; blk_ext [idx t]
  refine (point8 m c t p q).trans ?_
  rw [u_blk, row_blk]
  refine Eq.trans ?_ (congrArg (G8 _ _ _ _ _) e2.symm)
  rfl
theorem arr9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after9]
  obtain ⟨p, q, rfl⟩ : ∃ (p : Fin 384) (q : Fin 1024), y = ix2 p q := ⟨y 0, y 1, eq_ix2 y⟩
  have e2 : (win0_9.blk t).view.emb (ix2 p q) = ix2 (rowOf t p) q := by unfold rowOf; blk_ext [idx t]
  refine (point9 m c t p q).trans ?_
  rw [u_blk, row_blk]
  refine Eq.trans ?_ (congrArg (G9 _ _ _ _ _) e2.symm)
  rfl
theorem flushed7 : ∀ t : Fin cfg0.N, (cfg0.win 7).flush t = true → t.val = 10 := by decide +kernel
theorem flushed10 : ∀ t : Fin cfg0.N, (cfg0.win 10).flush t = true → t.val = 10 := by decide +kernel
/-- A sum over all tokens, tile by tile. -/
theorem sum_tiles (f : Fin 4224 → EReal) : ∑ t : Fin cfg0.N, ∑ p : Fin 384, f (rowOf t p) = ∑ n, f n := by
  rw [show (∑ t : Fin cfg0.N, ∑ p : Fin 384, f (rowOf t p)) = ∑ t : Fin 11, ∑ p : Fin 384, f ⟨t.val * 384 + p.val, by omega⟩ from
    Finset.sum_congr rfl fun t _ => Finset.sum_congr rfl fun p _ => congrArg f (Fin.ext (congrArg (· + p.val) (Nat.mul_comm 384 t.val)))]
  exact Fin.sum_mul_add_fin 11 384 f
theorem first_iff (t : Fin cfg0.N) : t.val % 11 = 0 ↔ t.val = 0 := by
  have : t.val < 11 := t.isLt
  omega
theorem arr10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t hf y => ?_
  blk_simp
  rw [after10]
  obtain ⟨q, rfl⟩ : ∃ q : Fin 1024, y = ix2 (0 : Fin 1) q := ⟨y 1, (eq_ix2 y).trans (congrArg (ix2 · (y 1)) (Subsingleton.elim _ _))⟩
  have e2 : (win0_10.blk t).view.emb (ix2 (0 : Fin 1) q) = ix2 (0 : Fin 1) q := by blk_ext [idx t]
  refine Eq.trans ?_ (congrArg (G10 _ _ _ _ _) e2.symm)
  have e := Pipeline.eq_sum_fin_of_reset_step_last (fun n h => (outs m c n h).2.2.2 (ix2 (0 : Fin 1) q)) 11 0 (fun t => ggB (grid0.coords t) (iblk m c 0 t) (iblk m c 1 t) (iblk m c 2 t) (iblk m c 3 t) (iblk m c 4 t) (iblk m c 5 t) (iblk m c 6 t) q)
    (fun t h => (point10_first m c t ((first_iff t).mp h) q).trans (zero_add _).symm) (fun t h => point10_step m c t (fun e => h ((first_iff t).mpr e)) q)
    (le_of_eq N_0) t (by rw [flushed10 t hf]; rfl)
  refine e.trans ((zero_add _).trans ?_)
  refine Eq.trans ?_ (sum_tiles (partG (m ((c : Thread nD τ).loc main_arg0)) (m ((c : Thread nD τ).loc main_arg1)) (m ((c : Thread nD τ).loc main_arg2)) (m ((c : Thread nD τ).loc main_arg3)) (m ((c : Thread nD τ).loc main_arg4)) q))
  unfold ggB
  refine Finset.sum_congr rfl fun t _ => Finset.sum_congr rfl fun p _ => ?_
  rw [err_blk, row_blk]
  rfl
theorem arr7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after7]
  obtain ⟨a, b, rfl⟩ : ∃ (a : Fin 8) (b : Fin 128), y = ix2 a b := ⟨y 0, y 1, eq_ix2 y⟩
  have e := Pipeline.eq_sum_fin_of_reset_step_last (fun n h => (outs m c n h).1 (ix2 a b)) 11 0 (fun t => lossB (grid0.coords t) (iblk m c 0 t) (iblk m c 1 t) (iblk m c 2 t) (iblk m c 3 t) (iblk m c 4 t) (iblk m c 5 t) (iblk m c 6 t))
    (fun t h => (point7_first m c t ((first_iff t).mp h) a b).trans (zero_add _).symm) (fun t h => point7_step m c t (fun e => h ((first_iff t).mpr e)) a b)
    (le_of_eq N_0) t (by rw [flushed7 t hf]; rfl)
  refine e.trans ((zero_add _).trans ?_)
  show _ = (∑ n : Fin 4224, partL (m ((c : Thread nD τ).loc main_arg0)) (m ((c : Thread nD τ).loc main_arg1)) (m ((c : Thread nD τ).loc main_arg2)) (m ((c : Thread nD τ).loc main_arg3)) (m ((c : Thread nD τ).loc main_arg4)) n) * cF
  rw [← sum_tiles (partL (m ((c : Thread nD τ).loc main_arg0)) (m ((c : Thread nD τ).loc main_arg1)) (m ((c : Thread nD τ).loc main_arg2)) (m ((c : Thread nD τ).loc main_arg3)) (m ((c : Thread nD τ).loc main_arg4))), cF_eq, sum_mul_nn _ _ _ (by norm_num)]
  refine Finset.sum_congr rfl fun t _ => ?_
  unfold lossB partL
  rw [cF_eq, mul_comm]
  refine congrArg (· * _) (Finset.sum_congr rfl fun p _ => congrArg (Ideal.div · cN) (Finset.sum_congr rfl fun k _ => ?_))
  rw [err_blk]

end Cert.DownLossIdeal.Nb

end
-- ==== Proof.Norm.DownLossRef.lean ====
/- The loss and its gradient: the reference's four results, stage by stage, and that the kernel's arrays are those. -/
module

public import proofs.«01_k».proof.Proof.Gen.DownLossRefIdeal.Run
public import proofs.«01_k».proof.Proof.Norm.DownLossArr

@[expose] public section

set_option maxRecDepth 16384

noncomputable section

namespace Cert.DownLossRefIdeal.Nb

open Idealize.ShloMosaic Gen Idealize.ShloMosaic.TcCoe Idealize.ShloMosaic.Tactic Idealize.SL.Sem
open Cert.Norm
open Cert.DownLossIdeal.Nb (rowG errG uG partG partL G7 G8 G9 G10 cI cF cI_eq cF_eq)

abbrev T1 := FVec Ideal S1x4224x1024 .f32

section
variable (A : FVec Ideal S4224x2816 .bf16) (W : FVec Ideal S2816x1024 .bf16) (h : FVec Ideal S4224x1024 .f32) (T : FVec Ideal S4096x1024 .f32)
  (g : FVec Ideal S1x1024 .f32)

def xV : T1 := addf (broadcastInDim S1x4224x1024 ![1, 2] bcast_S4224x1024_S1x4224x1024_1_2 h) (Host.dotGeneral dot_S1x4224x2816_S2816x1024_S1x4224x1024_2_0_01_1_n_n none (broadcastInDim S1x4224x2816 ![1, 2] bcast_S4224x2816_S1x4224x2816_1_2 (extf .f32 A bitsLt_bf16_f32)) (extf .f32 W bitsLt_bf16_f32))
def wide (x : FVec Ideal S1x4224x1 .f32) : T1 := broadcastInDim S1x4224x1024 ![0, 1, 2] bcast_S1x4224x1_S1x4224x1024_0_1_2 x
def rowSum (x : T1) : FVec Ideal S1x4224 .f32 := Host.reduceAdd x (constant S_ .f32 0x00000000#32) reducesTo_S1x4224x1024_S1x4224_d2 h_S_
def nV : FVec Ideal S1x4224x1 .f32 := broadcastInDim S1x4224x1 ![] bcast_S_S1x4224x1 (constant S_ .f32 0x44800000#32)
/-- The mean square with the small constant, and its inverse root. -/
def vV : FVec Ideal S1x4224x1 .f32 := addf (Host.divf (broadcastInDim S1x4224x1 ![0, 1] bcast_S1x4224_S1x4224x1_0_1 (rowSum (mulf (xV A W h) (xV A W h)))) nV) (broadcastInDim S1x4224x1 ![] bcast_S_S1x4224x1 (constant S_ .f32 0x358637BD#32))
def rV : FVec Ideal S1x4224x1 .f32 := Host.rsqrt (vV A W h)
def yV : T1 := mulf (xV A W h) (wide (rV A W h))
def gV : T1 := broadcastInDim S1x4224x1024 ![0, 1, 2] bcast_S1x1x1024_S1x4224x1024_0_1_2 (broadcastInDim S1x1x1024 ![1, 2] bcast_S1x1024_S1x1x1024_1_2 g)
/-- The error at the tokens that count. -/
def eV : FVec Ideal S1x4096x1024 .f32 := subf (extractStridedSlice S1x4096x1024 ![0, 128, 0] (mulf (yV A W h) (gV g)) slices_S1x4224x1024_S1x4096x1024_0_128_0) (broadcastInDim S1x4096x1024 ![1, 2] bcast_S4096x1024_S1x4096x1024_1_2 T)
/-- Its gradient, and that with the prefix's zeros before it. -/
def deV : FVec Ideal S1x4096x1024 .f32 := mulf (broadcastInDim S1x4096x1024 ![0, 1] bcast_S1x4096_S1x4096x1024_0_1 (Host.divf (broadcastInDim S1x4096 ![] bcast_S_S1x4096 (mulf (constant S_ .f32 0x3F000000#32) (constant S_ .f32 0x3F800000#32))) (broadcastInDim S1x4096 ![] bcast_S_S1x4096 (constant S_ .f32 0x44800000#32)))) (mulf (broadcastInDim S1x4096x1024 ![] bcast_S_S1x4096x1024 (constant S_ .f32 0x40000000#32)) (eV A W h T g))
def dV : T1 := pad S1x4224x1024 ![0, 128, 0] ![0, 0, 0] ![0, 0, 0] (deV A W h T g) (constant S_ .f32 0x00000000#32) pads_S1x4096x1024_S1x4224x1024_000_12800_000 h_S_
def uV : T1 := mulf (dV A W h T g) (gV g)
def tV : FVec Ideal S1x4224x1 .f32 := Host.divf (mulf (shapeCast _ (rowSum (mulf (xV A W h) (uV A W h T g))) shapeCasts_S1x4224_S1x4224x1) (mulf (broadcastInDim S1x4224x1 ![] bcast_S_S1x4224x1 (constant S_ .f32 0xBF000000#32)) (Host.divf (rV A W h) (vV A W h)))) nV
def twV : T1 := broadcastInDim S1x4224x1024 ![0, 1] bcast_S1x4224_S1x4224x1024_0_1 (broadcastInDim S1x4224 ![1] bcast_S4224_S1x4224_1 (Host.reduceAdd (tV A W h T g) (constant S_ .f32 0x00000000#32) reducesTo_S1x4224x1_S4224_d0_2 h_S_))
def dhV : T1 := addf (addf (mulf (uV A W h T g) (wide (rV A W h))) (mulf (xV A W h) (twV A W h T g))) (mulf (twV A W h T g) (xV A W h))

def R0 : FVec Ideal S8x128 .f32 := broadcastInDim S8x128 ![] bcast_S_S8x128 (mulf (constant S_ .f32 0x3F000000#32) (Host.reduceAdd (Host.divf (Host.reduceAdd (mulf (eV A W h T g) (eV A W h T g)) (constant S_ .f32 0x00000000#32) reducesTo_S1x4096x1024_S1x4096_d2 h_S_) (broadcastInDim S1x4096 ![] bcast_S_S1x4096 (constant S_ .f32 0x44800000#32))) (constant S_ .f32 0x00000000#32) reducesTo_S1x4096_S_d0_1 h_S_))
def R1 : FVec Ideal S4224x1024 .f32 := shapeCast _ (dhV A W h T g) shapeCasts_S1x4224x1024_S4224x1024
def R2 : FVec Ideal S4224x1024 .bf16 := truncf .bf16 (R1 A W h T g) bitsLt_bf16_f32
def R3 : FVec Ideal S1x1024 .f32 := broadcastInDim S1x1024 ![1] bcast_S1024_S1x1024_1 (Host.reduceAdd (shapeCast _ (Host.reduceAdd (mulf (yV A W h) (dV A W h T g)) (constant S_ .f32 0x00000000#32) reducesTo_S1x4224x1024_S1x1024_d1 h_S_) shapeCasts_S1x1024_S1x1x1024) (constant S_ .f32 0x00000000#32) reducesTo_S1x1x1024_S1024_d0_1 h_S_)

end

section
variable (m : (ℓ : Loc nD τ sig) → Buf (Elt Ideal) ℓ) (c : Dev nD)

theorem res0 : Value.res_out0 m c = R0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl
theorem res1 : Value.res_out1 m c = R1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl
theorem res2 : Value.res_out2 m c = R2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl
theorem res3 : Value.res_out3 m c = R3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end

/-! ## Entries -/

section
variable (A : FVec Ideal S4224x2816 .bf16) (W : FVec Ideal S2816x1024 .bf16) (h : FVec Ideal S4224x1024 .f32) (T : FVec Ideal S4096x1024 .f32)
  (g : FVec Ideal S1x1024 .f32)

theorem xV_apply (n : Fin 4224) (q : Fin 1024) : xV A W h (ix3 (0 : Fin 1) n q) = rowG A W h n q := by
  unfold xV
  pointwise
  exact add_comm _ _
theorem rowSum_apply (x : T1) (n : Fin 4224) : rowSum x (ix2 (0 : Fin 1) n) = ∑ q, x (ix3 (0 : Fin 1) n q) := by
  unfold rowSum
  pointwise
theorem nV_apply (n : Fin 4224) : nV (ix3 (0 : Fin 1) n (0 : Fin 1)) = cN := by
  unfold nV
  pointwise
  rfl
theorem vV_apply (n : Fin 4224) : vV A W h (ix3 (0 : Fin 1) n (0 : Fin 1)) = vv (rowG A W h n) := by
  unfold vV
  pointwise
  rw [rowSum_apply, nV_apply]
  unfold vv
  refine congrArg₂ (· + ·) (congrArg (Ideal.div · cN) (Finset.sum_congr rfl fun k _ => ?_)) rfl
  exact congrArg₂ (· * ·) (xV_apply A W h n k) (xV_apply A W h n k)
theorem rV_apply (n : Fin 4224) : rV A W h (ix3 (0 : Fin 1) n (0 : Fin 1)) = rr (rowG A W h n) := congrArg Ideal.rsqrt (vV_apply A W h n)
theorem wide_apply (x : FVec Ideal S1x4224x1 .f32) (n : Fin 4224) (q : Fin 1024) : wide x (ix3 (0 : Fin 1) n q) = x (ix3 (0 : Fin 1) n (0 : Fin 1)) := by
  unfold wide
  pointwise
theorem yV_apply (n : Fin 4224) (q : Fin 1024) : yV A W h (ix3 (0 : Fin 1) n q) = rowG A W h n q * rr (rowG A W h n) := by
  unfold yV
  pointwise
  rw [xV_apply, wide_apply, rV_apply]
theorem gV_apply (n : Fin 4224) (q : Fin 1024) : gV g (ix3 (0 : Fin 1) n q) = g (ix2 (0 : Fin 1) q) := by
  unfold gV
  pointwise
theorem eV_apply (n : Fin 4096) (q : Fin 1024) : eV A W h T g (ix3 (0 : Fin 1) n q) = errG A W h T g ⟨128 + n.val, by omega⟩ q := by
  unfold eV
  pointwise
  rw [yV_apply, gV_apply]
  unfold errG
  rw [if_neg (by show ¬128 + n.val < 128; omega)]
  refine congrArg (_ - T ·) (congrArg (ix2 · q) (Fin.ext ?_))
  show n.val = 128 + n.val - 128
  omega
theorem half (e : EReal) : Ideal.div (Ideal.ofBits .f32 0x3F000000#32) cN * (Ideal.ofBits .f32 0x40000000#32 * e) = e * cI := by
  have h2 : Ideal.ofBits .f32 0x40000000#32 = ((2 : ℝ) : EReal) := by
    simp [Ideal.ofBits, Ideal.ieee, -EReal.coe_mul]
    norm_num
  rw [show Ideal.ofBits .f32 0x3F000000#32 = ((1 / 2 : ℝ) : EReal) from cF_eq, h2, cI_eq, div_N, ← mul_assoc, ← EReal.coe_mul, mul_comm]
  norm_num
theorem deV_apply (n : Fin 4096) (q : Fin 1024) : deV A W h T g (ix3 (0 : Fin 1) n q) = errG A W h T g ⟨128 + n.val, by omega⟩ q * cI := by
  unfold deV
  pointwise
  rw [eV_apply]
  exact half _
theorem dV_apply (n : Fin 4224) (q : Fin 1024) : dV A W h T g (ix3 (0 : Fin 1) n q) = errG A W h T g n q * cI := by
  unfold dV
  pointwise
  by_cases hn : n.val < 128
  · rw [dif_neg (by omega)]
    unfold errG
    rw [if_pos hn, zero_mul]
  · rw [dif_pos ⟨by omega, by omega⟩, deV_apply]
    refine congrArg (errG A W h T g · q * cI) (Fin.ext ?_)
    show 128 + (n.val - 128) = n.val
    omega
theorem uV_apply (n : Fin 4224) (q : Fin 1024) : uV A W h T g (ix3 (0 : Fin 1) n q) = uG A W h T g n q := by
  unfold uV
  pointwise
  rw [dV_apply, gV_apply]
  rfl
theorem tV_apply (n : Fin 4224) : tV A W h T g (ix3 (0 : Fin 1) n (0 : Fin 1)) = tR (uG A W h T g n) (rowG A W h n) := by
  unfold tV
  pointwise
  rw [rowSum_apply, nV_apply, rV_apply, vV_apply]
  unfold tR
  refine congrArg (Ideal.div · cN) (congrArg₂ (· * ·) (Finset.sum_congr rfl fun k _ => ?_) rfl)
  exact congrArg₂ (· * ·) (xV_apply A W h n k) (uV_apply A W h T g n k)
theorem red_mid (x : FVec Ideal S1x4224x1 .f32) (n : Fin 4224) :
    Ideal.hostReduceAdd reducesTo_S1x4224x1_S4224_d0_2 x 0 (ix1 n) = x (ix3 (0 : Fin 1) n (0 : Fin 1)) := by
  unfold Ideal.hostReduceAdd
  rw [zero_add]
  refine Finset.sum_eq_single_of_mem _ ?_ ?_
  · rw [Finset.mem_filter]
    refine ⟨Finset.mem_univ _, ?_⟩
    funext a
    fin_cases a
    exact Fin.ext (Shape.ReducesTo.drop_apply_val_of_eq reducesTo_S1x4224x1_S4224_d0_2 (ix3 (0 : Fin 1) n (0 : Fin 1)) 0 1)
  · intro i hi hne
    rw [Finset.mem_filter] at hi
    refine absurd ?_ hne
    have h1 : (i 1).val = n.val := (Shape.ReducesTo.drop_apply_val_of_eq reducesTo_S1x4224x1_S4224_d0_2 i 0 1).symm.trans (congrArg Fin.val (congrFun hi.2 0))
    have h0 : (i 0).val < 1 := (i 0).isLt
    have h2 : (i 2).val < 1 := (i 2).isLt
    funext a
    fin_cases a
    · exact Fin.ext (by show (i 0).val = 0; omega)
    · exact Fin.ext h1
    · exact Fin.ext (by show (i 2).val = 0; omega)
theorem red_one (x : FVec Ideal S1x1x1024 .f32) (q : Fin 1024) :
    Ideal.hostReduceAdd reducesTo_S1x1x1024_S1024_d0_1 x 0 (ix1 q) = x (ix3 (0 : Fin 1) (0 : Fin 1) q) := by
  unfold Ideal.hostReduceAdd
  rw [zero_add]
  refine Finset.sum_eq_single_of_mem _ ?_ ?_
  · rw [Finset.mem_filter]
    refine ⟨Finset.mem_univ _, ?_⟩
    funext a
    fin_cases a
    exact Fin.ext (Shape.ReducesTo.drop_apply_val_of_eq reducesTo_S1x1x1024_S1024_d0_1 (ix3 (0 : Fin 1) (0 : Fin 1) q) 0 2)
  · intro i hi hne
    rw [Finset.mem_filter] at hi
    refine absurd ?_ hne
    have h2 : (i 2).val = q.val := (Shape.ReducesTo.drop_apply_val_of_eq reducesTo_S1x1x1024_S1024_d0_1 i 0 2).symm.trans (congrArg Fin.val (congrFun hi.2 0))
    have h0 : (i 0).val < 1 := (i 0).isLt
    have h1 : (i 1).val < 1 := (i 1).isLt
    funext a
    fin_cases a
    · exact Fin.ext (by show (i 0).val = 0; omega)
    · exact Fin.ext (by show (i 1).val = 0; omega)
    · exact Fin.ext h2
theorem twV_apply (n : Fin 4224) (q : Fin 1024) : twV A W h T g (ix3 (0 : Fin 1) n q) = tR (uG A W h T g n) (rowG A W h n) := by
  unfold twV
  pointwise
  rw [red_mid, tV_apply]
theorem dhV_apply (n : Fin 4224) (q : Fin 1024) : dhV A W h T g (ix3 (0 : Fin 1) n q) = dhK (uG A W h T g n) (rowG A W h n) q := by
  show uV A W h T g (ix3 (0 : Fin 1) n q) * wide (rV A W h) (ix3 (0 : Fin 1) n q) + xV A W h (ix3 (0 : Fin 1) n q) * twV A W h T g (ix3 (0 : Fin 1) n q)
    + twV A W h T g (ix3 (0 : Fin 1) n q) * xV A W h (ix3 (0 : Fin 1) n q) = _
  rw [xV_apply, uV_apply, wide_apply, rV_apply, twV_apply]
  exact core (uG A W h T g n) (rowG A W h n) q

theorem R1_eq : R1 A W h T g = G8 A W h T g := by
  funext y
  obtain ⟨p, q, rfl⟩ : ∃ (p : Fin 4224) (q : Fin 1024), y = ix2 p q := ⟨y 0, y 1, eq_ix2 y⟩
  unfold R1
  pointwise
  exact dhV_apply A W h T g p q
theorem R2_eq : R2 A W h T g = G9 A W h T g := R1_eq A W h T g
theorem R3_eq : R3 A W h T g = G10 A W h T g := by
  funext y
  obtain ⟨q, rfl⟩ : ∃ q : Fin 1024, y = ix2 (0 : Fin 1) q := ⟨y 1, (eq_ix2 y).trans (congrArg (ix2 · (y 1)) (Subsingleton.elim _ _))⟩
  unfold R3
  pointwise
  rw [red_one]
  pointwise
  refine Finset.sum_congr rfl fun n _ => ?_
  rw [dV_apply, yV_apply]
  exact mul_comm _ _
/-- The prefix adds nothing to the loss. -/
theorem sum_rows : ∑ n : Fin 4224, partL A W h T g n = ∑ n : Fin 4096, partL A W h T g ⟨128 + n.val, by omega⟩ := by
  have e : ∑ n : Fin 4224, partL A W h T g n = ∑ n : Fin 128, partL A W h T g ⟨n.val, by omega⟩ + ∑ n : Fin 4096, partL A W h T g ⟨128 + n.val, by omega⟩ :=
    Fin.sum_univ_add (a := 128) (b := 4096) (partL A W h T g)
  have z : ∀ n : Fin 128, partL A W h T g ⟨n.val, by omega⟩ = 0 := fun n => by
    have hz : ∀ k, errG A W h T g ⟨n.val, by omega⟩ k = 0 := fun k => if_pos n.isLt
    unfold partL
    simp [hz, div_cN]
  rw [e, Finset.sum_eq_zero fun n _ => z n, zero_add]
theorem R0_eq : R0 A W h T g = G7 A W h T g := by
  funext y
  unfold R0 G7
  rw [sum_rows]
  obtain ⟨a, b, rfl⟩ : ∃ (a : Fin 8) (b : Fin 128), y = ix2 a b := ⟨y 0, y 1, eq_ix2 y⟩
  pointwise
  rw [mul_comm]
  refine congrArg (· * cF) ((Fintype.sum_unique _).trans (Finset.sum_congr rfl fun n _ => congrArg (Ideal.div · cN) (Finset.sum_congr rfl fun k _ => ?_)))
  rw [eV_apply]

end

end Cert.DownLossRefIdeal.Nb

end
-- ==== Proof.Norm.OutNorm.lean ====
/- The output projection with the residual and the norm: what the kernel's two arrays hold, and that the reference's hold the same. -/
module

public import proofs.«01_k».proof.Proof.Norm.Row
public import proofs.«01_k».proof.Proof.Gen.OutNormIdeal.Value
public import proofs.«01_k».proof.Proof.Gen.OutNormRefIdeal.Run
public import Idealize.ShloMosaic.PureOps.Ideal
public import Idealize.ShloMosaic.Lib.Pointwise
public import Idealize.ShloMosaic.Lib.Pipeline.Value
public import Idealize.ShloMosaic.Lib.Pipeline.ValueKit.Tiles
public meta import Idealize.ShloMosaic.Lib.Pipeline.ValueKit.Acc
public import Idealize.ShloMosaic.Lib.Pipeline.ValueKit.Acc
public import Idealize.ShloMosaic.Lib.StableHlo.ReadAt
public meta import Idealize.ShloMosaic.Lib.Pipeline.ValueKit.Geometry
public import Idealize.ShloMosaic.Lib.Pipeline.ValueKit.Geometry

@[expose] public section

set_option maxRecDepth 16384

noncomputable section

namespace Cert.OutNormIdeal.Nb

open Idealize.ShloMosaic Gen Idealize.ShloMosaic.TcCoe Idealize.ShloMosaic.Tactic Idealize.SL.Sem
open Idealize.ShloMosaic.Pipeline (Dat)
open Cert.Norm (rr cN cEps vv)

section
variable (A : FVec Ideal S4224x1024 .bf16) (W : FVec Ideal S1024x1024 .bf16) (h : FVec Ideal S4224x1024 .f32) (g : FVec Ideal S1x1024 .f32)

/-- A row after the residual. -/
def hG (n : Fin 4224) : Fin 1024 → EReal := fun q => ∑ k : Fin 1024, A (ix2 n k) * W (ix2 k q) + h (ix2 n q)
def G4 : FVec Ideal S4224x1024 .f32 := fun y => hG A W h (y 0) (y 1)
/-- The row normed, times the gain. -/
def G5 : FVec Ideal S4224x1024 .bf16 := fun y => hG A W h (y 0) (y 1) * rr (hG A W h (y 0)) * g (ix2 (0 : Fin 1) (y 1))
end

theorem z2 : (![0, 0] : Fin 2 → ℕ) = fun _ => 0 := by funext a; fin_cases a <;> rfl

section
variable (x0 : Vec Ideal S384x1024 .bf16) (x1 : Vec Ideal S1024x1024 .bf16) (x2 : Vec Ideal S384x1024 .f32) (x3 : Vec Ideal S1x1024 .f32)

def hB (p : Fin 384) : Fin 1024 → EReal := fun q => ∑ k : Fin 1024, x0 (ix2 p k) * x1 (ix2 k q) + x2 (ix2 p q)
def nB (p : Fin 384) (q : Fin 1024) : EReal := hB x0 x1 x2 p q * rr (hB x0 x1 x2 p) * x3 (ix2 (0 : Fin 1) q)
theorem pay1_apply (p : Fin 384) (q : Fin 1024) : k0_pay1 x0 x1 x2 (ix2 p q) = hB x0 x1 x2 p q := by
  unfold k0_pay1
  pointwise
  rfl
theorem pay2_apply (p : Fin 384) (q : Fin 1024) : k0_pay2 x0 x1 x2 x3 (ix2 p q) = nB x0 x1 x2 x3 p q := by
  unfold k0_pay2
  pointwise
  simp only [pay1_apply]
  rfl
theorem out4 (p : Fin 384) (q : Fin 1024) : out0_4 x0 x1 x2 x3 (ix2 p q) = hB x0 x1 x2 p q := by
  unfold out0_4
  rw [View.canon_unit_zero z2, View.ld_unit_zero z2, View.ld_unit_zero z2, View.ld_unit_zero z2]
  exact pay1_apply _ _ _ p q
theorem out5 (p : Fin 384) (q : Fin 1024) : out0_5 x0 x1 x2 x3 (ix2 p q) = nB x0 x1 x2 x3 p q := by
  unfold out0_5
  rw [View.canon_unit_zero z2, View.ld_unit_zero z2, View.ld_unit_zero z2, View.ld_unit_zero z2, View.ld_unit_zero z2]
  exact pay2_apply _ _ _ _ p q
end

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] := by
  decide +kernel
/-- A row of the array, from its tile and its place there. -/
def rowOf (t : Fin cfg0.N) (p : Fin 384) : Fin 4224 := ⟨384 * t.val + p.val, by have : t.val < 11 := t.isLt; omega⟩

theorem h_blk (c : Dev nD) (t : Fin cfg0.N) (p : Fin 384) : hB (iblk m c 0 t) (iblk m c 1 t) (iblk m c 2 t) p
    = hG (m ((c : Thread nD τ).loc main_arg0)) (m ((c : Thread nD τ).loc main_arg1)) (m ((c : Thread nD τ).loc main_arg2)) (rowOf t p) := by
  funext q
  unfold hB hG rowOf
  rw [← V_main_arg0 m c, ← V_main_arg1 m c, ← V_main_arg2 m c]
  refine congrArg₂ (· + ·) (Finset.sum_congr rfl fun k _ => congrArg₂ (· * ·) ?_ ?_) ?_
  · blk_ext [iblk, idx t]
  · blk_ext [iblk, idx t]
  · blk_ext [iblk, idx t]
theorem g_blk (c : Dev nD) (t : Fin cfg0.N) (q : Fin 1024) : iblk m c 3 t (ix2 (0 : Fin 1) q) = m ((c : Thread nD τ).loc main_arg3) (ix2 (0 : Fin 1) q) := by
  rw [← V_main_arg3 m c]
  blk_ext [iblk, idx t]

theorem arr4 (c : Dev nD) : (dats m 0 c).arrAt 4 cfg0.N = G4 (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  obtain ⟨p, q, rfl⟩ : ∃ (p : Fin 384) (q : Fin 1024), y = ix2 p q := ⟨y 0, y 1, eq_ix2 y⟩
  have e2 : (win0_4.blk t).view.emb (ix2 p q) = ix2 (rowOf t p) q := by unfold rowOf; blk_ext [idx t]
  refine (out4 _ _ _ _ p q).trans ((congrFun (h_blk m c t p) q).trans ?_)
  refine Eq.trans ?_ (congrArg (G4 _ _ _) e2.symm)
  rfl
theorem arr5 (c : Dev nD) : (dats m 0 c).arrAt 5 cfg0.N = G5 (m ((c : Thread nD τ).loc main_arg0)) (m ((c : Thread nD τ).loc main_arg1)) (m ((c : Thread nD τ).loc main_arg2))
    (m ((c : Thread nD τ).loc main_arg3)) := by
  refine (dats m 0 c).arrAt_eq_of_covers 5 _ (by decide +kernel) fun t hf y => ?_
  blk_simp
  rw [after0_5]
  obtain ⟨p, q, rfl⟩ : ∃ (p : Fin 384) (q : Fin 1024), y = ix2 p q := ⟨y 0, y 1, eq_ix2 y⟩
  have e2 : (win0_5.blk t).view.emb (ix2 p q) = ix2 (rowOf t p) q := by unfold rowOf; blk_ext [idx t]
  refine (out5 _ _ _ _ p q).trans ?_
  refine Eq.trans ?_ (congrArg (G5 _ _ _ _) e2.symm)
  unfold nB
  rw [h_blk]
  exact congrArg₂ (· * ·) rfl (g_blk m c t q)

end Cert.OutNormIdeal.Nb

namespace Cert.OutNormRefIdeal.Nb

open Idealize.ShloMosaic Gen Idealize.ShloMosaic.TcCoe Idealize.ShloMosaic.Tactic Idealize.SL.Sem
open Cert.Norm (rr cN cEps vv)
open Cert.OutNormIdeal.Nb (hG G4 G5)

section
variable (A : FVec Ideal S4224x1024 .bf16) (W : FVec Ideal S1024x1024 .bf16) (h : FVec Ideal S4224x1024 .f32) (g : FVec Ideal S1x1024 .f32)

/-- The rows after the residual. -/
def hV : FVec Ideal S1x4224x1024 .f32 :=
  addf (broadcastInDim S1x4224x1024 ![1, 2] bcast_S4224x1024_S1x4224x1024_1_2 h) (Host.dotGeneral dot_S1x4224x1024_S1024x1024_S1x4224x1024_2_0_01_1_n_n none (broadcastInDim S1x4224x1024 ![1, 2] bcast_S4224x1024_S1x4224x1024_1_2 (extf .f32 A bitsLt_bf16_f32)) (extf .f32 W bitsLt_bf16_f32))
def rV (x : FVec Ideal S1x4224x1024 .f32) : FVec Ideal S1x4224x1 .f32 :=
  Host.rsqrt (addf (Host.divf (broadcastInDim S1x4224x1 ![0, 1] bcast_S1x4224_S1x4224x1_0_1 (Host.reduceAdd (mulf x x) (constant S_ .f32 0x00000000#32) reducesTo_S1x4224x1024_S1x4224_d2 h_S_)) (broadcastInDim S1x4224x1 ![] bcast_S_S1x4224x1 (constant S_ .f32 0x44800000#32))) (broadcastInDim S1x4224x1 ![] bcast_S_S1x4224x1 (constant S_ .f32 0x358637BD#32)))
def R4 : FVec Ideal S4224x1024 .f32 := shapeCast _ (hV A W h) shapeCasts_S1x4224x1024_S4224x1024
def R5 : FVec Ideal S4224x1024 .bf16 :=
  truncf .bf16 (shapeCast _ (mulf (mulf (hV A W h) (broadcastInDim S1x4224x1024 ![0, 1, 2] bcast_S1x4224x1_S1x4224x1024_0_1_2 (rV (hV A W h)))) (broadcastInDim S1x4224x1024 ![0, 1, 2] bcast_S1x1x1024_S1x4224x1024_0_1_2 (broadcastInDim S1x1x1024 ![1, 2] bcast_S1x1024_S1x1x1024_1_2 g))) shapeCasts_S1x4224x1024_S4224x1024) bitsLt_bf16_f32

theorem hV_apply (n : Fin 4224) (q : Fin 1024) : hV A W h (ix3 (0 : Fin 1) n q) = hG A W h n q := by
  unfold hV
  pointwise
  exact add_comm _ _
theorem rV_apply (n : Fin 4224) : rV (hV A W h) (ix3 (0 : Fin 1) n (0 : Fin 1)) = rr (hG A W h n) := by
  unfold rV
  pointwise
  simp only [hV_apply]
  rfl
theorem R4_eq : R4 A W h = G4 A W h := by
  funext y
  obtain ⟨p, q, rfl⟩ : ∃ (p : Fin 4224) (q : Fin 1024), y = ix2 p q := ⟨y 0, y 1, eq_ix2 y⟩
  unfold R4
  pointwise
  exact hV_apply A W h p q
theorem R5_eq : R5 A W h g = G5 A W h g := by
  funext y
  obtain ⟨p, q, rfl⟩ : ∃ (p : Fin 4224) (q : Fin 1024), y = ix2 p q := ⟨y 0, y 1, eq_ix2 y⟩
  unfold R5
  pointwise
  rw [rV_apply, hV_apply]
  rfl
end

end Cert.OutNormRefIdeal.Nb

end
-- ==== Proof.Mm.Proj.lean ====
/- The input projection: what the kernel's array holds, and that the reference's holds the same. -/
module

public import proofs.«01_k».proof.Proof.Gen.MmInIdeal.Value
public import proofs.«01_k».proof.Proof.Gen.MmInRefIdeal.Run
public import Idealize.ShloMosaic.PureOps.Ideal
public import Idealize.ShloMosaic.Lib.Pointwise
public import Idealize.ShloMosaic.Lib.Pipeline.Value
public import Idealize.ShloMosaic.Lib.Pipeline.ValueKit.Tiles
public meta import Idealize.ShloMosaic.Lib.Pipeline.ValueKit.Acc
public import Idealize.ShloMosaic.Lib.Pipeline.ValueKit.Acc
public import Idealize.ShloMosaic.Lib.StableHlo.ReadAt
public meta import Idealize.ShloMosaic.Lib.Pipeline.ValueKit.Geometry
public import Idealize.ShloMosaic.Lib.Pipeline.ValueKit.Geometry

@[expose] public section

set_option maxRecDepth 16384

noncomputable section

namespace Cert.MmInIdeal.Mm

open Idealize.ShloMosaic Gen Idealize.ShloMosaic.TcCoe Idealize.ShloMosaic.Tactic Idealize.SL.Sem
open Idealize.ShloMosaic.Pipeline (Dat)

/-- A token's row against a row of the weights. -/
def G (A : FVec Ideal S4224x1024 .bf16) (B : FVec Ideal S3200x1024 .bf16) : FVec Ideal S4224x3200 .f32 :=
  fun y => ∑ k : Fin 1024, A (ix2 (y 0) k) * B (ix2 (y 1) k)

theorem z2 : (![0, 0] : Fin 2 → ℕ) = fun _ => 0 := by funext a; fin_cases a <;> rfl

theorem out_eq (x0 : Vec Ideal S384x1024 .bf16) (x1 : Vec Ideal S3200x1024 .bf16) (p : Fin 384) (q : Fin 3200) :
    out0_2 x0 x1 (ix2 p q) = ∑ k : Fin 1024, x0 (ix2 p k) * x1 (ix2 q k) := by
  unfold out0_2
  rw [View.canon_unit_zero z2, View.ld_unit_zero z2, View.ld_unit_zero z2]
  unfold k0_pay1
  pointwise

variable (m : (ℓ : Loc nD τ sig) → Buf (Elt Ideal) ℓ)

theorem idx : ∀ t : Fin cfg0.N, win0_0.index t = ![t.val, 0] ∧ win0_1.index t = ![0, 0] ∧ win0_2.index t = ![t.val, 0] := by
  decide +kernel

theorem arr (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  obtain ⟨p, q, rfl⟩ : ∃ (p : Fin 384) (q : Fin 3200), y = ix2 p q := ⟨y 0, y 1, eq_ix2 y⟩
  refine (out_eq _ _ p q).trans ?_
  refine Finset.sum_congr rfl fun k _ => ?_
  refine congrArg₂ (· * ·) ?_ ?_
  · blk_ext [iblk, idx t]
  · blk_ext [iblk, idx t]

end Cert.MmInIdeal.Mm

namespace Cert.MmInRefIdeal.Mm

open Idealize.ShloMosaic Gen Idealize.ShloMosaic.TcCoe Idealize.ShloMosaic.Tactic Idealize.SL.Sem
open Cert.MmInIdeal.Mm (G)

/-- The reference's result. -/
def R (A : FVec Ideal S4224x1024 .bf16) (B : FVec Ideal S3200x1024 .bf16) : FVec Ideal S4224x3200 .f32 :=
  shapeCast _ (Host.dotGeneral dot_S1x4224x1024_S1024x3200_S1x4224x3200_2_0_01_1_n_n none (broadcastInDim S1x4224x1024 ![1, 2] bcast_S4224x1024_S1x4224x1024_1_2 (extf .f32 A bitsLt_bf16_f32)) (transpose S1024x3200 [1, 0] (extf .f32 B bitsLt_bf16_f32) transposes_S3200x1024_S1024x3200_1_0)) shapeCasts_S1x4224x3200_S4224x3200

theorem R_eq (A : FVec Ideal S4224x1024 .bf16) (B : FVec Ideal S3200x1024 .bf16) : R A B = G A B := by
  funext y
  obtain ⟨p, q, rfl⟩ : ∃ (p : Fin 4224) (q : Fin 3200), y = ix2 p q := ⟨y 0, y 1, eq_ix2 y⟩
  unfold R
  pointwise
  rfl

end Cert.MmInRefIdeal.Mm

end
-- ==== Proof.Up.Tile.lean ====
/- The arithmetic of one row tile of the up projection's kernel: the convolution over the tile's window of the activation branch,
   the gate, and the projection's rows. -/
module

public import proofs.«01_k».proof.Proof.Gen.UpConvIdeal.Skeleton
public import proofs.«01_k».proof.Proof.Dg.Math

@[expose] public section

set_option maxRecDepth 16384

noncomputable section

namespace Cert.UpConvIdeal.Up

open Idealize.ShloMosaic Gen
open Cert.DgConvIdeal.Dg (acc sg)

/-- A window: a tile's 384 rows behind a halo of 8. -/
abbrev VH := FVec Ideal S392x256 .f32
/-- A tile. -/
abbrev VT := FVec Ideal S384x256 .f32

/-- A row repeated down a window. -/
abbrev rep (w : Vec Ideal S1x256 .f32) : VH := broadcastTo S392x256 w broadcasts_S1x256_S392x256
/-- The window moved down by `n` rows, the last ones coming in at the top. -/
abbrev down (n : BitVec 32) (a : VH) : VH := dynamicRotate 0 n none a rotates_S392x256_d0
/-- The three taps and the bias. -/
abbrev convV (a : VH) (w0 w1 w2 cb : Vec Ideal S1x256 .f32) : VH :=
  addf (addf (addf (rep cb) (mulf (down 2#32 a) (rep (shapeCast S1x256 w0 shapeCasts_S1x256_S1x256))))
    (mulf (down 1#32 a) (rep (shapeCast S1x256 w1 shapeCasts_S1x256_S1x256)))) (mulf a (rep (shapeCast S1x256 w2 shapeCasts_S1x256_S1x256)))
/-- The tile's own rows of a window. -/
abbrev own (x : VH) : VT := extractStridedSlice S384x256 ![8, 0] x slices_S392x256_o8_0_S384x256
/-- One half, over a tile. -/
abbrev halfV : VT := broadcast S384x256 (Scalar.ofBits (F := Ideal) .f32 0x3F000000#32)
/-- The kernel's sigmoid of a tile. -/
abbrev sigT (x : VT) : VT := addf (mulf halfV (tanh (mulf halfV x))) halfV
/-- The gated rows of a tile: the convolution, its sigmoid, and the other branch. -/
abbrev gateV (a : VH) (w0 w1 w2 cb : Vec Ideal S1x256 .f32) (b : Vec Ideal S1x384x256 .f32) : FVec Ideal S384x256 .bf16 :=
  truncf .bf16 (mulf (mulf (own (convV a w0 w1 w2 cb)) (sigT (own (convV a w0 w1 w2 cb))))
    (shapeCast S384x256 b shapeCasts_S1x384x256_S384x256)) bitsLt_bf16_f32

/-- The window `a` holds the rows of `A` from `o` on. -/
def Holds (a : VH) (A : ℕ → Fin 256 → EReal) (o : ℕ) : Prop := ∀ (n : Fin 392) (q : Fin 256), a (ix2 n q) = A (o + n) q
/-- The row `r` is `w`. -/
def IsRow (r : Vec Ideal S1x256 .f32) (w : Fin 256 → EReal) : Prop := ∀ q : Fin 256, r (ix2 (0 : Fin 1) q) = w q

variable {A : ℕ → Fin 256 → EReal} {w0 w1 w2 cb : Fin 256 → EReal} {o : ℕ} {a : VH} {r0 r1 r2 rb : Vec Ideal S1x256 .f32}

theorem rep_apply (h : IsRow rb cb) (n : Fin 392) (q : Fin 256) : rep rb (ix2 n q) = cb q := by
  rw [← h q]; pointwise
theorem rep_cast_apply (h : IsRow r0 w0) (n : Fin 392) (q : Fin 256) :
    rep (shapeCast S1x256 r0 shapeCasts_S1x256_S1x256) (ix2 n q) = w0 q := by
  rw [← h q]; pointwise
theorem down1_apply (n : Fin 392) (q : Fin 256) (hn : 2 ≤ n.val) : down 1#32 a (ix2 n q) = a (ix2 ⟨n.val - 1, by omega⟩ q) := by
  pointwise
  refine congrArg (fun k => a (ix2 k q)) (Fin.ext ?_)
  show (n.val + 392 - 1) % 392 = n.val - 1
  omega
theorem down2_apply (n : Fin 392) (q : Fin 256) (hn : 2 ≤ n.val) : down 2#32 a (ix2 n q) = a (ix2 ⟨n.val - 2, by omega⟩ q) := by
  pointwise
  refine congrArg (fun k => a (ix2 k q)) (Fin.ext ?_)
  show (n.val + 392 - 2) % 392 = n.val - 2
  omega
theorem own_apply (x : VH) (n : Fin 384) (q : Fin 256) : own x (ix2 n q) = x (ix2 ⟨8 + n.val, by omega⟩ q) := by
  pointwise
theorem conv_apply (ha : Holds a A o) (h0 : IsRow r0 w0) (h1 : IsRow r1 w1) (h2 : IsRow r2 w2) (hb : IsRow rb cb) (n : Fin 384) (q : Fin 256) :
    own (convV a r0 r1 r2 rb) (ix2 n q) = acc A w0 w1 w2 cb (o + 8 + n) q := by
  refine (own_apply _ n q).trans ?_
  generalize hm : (⟨8 + n.val, by omega⟩ : Fin 392) = m
  have e : m.val = 8 + n.val := by rw [← hm]
  show rep rb (ix2 m q) + down 2#32 a (ix2 m q) * rep (shapeCast S1x256 r0 shapeCasts_S1x256_S1x256) (ix2 m q)
    + down 1#32 a (ix2 m q) * rep (shapeCast S1x256 r1 shapeCasts_S1x256_S1x256) (ix2 m q)
    + a (ix2 m q) * rep (shapeCast S1x256 r2 shapeCasts_S1x256_S1x256) (ix2 m q) = _
  rw [rep_apply hb, rep_cast_apply h0, rep_cast_apply h1, rep_cast_apply h2, down1_apply m q (by omega), down2_apply m q (by omega), ha, ha, ha]
  unfold acc
  rw [show o + (m.val - 2) = o + 8 + n.val - 2 by omega, show o + (m.val - 1) = o + 8 + n.val - 1 by omega, show o + m.val = o + 8 + n.val by omega]

theorem gate_apply (ha : Holds a A o) (h0 : IsRow r0 w0) (h1 : IsRow r1 w1) (h2 : IsRow r2 w2) (hb : IsRow rb cb) (b : Vec Ideal S1x384x256 .f32)
    (n : Fin 384) (q : Fin 256) :
    gateV a r0 r1 r2 rb b (ix2 n q)
      = acc A w0 w1 w2 cb (o + 8 + n) q * sg (acc A w0 w1 w2 cb (o + 8 + n) q) * b (ix3 (0 : Fin 1) n q) := by
  show own (convV a r0 r1 r2 rb) (ix2 n q) * sg (own (convV a r0 r1 r2 rb) (ix2 n q))
    * shapeCast S384x256 b shapeCasts_S1x384x256_S384x256 (ix2 n q) = _
  rw [conv_apply ha h0 h1 h2 hb]
  refine congrArg _ ?_
  pointwise

/-- The kernel's sigmoid is the logistic function, at the infinities too. -/
theorem sg_all (x : EReal) : sg x = Ideal.logistic x := by
  have hc : Ideal.ofBits .f32 0x3F000000#32 = ((1 / 2 : ℝ) : EReal) := by
    simp [Ideal.ofBits, Ideal.ieee, -EReal.coe_mul]; norm_num
  have hp : (0 : EReal) < ((1 / 2 : ℝ) : EReal) := by exact_mod_cast (by norm_num : (0 : ℝ) < 1 / 2)
  induction x using EReal.rec with
  | bot =>
    have e : Ideal.logistic ⊥ = 0 := by
      unfold Ideal.logistic
      show Ideal.div 1 (1 + Ideal.exp (-⊥)) = 0
      rw [EReal.neg_bot]
      show Ideal.div 1 (1 + ⊤) = 0
      rw [EReal.add_top_of_ne_bot (by decide)]
      simp [Ideal.div]
    rw [e]
    unfold sg
    rw [hc, EReal.mul_bot_of_pos hp]
    show ((1 / 2 : ℝ) : EReal) * (-1) + ((1 / 2 : ℝ) : EReal) = 0
    rw [show (-1 : EReal) = ((-1 : ℝ) : EReal) by rw [EReal.coe_neg, EReal.coe_one], ← EReal.coe_mul, ← EReal.coe_add]
    norm_num
  | top =>
    have e : Ideal.logistic ⊤ = 1 := by
      unfold Ideal.logistic
      rw [EReal.neg_top]
      show Ideal.div 1 (1 + 0) = 1
      rw [add_zero]
      simp [Ideal.div]
    rw [e]
    unfold sg
    rw [hc, EReal.mul_top_of_pos hp]
    show ((1 / 2 : ℝ) : EReal) * 1 + ((1 / 2 : ℝ) : EReal) = 1
    rw [mul_one, ← EReal.coe_add]
    norm_num
  | coe r => exact Cert.DgConvRefIdeal.Dg.sg_eq ⟨r, rfl⟩

end Cert.UpConvIdeal.Up
-- ==== Proof.Up.Win.lean ====
/- What the tiles of the up projection's kernel read back: the rows of the two branches which the tiles before have stored in the
   kernel's own output. -/
module

public import proofs.«01_k».proof.Proof.Up.Tile
public import Idealize.ShloMosaic.Lib.Pipeline.Value
public import Idealize.ShloMosaic.Lib.Pipeline.ValueKit.Tiles

@[expose] public section

set_option maxRecDepth 16384

noncomputable section

namespace Cert.UpConvIdeal.Up

open Idealize.ShloMosaic Gen

variable (x0 : Vec Ideal S4224x1024 .bf16) (x1 x2 : Vec Ideal S1x256x1024 .bf16)

/-- One element of a branch: a token's row against a channel's. -/
def pr (w : Vec Ideal S1x256x1024 .bf16) (n : Fin 4224) (q : Fin 256) : EReal := ∑ k : Fin 1024, x0 (ix2 n k) * w (ix3 (0 : Fin 1) q k)
/-- The two branches, as the output holds them. -/
def upOf (y : S2x4224x256.Idx) : EReal := if (y 0).val = 0 then pr x0 x1 (y 1) (y 2) else pr x0 x2 (y 1) (y 2)
/-- The activation branch with 8 rows of zeros before it, and zero at the padding rows. -/
def hA (s : ℕ) (q : Fin 256) : EReal := if h : 120 ≤ s ∧ s < 4232 then pr x0 x1 (⟨s - 8, by omega⟩ : Fin 4224) q else 0

/-- A tile of a branch. -/
abbrev projV (v : Vec Ideal S384x1024 .bf16) (w : Vec Ideal S1x256x1024 .bf16) : FVec Ideal S1x384x256 .f32 :=
  shapeCast S1x384x256 (matmul (φ₁ := .bf16) (φ₂ := .bf16) dot_S384x1024_S256x1024_S384x256_1_1_0_0_n_n none v
    (shapeCast S256x1024 w shapeCasts_S1x256x1024_S256x1024) (constant S384x256 .f32 0x00000000#32)) shapeCasts_S384x256_S1x384x256

theorem projV_apply (v : Vec Ideal S384x1024 .bf16) (w : Vec Ideal S1x256x1024 .bf16) (u : Fin 1) (n : Fin 384) (q : Fin 256) :
    projV v w (ix3 u n q) = ∑ k : Fin 1024, v (ix2 n k) * w (ix3 (0 : Fin 1) q k) := by
  pointwise

theorem in2 (k : ℕ) (hk : k < 11) (a : Fin 2) : (![384 * k, 0] : Fin 2 → ℕ) a + (![384, 1024] : Fin 2 → ℕ) a ≤ (![4224, 1024] : Fin 2 → ℕ) a := by
  fin_cases a <;> simp <;> omega
theorem in3 (b k : ℕ) (hb : b < 2) (hk : k < 11) (a : Fin 3) :
    (![b, 384 * k, 0] : Fin 3 → ℕ) a + (![1, 384, 256] : Fin 3 → ℕ) a ≤ (![2, 4224, 256] : Fin 3 → ℕ) a := by
  fin_cases a <;> simp <;> omega

/-- The store of tile `k` of a branch. -/
def pc (b : ℕ) (hb : b < 2) (w : Vec Ideal S1x256x1024 .bf16) (k : ℕ) (hk : k < 11) : View.Piece (Elt Ideal) S2x4224x256 .f32 :=
  ⟨Rect.unit ![b, 384 * k, 0] ![1, 384, 256] (in3 b k hb hk),
    projV (View.ld x0 (Rect.unit (s := S4224x1024) ![384 * k, 0] ![384, 1024] (in2 k hk))) w⟩
/-- The stores of the tiles up to `k`, last first. -/
def pcs : (k : ℕ) → k < 11 → List (View.Piece (Elt Ideal) S2x4224x256 .f32)
  | 0, h => [pc x0 1 Nat.one_lt_two x2 0 h, pc x0 0 Nat.zero_lt_two x1 0 h]
  | k + 1, h => pc x0 1 Nat.one_lt_two x2 (k + 1) h :: pc x0 0 Nat.zero_lt_two x1 (k + 1) h :: pcs k (Nat.lt_of_succ_lt h)

theorem at2 (M W N p : ℕ) (h) (n : Fin N) (q : Fin W) (hp : p + N ≤ M) :
    (Rect.unit (s := ⟨2, ![M, W]⟩) ![p, 0] ![N, W] h).idx (ix2 n q) = ix2 (⟨p + n.val, by omega⟩ : Fin M) q := by
  funext a
  apply Fin.ext
  fin_cases a <;> simp [Rect.idx_unit_val]
theorem at3 (N b p : ℕ) (hb : b < 2) (hp : p + N ≤ 4224) (h) (u : Fin 1) (n : Fin N) (q : Fin 256) :
    (Rect.unit (s := S2x4224x256) ![b, p, 0] ![1, N, 256] h).idx (ix3 u n q) = ix3 (⟨b, hb⟩ : Fin 2) (⟨p + n.val, by omega⟩ : Fin 4224) q := by
  funext a
  apply Fin.ext
  have hu : u.val = 0 := by omega
  fin_cases a <;> simp [Rect.idx_unit_val, hu]
theorem all3 {p : S1x384x256.Idx → Prop} (h : ∀ (u : Fin 1) (n : Fin 384) (q : Fin 256), p (ix3 u n q)) (x) : p x := by
  have hx : x = ix3 (x 0) (x 1) (x 2) := by funext a; fin_cases a <;> rfl
  rw [hx]; exact h _ _ _

theorem proj_ld (w : Vec Ideal S1x256x1024 .bf16) (p : ℕ) (hp : p + 384 ≤ 4224) (h) (u : Fin 1) (n : Fin 384) (q : Fin 256) :
    projV (View.ld x0 (Rect.unit (s := S4224x1024) ![p, 0] ![384, 1024] h)) w (ix3 u n q) = pr x0 w (⟨p + n.val, by omega⟩ : Fin 4224) q :=
  (projV_apply _ w u n q).trans (Finset.sum_congr rfl fun (j : Fin 1024) _ =>
    congrArg (fun z : EReal => z * w (ix3 (0 : Fin 1) q j)) (congrArg x0 (at2 4224 1024 384 p h n j hp)))

theorem pc0_eq (k : ℕ) (hk : k < 11) : ∀ x : S1x384x256.Idx, (pc x0 0 Nat.zero_lt_two x1 k hk).2 x = upOf x0 x1 x2 ((pc x0 0 Nat.zero_lt_two x1 k hk).1.emb x) := by
  refine all3 fun u n q => ?_
  have e : (pc x0 0 Nat.zero_lt_two x1 k hk).1.emb (ix3 u n q) = _ := at3 384 0 (384 * k) (by omega) (by omega) (in3 0 k (by omega) hk) u n q
  rw [e]
  exact proj_ld x0 x1 (384 * k) (by omega) (in2 k hk) u n q
theorem pc1_eq (k : ℕ) (hk : k < 11) : ∀ x : S1x384x256.Idx, (pc x0 1 Nat.one_lt_two x2 k hk).2 x = upOf x0 x1 x2 ((pc x0 1 Nat.one_lt_two x2 k hk).1.emb x) := by
  refine all3 fun u n q => ?_
  have e : (pc x0 1 Nat.one_lt_two x2 k hk).1.emb (ix3 u n q) = _ := at3 384 1 (384 * k) (by omega) (by omega) (in3 1 k (by omega) hk) u n q
  rw [e]
  exact proj_ld x0 x2 (384 * k) (by omega) (in2 k hk) u n q

theorem pc_mem (b : ℕ) (hb : b < 2) (w : Vec Ideal S1x256x1024 .bf16) (k : ℕ) (hk : k < 11) (y : S2x4224x256.Idx) (h0 : (y 0).val = b)
    (h1 : 384 * k ≤ (y 1).val) (h2 : (y 1).val < 384 * k + 384) : y ∈ (pc x0 b hb w k hk).1.set := by
  refine (Rect.mem_set_unit (s := S2x4224x256) (off := ![b, 384 * k, 0]) (size := ![1, 384, 256]) (inb := in3 b k hb hk)).mpr fun a => ?_
  have hy := (y 2).isLt
  fin_cases a
  · exact ⟨h0.ge, by show (y 0).val < b + 1; omega⟩
  · exact ⟨h1, h2⟩
  · exact ⟨Nat.zero_le _, by simpa using hy⟩

theorem pcs_eq : ∀ (k : ℕ) (hk : k < 11), ∀ p ∈ pcs x0 x1 x2 k hk, ∀ x : p.1.shape.Idx, p.2 x = upOf x0 x1 x2 (p.1.emb x)
  | 0, h, p, hp => by
    rcases List.mem_cons.mp hp with rfl | hp
    · exact pc1_eq x0 x1 x2 0 h
    · obtain rfl : p = pc x0 0 Nat.zero_lt_two x1 0 h := by simpa using hp
      exact pc0_eq x0 x1 x2 0 h
  | k + 1, h, p, hp => by
    rcases List.mem_cons.mp hp with rfl | hp
    · exact pc1_eq x0 x1 x2 (k + 1) h
    rcases List.mem_cons.mp hp with rfl | hp
    · exact pc0_eq x0 x1 x2 (k + 1) h
    · exact pcs_eq k _ p hp

theorem pcs_cover : ∀ (k : ℕ) (hk : k < 11) (y : S2x4224x256.Idx), (y 1).val < 384 * (k + 1) → ∃ p ∈ pcs x0 x1 x2 k hk, y ∈ p.1.set
  | 0, h, y, hy => by
    have hb : (y 0).val < 2 := (y 0).isLt
    by_cases h0 : (y 0).val = 0
    · exact ⟨pc x0 0 Nat.zero_lt_two x1 0 h, by simp [pcs], pc_mem x0 0 _ x1 0 h y h0 (by omega) (by omega)⟩
    · exact ⟨pc x0 1 Nat.one_lt_two x2 0 h, by simp [pcs], pc_mem x0 1 _ x2 0 h y (by omega) (by omega) (by omega)⟩
  | k + 1, h, y, hy => by
    have hb : (y 0).val < 2 := (y 0).isLt
    by_cases hk : (y 1).val < 384 * (k + 1)
    · obtain ⟨p, hp, hy⟩ := pcs_cover k (Nat.lt_of_succ_lt h) y hk
      exact ⟨p, List.mem_cons_of_mem _ (List.mem_cons_of_mem _ hp), hy⟩
    by_cases h0 : (y 0).val = 0
    · exact ⟨pc x0 0 Nat.zero_lt_two x1 (k + 1) h, by simp [pcs], pc_mem x0 0 _ x1 (k + 1) h y h0 (by omega) (by omega)⟩
    · exact ⟨pc x0 1 Nat.one_lt_two x2 (k + 1) h, by simp [pcs], pc_mem x0 1 _ x2 (k + 1) h y (by omega) (by omega) (by omega)⟩

theorem same_apply (x : VH) (n : Fin 392) (q : Fin 256) : shapeCast S392x256 x shapeCasts_S392x256_S392x256 (ix2 n q) = x (ix2 n q) := by
  pointwise

section
variable {sp : Space} {v : View sig .tc sp S2x4224x256 .f32} {L : List (View.Piece (Elt Ideal) S2x4224x256 .f32)}

/-- A read of rows already stored, at the place it reads. -/
theorem read_at (k : ℕ) (hk : k < 11) (hL : L = pcs x0 x1 x2 k hk) (r : LoadRect S2x4224x256) (i : r.shape.Idx) (y : S2x4224x256.Idx)
    (hi : r.idx i = y) (hy : (y 1).val < 384 * (k + 1)) : v.readCov L r i = upOf x0 x1 x2 y := by
  subst hL hi
  rw [View.readCov_eq_canon']
  exact View.canon_apply_of_pieces (upOf x0 x1 x2) _ (pcs_eq x0 x1 x2 k hk) _ (pcs_cover x0 x1 x2 k hk (r.idx i) hy)

theorem read_b (k : ℕ) (hk : k < 11) (hL : L = pcs x0 x1 x2 k hk) (p : ℕ) (hp : p + 384 ≤ 384 * (k + 1)) (h) (n : Fin 384) (q : Fin 256) :
    v.readCov L (Rect.unit (s := S2x4224x256) ![1, p, 0] ![1, 384, 256] h).toLoadRect (ix3 (0 : Fin 1) n q)
      = pr x0 x2 (⟨p + n.val, by omega⟩ : Fin 4224) q :=
  read_at x0 x1 x2 k hk hL _ _ (ix3 (1 : Fin 2) (⟨p + n.val, by omega⟩ : Fin 4224) q) (at3 384 1 p (by omega) (by omega) h 0 n q)
    (by show p + n.val < _; omega)

theorem read_a (k : ℕ) (hk : k < 11) (hL : L = pcs x0 x1 x2 k hk) (N p : ℕ) (hp : p + N ≤ 384 * (k + 1)) (h g e0 e1 hs hR) (n : Fin N) (q : Fin 256) :
    LoadRect.valAlong (lr := (Rect.unit (s := S4224x256) ![p, 0] ![N, 256] h).toLoadRect) hR
      (v.readCov L ((Rect.unit (s := S2x4224x256) ![0, 0, 0] ![1, 4224, 256] g).withinL
        ((Rect.unit (s := S4224x256) ![p, 0] ![N, 256] h).toLoadRect.consLift ![1, 4224, 256] e0 e1) hs)) (ix2 n q)
      = pr x0 x1 (⟨p + n.val, by omega⟩ : Fin 4224) q := by
  refine read_at x0 x1 x2 k hk hL _ _ (ix3 (0 : Fin 2) (⟨p + n.val, by omega⟩ : Fin 4224) q) ?_ (by show p + n.val < _; omega)
  have e : Shape.reshapeEquiv hR (ix2 n q) = Fin.cons ⟨0, Nat.one_pos⟩ (ix2 n q) := Shape.reshapeEquiv_cons_one (d := ![N, 256]) _ _
  rw [e]
  funext a
  apply Fin.ext
  fin_cases a
  · rfl
  · show 0 + p + 1 * n.val = p + n.val
    omega
  · show 0 + 0 + 1 * q.val = q.val
    omega

/-- A window inside the array. -/
theorem holds_mid (k : ℕ) (hk : k < 11) (hL : L = pcs x0 x1 x2 k hk) (p : ℕ) (h1 : 112 ≤ p) (h2 : p + 392 ≤ 384 * (k + 1)) (h g e0 e1 hs hR) :
    Holds (shapeCast S392x256 (LoadRect.valAlong (lr := (Rect.unit (s := S4224x256) ![p, 0] ![392, 256] h).toLoadRect) hR
      (v.readCov L ((Rect.unit (s := S2x4224x256) ![0, 0, 0] ![1, 4224, 256] g).withinL
        ((Rect.unit (s := S4224x256) ![p, 0] ![392, 256] h).toLoadRect.consLift ![1, 4224, 256] e0 e1) hs)))
      shapeCasts_S392x256_S392x256) (hA x0 x1) (p + 8) := fun n q => by
  refine (same_apply _ n q).trans ?_
  refine (read_a x0 x1 x2 k hk hL 392 p h2 h g e0 e1 hs hR n q).trans ?_
  unfold hA
  rw [dif_pos ⟨by omega, by omega⟩]
  refine congrArg (fun i => pr x0 x1 i q) (Fin.ext ?_)
  show p + n.val = p + 8 + n.val - 8
  omega
end

/-- The first window: zeros before the array's first rows, the padding rows masked. -/
abbrev firstV (v : Vec Ideal S384x256 .f32) : VH :=
  select (broadcastTo S392x256 (shapeCast S392x1 (cmpi .sge (addi (broadcast S392x1 4294967288#32)
      (iota .tc S392x1 32 [0] iota_S392x1_d0_w32)) (broadcast S392x1 112#32)) shapeCasts_S392x1_S392x1) broadcasts_S392x1_S392x256)
    (concatenate S392x256 0 [⟨S8x256, broadcast S8x256 (Scalar.ofBits (F := Ideal) .f32 0x00000000#32)⟩,
      ⟨S384x256, shapeCast S384x256 v shapeCasts_S384x256_S384x256⟩] concatenates_S8x256_S384x256_S392x256_d0)
    (broadcast S392x256 (Scalar.ofBits (F := Ideal) .f32 0x00000000#32))

theorem firstV_apply (v : Vec Ideal S384x256 .f32) (n : Fin 392) (q : Fin 256) :
    firstV v (ix2 n q) = if h : 120 ≤ n.val then v (ix2 (⟨n.val - 8, by omega⟩ : Fin 384) q) else 0 := by
  have key : ∀ n : Fin 392, IntOp.cmpi CmpIPredicate.sge (IntOp.addi (4294967288#32) (BitVec.ofNat 32 n.val)) 112#32
      = if 120 ≤ n.val then 1#1 else 0#1 := by decide +kernel
  pointwise
  rw [key n]
  by_cases h : 120 ≤ n.val
  · rw [if_pos h, dif_pos h, dif_neg (by omega)]
    rfl
  · rw [if_neg h, dif_neg h]
    rfl

theorem holds_first (v : Vec Ideal S384x256 .f32) (hv : ∀ (n : Fin 384) (q : Fin 256), v (ix2 n q) = pr x0 x1 (⟨n.val, by omega⟩ : Fin 4224) q) :
    Holds (firstV v) (hA x0 x1) 0 := fun n q => by
  rw [firstV_apply]
  unfold hA
  by_cases h : 120 ≤ n.val
  · rw [dif_pos h, dif_pos ⟨by omega, by omega⟩, hv]
    refine congrArg (fun i => pr x0 x1 i q) (Fin.ext ?_)
    show n.val - 8 = 0 + n.val - 8
    omega
  · rw [dif_neg h, dif_neg (by omega)]

theorem row_of (x3 : Vec Ideal S8x256 .f32) (p : ℕ) (h) (hp : p < 8) :
    IsRow (View.ld x3 (Rect.unit (s := S8x256) ![p, 0] ![1, 256] h)) fun q => x3 (ix2 (⟨p, hp⟩ : Fin 8) q) := fun q =>
  congrArg x3 ((at2 8 256 1 p h 0 q (by omega)).trans (by simp))

end Cert.UpConvIdeal.Up
-- ==== Proof.Up.Out.lean ====
/- What one grid point of the up projection's kernel leaves in its two output blocks, element by element. -/
module

public import proofs.«01_k».proof.Proof.Gen.UpConvIdeal.Value
public import proofs.«01_k».proof.Proof.Up.Win
public meta import Idealize.ShloMosaic.Lib.Pipeline.ValueKit.Acc
public import Idealize.ShloMosaic.Lib.Pipeline.ValueKit.Acc

@[expose] public section

set_option maxRecDepth 16384

noncomputable section

namespace Cert.UpConvIdeal.Up

open Idealize.ShloMosaic Gen
open Cert.DgConvIdeal.Dg (acc sg)

variable (x0 : Vec Ideal S4224x1024 .bf16) (x1 x2 : Vec Ideal S1x256x1024 .bf16) (x3 : Vec Ideal S8x256 .f32) (x4 : Vec Ideal S1x256 .f32)

/-- Row `p` of the block of taps, and the block's bias. -/
def tap (p : Fin 8) (q : Fin 256) : EReal := x3 (ix2 p q)
def bias (q : Fin 256) : EReal := x4 (ix2 (0 : Fin 1) q)
/-- The convolution's sum at a row behind the 8 rows of zeros. -/
def bacc : ℕ → Fin 256 → EReal := acc (hA x0 x1) (tap x3 0) (tap x3 1) (tap x3 2) (bias x4)
/-- The block of gated rows. -/
def bG (y : S4224x256.Idx) : EReal :=
  bacc x0 x1 x3 x4 ((y 0).val + 8) (y 1) * sg (bacc x0 x1 x3 x4 ((y 0).val + 8) (y 1)) * pr x0 x2 (y 0) (y 1)

/-- The three rows of taps a tile reads. -/
abbrev tapV0 : Vec Ideal S1x256 .f32 := View.ld x3 (Rect.unit (s := S8x256) ![0, 0] ![1, 256] inb_S8x256_S1x256_0_0)
abbrev tapV1 : Vec Ideal S1x256 .f32 := View.ld x3 (Rect.unit (s := S8x256) ![1, 0] ![1, 256] inb_S8x256_S1x256_1_0)
abbrev tapV2 : Vec Ideal S1x256 .f32 := View.ld x3 (Rect.unit (s := S8x256) ![2, 0] ![1, 256] inb_S8x256_S1x256_2_0)

/-- A tile's gated rows are those of the block, given its window and its rows of the other branch. -/
theorem tile (a : VH) (b : Vec Ideal S1x384x256 .f32) (p : ℕ) (hp : p + 384 ≤ 4224) (ha : Holds a (hA x0 x1) p)
    (hb : ∀ (n : Fin 384) (q : Fin 256), b (ix3 (0 : Fin 1) n q) = pr x0 x2 (⟨p + n.val, by omega⟩ : Fin 4224) q) (h) :
    ∀ x : S384x256.Idx, gateV a (tapV0 x3) (tapV1 x3) (tapV2 x3) x4 b x
      = bG x0 x1 x2 x3 x4 ((Rect.unit (s := S4224x256) ![p, 0] ![384, 256] h).emb x) := by
  intro x
  have hx : x = ix2 (x 0) (x 1) := by funext a; fin_cases a <;> rfl
  rw [hx]
  obtain ⟨n, hn⟩ : ∃ n : Fin 384, n = x 0 := ⟨_, rfl⟩
  obtain ⟨q, hq⟩ : ∃ q : Fin 256, q = x 1 := ⟨_, rfl⟩
  rw [← hn, ← hq]
  have e : (Rect.unit (s := S4224x256) ![p, 0] ![384, 256] h).emb (ix2 n q) = _ := at2 4224 256 384 p h n q hp
  refine Eq.trans ?_ (congrArg (bG x0 x1 x2 x3 x4) e.symm)
  refine (gate_apply ha (row_of x3 0 _ (by decide)) (row_of x3 1 _ (by decide)) (row_of x3 2 _ (by decide)) (fun _ => rfl) b n q).trans ?_
  rw [hb, Nat.add_right_comm p 8 n.val]
  rfl

section
variable {sp : Space} {v : View sig .tc sp S2x4224x256 .f32} {L : List (View.Piece (Elt Ideal) S2x4224x256 .f32)}

theorem tile_mid (k : ℕ) (hk : k < 11) (r p : ℕ) (hr : r + 8 = p) (h1 : 120 ≤ p) (h2 : p + 384 ≤ 384 * (k + 1)) (hL : L = pcs x0 x1 x2 k hk)
    {h g e0 e1 hs hR hb hw} :
    ∀ x : S384x256.Idx, gateV (shapeCast S392x256 (LoadRect.valAlong (lr := (Rect.unit (s := S4224x256) ![r, 0] ![392, 256] h).toLoadRect) hR
      (v.readCov L ((Rect.unit (s := S2x4224x256) ![0, 0, 0] ![1, 4224, 256] g).withinL
        ((Rect.unit (s := S4224x256) ![r, 0] ![392, 256] h).toLoadRect.consLift ![1, 4224, 256] e0 e1) hs)))
      shapeCasts_S392x256_S392x256) (tapV0 x3) (tapV1 x3) (tapV2 x3) x4
      (v.readCov L (Rect.unit (s := S2x4224x256) ![1, p, 0] ![1, 384, 256] hb).toLoadRect) x
      = bG x0 x1 x2 x3 x4 ((Rect.unit (s := S4224x256) ![p, 0] ![384, 256] hw).emb x) :=
  tile x0 x1 x2 x3 x4 _ _ p (by omega) (hr ▸ holds_mid x0 x1 x2 k hk hL r (by omega) (by omega) h g e0 e1 hs hR)
    (fun n q => read_b x0 x1 x2 k hk hL p h2 hb n q) hw

theorem tile_first (k : ℕ) (hk : k < 11) (hL : L = pcs x0 x1 x2 k hk) {h g e0 e1 hs hR hb hw} :
    ∀ x : S384x256.Idx, gateV (firstV (LoadRect.valAlong (lr := (Rect.unit (s := S4224x256) ![0, 0] ![384, 256] h).toLoadRect) hR
      (v.readCov L ((Rect.unit (s := S2x4224x256) ![0, 0, 0] ![1, 4224, 256] g).withinL
        ((Rect.unit (s := S4224x256) ![0, 0] ![384, 256] h).toLoadRect.consLift ![1, 4224, 256] e0 e1) hs))))
      (tapV0 x3) (tapV1 x3) (tapV2 x3) x4
      (v.readCov L (Rect.unit (s := S2x4224x256) ![1, 0, 0] ![1, 384, 256] hb).toLoadRect) x
      = bG x0 x1 x2 x3 x4 ((Rect.unit (s := S4224x256) ![0, 0] ![384, 256] hw).emb x) :=
  tile x0 x1 x2 x3 x4 _ _ 0 (by omega)
    (holds_first x0 x1 _ fun n q => (read_a x0 x1 x2 k hk hL 384 0 (by omega) h g e0 e1 hs hR n q).trans
      (congrArg (fun i => pr x0 x1 i q) (Fin.ext (Nat.zero_add n.val))))
    (fun n q => read_b x0 x1 x2 k hk hL 0 (by omega) hb n q) hw
end

theorem out5 (c : Dev nD) (i : grid0.Coords) (arg1 : Memref sig .tc .vmem S4224x1024 .bf16) (harg1 : arg1.IsWhole) (arg2 : Memref sig .tc .vmem S1x256x1024 .bf16) (harg2 : arg2.IsWhole) (arg3 : Memref sig .tc .vmem S1x256x1024 .bf16) (harg3 : arg3.IsWhole) (arg4 : Memref sig .tc .vmem S8x256 .f32) (harg4 : arg4.IsWhole) (arg5 : Memref sig .tc .vmem S1x256 .f32) (harg5 : arg5.IsWhole) (arg6 : Memref sig .tc .vmem S2x4224x256 .f32) (harg6 : arg6.IsWhole) (arg7 : Memref sig .tc .vmem S4224x256 .bf16) (harg7 : arg7.IsWhole) (j : S2x4224x256.Idx) :
    out0_A_5 c i arg1 harg1 arg2 harg2 arg3 harg3 arg4 harg4 arg5 harg5 arg6 harg6 arg7 harg7 x0 x1 x2 x3 x4 j = upOf x0 x1 x2 j := by
  unfold out0_A_5
  refine View.read_writes_apply_of_pieces (Val := Elt Ideal) _ _ (upOf x0 x1 x2) _ ?_ j (cover0_A_5 _ _ _ _ _ _ _ _ _ _ _ _ _ _ _ _ _ _ _ _ _ _)
  frame_out
  exact pcs_eq x0 x1 x2 10 (by decide)

theorem out6 (c : Dev nD) (i : grid0.Coords) (arg1 : Memref sig .tc .vmem S4224x1024 .bf16) (harg1 : arg1.IsWhole) (arg2 : Memref sig .tc .vmem S1x256x1024 .bf16) (harg2 : arg2.IsWhole) (arg3 : Memref sig .tc .vmem S1x256x1024 .bf16) (harg3 : arg3.IsWhole) (arg4 : Memref sig .tc .vmem S8x256 .f32) (harg4 : arg4.IsWhole) (arg5 : Memref sig .tc .vmem S1x256 .f32) (harg5 : arg5.IsWhole) (arg6 : Memref sig .tc .vmem S2x4224x256 .f32) (harg6 : arg6.IsWhole) (arg7 : Memref sig .tc .vmem S4224x256 .bf16) (harg7 : arg7.IsWhole) (j : S4224x256.Idx) :
    out0_A_6 c i arg1 harg1 arg2 harg2 arg3 harg3 arg4 harg4 arg5 harg5 arg6 harg6 arg7 harg7 x0 x1 x2 x3 x4 j = bG x0 x1 x2 x3 x4 j := by
  unfold out0_A_6
  refine View.read_writes_apply_of_pieces (Val := Elt Ideal) _ _ (bG x0 x1 x2 x3 x4) _ ?_ j (cover0_A_6 _ _ _ _ _ _ _ _ _ _ _ _ _ _ _ _ _ _ _ _ _ _)
  frame_out
  simp only [List.forall_mem_cons]
  refine ⟨?_, ?_, ?_, ?_, ?_, ?_, ?_, ?_, ?_, ?_, ?_, by simp⟩
  · exact tile_mid x0 x1 x2 x3 x4 10 (by decide) 3832 3840 (by decide) (by decide) (by decide) (by rfl)
  · exact tile_mid x0 x1 x2 x3 x4 10 (by decide) 3448 3456 (by decide) (by decide) (by decide) (by rfl)
  · exact tile_mid x0 x1 x2 x3 x4 9 (by decide) 3064 3072 (by decide) (by decide) (by decide) (by rfl)
  · exact tile_mid x0 x1 x2 x3 x4 8 (by decide) 2680 2688 (by decide) (by decide) (by decide) (by rfl)
  · exact tile_mid x0 x1 x2 x3 x4 7 (by decide) 2296 2304 (by decide) (by decide) (by decide) (by rfl)
  · exact tile_mid x0 x1 x2 x3 x4 6 (by decide) 1912 1920 (by decide) (by decide) (by decide) (by rfl)
  · exact tile_mid x0 x1 x2 x3 x4 5 (by decide) 1528 1536 (by decide) (by decide) (by decide) (by rfl)
  · exact tile_mid x0 x1 x2 x3 x4 4 (by decide) 1144 1152 (by decide) (by decide) (by decide) (by rfl)
  · exact tile_mid x0 x1 x2 x3 x4 3 (by decide) 760 768 (by decide) (by decide) (by decide) (by rfl)
  · exact tile_mid x0 x1 x2 x3 x4 2 (by decide) 376 384 (by decide) (by decide) (by decide) (by rfl)
  · exact tile_first x0 x1 x2 x3 x4 1 (by decide) (by rfl)

end Cert.UpConvIdeal.Up
-- ==== Proof.Up.Arr.lean ====
/- The two arrays the up projection's kernel leaves, as functions of its four arguments. -/
module

public import proofs.«01_k».proof.Proof.Up.Out
public import Idealize.ShloMosaic.Lib.StableHlo.ReadAt
public meta import Idealize.ShloMosaic.Lib.Pipeline.ValueKit.Geometry
public import Idealize.ShloMosaic.Lib.Pipeline.ValueKit.Geometry

@[expose] public section

set_option maxRecDepth 16384

noncomputable section

namespace Cert.UpConvIdeal.Up

open Idealize.ShloMosaic Gen Idealize.ShloMosaic.TcCoe Idealize.ShloMosaic.Tactic Idealize.SL.Sem
open Idealize.ShloMosaic.Pipeline (Dat)
open Cert.DgConvIdeal.Dg (acc sg)

section
variable (X : Vec Ideal S4224x1024 .bf16) (W : Vec Ideal S2x2816x1024 .bf16) (cw : Vec Ideal S3x2816 .f32) (cb : Vec Ideal S1x2816 .f32)

/-- One element of branch `b`. -/
def gpr (b : Fin 2) (n : Fin 4224) (q : Fin 2816) : EReal := ∑ k : Fin 1024, X (ix2 n k) * W (ix3 b q k)
/-- The activation branch behind 8 rows of zeros, its padding rows zero. -/
def gH (s : ℕ) (q : Fin 2816) : EReal := if h : 120 ≤ s ∧ s < 4232 then gpr X W 0 (⟨s - 8, by omega⟩ : Fin 4224) q else 0
/-- A tap, and the bias. -/
def gtap (p : Fin 3) (q : Fin 2816) : EReal := cw (ix2 p q)
def gbias (q : Fin 2816) : EReal := cb (ix2 (0 : Fin 1) q)
/-- The convolution's sum. -/
def gsum : ℕ → Fin 2816 → EReal := acc (gH X W) (gtap cw 0) (gtap cw 1) (gtap cw 2) (gbias cb)
/-- The two arrays: the branches, and the gated rows. -/
def G5 (y : S2x4224x2816.Idx) : EReal := gpr X W (y 0) (y 1) (y 2)
def G6 (y : S4224x2816.Idx) : EReal :=
  gsum X W cw cb ((y 0).val + 8) (y 1) * sg (gsum X W cw cb ((y 0).val + 8) (y 1)) * gpr X W 1 (y 0) (y 1)

variable {X W cw cb}
variable {x0 : Vec Ideal S4224x1024 .bf16} {x1 x2 : Vec Ideal S1x256x1024 .bf16} {x3 : Vec Ideal S8x256 .f32} {x4 : Vec Ideal S1x256 .f32}
  {e : Fin 256 → Fin 2816}

/-- The blocks belong to the channels `e`. -/
structure Chan (X : Vec Ideal S4224x1024 .bf16) (W : Vec Ideal S2x2816x1024 .bf16) (cw : Vec Ideal S3x2816 .f32) (cb : Vec Ideal S1x2816 .f32)
    (x0 : Vec Ideal S4224x1024 .bf16) (x1 x2 : Vec Ideal S1x256x1024 .bf16) (x3 : Vec Ideal S8x256 .f32) (x4 : Vec Ideal S1x256 .f32)
    (e : Fin 256 → Fin 2816) : Prop where
  h0 : ∀ n k, x0 (ix2 n k) = X (ix2 n k)
  h1 : ∀ q k, x1 (ix3 (0 : Fin 1) q k) = W (ix3 (0 : Fin 2) (e q) k)
  h2 : ∀ q k, x2 (ix3 (0 : Fin 1) q k) = W (ix3 (1 : Fin 2) (e q) k)
  h3 : ∀ (p : Fin 3) q, x3 (ix2 (⟨p.val, by omega⟩ : Fin 8) q) = cw (ix2 p (e q))
  h4 : ∀ q, x4 (ix2 (0 : Fin 1) q) = cb (ix2 (0 : Fin 1) (e q))

variable (h : Chan X W cw cb x0 x1 x2 x3 x4 e)
include h

theorem pr1_eq (n : Fin 4224) (q : Fin 256) : pr x0 x1 n q = gpr X W 0 n (e q) := by simp only [pr, gpr, h.h0, h.h1]
theorem pr2_eq (n : Fin 4224) (q : Fin 256) : pr x0 x2 n q = gpr X W 1 n (e q) := by simp only [pr, gpr, h.h0, h.h2]
theorem hA_eq (s : ℕ) (q : Fin 256) : hA x0 x1 s q = gH X W s (e q) := by simp only [hA, gH, pr1_eq h]
theorem tap0_eq (q : Fin 256) : tap x3 0 q = gtap cw 0 (e q) := h.h3 0 q
theorem tap1_eq (q : Fin 256) : tap x3 1 q = gtap cw 1 (e q) := h.h3 1 q
theorem tap2_eq (q : Fin 256) : tap x3 2 q = gtap cw 2 (e q) := h.h3 2 q
theorem bias_eq (q : Fin 256) : bias x4 q = gbias cb (e q) := h.h4 q
theorem bacc_eq (s : ℕ) (q : Fin 256) : bacc x0 x1 x3 x4 s q = gsum X W cw cb s (e q) := by
  simp only [bacc, gsum, acc, hA_eq h, tap0_eq h, tap1_eq h, tap2_eq h, bias_eq h]
theorem upOf_eq (b : Fin 2) (n : Fin 4224) (q : Fin 256) : upOf x0 x1 x2 (ix3 b n q) = G5 X W (ix3 b n (e q)) := by
  show (if b.val = 0 then pr x0 x1 n q else pr x0 x2 n q) = gpr X W b n (e q)
  rw [pr1_eq h, pr2_eq h]
  fin_cases b
  · rfl
  · rfl
theorem bG_eq (n : Fin 4224) (q : Fin 256) : bG x0 x1 x2 x3 x4 (ix2 n q) = G6 X W cw cb (ix2 n (e q)) := by
  show bacc x0 x1 x3 x4 (n.val + 8) q * sg (bacc x0 x1 x3 x4 (n.val + 8) q) * pr x0 x2 n q
    = gsum X W cw cb (n.val + 8) (e q) * sg (gsum X W cw cb (n.val + 8) (e q)) * gpr X W 1 n (e q)
  rw [bacc_eq h, pr2_eq h]

end

/-! ## The blocks -/

section
variable (m : (ℓ : Loc nD τ sig) → Buf (Elt Ideal) ℓ)

/-- Channel `q` of block `t`. -/
def chan (t : Fin cfg0.N) (q : Fin 256) : Fin 2816 := ⟨256 * t.val + q.val, by have : t.val < 11 := t.isLt; omega⟩

theorem idx : ∀ t : Fin cfg0.N, win0_0.index t = ![0, 0] ∧ win0_1.index t = ![0, t.val, 0] ∧ win0_2.index t = ![1, t.val, 0]
    ∧ win0_3.index t = ![0, t.val] ∧ win0_4.index t = ![0, t.val] ∧ win0_5.index t = ![0, 0, t.val] ∧ win0_6.index t = ![0, t.val] := by
  decide +kernel

theorem blk0 (c : Dev nD) (t : Fin cfg0.N) (n : Fin 4224) (k : Fin 1024) :
    iblk m c 0 t (ix2 n k) = m ((c : Thread nD τ).loc main_arg0) (ix2 n k) := by
  rw [← V_main_arg0 m c]
  blk_ext [iblk, idx t]
theorem blk1 (c : Dev nD) (t : Fin cfg0.N) (q : Fin 256) (k : Fin 1024) :
    iblk m c 1 t (ix3 (0 : Fin 1) q k) = m ((c : Thread nD τ).loc main_arg1) (ix3 (0 : Fin 2) (chan t q) k) := by
  rw [← V_main_arg1 m c]
  blk_ext [iblk, idx t, chan]
theorem blk2 (c : Dev nD) (t : Fin cfg0.N) (q : Fin 256) (k : Fin 1024) :
    iblk m c 2 t (ix3 (0 : Fin 1) q k) = m ((c : Thread nD τ).loc main_arg1) (ix3 (1 : Fin 2) (chan t q) k) := by
  rw [← V_main_arg1 m c]
  blk_ext [iblk, idx t, chan]
theorem taps (c : Dev nD) (p : Fin 3) (q : Fin 2816) :
    V m c main_v0 (ix2 (⟨p.val, by omega⟩ : Fin 8) q) = m ((c : Thread nD τ).loc main_arg2) (ix2 p q) := by
  unfold V
  simp only [hostOps0, hostOps0_1]
  after_reads_at
theorem blk3 (c : Dev nD) (t : Fin cfg0.N) (p : Fin 3) (q : Fin 256) :
    iblk m c 3 t (ix2 (⟨p.val, by omega⟩ : Fin 8) q) = m ((c : Thread nD τ).loc main_arg2) (ix2 p (chan t q)) := by
  rw [← taps m c]
  blk_ext [iblk, idx t, chan]
theorem blk4 (c : Dev nD) (t : Fin cfg0.N) (q : Fin 256) :
    iblk m c 4 t (ix2 (0 : Fin 1) q) = m ((c : Thread nD τ).loc main_arg3) (ix2 (0 : Fin 1) (chan t q)) := by
  rw [← V_main_arg3 m c]
  blk_ext [iblk, idx t, chan]

theorem blocks (c : Dev nD) (t : Fin cfg0.N) :
    Chan (m ((c : Thread nD τ).loc main_arg0)) (m ((c : Thread nD τ).loc main_arg1)) (m ((c : Thread nD τ).loc main_arg2))
      (m ((c : Thread nD τ).loc main_arg3)) (iblk m c 0 t) (iblk m c 1 t) (iblk m c 2 t) (iblk m c 3 t) (iblk m c 4 t) (chan t) :=
  ⟨blk0 m c t, blk1 m c t, blk2 m c t, blk3 m c t, blk4 m c t⟩

/-- What a grid point leaves. -/
theorem point5 (c : Dev nD) (t : Fin cfg0.N) (y : S2x4224x256.Idx) :
    (outsAt0 m c t).1 y = upOf (iblk m c 0 t) (iblk m c 1 t) (iblk m c 2 t) y := by
  have e := out5 (iblk m c 0 t) (iblk m c 1 t) (iblk m c 2 t) (iblk m c 3 t) (iblk m c 4 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) y
  unfold outsAt0
  dsimp only
  exact e
theorem point6 (c : Dev nD) (t : Fin cfg0.N) (y : S4224x256.Idx) :
    (outsAt0 m c t).2 y = bG (iblk m c 0 t) (iblk m c 1 t) (iblk m c 2 t) (iblk m c 3 t) (iblk m c 4 t) y := by
  have e := out6 (iblk m c 0 t) (iblk m c 1 t) (iblk m c 2 t) (iblk m c 3 t) (iblk m c 4 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) y
  unfold outsAt0
  dsimp only
  exact e

/-- The two arrays after the run. -/
theorem arr5 (c : Dev nD) : (dats m 0 c).arrAt 5 cfg0.N = G5 (m ((c : Thread nD τ).loc main_arg0)) (m ((c : Thread nD τ).loc main_arg1)) := by
  refine (dats m 0 c).arrAt_eq_of_covers 5 _ (by decide +kernel) fun t hf y => ?_
  blk_simp
  rw [after0_5]
  refine (point5 m c t y).trans ?_
  rw [eq_ix3 y]
  refine (upOf_eq (blocks m c t) (y 0) (y 1) (y 2)).trans ?_
  refine congrArg _ ?_
  blk_ext [idx t, chan]
theorem arr6 (c : Dev nD) : (dats m 0 c).arrAt 6 cfg0.N = G6 (m ((c : Thread nD τ).loc main_arg0)) (m ((c : Thread nD τ).loc main_arg1))
    (m ((c : Thread nD τ).loc main_arg2)) (m ((c : Thread nD τ).loc main_arg3)) := by
  refine (dats m 0 c).arrAt_eq_of_covers 6 _ (by decide +kernel) fun t hf y => ?_
  blk_simp
  rw [after0_6]
  refine (point6 m c t y).trans ?_
  rw [eq_ix2 y]
  refine (bG_eq (blocks m c t) (y 0) (y 1)).trans ?_
  refine congrArg _ ?_
  blk_ext [idx t, chan]

end

end Cert.UpConvIdeal.Up
-- ==== Proof.Up.Ref.lean ====
/- The reference's two results, stage by stage, each stage at an index, and their equality with the kernel's arrays. -/
module

public import proofs.«01_k».proof.Proof.Gen.UpConvRefIdeal.Run
public import proofs.«01_k».proof.Proof.Up.Arr

@[expose] public section

set_option maxRecDepth 16384

noncomputable section

namespace Cert.UpConvRefIdeal.Up

open Idealize.ShloMosaic Gen Idealize.ShloMosaic.TcCoe Idealize.ShloMosaic.Tactic Idealize.SL.Sem
open Cert.UpConvIdeal.Up (gpr gH gtap gbias gsum G5 G6 sg_all)

abbrev T := FVec Ideal S1x4224x2816 .f32

section
variable (X : FVec Ideal S4224x1024 .bf16) (W : FVec Ideal S2x2816x1024 .bf16) (cw : FVec Ideal S3x2816 .f32) (cb : FVec Ideal S1x2816 .f32)

/-- The two branches' weights, one below the other. -/
def wV : FVec Ideal S5632x1024 .bf16 :=
  concatenate S5632x1024 0 [⟨S2816x1024, (shapeCast _ (extractStridedSlice S1x2816x1024 ![0, 0, 0] W slices_S2x2816x1024_S1x2816x1024_0_0_0) shapeCasts_S1x2816x1024_S2816x1024)⟩, ⟨S2816x1024, (shapeCast _ (extractStridedSlice S1x2816x1024 ![1, 0, 0] W slices_S2x2816x1024_S1x2816x1024_1_0_0) shapeCasts_S1x2816x1024_S2816x1024)⟩] concatenates_S2816x1024_S2816x1024_S5632x1024_d0
/-- The projection, and its two branches. -/
def prodV : FVec Ideal S1x4224x5632 .f32 :=
  Host.dotGeneral dot_S1x4224x1024_S1024x5632_S1x4224x5632_2_0_01_1_n_n none (broadcastInDim S1x4224x1024 ![1, 2] bcast_S4224x1024_S1x4224x1024_1_2 (extf .f32 X bitsLt_bf16_f32)) (transpose S1024x5632 [1, 0] (extf .f32 (wV W) bitsLt_bf16_f32) transposes_S5632x1024_S1024x5632_1_0)
def branch0 : T := extractStridedSlice S1x4224x2816 ![0, 0, 0] (prodV X W) slices_S1x4224x5632_S1x4224x2816_0_0_0
def branch1 : T := extractStridedSlice S1x4224x2816 ![0, 0, 2816] (prodV X W) slices_S1x4224x5632_S1x4224x2816_0_0_2816
/-- One where the row is a token's, zero where it is padding. -/
def isTok : T :=
  broadcastInDim S1x4224x2816 ![0, 1, 2] bcast_S1x4224x1_S1x4224x2816_0_1_2 (broadcastInDim S1x4224x1 ![1] bcast_S4224_S1x4224x1_1 (uitofp .f32 (cmpi .sge (iotaInDim S4224 32 0) (broadcastInDim S4224 ![] bcast_S_S4224 (constantI S_ 32 112#32)))))
/-- The activation branch at the tokens, behind two rows of zeros. -/
def behind : FVec Ideal S1x4226x2816 .f32 :=
  concatenate S1x4226x2816 1 [⟨S1x2x2816, (broadcastInDim S1x2x2816 ![] bcast_S_S1x2x2816 (constant S_ .f32 0x00000000#32))⟩, ⟨S1x4224x2816, (mulf (branch0 X W) isTok)⟩] concatenates_S1x2x2816_S1x4224x2816_S1x4226x2816_d1
def back2 : T := extractStridedSlice S1x4224x2816 ![0, 0, 0] (behind X W) slices_S1x4226x2816_S1x4224x2816_0_0_0
def back1 : T := extractStridedSlice S1x4224x2816 ![0, 1, 0] (behind X W) slices_S1x4226x2816_S1x4224x2816_0_1_0
def back0 : T := extractStridedSlice S1x4224x2816 ![0, 2, 0] (behind X W) slices_S1x4226x2816_S1x4224x2816_0_2_0
/-- The taps and the bias, spread over the rows. -/
def t0V : T := broadcastInDim S1x4224x2816 ![0, 1, 2] bcast_S1x1x2816_S1x4224x2816_0_1_2 (broadcastInDim S1x1x2816 ![2] bcast_S2816_S1x1x2816_2 (shapeCast _ (extractStridedSlice S1x2816 ![0, 0] cw slices_S3x2816_S1x2816_0_0) shapeCasts_S1x2816_S2816))
def t1V : T := broadcastInDim S1x4224x2816 ![0, 1, 2] bcast_S1x1x2816_S1x4224x2816_0_1_2 (broadcastInDim S1x1x2816 ![2] bcast_S2816_S1x1x2816_2 (shapeCast _ (extractStridedSlice S1x2816 ![1, 0] cw slices_S3x2816_S1x2816_1_0) shapeCasts_S1x2816_S2816))
def t2V : T := broadcastInDim S1x4224x2816 ![0, 1, 2] bcast_S1x1x2816_S1x4224x2816_0_1_2 (broadcastInDim S1x1x2816 ![2] bcast_S2816_S1x1x2816_2 (shapeCast _ (extractStridedSlice S1x2816 ![2, 0] cw slices_S3x2816_S1x2816_2_0) shapeCasts_S1x2816_S2816))
def biasV : T := broadcastInDim S1x4224x2816 ![0, 1, 2] bcast_S1x1x2816_S1x4224x2816_0_1_2 (broadcastInDim S1x1x2816 ![1, 2] bcast_S1x2816_S1x1x2816_1_2 cb)
/-- The convolution's sum and its sigmoid. -/
def sumV : T := addf (addf (addf (biasV cb) (mulf (back2 X W) (t0V cw))) (mulf (back1 X W) (t1V cw))) (mulf (back0 X W) (t2V cw))
def onesV : T := broadcastInDim S1x4224x2816 ![] bcast_S_S1x4224x2816 (constant S_ .f32 0x3F800000#32)
def sigV : T := Host.divf onesV (addf onesV (Host.exp (Host.negf (sumV X W cw cb))))

/-- The reference's two results. -/
def R0 : FVec Ideal S2x4224x2816 .f32 :=
  concatenate S2x4224x2816 0 [⟨S1x4224x2816, branch0 X W⟩, ⟨S1x4224x2816, branch1 X W⟩] concatenates_S1x4224x2816_S1x4224x2816_S2x4224x2816_d0
def R1 : FVec Ideal S4224x2816 .bf16 :=
  truncf .bf16 (shapeCast _ (mulf (mulf (sumV X W cw cb) (sigV X W cw cb)) (branch1 X W)) shapeCasts_S1x4224x2816_S4224x2816) bitsLt_bf16_f32

end

section
variable (m : (ℓ : Loc nD τ sig) → Buf (Elt Ideal) ℓ) (c : Dev nD)

theorem res1 : Value.res_out1 m c = R1 (m ((c.tc : Thread nD τ).loc main_arg0)) (m ((c.tc : Thread nD τ).loc main_arg1)) (m ((c.tc : Thread nD τ).loc main_arg2))
    (m ((c.tc : Thread nD τ).loc main_arg3)) := rfl

end

/-! ## Entries -/

section
variable (X : FVec Ideal S4224x1024 .bf16) (W : FVec Ideal S2x2816x1024 .bf16) (cw : FVec Ideal S3x2816 .f32) (cb : FVec Ideal S1x2816 .f32)

theorem wV_apply (r : Fin 5632) (k : Fin 1024) : wV W (ix2 r k)
    = if h : r.val < 2816 then W (ix3 (0 : Fin 2) (⟨r.val, h⟩ : Fin 2816) k) else W (ix3 (1 : Fin 2) (⟨r.val - 2816, by omega⟩ : Fin 2816) k) := by
  unfold wV
  pointwise
theorem prodV_apply (n : Fin 4224) (r : Fin 5632) : prodV X W (ix3 (0 : Fin 1) n r) = ∑ k : Fin 1024, X (ix2 n k) * wV W (ix2 r k) := by
  unfold prodV
  pointwise
theorem branch0_apply (n : Fin 4224) (q : Fin 2816) : branch0 X W (ix3 (0 : Fin 1) n q) = gpr X W 0 n q := by
  unfold branch0 gpr
  pointwise
  rw [prodV_apply]
  refine Finset.sum_congr rfl fun k _ => ?_
  rw [wV_apply, dif_pos (by have := q.isLt; simp)]
theorem branch1_apply (n : Fin 4224) (q : Fin 2816) : branch1 X W (ix3 (0 : Fin 1) n q) = gpr X W 1 n q := by
  unfold branch1 gpr
  pointwise
  rw [prodV_apply]
  refine Finset.sum_congr rfl fun k _ => ?_
  rw [wV_apply, dif_neg (by simp)]
  refine congrArg (fun z : Fin 2816 => X (ix2 n k) * W (ix3 (1 : Fin 2) z k)) (Fin.ext ?_)
  show 2816 + q.val - 2816 = q.val
  omega
theorem isTok_apply (n : Fin 4224) (q : Fin 2816) : isTok (ix3 (0 : Fin 1) n q) = if 112 ≤ n.val then 1 else 0 := by
  unfold isTok
  pointwise
  have hn := n.isLt
  have hs : BitVec.sle 112#32 (BitVec.ofNat 32 n.val) = decide (112 ≤ n.val) := by
    rw [BitVec.sle_eq_decide, BitVec.toInt_eq_toNat_of_lt (by simp),
      BitVec.toInt_eq_toNat_of_lt (by simp only [BitVec.toNat_ofNat]; omega)]
    simp only [BitVec.toNat_ofNat]
    exact decide_eq_decide.mpr (by omega)
  split
  · next h =>
    simp [IntOp.cmpi, hs, h]
    show (((1#1).toNat : ℝ) : EReal) = 1
    simp
  · next h =>
    simp [IntOp.cmpi, hs, h]
    show (((0#1).toNat : ℝ) : EReal) = 0
    simp
theorem behind_apply (n : Fin 4226) (q : Fin 2816) : behind X W (ix3 (0 : Fin 1) n q) = gH X W (n.val + 6) q := by
  have hn := n.isLt
  unfold behind gH
  pointwise
  by_cases h : n.val < 2
  · rw [dif_pos h, dif_neg (by omega)]
  rw [dif_neg h]
  show branch0 X W (ix3 (0 : Fin 1) (⟨n.val - 2, by omega⟩ : Fin 4224) q) * isTok (ix3 (0 : Fin 1) (⟨n.val - 2, by omega⟩ : Fin 4224) q) = _
  rw [isTok_apply, branch0_apply]
  by_cases h' : 112 ≤ n.val - 2
  · rw [if_pos h', dif_pos (by omega), mul_one]
    exact congrArg (gpr X W 0 · q) (Fin.ext (by show n.val - 2 = n.val + 6 - 8; omega))
  · rw [if_neg h', dif_neg (by omega), mul_zero]
theorem back2_apply (n : Fin 4224) (q : Fin 2816) : back2 X W (ix3 (0 : Fin 1) n q) = gH X W (n.val + 8 - 2) q := by
  unfold back2
  pointwise
  exact behind_apply X W _ q
theorem back1_apply (n : Fin 4224) (q : Fin 2816) : back1 X W (ix3 (0 : Fin 1) n q) = gH X W (n.val + 8 - 1) q := by
  unfold back1
  pointwise
  exact (behind_apply X W _ q).trans (congrArg (gH X W · q) (by show 1 + n.val + 6 = _; omega))
theorem back0_apply (n : Fin 4224) (q : Fin 2816) : back0 X W (ix3 (0 : Fin 1) n q) = gH X W (n.val + 8) q := by
  unfold back0
  pointwise
  exact (behind_apply X W _ q).trans (congrArg (gH X W · q) (by show 2 + n.val + 6 = _; omega))
theorem t0V_apply (n : Fin 4224) (q : Fin 2816) : t0V cw (ix3 (0 : Fin 1) n q) = gtap cw 0 q := by
  unfold t0V gtap
  pointwise
theorem t1V_apply (n : Fin 4224) (q : Fin 2816) : t1V cw (ix3 (0 : Fin 1) n q) = gtap cw 1 q := by
  unfold t1V gtap
  pointwise
theorem t2V_apply (n : Fin 4224) (q : Fin 2816) : t2V cw (ix3 (0 : Fin 1) n q) = gtap cw 2 q := by
  unfold t2V gtap
  pointwise
theorem biasV_apply (n : Fin 4224) (q : Fin 2816) : biasV cb (ix3 (0 : Fin 1) n q) = gbias cb q := by
  unfold biasV gbias
  pointwise
theorem sumV_apply (n : Fin 4224) (q : Fin 2816) : sumV X W cw cb (ix3 (0 : Fin 1) n q) = gsum X W cw cb (n.val + 8) q := by
  show biasV cb (ix3 (0 : Fin 1) n q) + back2 X W (ix3 (0 : Fin 1) n q) * t0V cw (ix3 (0 : Fin 1) n q)
    + back1 X W (ix3 (0 : Fin 1) n q) * t1V cw (ix3 (0 : Fin 1) n q) + back0 X W (ix3 (0 : Fin 1) n q) * t2V cw (ix3 (0 : Fin 1) n q) = _
  rw [biasV_apply, back2_apply, back1_apply, back0_apply, t0V_apply, t1V_apply, t2V_apply]
  rfl
theorem sigV_apply (n : Fin 4224) (q : Fin 2816) : sigV X W cw cb (ix3 (0 : Fin 1) n q) = Ideal.logistic (gsum X W cw cb (n.val + 8) q) := by
  rw [← sumV_apply]
  unfold sigV onesV Ideal.logistic
  pointwise

/-- The reference's results are the kernel's arrays. -/
theorem R0_eq : R0 X W = G5 X W := by
  funext y
  obtain ⟨b, n, q, rfl⟩ : ∃ (b : Fin 2) (n : Fin 4224) (q : Fin 2816), y = ix3 b n q := ⟨y 0, y 1, y 2, eq_ix3 y⟩
  show _ = gpr X W b n q
  unfold R0
  pointwise
  fin_cases b
  · exact branch0_apply X W n q
  · exact branch1_apply X W n q
theorem R1_eq : R1 X W cw cb = G6 X W cw cb := by
  funext y
  obtain ⟨n, q, rfl⟩ : ∃ (n : Fin 4224) (q : Fin 2816), y = ix2 n q := ⟨y 0, y 1, eq_ix2 y⟩
  show _ = gsum X W cw cb (n.val + 8) q * Cert.DgConvIdeal.Dg.sg (gsum X W cw cb (n.val + 8) q) * gpr X W 1 n q
  rw [sg_all, ← sigV_apply, ← sumV_apply, ← branch1_apply]
  unfold R1
  pointwise

end

end Cert.UpConvRefIdeal.Up
-- ==== Proof.Adam.Slots.lean ====
/- The step of AdamW for w_in: the gradient is summed over the devices' slots inside the kernel. What the kernel's four arrays hold,
   and that the reference's hold the same. -/
module

public import proofs.«01_k».proof.Proof.Gen.AdamInIdeal.Value
public import proofs.«01_k».proof.Proof.Gen.AdamInRefIdeal.Run
public import Idealize.ShloMosaic.PureOps.Ideal
public import Idealize.ShloMosaic.Lib.Pointwise
public import Idealize.ShloMosaic.Lib.Pipeline.Value
public import Idealize.ShloMosaic.Lib.Pipeline.ValueKit.Tiles
public import Idealize.ShloMosaic.Lib.StableHlo.ReadAt
public meta import Idealize.ShloMosaic.Lib.Pipeline.ValueKit.Geometry
public import Idealize.ShloMosaic.Lib.Pipeline.ValueKit.Geometry

@[expose] public section

set_option maxRecDepth 16384

noncomputable section

namespace Cert.AdamInIdeal.Adam

open Idealize.ShloMosaic Gen Idealize.ShloMosaic.TcCoe Idealize.ShloMosaic.Tactic Idealize.SL.Sem
open Idealize.ShloMosaic.Pipeline (Dat)

/-- The new first and second moments, and the step, of one weight. -/
def mom1 (g m : EReal) : EReal := Ideal.ofBits .f32 0x3F666666#32 * m + Ideal.ofBits .f32 0x3DCCCCCD#32 * g
def mom2 (g v : EReal) : EReal := Ideal.ofBits .f32 0x3F7FBE77#32 * v + Ideal.ofBits .f32 0x3A83126F#32 * (g * g)
def move (w g m v : EReal) : EReal :=
  Ideal.ofBits .f32 0xBA83126F#32 * (Ideal.div (Ideal.div (mom1 g m) (Ideal.ofBits .f32 0x3F26BD02#32))
    (Ideal.sqrt (Ideal.div (mom2 g v) (Ideal.ofBits .f32 0x3C231ACC#32)) + Ideal.ofBits .f32 0x322BCC77#32)
    + Ideal.ofBits .f32 0x3C23D70A#32 * w)

section
variable (W : FVec Ideal S385x1024 .f32) (S : FVec Ideal S8x400x1024 .bf16) (M V : FVec Ideal S385x1024 .f32)

/-- The gradient: the sum over the slots. -/
def grad (n : Fin 385) (q : Fin 1024) : EReal := ∑ d : Fin 8, S (ix3 d (⟨n.val, by omega⟩ : Fin 400) q)
def G4 (y : S385x1024.Idx) : EReal := grad S (y 0) (y 1)
def G5 (y : S385x1024.Idx) : EReal := move (W (ix2 (y 0) (y 1))) (grad S (y 0) (y 1)) (M (ix2 (y 0) (y 1))) (V (ix2 (y 0) (y 1)))
def G6 (y : S385x1024.Idx) : EReal := mom1 (grad S (y 0) (y 1)) (M (ix2 (y 0) (y 1)))
def G7 (y : S385x1024.Idx) : EReal := mom2 (grad S (y 0) (y 1)) (V (ix2 (y 0) (y 1)))

end

theorem z2 : (![0, 0] : Fin 2 → ℕ) = fun _ => 0 := by funext a; fin_cases a <;> rfl

section
variable (x0 : Vec Ideal S385x256 .f32) (x1 : Vec Ideal S8x400x256 .bf16) (x2 x3 : Vec Ideal S385x256 .f32)

/-- The sum over the slots of a block. -/
def bgrad (n : Fin 385) (q : Fin 256) : EReal := ∑ d : Fin 8, x1 (ix3 d (⟨n.val, by omega⟩ : Fin 400) q)

theorem slot (d : ℕ) (hd : d < 8) (h) (n : Fin 385) (q : Fin 256) :
    View.ld x1 (Rect.unit (s := S8x400x256) ![d, 0, 0] S1x385x256.size h) (ix3 (0 : Fin 1) n q)
      = x1 (ix3 (⟨d, hd⟩ : Fin 8) (⟨n.val, by omega⟩ : Fin 400) q) := by
  refine congrArg x1 ?_
  funext a
  apply Fin.ext
  fin_cases a <;> simp [Rect.idx_unit_val]
theorem pay4_apply (n : Fin 385) (q : Fin 256) :
    k0_pay4 (View.ld x1 r0_0) (View.ld x1 r0_1) (View.ld x1 r0_2) (View.ld x1 r0_3) (View.ld x1 r0_4) (View.ld x1 r0_5) (View.ld x1 r0_6) (View.ld x1 r0_7) (ix2 n q)
      = bgrad x1 n q := by
  unfold bgrad
  rw [Fin.sum_univ_eight]
  refine Eq.trans ?_ (congrArg₂ (· + ·) (congrArg₂ (· + ·) (congrArg₂ (· + ·) (congrArg₂ (· + ·) (congrArg₂ (· + ·) (congrArg₂ (· + ·) (congrArg₂ (· + ·)
    (slot x1 0 (by decide) inb_S8x400x256_S1x385x256_0_0_0 n q)
    (slot x1 1 (by decide) inb_S8x400x256_S1x385x256_1_0_0 n q))
    (slot x1 2 (by decide) inb_S8x400x256_S1x385x256_2_0_0 n q))
    (slot x1 3 (by decide) inb_S8x400x256_S1x385x256_3_0_0 n q))
    (slot x1 4 (by decide) inb_S8x400x256_S1x385x256_4_0_0 n q))
    (slot x1 5 (by decide) inb_S8x400x256_S1x385x256_5_0_0 n q))
    (slot x1 6 (by decide) inb_S8x400x256_S1x385x256_6_0_0 n q))
    (slot x1 7 (by decide) inb_S8x400x256_S1x385x256_7_0_0 n q))
  unfold k0_pay4
  pointwise
theorem out4 (n : Fin 385) (q : Fin 256) : out0_4 x0 x1 x2 x3 (ix2 n q) = bgrad x1 n q := by
  unfold out0_4
  rw [View.canon_unit_zero z2]
  exact pay4_apply x1 n q
theorem pay5_apply (n : Fin 385) (q : Fin 256) : k0_pay5 x0 x1 x2 x3 (ix2 n q) = bgrad x1 n q := pay4_apply x1 n q
theorem out6 (n : Fin 385) (q : Fin 256) : out0_6 x0 x1 x2 x3 (ix2 n q) = mom1 (bgrad x1 n q) (x2 (ix2 n q)) := by
  unfold out0_6
  rw [View.canon_unit_zero z2, View.ld_unit_zero z2, ← pay5_apply x0 x1 x2 x3]
  rfl
theorem out7 (n : Fin 385) (q : Fin 256) : out0_7 x0 x1 x2 x3 (ix2 n q) = mom2 (bgrad x1 n q) (x3 (ix2 n q)) := by
  unfold out0_7
  rw [View.canon_unit_zero z2, View.ld_unit_zero z2, ← pay5_apply x0 x1 x2 x3]
  rfl
theorem out5 (n : Fin 385) (q : Fin 256) :
    out0_5 x0 x1 x2 x3 (ix2 n q) = move (x0 (ix2 n q)) (bgrad x1 n q) (x2 (ix2 n q)) (x3 (ix2 n q)) := by
  unfold out0_5
  rw [View.canon_unit_zero z2, View.ld_unit_zero z2, View.ld_unit_zero z2, View.ld_unit_zero z2, ← pay5_apply x0 x1 x2 x3]
  rfl

end

section
variable (m : (ℓ : Loc nD τ sig) → Buf (Elt Ideal) ℓ)

/-- Column `q` of block `t`. -/
def col (t : Fin cfg0.N) (q : Fin 256) : Fin 1024 := ⟨256 * t.val + q.val, by have : t.val < 4 := t.isLt; omega⟩

theorem idx : ∀ t : Fin cfg0.N, win0_0.index t = ![0, t.val] ∧ win0_1.index t = ![0, 0, t.val] ∧ win0_2.index t = ![0, t.val]
    ∧ win0_3.index t = ![0, t.val] ∧ win0_4.index t = ![0, t.val] ∧ win0_5.index t = ![0, t.val] ∧ win0_6.index t = ![0, t.val]
    ∧ win0_7.index t = ![0, t.val] := by
  decide +kernel

theorem blk0 (c : Dev nD) (t : Fin cfg0.N) (n : Fin 385) (q : Fin 256) :
    iblk m c 0 t (ix2 n q) = m ((c : Thread nD τ).loc main_arg0) (ix2 n (col t q)) := by
  rw [← V_main_arg0 m c]
  blk_ext [iblk, idx t, col]
theorem blk1 (c : Dev nD) (t : Fin cfg0.N) (d : Fin 8) (n : Fin 400) (q : Fin 256) :
    iblk m c 1 t (ix3 d n q) = m ((c : Thread nD τ).loc main_arg1) (ix3 d n (col t q)) := by
  rw [← V_main_arg1 m c]
  blk_ext [iblk, idx t, col]
theorem blk2 (c : Dev nD) (t : Fin cfg0.N) (n : Fin 385) (q : Fin 256) :
    iblk m c 2 t (ix2 n q) = m ((c : Thread nD τ).loc main_arg2) (ix2 n (col t q)) := by
  rw [← V_main_arg2 m c]
  blk_ext [iblk, idx t, col]
theorem blk3 (c : Dev nD) (t : Fin cfg0.N) (n : Fin 385) (q : Fin 256) :
    iblk m c 3 t (ix2 n q) = m ((c : Thread nD τ).loc main_arg3) (ix2 n (col t q)) := by
  rw [← V_main_arg3 m c]
  blk_ext [iblk, idx t, col]
theorem bgrad_eq (c : Dev nD) (t : Fin cfg0.N) (n : Fin 385) (q : Fin 256) :
    bgrad (iblk m c 1 t) n q = grad (m ((c : Thread nD τ).loc main_arg1)) n (col t q) :=
  Finset.sum_congr rfl fun d _ => blk1 m c t d _ q

theorem arr4 (c : Dev nD) : (dats m 0 c).arrAt 4 cfg0.N = G4 (m ((c : Thread nD τ).loc main_arg1)) := by
  refine (dats m 0 c).arrAt_eq_of_covers 4 _ (by decide +kernel) fun t hf y => ?_
  blk_simp
  rw [after0_4]
  obtain ⟨n, q, rfl⟩ : ∃ (n : Fin 385) (q : Fin 256), y = ix2 n q := ⟨y 0, y 1, eq_ix2 y⟩
  refine (out4 _ _ _ _ n q).trans ((bgrad_eq m c t n q).trans ?_)
  show G4 _ (ix2 n (col t q)) = _
  refine congrArg _ ?_
  blk_ext [idx t, col]
theorem arr5 (c : Dev nD) : (dats m 0 c).arrAt 5 cfg0.N = G5 (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  blk_simp
  rw [after0_5]
  obtain ⟨n, q, rfl⟩ : ∃ (n : Fin 385) (q : Fin 256), y = ix2 n q := ⟨y 0, y 1, eq_ix2 y⟩
  refine (out5 _ _ _ _ n q).trans ?_
  rw [bgrad_eq, blk0, blk2, blk3]
  show G5 _ _ _ _ (ix2 n (col t q)) = _
  refine congrArg _ ?_
  blk_ext [idx t, col]
theorem arr6 (c : Dev nD) : (dats m 0 c).arrAt 6 cfg0.N = G6 (m ((c : Thread nD τ).loc main_arg1)) (m ((c : Thread nD τ).loc main_arg2)) := by
  refine (dats m 0 c).arrAt_eq_of_covers 6 _ (by decide +kernel) fun t hf y => ?_
  blk_simp
  rw [after0_6]
  obtain ⟨n, q, rfl⟩ : ∃ (n : Fin 385) (q : Fin 256), y = ix2 n q := ⟨y 0, y 1, eq_ix2 y⟩
  refine (out6 _ _ _ _ n q).trans ?_
  rw [bgrad_eq, blk2]
  show G6 _ _ (ix2 n (col t q)) = _
  refine congrArg _ ?_
  blk_ext [idx t, col]
theorem arr7 (c : Dev nD) : (dats m 0 c).arrAt 7 cfg0.N = G7 (m ((c : Thread nD τ).loc main_arg1)) (m ((c : Thread nD τ).loc main_arg3)) := by
  refine (dats m 0 c).arrAt_eq_of_covers 7 _ (by decide +kernel) fun t hf y => ?_
  blk_simp
  rw [after0_7]
  obtain ⟨n, q, rfl⟩ : ∃ (n : Fin 385) (q : Fin 256), y = ix2 n q := ⟨y 0, y 1, eq_ix2 y⟩
  refine (out7 _ _ _ _ n q).trans ?_
  rw [bgrad_eq, blk3]
  show G7 _ _ (ix2 n (col t q)) = _
  refine congrArg _ ?_
  blk_ext [idx t, col]

end

end Cert.AdamInIdeal.Adam

namespace Cert.AdamInRefIdeal.Adam

open Idealize.ShloMosaic Gen Idealize.ShloMosaic.TcCoe Idealize.ShloMosaic.Tactic Idealize.SL.Sem
open Cert.AdamInIdeal.Adam (mom1 mom2 move grad G4 G5 G6 G7)

variable (W : FVec Ideal S385x1024 .f32) (S : FVec Ideal S8x400x1024 .bf16) (M V : FVec Ideal S385x1024 .f32)

/-- A number, spread over the array. -/
def num (b : BitVec 32) : FVec Ideal S385x1024 .f32 := broadcastInDim S385x1024 ![] bcast_S_S385x1024 (constant S_ .f32 b)
def gradV : FVec Ideal S385x1024 .f32 :=
  Host.reduceAdd (extf .f32 (extractStridedSlice S8x385x1024 ![0, 0, 0] S slices_S8x400x1024_S8x385x1024_0_0_0) bitsLt_bf16_f32) (constant S_ .f32 0x00000000#32) reducesTo_S8x385x1024_S385x1024_d0 h_S_
def mom1V : FVec Ideal S385x1024 .f32 := addf (mulf (num 0x3F666666#32) M) (mulf (num 0x3DCCCCCD#32) (gradV S))
def mom2V : FVec Ideal S385x1024 .f32 := addf (mulf (num 0x3F7FBE77#32) V) (mulf (num 0x3A83126F#32) (mulf (gradV S) (gradV S)))
def moveV : FVec Ideal S385x1024 .f32 :=
  mulf (num 0xBA83126F#32) (addf (Host.divf (Host.divf (mom1V S M) (num 0x3F26BD02#32)) (addf (Host.sqrt (Host.divf (mom2V S V) (num 0x3C231ACC#32))) (num 0x322BCC77#32)))
    (mulf (num 0x3C23D70A#32) W))

theorem gradV_apply (n : Fin 385) (q : Fin 1024) : gradV S (ix2 n q) = grad S n q := by
  unfold gradV grad
  pointwise
theorem grad_eq : gradV S = G4 S := by
  funext y
  obtain ⟨n, q, rfl⟩ : ∃ (n : Fin 385) (q : Fin 1024), y = ix2 n q := ⟨y 0, y 1, eq_ix2 y⟩
  exact gradV_apply S n q
theorem mom1_eq : mom1V S M = G6 S M := by
  funext y
  obtain ⟨n, q, rfl⟩ : ∃ (n : Fin 385) (q : Fin 1024), y = ix2 n q := ⟨y 0, y 1, eq_ix2 y⟩
  show _ = mom1 (grad S n q) (M (ix2 n q))
  rw [← gradV_apply]
  rfl
theorem mom2_eq : mom2V S V = G7 S V := by
  funext y
  obtain ⟨n, q, rfl⟩ : ∃ (n : Fin 385) (q : Fin 1024), y = ix2 n q := ⟨y 0, y 1, eq_ix2 y⟩
  show _ = mom2 (grad S n q) (V (ix2 n q))
  rw [← gradV_apply]
  rfl
theorem move_eq : moveV W S M V = G5 W S M V := by
  funext y
  obtain ⟨n, q, rfl⟩ : ∃ (n : Fin 385) (q : Fin 1024), y = ix2 n q := ⟨y 0, y 1, eq_ix2 y⟩
  show _ = move (W (ix2 n q)) (grad S n q) (M (ix2 n q)) (V (ix2 n q))
  rw [← gradV_apply]
  rfl

end Cert.AdamInRefIdeal.Adam

end
-- ==== Proof.lean ====
/- The proof of every claim of `Cert.Claim`: the frames, and that the kernels' arrays are the references'. -/
module

public import proofs.«01_k».proof.Defs
public import proofs.«01_k».proof.Proof.Gen.DgConvIdeal.Value
public import proofs.«01_k».proof.Proof.Gen.DgConvRefIdeal.Run
public import proofs.«01_k».proof.Proof.Dg.Math
public import proofs.«01_k».proof.Proof.Gen.DgConv
public import proofs.«01_k».proof.Proof.Gen.DgConv.Skeleton
public import proofs.«01_k».proof.Proof.Gen.DgConv.Launch
public import proofs.«01_k».proof.Proof.Gen.DgConv.Points
public import proofs.«01_k».proof.Proof.Gen.DgConv.Frame
public import proofs.«01_k».proof.Proof.Gen.DgConvIdeal
public import proofs.«01_k».proof.Proof.Gen.DgConvIdeal.Skeleton
public import proofs.«01_k».proof.Proof.Gen.DgConvIdeal.Launch
public import proofs.«01_k».proof.Proof.Gen.DgConvIdeal.Points
public import proofs.«01_k».proof.Proof.Gen.DgConvIdeal.Frame
public import proofs.«01_k».proof.Proof.Gen.DgConvRefIdeal
public import proofs.«01_k».proof.Proof.Gen.Pre_dg_finite
public import proofs.«01_k».proof.Proof.Gen.GwDownIdeal.Value
public import proofs.«01_k».proof.Proof.Gen.GwDownRefIdeal.Run
public import proofs.«01_k».proof.Proof.Mm.Down
public import proofs.«01_k».proof.Proof.Gen.GwDown
public import proofs.«01_k».proof.Proof.Gen.GwDown.Frame
public import proofs.«01_k».proof.Proof.Gen.GwDownIdeal
public import proofs.«01_k».proof.Proof.Gen.GwDownIdeal.Frame
public import proofs.«01_k».proof.Proof.Gen.GwDownRefIdeal
public import proofs.«01_k».proof.Proof.Gen.GwUpIdeal.Value
public import proofs.«01_k».proof.Proof.Gen.GwUpRefIdeal.Run
public import proofs.«01_k».proof.Proof.Mm.Up
public import proofs.«01_k».proof.Proof.Gen.GwUp
public import proofs.«01_k».proof.Proof.Gen.GwUp.Frame
public import proofs.«01_k».proof.Proof.Gen.GwUpIdeal
public import proofs.«01_k».proof.Proof.Gen.GwUpIdeal.Frame
public import proofs.«01_k».proof.Proof.Gen.GwUpRefIdeal
public import proofs.«01_k».proof.Proof.Gen.GwOutIdeal.Value
public import proofs.«01_k».proof.Proof.Gen.GwOutRefIdeal.Run
public import proofs.«01_k».proof.Proof.Mm.Out
public import proofs.«01_k».proof.Proof.Gen.GwOut
public import proofs.«01_k».proof.Proof.Gen.GwOut.Frame
public import proofs.«01_k».proof.Proof.Gen.GwOutIdeal
public import proofs.«01_k».proof.Proof.Gen.GwOutIdeal.Frame
public import proofs.«01_k».proof.Proof.Gen.GwOutRefIdeal
public import proofs.«01_k».proof.Proof.Gen.GwInIdeal.Value
public import proofs.«01_k».proof.Proof.Gen.GwInRefIdeal.Run
public import proofs.«01_k».proof.Proof.Mm.In
public import proofs.«01_k».proof.Proof.Gen.GwIn
public import proofs.«01_k».proof.Proof.Gen.GwIn.Frame
public import proofs.«01_k».proof.Proof.Gen.GwInIdeal
public import proofs.«01_k».proof.Proof.Gen.GwInIdeal.Frame
public import proofs.«01_k».proof.Proof.Gen.GwInRefIdeal
public import proofs.«01_k».proof.Proof.Gen.Dn2Ideal.Value
public import proofs.«01_k».proof.Proof.Gen.Dn2RefIdeal.Run
public import proofs.«01_k».proof.Proof.Gen.Dn2
public import proofs.«01_k».proof.Proof.Gen.Dn2.Frame
public import proofs.«01_k».proof.Proof.Gen.Dn2Ideal
public import proofs.«01_k».proof.Proof.Gen.Dn2Ideal.Frame
public import proofs.«01_k».proof.Proof.Gen.Dn2RefIdeal
public import proofs.«01_k».proof.Proof.Norm.Dn2Arr
public import proofs.«01_k».proof.Proof.Norm.Dn2Ref
public import proofs.«01_k».proof.Proof.Gen.DownLossIdeal.Frame.RunB
public import proofs.«01_k».proof.Proof.Gen.DownLossRefIdeal.Run
public import proofs.«01_k».proof.Proof.Gen.DownLoss
public import proofs.«01_k».proof.Proof.Gen.DownLossIdeal
public import proofs.«01_k».proof.Proof.Gen.DownLossRefIdeal
public import proofs.«01_k».proof.Proof.Norm.DownLossRun
public import proofs.«01_k».proof.Proof.Norm.DownLossArr
public import proofs.«01_k».proof.Proof.Norm.DownLossRef
public import proofs.«01_k».proof.Proof.Gen.OutNormIdeal.Value
public import proofs.«01_k».proof.Proof.Gen.OutNormRefIdeal.Run
public import proofs.«01_k».proof.Proof.Gen.OutNorm
public import proofs.«01_k».proof.Proof.Gen.OutNorm.Frame
public import proofs.«01_k».proof.Proof.Gen.OutNormIdeal
public import proofs.«01_k».proof.Proof.Gen.OutNormIdeal.Frame
public import proofs.«01_k».proof.Proof.Gen.OutNormRefIdeal
public import proofs.«01_k».proof.Proof.Norm.OutNorm
public import proofs.«01_k».proof.Proof.Gen.MmInIdeal.Value
public import proofs.«01_k».proof.Proof.Gen.MmInRefIdeal.Run
public import proofs.«01_k».proof.Proof.Gen.MmIn
public import proofs.«01_k».proof.Proof.Gen.MmIn.Frame
public import proofs.«01_k».proof.Proof.Gen.MmInIdeal
public import proofs.«01_k».proof.Proof.Gen.MmInIdeal.Frame
public import proofs.«01_k».proof.Proof.Gen.MmInRefIdeal
public import proofs.«01_k».proof.Proof.Mm.Proj
public import proofs.«01_k».proof.Proof.Gen.UpConvIdeal.Value
public import proofs.«01_k».proof.Proof.Gen.UpConvRefIdeal.Run
public import proofs.«01_k».proof.Proof.Gen.UpConv
public import proofs.«01_k».proof.Proof.Gen.UpConv.Frame
public import proofs.«01_k».proof.Proof.Gen.UpConvIdeal
public import proofs.«01_k».proof.Proof.Gen.UpConvIdeal.Frame
public import proofs.«01_k».proof.Proof.Gen.UpConvRefIdeal
public import proofs.«01_k».proof.Proof.Up.Ref
public import proofs.«01_k».proof.Proof.Gen.AdamOutIdeal.Value
public import proofs.«01_k».proof.Proof.Gen.AdamOutRefIdeal.Run
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Frame
public import proofs.«01_k».proof.Proof.Gen.AdamOutRefIdeal
public import proofs.«01_k».proof.Proof.Gen.AdamUpIdeal.Value
public import proofs.«01_k».proof.Proof.Gen.AdamUpRefIdeal.Run
public import proofs.«01_k».proof.Proof.Gen.AdamUp
public import proofs.«01_k».proof.Proof.Gen.AdamUp.Frame
public import proofs.«01_k».proof.Proof.Gen.AdamUpIdeal
public import proofs.«01_k».proof.Proof.Gen.AdamUpIdeal.Frame
public import proofs.«01_k».proof.Proof.Gen.AdamUpRefIdeal
public import proofs.«01_k».proof.Proof.Gen.AdamDownIdeal.Value
public import proofs.«01_k».proof.Proof.Gen.AdamDownRefIdeal.Run
public import proofs.«01_k».proof.Proof.Gen.AdamDown
public import proofs.«01_k».proof.Proof.Gen.AdamDown.Frame
public import proofs.«01_k».proof.Proof.Gen.AdamDownIdeal
public import proofs.«01_k».proof.Proof.Gen.AdamDownIdeal.Frame
public import proofs.«01_k».proof.Proof.Gen.AdamDownRefIdeal
public import proofs.«01_k».proof.Proof.Gen.AdamInIdeal.Value
public import proofs.«01_k».proof.Proof.Gen.AdamInRefIdeal.Run
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInRefIdeal
public import proofs.«01_k».proof.Proof.Adam.Slots
public import Idealize.ShloMosaic.Adequacy
public import Idealize.ShloMosaic.Init

@[expose] public section

noncomputable section

namespace Cert.Proof

open Idealize.ShloMosaic Idealize.SL.Sem

theorem frame_DgConvRefIdeal : Cert.quiescent_DgConvRefIdeal (hDgConvRefIdeal := Cert.DgConvRefIdeal.Gen.facts) := by
  intro m g _
  hlo_run
  · exact fun _ => ⟨trivial, trivial, trivial, trivial, trivial⟩
  · refine sem_eq_zero_of_no_sems ?_ _
    decide

/-- The gradient of the gated convolution: the kernel's three arrays are the reference's. -/
theorem dg_conv : Cert.algebraic_DgConvIdeal_DgConvRefIdeal_pre_dg_finite (hDgConvIdeal := Cert.DgConvIdeal.Gen.facts)
    (hDgConvRefIdeal := Cert.DgConvRefIdeal.Gen.facts) (hPre_dg_finite := Cert.Pre_dg_finite.Gen.facts) := by
  intro m g m' g' hpre hag
  refine ⟨fun c => (Cert.DgConvIdeal.Gen.dats m 0 c).arrAt 6 Cert.DgConvIdeal.cfg0.N, fun c => (Cert.DgConvIdeal.Gen.dats m 0 c).arrAt 7 Cert.DgConvIdeal.cfg0.N,
    fun c => (Cert.DgConvIdeal.Gen.dats m 0 c).arrAt 8 Cert.DgConvIdeal.cfg0.N, (θ_run _ _ _).mono (fun r h c => ?_) (Cert.DgConvIdeal.Value.run_blocks m g),
    (θ_run _ _ _).mono (fun r h c => ?_) (Cert.DgConvRefIdeal.Value.run m' g')⟩
  · exact h c
  · obtain ⟨a0, a1, a2, a3, a4⟩ := hag c
    obtain ⟨hU, hw, hb, hH, hWd⟩ := Cert.DgConvRefIdeal.Dg.reals _ _ _ _ _ (hpre c)
    obtain ⟨h0, h1, h2, hs⟩ := h c
    refine ⟨?_, ?_, ?_, hs⟩
    · refine h0.trans ((Cert.DgConvRefIdeal.Dg.res0 m' c).trans ?_)
      rw [a0, a1, a2, a3, a4]
      exact (Cert.DgConvRefIdeal.Dg.R0_eq hU hw hb hH hWd).trans (Cert.DgConvIdeal.Dg.arr6 m c).symm
    · refine h1.trans ((Cert.DgConvRefIdeal.Dg.res1 m' c).trans ?_)
      rw [a0, a1, a2, a3, a4]
      exact (Cert.DgConvRefIdeal.Dg.R1_eq hU hw hb hH hWd).trans (Cert.DgConvIdeal.Dg.arr7 m c).symm
    · refine h2.trans ((Cert.DgConvRefIdeal.Dg.res2 m' c).trans ?_)
      rw [a0, a1, a2, a3, a4]
      exact (Cert.DgConvRefIdeal.Dg.R2_eq hU hw hb hH hWd).trans (Cert.DgConvIdeal.Dg.arr8 m c).symm

theorem frame_GwDownRefIdeal : Cert.quiescent_GwDownRefIdeal (hGwDownRefIdeal := Cert.GwDownRefIdeal.Gen.facts) := by
  intro m g _
  hlo_run
  · exact fun _ => ⟨trivial, trivial⟩
  · refine sem_eq_zero_of_no_sems ?_ _
    decide

/-- The gradient of w_down: the kernel's array is the reference's. -/
theorem gw_down : Cert.algebraic_GwDownIdeal_GwDownRefIdeal (hGwDownIdeal := Cert.GwDownIdeal.Gen.facts) (hGwDownRefIdeal := Cert.GwDownRefIdeal.Gen.facts) := by
  intro m g m' g' _ hag
  refine ⟨fun c => (Cert.GwDownIdeal.Gen.dats m 0 c).arrAt 2 Cert.GwDownIdeal.cfg0.N, (θ_run _ _ _).mono (fun r h c => ?_) (Cert.GwDownIdeal.Value.run_blocks m g),
    (θ_run _ _ _).mono (fun r h c => ?_) (Cert.GwDownRefIdeal.Value.run m' g')⟩
  · exact h c
  · obtain ⟨a0, a1⟩ := hag c
    obtain ⟨h0, hs⟩ := h c
    refine ⟨?_, hs⟩
    refine h0.trans ((show _ = Cert.GwDownRefIdeal.Mm.R _ _ from rfl).trans ?_)
    rw [a0, a1]
    exact (Cert.GwDownRefIdeal.Mm.R_eq _ _).trans (Cert.GwDownIdeal.Mm.arr m c).symm

theorem frame_GwUpRefIdeal : Cert.quiescent_GwUpRefIdeal (hGwUpRefIdeal := Cert.GwUpRefIdeal.Gen.facts) := by
  intro m g _
  hlo_run
  · exact fun _ => ⟨trivial, trivial⟩
  · refine sem_eq_zero_of_no_sems ?_ _
    decide

/-- The gradient of w_up: the kernel's array is the reference's. -/
theorem gw_up : Cert.algebraic_GwUpIdeal_GwUpRefIdeal (hGwUpIdeal := Cert.GwUpIdeal.Gen.facts) (hGwUpRefIdeal := Cert.GwUpRefIdeal.Gen.facts) := by
  intro m g m' g' _ hag
  refine ⟨fun c => (Cert.GwUpIdeal.Gen.dats m 0 c).arrAt 2 Cert.GwUpIdeal.cfg0.N, (θ_run _ _ _).mono (fun r h c => ?_) (Cert.GwUpIdeal.Value.run_blocks m g),
    (θ_run _ _ _).mono (fun r h c => ?_) (Cert.GwUpRefIdeal.Value.run m' g')⟩
  · exact h c
  · obtain ⟨a0, a1⟩ := hag c
    obtain ⟨h0, hs⟩ := h c
    refine ⟨?_, hs⟩
    refine h0.trans ((show _ = Cert.GwUpRefIdeal.Mm.R _ _ from rfl).trans ?_)
    rw [a0, a1]
    exact (Cert.GwUpRefIdeal.Mm.R_eq _ _).trans (Cert.GwUpIdeal.Mm.arr m c).symm

theorem frame_GwOutRefIdeal : Cert.quiescent_GwOutRefIdeal (hGwOutRefIdeal := Cert.GwOutRefIdeal.Gen.facts) := by
  intro m g _
  hlo_run
  · exact fun _ => ⟨trivial, trivial⟩
  · refine sem_eq_zero_of_no_sems ?_ _
    decide

/-- The gradient of w_out: the kernel's array is the reference's. -/
theorem gw_out : Cert.algebraic_GwOutIdeal_GwOutRefIdeal (hGwOutIdeal := Cert.GwOutIdeal.Gen.facts) (hGwOutRefIdeal := Cert.GwOutRefIdeal.Gen.facts) := by
  intro m g m' g' _ hag
  refine ⟨fun c => (Cert.GwOutIdeal.Gen.dats m 0 c).arrAt 2 Cert.GwOutIdeal.cfg0.N, (θ_run _ _ _).mono (fun r h c => ?_) (Cert.GwOutIdeal.Value.run_blocks m g),
    (θ_run _ _ _).mono (fun r h c => ?_) (Cert.GwOutRefIdeal.Value.run m' g')⟩
  · exact h c
  · obtain ⟨a0, a1⟩ := hag c
    obtain ⟨h0, hs⟩ := h c
    refine ⟨?_, hs⟩
    refine h0.trans ((show _ = Cert.GwOutRefIdeal.Mm.R _ _ from rfl).trans ?_)
    rw [a0, a1]
    exact (Cert.GwOutRefIdeal.Mm.R_eq _ _).trans (Cert.GwOutIdeal.Mm.arr m c).symm

theorem frame_GwInRefIdeal : Cert.quiescent_GwInRefIdeal (hGwInRefIdeal := Cert.GwInRefIdeal.Gen.facts) := by
  intro m g _
  hlo_run
  · exact fun _ => ⟨trivial, trivial⟩
  · refine sem_eq_zero_of_no_sems ?_ _
    decide

/-- The gradient of w_in: the kernel's array is the reference's. -/
theorem gw_in : Cert.algebraic_GwInIdeal_GwInRefIdeal (hGwInIdeal := Cert.GwInIdeal.Gen.facts) (hGwInRefIdeal := Cert.GwInRefIdeal.Gen.facts) := by
  intro m g m' g' _ hag
  refine ⟨fun c => (Cert.GwInIdeal.Gen.dats m 0 c).arrAt 2 Cert.GwInIdeal.cfg0.N, (θ_run _ _ _).mono (fun r h c => ?_) (Cert.GwInIdeal.Value.run_blocks m g),
    (θ_run _ _ _).mono (fun r h c => ?_) (Cert.GwInRefIdeal.Value.run m' g')⟩
  · exact h c
  · obtain ⟨a0, a1⟩ := hag c
    obtain ⟨h0, hs⟩ := h c
    refine ⟨?_, hs⟩
    refine h0.trans ((show _ = Cert.GwInRefIdeal.Mm.R _ _ from rfl).trans ?_)
    rw [a0, a1]
    exact (Cert.GwInRefIdeal.Mm.R_eq _ _).trans (Cert.GwInIdeal.Mm.arr m c).symm

theorem frame_Dn2RefIdeal : Cert.quiescent_Dn2RefIdeal (hDn2RefIdeal := Cert.Dn2RefIdeal.Gen.facts) := by
  intro m g _
  hlo_run
  · exact fun _ => ⟨trivial, trivial, trivial, trivial, trivial, trivial⟩
  · refine sem_eq_zero_of_no_sems ?_ _
    decide

/-- The gradient below the feed-forward block: the kernel's three arrays are the reference's. -/
theorem dn2 : Cert.algebraic_Dn2Ideal_Dn2RefIdeal (hDn2Ideal := Cert.Dn2Ideal.Gen.facts)
    (hDn2RefIdeal := Cert.Dn2RefIdeal.Gen.facts) := by
  intro m g m' g' _ hag
  refine ⟨fun c => (Cert.Dn2Ideal.Gen.dats m 0 c).arrAt 8 Cert.Dn2Ideal.cfg0.N, fun c => (Cert.Dn2Ideal.Gen.dats m 0 c).arrAt 9 Cert.Dn2Ideal.cfg0.N,
    fun c => (Cert.Dn2Ideal.Gen.dats m 0 c).arrAt 10 Cert.Dn2Ideal.cfg0.N, (θ_run _ _ _).mono (fun r h c => ?_) (Cert.Dn2Ideal.Value.run_blocks m g),
    (θ_run _ _ _).mono (fun r h c => ?_) (Cert.Dn2RefIdeal.Value.run m' g')⟩
  · exact h c
  · obtain ⟨a0, a1, a2, a3, a4, a5⟩ := hag c
    obtain ⟨h0, h1, h2, hs⟩ := h c
    refine ⟨?_, ?_, ?_, hs⟩
    · refine h0.trans ((Cert.Dn2RefIdeal.Nb.res0 m' c).trans ?_)
      rw [a0, a1, a2, a3, a4]
      exact (Cert.Dn2RefIdeal.Nb.R0_eq _ _ _ _ _).trans (Cert.Dn2Ideal.Nb.arr8 m c).symm
    · refine h1.trans ((show _ = Cert.Dn2RefIdeal.Nb.R1 _ _ _ from rfl).trans ?_)
      rw [a0, a1, a2]
      exact (Cert.Dn2RefIdeal.Nb.R1_eq _ _ _).trans (Cert.Dn2Ideal.Nb.arr9 m c).symm
    · refine h2.trans ((Cert.Dn2RefIdeal.Nb.res2 m' c).trans ?_)
      rw [a0, a1, a2, a3, a4, a5]
      exact (Cert.Dn2RefIdeal.Nb.R2_eq _ _ _ _ _ _).trans (Cert.Dn2Ideal.Nb.arr10 m c).symm

theorem frame_DownLossRefIdeal : Cert.quiescent_DownLossRefIdeal (hDownLossRefIdeal := Cert.DownLossRefIdeal.Gen.facts) := by
  intro m g _
  hlo_run
  · exact fun _ => ⟨trivial, trivial, trivial, trivial, trivial⟩
  · refine sem_eq_zero_of_no_sems ?_ _
    decide

theorem frame_DownLossIdeal : Cert.quiescent_DownLossIdeal (hDownLossIdeal := Cert.DownLossIdeal.Gen.facts) :=
  fun m ρ _ => Cert.DownLossIdeal.Nb.frame m ρ
/-- The two programs' texts are the same, so the machine's run is that one at its own values. -/
theorem loss_bodies : @Cert.DownLoss.defs₀ Bits _ Cert.DownLoss.Gen.facts = @Cert.DownLossIdeal.defs₀ Bits _ Cert.DownLossIdeal.Gen.facts := by
  unfold Cert.DownLoss.defs₀ Cert.DownLossIdeal.defs₀
  refine congrArg Defs.onTc (funext fun l => funext fun a => ?_)
  match l, a with
  | 0, (t, s) => rfl
theorem loss_tables : @Cert.DownLoss.defs Bits _ Cert.DownLoss.Gen.facts = @Cert.DownLossIdeal.defs Bits _ Cert.DownLossIdeal.Gen.facts :=
  congrArg (Pipeline.defs (@Cert.DownLoss.pcfgs Bits Cert.DownLoss.Gen.facts)) loss_bodies
theorem frame_DownLoss : Cert.quiescent_DownLoss (hDownLoss := Cert.DownLoss.Gen.facts) := by
  intro m ρ _
  rw [loss_tables]
  exact Cert.DownLossIdeal.Nb.frame (F := Bits) m ρ

/-- The loss and its gradient: the kernel's four arrays are the reference's. -/
theorem down_loss : Cert.algebraic_DownLossIdeal_DownLossRefIdeal (hDownLossIdeal := Cert.DownLossIdeal.Gen.facts) (hDownLossRefIdeal := Cert.DownLossRefIdeal.Gen.facts) := by
  intro m g m' g' _ hag
  refine ⟨fun c => (Cert.DownLossIdeal.Nb.dats m 0 c).arrAt 7 Cert.DownLossIdeal.cfg0.N, fun c => (Cert.DownLossIdeal.Nb.dats m 0 c).arrAt 8 Cert.DownLossIdeal.cfg0.N, fun c => (Cert.DownLossIdeal.Nb.dats m 0 c).arrAt 9 Cert.DownLossIdeal.cfg0.N, fun c => (Cert.DownLossIdeal.Nb.dats m 0 c).arrAt 10 Cert.DownLossIdeal.cfg0.N,
    (θ_run _ _ _).mono (fun r h c => ?_) (Cert.DownLossIdeal.Nb.run m g), (θ_run _ _ _).mono (fun r h c => ?_) (Cert.DownLossRefIdeal.Value.run m' g')⟩
  · obtain ⟨h0, h1, h2, h3, hs⟩ := h.1 c
    exact ⟨h0, h1, h2, h3, hs⟩
  · obtain ⟨a0, a1, a2, a3, a4⟩ := hag c
    obtain ⟨h0, h1, h2, h3, hs⟩ := h c
    refine ⟨?_, ?_, ?_, ?_, hs⟩
    · refine h0.trans ((Cert.DownLossRefIdeal.Nb.res0 m' c).trans ?_)
      rw [a0, a1, a2, a3, a4]
      exact (Cert.DownLossRefIdeal.Nb.R0_eq _ _ _ _ _).trans (Cert.DownLossIdeal.Nb.arr7 m c).symm
    · refine h1.trans ((Cert.DownLossRefIdeal.Nb.res1 m' c).trans ?_)
      rw [a0, a1, a2, a3, a4]
      exact (Cert.DownLossRefIdeal.Nb.R1_eq _ _ _ _ _).trans (Cert.DownLossIdeal.Nb.arr8 m c).symm
    · refine h2.trans ((Cert.DownLossRefIdeal.Nb.res2 m' c).trans ?_)
      rw [a0, a1, a2, a3, a4]
      exact (Cert.DownLossRefIdeal.Nb.R2_eq _ _ _ _ _).trans (Cert.DownLossIdeal.Nb.arr9 m c).symm
    · refine h3.trans ((Cert.DownLossRefIdeal.Nb.res3 m' c).trans ?_)
      rw [a0, a1, a2, a3, a4]
      exact (Cert.DownLossRefIdeal.Nb.R3_eq _ _ _ _ _).trans (Cert.DownLossIdeal.Nb.arr10 m c).symm

theorem frame_OutNormRefIdeal : Cert.quiescent_OutNormRefIdeal (hOutNormRefIdeal := Cert.OutNormRefIdeal.Gen.facts) := by
  intro m g _
  hlo_run
  · exact fun _ => ⟨trivial, trivial, trivial, trivial⟩
  · refine sem_eq_zero_of_no_sems ?_ _
    decide

/-- The output projection with the residual and the norm: the kernel's two arrays are the reference's. -/
theorem out_norm : Cert.algebraic_OutNormIdeal_OutNormRefIdeal (hOutNormIdeal := Cert.OutNormIdeal.Gen.facts) (hOutNormRefIdeal := Cert.OutNormRefIdeal.Gen.facts) := by
  intro m g m' g' _ hag
  refine ⟨fun c => (Cert.OutNormIdeal.Gen.dats m 0 c).arrAt 4 Cert.OutNormIdeal.cfg0.N, fun c => (Cert.OutNormIdeal.Gen.dats m 0 c).arrAt 5 Cert.OutNormIdeal.cfg0.N,
    (θ_run _ _ _).mono (fun r h c => ?_) (Cert.OutNormIdeal.Value.run_blocks m g), (θ_run _ _ _).mono (fun r h c => ?_) (Cert.OutNormRefIdeal.Value.run m' g')⟩
  · exact h c
  · obtain ⟨a0, a1, a2, a3⟩ := hag c
    obtain ⟨h0, h1, hs⟩ := h c
    refine ⟨?_, ?_, hs⟩
    · refine h0.trans ((show _ = Cert.OutNormRefIdeal.Nb.R4 _ _ _ from rfl).trans ?_)
      rw [a0, a1, a2]
      exact (Cert.OutNormRefIdeal.Nb.R4_eq _ _ _).trans (Cert.OutNormIdeal.Nb.arr4 m c).symm
    · refine h1.trans ((show _ = Cert.OutNormRefIdeal.Nb.R5 _ _ _ _ from rfl).trans ?_)
      rw [a0, a1, a2, a3]
      exact (Cert.OutNormRefIdeal.Nb.R5_eq _ _ _ _).trans (Cert.OutNormIdeal.Nb.arr5 m c).symm

theorem frame_MmInRefIdeal : Cert.quiescent_MmInRefIdeal (hMmInRefIdeal := Cert.MmInRefIdeal.Gen.facts) := by
  intro m g _
  hlo_run
  · exact fun _ => ⟨trivial, trivial⟩
  · refine sem_eq_zero_of_no_sems ?_ _
    decide

/-- The input projection: the kernel's array is the reference's. -/
theorem mm_in : Cert.algebraic_MmInIdeal_MmInRefIdeal (hMmInIdeal := Cert.MmInIdeal.Gen.facts) (hMmInRefIdeal := Cert.MmInRefIdeal.Gen.facts) := by
  intro m g m' g' _ hag
  refine ⟨fun c => (Cert.MmInIdeal.Gen.dats m 0 c).arrAt 2 Cert.MmInIdeal.cfg0.N, (θ_run _ _ _).mono (fun r h c => ?_) (Cert.MmInIdeal.Value.run_blocks m g),
    (θ_run _ _ _).mono (fun r h c => ?_) (Cert.MmInRefIdeal.Value.run m' g')⟩
  · exact h c
  · obtain ⟨a0, a1⟩ := hag c
    obtain ⟨h0, hs⟩ := h c
    refine ⟨?_, hs⟩
    refine h0.trans ((show _ = Cert.MmInRefIdeal.Mm.R _ _ from rfl).trans ?_)
    rw [a0, a1]
    exact (Cert.MmInRefIdeal.Mm.R_eq _ _).trans (Cert.MmInIdeal.Mm.arr m c).symm

theorem frame_UpConvRefIdeal : Cert.quiescent_UpConvRefIdeal (hUpConvRefIdeal := Cert.UpConvRefIdeal.Gen.facts) := by
  intro m g _
  hlo_run
  · exact fun _ => ⟨trivial, trivial, trivial, trivial⟩
  · refine sem_eq_zero_of_no_sems ?_ _
    decide

/-- The up projection and its convolution: the kernel's two arrays are the reference's. -/
theorem up_conv : Cert.algebraic_UpConvIdeal_UpConvRefIdeal (hUpConvIdeal := Cert.UpConvIdeal.Gen.facts) (hUpConvRefIdeal := Cert.UpConvRefIdeal.Gen.facts) := by
  intro m g m' g' _ hag
  refine ⟨fun c => (Cert.UpConvIdeal.Gen.dats m 0 c).arrAt 5 Cert.UpConvIdeal.cfg0.N, fun c => (Cert.UpConvIdeal.Gen.dats m 0 c).arrAt 6 Cert.UpConvIdeal.cfg0.N,
    (θ_run _ _ _).mono (fun r h c => ?_) (Cert.UpConvIdeal.Value.run_blocks m g), (θ_run _ _ _).mono (fun r h c => ?_) (Cert.UpConvRefIdeal.Value.run m' g')⟩
  · exact h c
  · obtain ⟨a0, a1, a2, a3⟩ := hag c
    obtain ⟨h0, h1, hs⟩ := h c
    refine ⟨?_, ?_, hs⟩
    · refine h0.trans ((show _ = Cert.UpConvRefIdeal.Up.R0 _ _ from rfl).trans ?_)
      rw [a0, a1]
      exact (Cert.UpConvRefIdeal.Up.R0_eq _ _).trans (Cert.UpConvIdeal.Up.arr5 m c).symm
    · refine h1.trans ((Cert.UpConvRefIdeal.Up.res1 m' c).trans ?_)
      rw [a0, a1, a2, a3]
      exact (Cert.UpConvRefIdeal.Up.R1_eq _ _ _ _).trans (Cert.UpConvIdeal.Up.arr6 m c).symm

theorem frame_AdamOutRefIdeal : Cert.quiescent_AdamOutRefIdeal (hAdamOutRefIdeal := Cert.AdamOutRefIdeal.Gen.facts) := by
  intro m g _
  hlo_run
  · exact fun _ => ⟨trivial, trivial, trivial, trivial⟩
  · refine sem_eq_zero_of_no_sems ?_ _
    decide

/-- The step of AdamW for w_out: the kernel's three arrays are the reference's. -/
theorem adam_out : Cert.algebraic_AdamOutIdeal_AdamOutRefIdeal (hAdamOutIdeal := Cert.AdamOutIdeal.Gen.facts) (hAdamOutRefIdeal := Cert.AdamOutRefIdeal.Gen.facts) := by
  intro m g m' g' _ hag
  refine ⟨_, _, _, Cert.AdamOutIdeal.Value.run m g, (θ_run _ _ _).mono (fun r h c => ?_) (Cert.AdamOutRefIdeal.Value.run m' g')⟩
  obtain ⟨a0, a1, a2, a3⟩ := hag c
  obtain ⟨h0, h1, h2, hs⟩ := h c
  rw [← a0, ← a1, ← a2, ← a3]
  exact ⟨h0.trans rfl, h1.trans rfl, h2.trans rfl, hs⟩

theorem frame_AdamUpRefIdeal : Cert.quiescent_AdamUpRefIdeal (hAdamUpRefIdeal := Cert.AdamUpRefIdeal.Gen.facts) := by
  intro m g _
  hlo_run
  · exact fun _ => ⟨trivial, trivial, trivial, trivial⟩
  · refine sem_eq_zero_of_no_sems ?_ _
    decide

/-- The step of AdamW for w_up: the kernel's three arrays are the reference's. -/
theorem adam_up : Cert.algebraic_AdamUpIdeal_AdamUpRefIdeal (hAdamUpIdeal := Cert.AdamUpIdeal.Gen.facts) (hAdamUpRefIdeal := Cert.AdamUpRefIdeal.Gen.facts) := by
  intro m g m' g' _ hag
  refine ⟨_, _, _, Cert.AdamUpIdeal.Value.run m g, (θ_run _ _ _).mono (fun r h c => ?_) (Cert.AdamUpRefIdeal.Value.run m' g')⟩
  obtain ⟨a0, a1, a2, a3⟩ := hag c
  obtain ⟨h0, h1, h2, hs⟩ := h c
  rw [← a0, ← a1, ← a2, ← a3]
  exact ⟨h0.trans rfl, h1.trans rfl, h2.trans rfl, hs⟩

theorem frame_AdamDownRefIdeal : Cert.quiescent_AdamDownRefIdeal (hAdamDownRefIdeal := Cert.AdamDownRefIdeal.Gen.facts) := by
  intro m g _
  hlo_run
  · exact fun _ => ⟨trivial, trivial, trivial, trivial⟩
  · refine sem_eq_zero_of_no_sems ?_ _
    decide

/-- The step of AdamW for w_down: the kernel's three arrays are the reference's. -/
theorem adam_down : Cert.algebraic_AdamDownIdeal_AdamDownRefIdeal (hAdamDownIdeal := Cert.AdamDownIdeal.Gen.facts) (hAdamDownRefIdeal := Cert.AdamDownRefIdeal.Gen.facts) := by
  intro m g m' g' _ hag
  refine ⟨_, _, _, Cert.AdamDownIdeal.Value.run m g, (θ_run _ _ _).mono (fun r h c => ?_) (Cert.AdamDownRefIdeal.Value.run m' g')⟩
  obtain ⟨a0, a1, a2, a3⟩ := hag c
  obtain ⟨h0, h1, h2, hs⟩ := h c
  rw [← a0, ← a1, ← a2, ← a3]
  exact ⟨h0.trans rfl, h1.trans rfl, h2.trans rfl, hs⟩

theorem frame_AdamInRefIdeal : Cert.quiescent_AdamInRefIdeal (hAdamInRefIdeal := Cert.AdamInRefIdeal.Gen.facts) := by
  intro m g _
  hlo_run
  · exact fun _ => ⟨trivial, trivial, trivial, trivial⟩
  · refine sem_eq_zero_of_no_sems ?_ _
    decide

/-- The sum over the slots and the step of AdamW for w_in: the kernel's four arrays are the reference's. -/
theorem adam_in : Cert.algebraic_AdamInIdeal_AdamInRefIdeal (hAdamInIdeal := Cert.AdamInIdeal.Gen.facts) (hAdamInRefIdeal := Cert.AdamInRefIdeal.Gen.facts) := by
  intro m g m' g' _ hag
  refine ⟨_, _, _, _, Cert.AdamInIdeal.Value.run_blocks m g, (θ_run _ _ _).mono (fun r h c => ?_) (Cert.AdamInRefIdeal.Value.run m' g')⟩
  obtain ⟨a0, a1, a2, a3⟩ := hag c
  obtain ⟨h0, h1, h2, h3, hs⟩ := h c
  refine ⟨?_, ?_, ?_, ?_, hs⟩
  · refine h0.trans ((show _ = Cert.AdamInRefIdeal.Adam.gradV _ from rfl).trans ?_)
    rw [a1]
    exact (Cert.AdamInRefIdeal.Adam.grad_eq _).trans (Cert.AdamInIdeal.Adam.arr4 m c).symm
  · refine h1.trans ((show _ = Cert.AdamInRefIdeal.Adam.moveV _ _ _ _ from rfl).trans ?_)
    rw [a0, a1, a2, a3]
    exact (Cert.AdamInRefIdeal.Adam.move_eq _ _ _ _).trans (Cert.AdamInIdeal.Adam.arr5 m c).symm
  · refine h2.trans ((show _ = Cert.AdamInRefIdeal.Adam.mom1V _ _ from rfl).trans ?_)
    rw [a1, a2]
    exact (Cert.AdamInRefIdeal.Adam.mom1_eq _ _).trans (Cert.AdamInIdeal.Adam.arr6 m c).symm
  · refine h3.trans ((show _ = Cert.AdamInRefIdeal.Adam.mom2V _ _ from rfl).trans ?_)
    rw [a1, a3]
    exact (Cert.AdamInRefIdeal.Adam.mom2_eq _ _).trans (Cert.AdamInIdeal.Adam.arr7 m c).symm

theorem claim : Cert.Claim :=
  ⟨Cert.DgConv.Gen.facts, Cert.DgConvIdeal.Gen.facts, Cert.DgConvRefIdeal.Gen.facts,
    Cert.GwDown.Gen.facts, Cert.GwDownIdeal.Gen.facts, Cert.GwDownRefIdeal.Gen.facts, Cert.GwUp.Gen.facts, Cert.GwUpIdeal.Gen.facts, Cert.GwUpRefIdeal.Gen.facts, Cert.GwOut.Gen.facts, Cert.GwOutIdeal.Gen.facts, Cert.GwOutRefIdeal.Gen.facts, Cert.GwIn.Gen.facts, Cert.GwInIdeal.Gen.facts, Cert.GwInRefIdeal.Gen.facts, Cert.Dn2.Gen.facts, Cert.Dn2Ideal.Gen.facts, Cert.Dn2RefIdeal.Gen.facts, Cert.DownLoss.Gen.facts, Cert.DownLossIdeal.Gen.facts, Cert.DownLossRefIdeal.Gen.facts, Cert.OutNorm.Gen.facts, Cert.OutNormIdeal.Gen.facts, Cert.OutNormRefIdeal.Gen.facts, Cert.MmIn.Gen.facts, Cert.MmInIdeal.Gen.facts, Cert.MmInRefIdeal.Gen.facts, Cert.UpConv.Gen.facts, Cert.UpConvIdeal.Gen.facts, Cert.UpConvRefIdeal.Gen.facts, Cert.AdamOut.Gen.facts, Cert.AdamOutIdeal.Gen.facts, Cert.AdamOutRefIdeal.Gen.facts, Cert.AdamUp.Gen.facts, Cert.AdamUpIdeal.Gen.facts, Cert.AdamUpRefIdeal.Gen.facts, Cert.AdamDown.Gen.facts, Cert.AdamDownIdeal.Gen.facts, Cert.AdamDownRefIdeal.Gen.facts, Cert.AdamIn.Gen.facts, Cert.AdamInIdeal.Gen.facts, Cert.AdamInRefIdeal.Gen.facts,
    Cert.Pre_dg_finite.Gen.facts,
    fun m ρ _ => Cert.DgConv.Gen.frame m ρ, fun m ρ _ => Cert.DgConvIdeal.Gen.frame m ρ, fun m ρ _ => Cert.DgConvIdeal.Gen.frame m ρ,
    frame_DgConvRefIdeal, fun m ρ _ => frame_DgConvRefIdeal m ρ trivial,
    fun m ρ _ => Cert.GwDown.Gen.frame m ρ,
    fun m ρ _ => Cert.GwDownIdeal.Gen.frame m ρ,
    frame_GwDownRefIdeal,
    fun m ρ _ => Cert.GwUp.Gen.frame m ρ,
    fun m ρ _ => Cert.GwUpIdeal.Gen.frame m ρ,
    frame_GwUpRefIdeal,
    fun m ρ _ => Cert.GwOut.Gen.frame m ρ,
    fun m ρ _ => Cert.GwOutIdeal.Gen.frame m ρ,
    frame_GwOutRefIdeal,
    fun m ρ _ => Cert.GwIn.Gen.frame m ρ,
    fun m ρ _ => Cert.GwInIdeal.Gen.frame m ρ,
    frame_GwInRefIdeal,
    fun m ρ _ => Cert.Dn2.Gen.frame m ρ,
    fun m ρ _ => Cert.Dn2Ideal.Gen.frame m ρ,
    frame_Dn2RefIdeal,
    frame_DownLoss,
    frame_DownLossIdeal,
    frame_DownLossRefIdeal,
    fun m ρ _ => Cert.OutNorm.Gen.frame m ρ,
    fun m ρ _ => Cert.OutNormIdeal.Gen.frame m ρ,
    frame_OutNormRefIdeal,
    fun m ρ _ => Cert.MmIn.Gen.frame m ρ,
    fun m ρ _ => Cert.MmInIdeal.Gen.frame m ρ,
    frame_MmInRefIdeal,
    fun m ρ _ => Cert.UpConv.Gen.frame m ρ,
    fun m ρ _ => Cert.UpConvIdeal.Gen.frame m ρ,
    frame_UpConvRefIdeal,
    fun m ρ _ => Cert.AdamOut.Gen.frame m ρ,
    fun m ρ _ => Cert.AdamOutIdeal.Gen.frame m ρ,
    frame_AdamOutRefIdeal,
    fun m ρ _ => Cert.AdamUp.Gen.frame m ρ,
    fun m ρ _ => Cert.AdamUpIdeal.Gen.frame m ρ,
    frame_AdamUpRefIdeal,
    fun m ρ _ => Cert.AdamDown.Gen.frame m ρ,
    fun m ρ _ => Cert.AdamDownIdeal.Gen.frame m ρ,
    frame_AdamDownRefIdeal,
    fun m ρ _ => Cert.AdamIn.Gen.frame m ρ,
    fun m ρ _ => Cert.AdamInIdeal.Gen.frame m ρ,
    frame_AdamInRefIdeal,
    trivial, dg_conv, trivial, gw_down, trivial, gw_up, trivial, gw_out, trivial, gw_in, trivial, dn2, trivial, down_loss, trivial, out_norm, trivial, mm_in, trivial, up_conv, trivial, adam_out, trivial, adam_up, trivial, adam_down, trivial, adam_in⟩

end Cert.Proof

end
